-- ==== Defs.lean ====
def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def Pre_DilIdeal_finite_qk [hPre_finite_qk : Cert.Pre_finite_qk.Facts] (m : (ℓ : Loc Cert.DilIdeal.nD Cert.DilIdeal.τ Cert.DilIdeal.sig) → Buf (Elt Ideal) ℓ) : Prop :=
  ∀ c : Dev Cert.DilIdeal.nD,
    (Cert.Pre_finite_qk.fn (F := Ideal) (m ((c.tc : Thread Cert.DilIdeal.nD Cert.DilIdeal.τ).loc Cert.DilIdeal.main_arg0)) (m ((c.tc : Thread Cert.DilIdeal.nD Cert.DilIdeal.τ).loc Cert.DilIdeal.main_arg1)) (m ((c.tc : Thread Cert.DilIdeal.nD Cert.DilIdeal.τ).loc Cert.DilIdeal.main_arg2))).1 = (fun _ => 1#1)
    ∧ (Cert.Pre_finite_qk.fn (F := Ideal) (m ((c.tc : Thread Cert.DilIdeal.nD Cert.DilIdeal.τ).loc Cert.DilIdeal.main_arg0)) (m ((c.tc : Thread Cert.DilIdeal.nD Cert.DilIdeal.τ).loc Cert.DilIdeal.main_arg1)) (m ((c.tc : Thread Cert.DilIdeal.nD Cert.DilIdeal.τ).loc Cert.DilIdeal.main_arg2))).2 = (fun _ => 1#1)

def Pre_DilRefIdeal (m : (ℓ : Loc Cert.DilRefIdeal.nD Cert.DilRefIdeal.τ Cert.DilRefIdeal.sig) → Buf (Elt Ideal) ℓ) : Prop :=
  True

def Pre_DilRefIdeal_finite_qk [hPre_finite_qk : Cert.Pre_finite_qk.Facts] (m : (ℓ : Loc Cert.DilRefIdeal.nD Cert.DilRefIdeal.τ Cert.DilRefIdeal.sig) → Buf (Elt Ideal) ℓ) : Prop :=
  ∀ c : Dev Cert.DilRefIdeal.nD,
    (Cert.Pre_finite_qk.fn (F := Ideal) (m ((c.tc : Thread Cert.DilRefIdeal.nD Cert.DilRefIdeal.τ).loc Cert.DilRefIdeal.main_arg0)) (m ((c.tc : Thread Cert.DilRefIdeal.nD Cert.DilRefIdeal.τ).loc Cert.DilRefIdeal.main_arg1)) (m ((c.tc : Thread Cert.DilRefIdeal.nD Cert.DilRefIdeal.τ).loc Cert.DilRefIdeal.main_arg2))).1 = (fun _ => 1#1)
    ∧ (Cert.Pre_finite_qk.fn (F := Ideal) (m ((c.tc : Thread Cert.DilRefIdeal.nD Cert.DilRefIdeal.τ).loc Cert.DilRefIdeal.main_arg0)) (m ((c.tc : Thread Cert.DilRefIdeal.nD Cert.DilRefIdeal.τ).loc Cert.DilRefIdeal.main_arg1)) (m ((c.tc : Thread Cert.DilRefIdeal.nD Cert.DilRefIdeal.τ).loc Cert.DilRefIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutIdeal_finite_lse [hPre_finite_lse : Cert.Pre_finite_lse.Facts] (m : (ℓ : Loc Cert.MixoutIdeal.nD Cert.MixoutIdeal.τ Cert.MixoutIdeal.sig) → Buf (Elt Ideal) ℓ) : Prop :=
  ∀ c : Dev Cert.MixoutIdeal.nD,
    (Cert.Pre_finite_lse.fn (F := Ideal) (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2)) (m ((c.tc : Thread Cert.MixoutIdeal.nD Cert.MixoutIdeal.τ).loc Cert.MixoutIdeal.main_arg3)) (m ((c.tc : Thread Cert.MixoutIdeal.nD Cert.MixoutIdeal.τ).loc Cert.MixoutIdeal.main_arg4)) (m ((c.tc : Thread Cert.MixoutIdeal.nD Cert.MixoutIdeal.τ).loc Cert.MixoutIdeal.main_arg5)) (m ((c.tc : Thread Cert.MixoutIdeal.nD Cert.MixoutIdeal.τ).loc Cert.MixoutIdeal.main_arg6)) (m ((c.tc : Thread Cert.MixoutIdeal.nD Cert.MixoutIdeal.τ).loc Cert.MixoutIdeal.main_arg7)) (m ((c.tc : Thread Cert.MixoutIdeal.nD Cert.MixoutIdeal.τ).loc Cert.MixoutIdeal.main_arg8)) (m ((c.tc : Thread Cert.MixoutIdeal.nD Cert.MixoutIdeal.τ).loc Cert.MixoutIdeal.main_arg9)) (m ((c.tc : Thread Cert.MixoutIdeal.nD Cert.MixoutIdeal.τ).loc Cert.MixoutIdeal.main_arg10)) (m ((c.tc : Thread Cert.MixoutIdeal.nD Cert.MixoutIdeal.τ).loc Cert.MixoutIdeal.main_arg11)) (m ((c.tc : Thread Cert.MixoutIdeal.nD Cert.MixoutIdeal.τ).loc Cert.MixoutIdeal.main_arg12)) (m ((c.tc : Thread Cert.MixoutIdeal.nD Cert.MixoutIdeal.τ).loc Cert.MixoutIdeal.main_arg13)) (m ((c.tc : Thread Cert.MixoutIdeal.nD Cert.MixoutIdeal.τ).loc Cert.MixoutIdeal.main_arg14))).1 = (fun _ => 1#1)
    ∧ (Cert.Pre_finite_lse.fn (F := Ideal) (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2)) (m ((c.tc : Thread Cert.MixoutIdeal.nD Cert.MixoutIdeal.τ).loc Cert.MixoutIdeal.main_arg3)) (m ((c.tc : Thread Cert.MixoutIdeal.nD Cert.MixoutIdeal.τ).loc Cert.MixoutIdeal.main_arg4)) (m ((c.tc : Thread Cert.MixoutIdeal.nD Cert.MixoutIdeal.τ).loc Cert.MixoutIdeal.main_arg5)) (m ((c.tc : Thread Cert.MixoutIdeal.nD Cert.MixoutIdeal.τ).loc Cert.MixoutIdeal.main_arg6)) (m ((c.tc : Thread Cert.MixoutIdeal.nD Cert.MixoutIdeal.τ).loc Cert.MixoutIdeal.main_arg7)) (m ((c.tc : Thread Cert.MixoutIdeal.nD Cert.MixoutIdeal.τ).loc Cert.MixoutIdeal.main_arg8)) (m ((c.tc : Thread Cert.MixoutIdeal.nD Cert.MixoutIdeal.τ).loc Cert.MixoutIdeal.main_arg9)) (m ((c.tc : Thread Cert.MixoutIdeal.nD Cert.MixoutIdeal.τ).loc Cert.MixoutIdeal.main_arg10)) (m ((c.tc : Thread Cert.MixoutIdeal.nD Cert.MixoutIdeal.τ).loc Cert.MixoutIdeal.main_arg11)) (m ((c.tc : Thread Cert.MixoutIdeal.nD Cert.MixoutIdeal.τ).loc Cert.MixoutIdeal.main_arg12)) (m ((c.tc : Thread Cert.MixoutIdeal.nD Cert.MixoutIdeal.τ).loc Cert.MixoutIdeal.main_arg13)) (m ((c.tc : Thread Cert.MixoutIdeal.nD Cert.MixoutIdeal.τ).loc Cert.MixoutIdeal.main_arg14))).2.1 = (fun _ => 1#1)
    ∧ (Cert.Pre_finite_lse.fn (F := Ideal) (m ((c.tc : Thread Cert.MixoutIdeal.nD Cert.MixoutIdeal.τ).loc Cert.MixoutIdeal.main_arg0)) (m ((c.tc : Thread Cert.MixoutIdeal.nD Cert.MixoutIdeal.τ).loc Cert.MixoutIdeal.main_arg1)) (m ((c.tc : Thread Cert.MixoutIdeal.nD Cert.MixoutIdeal.τ).loc Cert.MixoutIdeal.main_arg2)) (m ((c.tc : Thread Cert.MixoutIdeal.nD Cert.MixoutIdeal.τ).loc Cert.MixoutIdeal.main_arg3)) (m ((c.tc : Thread Cert.MixoutIdeal.nD Cert.MixoutIdeal.τ).loc Cert.MixoutIdeal.main_arg4)) (m ((c.tc : Thread Cert.MixoutIdeal.nD Cert.MixoutIdeal.τ).loc Cert.MixoutIdeal.main_arg5)) (m ((c.tc : Thread Cert.MixoutIdeal.nD Cert.MixoutIdeal.τ).loc Cert.MixoutIdeal.main_arg6)) (m ((c.tc : Thread Cert.MixoutIdeal.nD Cert.MixoutIdeal.τ).loc Cert.MixoutIdeal.main_arg7)) (m ((c.tc : Thread Cert.MixoutIdeal.nD Cert.MixoutIdeal.τ).loc Cert.MixoutIdeal.main_arg8)) (m ((c.tc : Thread Cert.MixoutIdeal.nD Cert.MixoutIdeal.τ).loc Cert.MixoutIdeal.main_arg9)) (m ((c.tc : Thread Cert.MixoutIdeal.nD Cert.MixoutIdeal.τ).loc Cert.MixoutIdeal.main_arg10)) (m ((c.tc : Thread Cert.MixoutIdeal.nD Cert.MixoutIdeal.τ).loc Cert.MixoutIdeal.main_arg11)) (m ((c.tc : Thread Cert.MixoutIdeal.nD Cert.MixoutIdeal.τ).loc Cert.MixoutIdeal.main_arg12)) (m ((c.tc : Thread Cert.MixoutIdeal.nD Cert.MixoutIdeal.τ).loc Cert.MixoutIdeal.main_arg13)) (m ((c.tc : Thread Cert.MixoutIdeal.nD Cert.MixoutIdeal.τ).loc Cert.MixoutIdeal.main_arg14))).2.2 = (fun _ => 1#1)

def Pre_MixoutRefIdeal (m : (ℓ : Loc Cert.MixoutRefIdeal.nD Cert.MixoutRefIdeal.τ Cert.MixoutRefIdeal.sig) → Buf (Elt Ideal) ℓ) : Prop :=
  True

def Pre_MixoutRefIdeal_finite_lse [hPre_finite_lse : Cert.Pre_finite_lse.Facts] (m : (ℓ : Loc Cert.MixoutRefIdeal.nD Cert.MixoutRefIdeal.τ Cert.MixoutRefIdeal.sig) → Buf (Elt Ideal) ℓ) : Prop :=
  ∀ c : Dev Cert.MixoutRefIdeal.nD,
    (Cert.Pre_finite_lse.fn (F := Ideal) (m ((c.tc : Thread Cert.MixoutRefIdeal.nD Cert.MixoutRefIdeal.τ).loc Cert.MixoutRefIdeal.main_arg0)) (m ((c.tc : Thread Cert.MixoutRefIdeal.nD Cert.MixoutRefIdeal.τ).loc Cert.MixoutRefIdeal.main_arg1)) (m ((c.tc : Thread Cert.MixoutRefIdeal.nD Cert.MixoutRefIdeal.τ).loc Cert.MixoutRefIdeal.main_arg2)) (m ((c.tc : Thread Cert.MixoutRefIdeal.nD Cert.MixoutRefIdeal.τ).loc Cert.MixoutRefIdeal.main_arg3)) (m ((c.tc : Thread Cert.MixoutRefIdeal.nD Cert.MixoutRefIdeal.τ).loc Cert.MixoutRefIdeal.main_arg4)) (m ((c.tc : Thread Cert.MixoutRefIdeal.nD Cert.MixoutRefIdeal.τ).loc Cert.MixoutRefIdeal.main_arg5)) (m ((c.tc : Thread Cert.MixoutRefIdeal.nD Cert.MixoutRefIdeal.τ).loc Cert.MixoutRefIdeal.main_arg6)) (m ((c.tc : Thread Cert.MixoutRefIdeal.nD Cert.MixoutRefIdeal.τ).loc Cert.MixoutRefIdeal.main_arg7)) (m ((c.tc : Thread Cert.MixoutRefIdeal.nD Cert.MixoutRefIdeal.τ).loc Cert.MixoutRefIdeal.main_arg8)) (m ((c.tc : Thread Cert.MixoutRefIdeal.nD Cert.MixoutRefIdeal.τ).loc Cert.MixoutRefIdeal.main_arg9)) (m ((c.tc : Thread Cert.MixoutRefIdeal.nD Cert.MixoutRefIdeal.τ).loc Cert.MixoutRefIdeal.main_arg10)) (m ((c.tc : Thread Cert.MixoutRefIdeal.nD Cert.MixoutRefIdeal.τ).loc Cert.MixoutRefIdeal.main_arg11)) (m ((c.tc : Thread Cert.MixoutRefIdeal.nD Cert.MixoutRefIdeal.τ).loc Cert.MixoutRefIdeal.main_arg12)) (m ((c.tc : Thread Cert.MixoutRefIdeal.nD Cert.MixoutRefIdeal.τ).loc Cert.MixoutRefIdeal.main_arg13)) (m ((c.tc : Thread Cert.MixoutRefIdeal.nD Cert.MixoutRefIdeal.τ).loc Cert.MixoutRefIdeal.main_arg14))).1 = (fun _ => 1#1)
    ∧ (Cert.Pre_finite_lse.fn (F := Ideal) (m ((c.tc : Thread Cert.MixoutRefIdeal.nD Cert.MixoutRefIdeal.τ).loc Cert.MixoutRefIdeal.main_arg0)) (m ((c.tc : Thread Cert.MixoutRefIdeal.nD Cert.MixoutRefIdeal.τ).loc Cert.MixoutRefIdeal.main_arg1)) (m ((c.tc : Thread Cert.MixoutRefIdeal.nD Cert.MixoutRefIdeal.τ).loc Cert.MixoutRefIdeal.main_arg2)) (m ((c.tc : Thread Cert.MixoutRefIdeal.nD Cert.MixoutRefIdeal.τ).loc Cert.MixoutRefIdeal.main_arg3)) (m ((c.tc : Thread Cert.MixoutRefIdeal.nD Cert.MixoutRefIdeal.τ).loc Cert.MixoutRefIdeal.main_arg4)) (m ((c.tc : Thread Cert.MixoutRefIdeal.nD Cert.MixoutRefIdeal.τ).loc Cert.MixoutRefIdeal.main_arg5)) (m ((c.tc : Thread Cert.MixoutRefIdeal.nD Cert.MixoutRefIdeal.τ).loc Cert.MixoutRefIdeal.main_arg6)) (m ((c.tc : Thread Cert.MixoutRefIdeal.nD Cert.MixoutRefIdeal.τ).loc Cert.MixoutRefIdeal.main_arg7)) (m ((c.tc : Thread Cert.MixoutRefIdeal.nD Cert.MixoutRefIdeal.τ).loc Cert.MixoutRefIdeal.main_arg8)) (m ((c.tc : Thread Cert.MixoutRefIdeal.nD Cert.MixoutRefIdeal.τ).loc Cert.MixoutRefIdeal.main_arg9)) (m ((c.tc : Thread Cert.MixoutRefIdeal.nD Cert.MixoutRefIdeal.τ).loc Cert.MixoutRefIdeal.main_arg10)) (m ((c.tc : Thread Cert.MixoutRefIdeal.nD Cert.MixoutRefIdeal.τ).loc Cert.MixoutRefIdeal.main_arg11)) (m ((c.tc : Thread Cert.MixoutRefIdeal.nD Cert.MixoutRefIdeal.τ).loc Cert.MixoutRefIdeal.main_arg12)) (m ((c.tc : Thread Cert.MixoutRefIdeal.nD Cert.MixoutRefIdeal.τ).loc Cert.MixoutRefIdeal.main_arg13)) (m ((c.tc : Thread Cert.MixoutRefIdeal.nD Cert.MixoutRefIdeal.τ).loc Cert.MixoutRefIdeal.main_arg14))).2.1 = (fun _ => 1#1)
    ∧ (Cert.Pre_finite_lse.fn (F := Ideal) (m ((c.tc : Thread Cert.MixoutRefIdeal.nD Cert.MixoutRefIdeal.τ).loc Cert.MixoutRefIdeal.main_arg0)) (m ((c.tc : Thread Cert.MixoutRefIdeal.nD Cert.MixoutRefIdeal.τ).loc Cert.MixoutRefIdeal.main_arg1)) (m ((c.tc : Thread Cert.MixoutRefIdeal.nD Cert.MixoutRefIdeal.τ).loc Cert.MixoutRefIdeal.main_arg2)) (m ((c.tc : Thread Cert.MixoutRefIdeal.nD Cert.MixoutRefIdeal.τ).loc Cert.MixoutRefIdeal.main_arg3)) (m ((c.tc : Thread Cert.MixoutRefIdeal.nD Cert.MixoutRefIdeal.τ).loc Cert.MixoutRefIdeal.main_arg4)) (m ((c.tc : Thread Cert.MixoutRefIdeal.nD Cert.MixoutRefIdeal.τ).loc Cert.MixoutRefIdeal.main_arg5)) (m ((c.tc : Thread Cert.MixoutRefIdeal.nD Cert.MixoutRefIdeal.τ).loc Cert.MixoutRefIdeal.main_arg6)) (m ((c.tc : Thread Cert.MixoutRefIdeal.nD Cert.MixoutRefIdeal.τ).loc Cert.MixoutRefIdeal.main_arg7)) (m ((c.tc : Thread Cert.MixoutRefIdeal.nD Cert.MixoutRefIdeal.τ).loc Cert.MixoutRefIdeal.main_arg8)) (m ((c.tc : Thread Cert.MixoutRefIdeal.nD Cert.MixoutRefIdeal.τ).loc Cert.MixoutRefIdeal.main_arg9)) (m ((c.tc : Thread Cert.MixoutRefIdeal.nD Cert.MixoutRefIdeal.τ).loc Cert.MixoutRefIdeal.main_arg10)) (m ((c.tc : Thread Cert.MixoutRefIdeal.nD Cert.MixoutRefIdeal.τ).loc Cert.MixoutRefIdeal.main_arg11)) (m ((c.tc : Thread Cert.MixoutRefIdeal.nD Cert.MixoutRefIdeal.τ).loc Cert.MixoutRefIdeal.main_arg12)) (m ((c.tc : Thread Cert.MixoutRefIdeal.nD Cert.MixoutRefIdeal.τ).loc Cert.MixoutRefIdeal.main_arg13)) (m ((c.tc : Thread Cert.MixoutRefIdeal.nD Cert.MixoutRefIdeal.τ).loc Cert.MixoutRefIdeal.main_arg14))).2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1)
      ∧ r.2.mem ((c.tc : Thread Cert.Dil.nD Cert.Dil.τ).loc Cert.Dil.main_arg2) = m ((c.tc : Thread Cert.Dil.nD Cert.Dil.τ).loc Cert.Dil.main_arg2))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ r.2.sem = fun _ => 0)

def quiescent_DilIdeal_pre_finite_qk [hDilIdeal : Cert.DilIdeal.Facts] [hPre_finite_qk : Cert.Pre_finite_qk.Facts] : Prop :=
  ∀ (m : (ℓ : Loc Cert.DilIdeal.nD Cert.DilIdeal.τ Cert.DilIdeal.sig) → Buf (Elt Ideal) ℓ) (g : Dev Cert.DilIdeal.nD → PrngReg), Pre_DilIdeal_finite_qk m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ r.2.sem = fun _ => 0)

def quiescent_DilRefIdeal [hDilRefIdeal : Cert.DilRefIdeal.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1)
      ∧ r.2.mem ((c.tc : Thread Cert.DilRefIdeal.nD Cert.DilRefIdeal.τ).loc Cert.DilRefIdeal.main_arg2) = m ((c.tc : Thread Cert.DilRefIdeal.nD Cert.DilRefIdeal.τ).loc Cert.DilRefIdeal.main_arg2))
      ∧ r.2.sem = fun _ => 0)

def quiescent_DilRefIdeal_pre_finite_qk [hDilRefIdeal : Cert.DilRefIdeal.Facts] [hPre_finite_qk : Cert.Pre_finite_qk.Facts] : Prop :=
  ∀ (m : (ℓ : Loc Cert.DilRefIdeal.nD Cert.DilRefIdeal.τ Cert.DilRefIdeal.sig) → Buf (Elt Ideal) ℓ) (g : Dev Cert.DilRefIdeal.nD → PrngReg), Pre_DilRefIdeal_finite_qk m →
    θ_run (Cert.DilRefIdeal.defs (F := Ideal)) (onTc (τ := Cert.DilRefIdeal.τ) (Cert.DilRefIdeal.main (F := Ideal))) ⟨m, fun _ => 0, g⟩ (fun r => (∀ c : Dev Cert.DilRefIdeal.nD,
      r.2.mem ((c.tc : Thread Cert.DilRefIdeal.nD Cert.DilRefIdeal.τ).loc Cert.DilRefIdeal.main_arg0) = m ((c.tc : Thread Cert.DilRefIdeal.nD Cert.DilRefIdeal.τ).loc Cert.DilRefIdeal.main_arg0)
      ∧ r.2.mem ((c.tc : Thread Cert.DilRefIdeal.nD Cert.DilRefIdeal.τ).loc Cert.DilRefIdeal.main_arg1) = m ((c.tc : Thread Cert.DilRefIdeal.nD Cert.DilRefIdeal.τ).loc Cert.DilRefIdeal.main_arg1)
      ∧ r.2.mem ((c.tc : Thread Cert.DilRefIdeal.nD Cert.DilRefIdeal.τ).loc Cert.DilRefIdeal.main_arg2) = m ((c.tc : Thread Cert.DilRefIdeal.nD Cert.DilRefIdeal.τ).loc Cert.DilRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4)
      ∧ r.2.mem ((c.tc : Thread Cert.Mixout.nD Cert.Mixout.τ).loc Cert.Mixout.main_arg5) = m ((c.tc : Thread Cert.Mixout.nD Cert.Mixout.τ).loc Cert.Mixout.main_arg5)
      ∧ r.2.mem ((c.tc : Thread Cert.Mixout.nD Cert.Mixout.τ).loc Cert.Mixout.main_arg6) = m ((c.tc : Thread Cert.Mixout.nD Cert.Mixout.τ).loc Cert.Mixout.main_arg6)
      ∧ r.2.mem ((c.tc : Thread Cert.Mixout.nD Cert.Mixout.τ).loc Cert.Mixout.main_arg7) = m ((c.tc : Thread Cert.Mixout.nD Cert.Mixout.τ).loc Cert.Mixout.main_arg7)
      ∧ r.2.mem ((c.tc : Thread Cert.Mixout.nD Cert.Mixout.τ).loc Cert.Mixout.main_arg8) = m ((c.tc : Thread Cert.Mixout.nD Cert.Mixout.τ).loc Cert.Mixout.main_arg8)
      ∧ r.2.mem ((c.tc : Thread Cert.Mixout.nD Cert.Mixout.τ).loc Cert.Mixout.main_arg9) = m ((c.tc : Thread Cert.Mixout.nD Cert.Mixout.τ).loc Cert.Mixout.main_arg9)
      ∧ r.2.mem ((c.tc : Thread Cert.Mixout.nD Cert.Mixout.τ).loc Cert.Mixout.main_arg10) = m ((c.tc : Thread Cert.Mixout.nD Cert.Mixout.τ).loc Cert.Mixout.main_arg10)
      ∧ r.2.mem ((c.tc : Thread Cert.Mixout.nD Cert.Mixout.τ).loc Cert.Mixout.main_arg11) = m ((c.tc : Thread Cert.Mixout.nD Cert.Mixout.τ).loc Cert.Mixout.main_arg11)
      ∧ r.2.mem ((c.tc : Thread Cert.Mixout.nD Cert.Mixout.τ).loc Cert.Mixout.main_arg12) = m ((c.tc : Thread Cert.Mixout.nD Cert.Mixout.τ).loc Cert.Mixout.main_arg12)
      ∧ r.2.mem ((c.tc : Thread Cert.Mixout.nD Cert.Mixout.τ).loc Cert.Mixout.main_arg13) = m ((c.tc : Thread Cert.Mixout.nD Cert.Mixout.τ).loc Cert.Mixout.main_arg13)
      ∧ r.2.mem ((c.tc : Thread Cert.Mixout.nD Cert.Mixout.τ).loc Cert.Mixout.main_arg14) = m ((c.tc : Thread Cert.Mixout.nD Cert.Mixout.τ).loc Cert.Mixout.main_arg14))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
      ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
      ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
      ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8)
      ∧ r.2.mem ((c.tc : Thread Cert.MixoutIdeal.nD Cert.MixoutIdeal.τ).loc Cert.MixoutIdeal.main_arg9) = m ((c.tc : Thread Cert.MixoutIdeal.nD Cert.MixoutIdeal.τ).loc Cert.MixoutIdeal.main_arg9)
      ∧ r.2.mem ((c.tc : Thread Cert.MixoutIdeal.nD Cert.MixoutIdeal.τ).loc Cert.MixoutIdeal.main_arg10) = m ((c.tc : Thread Cert.MixoutIdeal.nD Cert.MixoutIdeal.τ).loc Cert.MixoutIdeal.main_arg10)
      ∧ r.2.mem ((c.tc : Thread Cert.MixoutIdeal.nD Cert.MixoutIdeal.τ).loc Cert.MixoutIdeal.main_arg11) = m ((c.tc : Thread Cert.MixoutIdeal.nD Cert.MixoutIdeal.τ).loc Cert.MixoutIdeal.main_arg11)
      ∧ r.2.mem ((c.tc : Thread Cert.MixoutIdeal.nD Cert.MixoutIdeal.τ).loc Cert.MixoutIdeal.main_arg12) = m ((c.tc : Thread Cert.MixoutIdeal.nD Cert.MixoutIdeal.τ).loc Cert.MixoutIdeal.main_arg12)
      ∧ r.2.mem ((c.tc : Thread Cert.MixoutIdeal.nD Cert.MixoutIdeal.τ).loc Cert.MixoutIdeal.main_arg13) = m ((c.tc : Thread Cert.MixoutIdeal.nD Cert.MixoutIdeal.τ).loc Cert.MixoutIdeal.main_arg13)
      ∧ r.2.mem ((c.tc : Thread Cert.MixoutIdeal.nD Cert.MixoutIdeal.τ).loc Cert.MixoutIdeal.main_arg14) = m ((c.tc : Thread Cert.MixoutIdeal.nD Cert.MixoutIdeal.τ).loc Cert.MixoutIdeal.main_arg14))
      ∧ r.2.sem = fun _ => 0)

def quiescent_MixoutIdeal_pre_finite_lse [hMixoutIdeal : Cert.MixoutIdeal.Facts] [hPre_finite_lse : Cert.Pre_finite_lse.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal_finite_lse m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
      ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
      ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
      ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8)
      ∧ r.2.mem ((c.tc : Thread Cert.MixoutIdeal.nD Cert.MixoutIdeal.τ).loc Cert.MixoutIdeal.main_arg9) = m ((c.tc : Thread Cert.MixoutIdeal.nD Cert.MixoutIdeal.τ).loc Cert.MixoutIdeal.main_arg9)
      ∧ r.2.mem ((c.tc : Thread Cert.MixoutIdeal.nD Cert.MixoutIdeal.τ).loc Cert.MixoutIdeal.main_arg10) = m ((c.tc : Thread Cert.MixoutIdeal.nD Cert.MixoutIdeal.τ).loc Cert.MixoutIdeal.main_arg10)
      ∧ r.2.mem ((c.tc : Thread Cert.MixoutIdeal.nD Cert.MixoutIdeal.τ).loc Cert.MixoutIdeal.main_arg11) = m ((c.tc : Thread Cert.MixoutIdeal.nD Cert.MixoutIdeal.τ).loc Cert.MixoutIdeal.main_arg11)
      ∧ r.2.mem ((c.tc : Thread Cert.MixoutIdeal.nD Cert.MixoutIdeal.τ).loc Cert.MixoutIdeal.main_arg12) = m ((c.tc : Thread Cert.MixoutIdeal.nD Cert.MixoutIdeal.τ).loc Cert.MixoutIdeal.main_arg12)
      ∧ r.2.mem ((c.tc : Thread Cert.MixoutIdeal.nD Cert.MixoutIdeal.τ).loc Cert.MixoutIdeal.main_arg13) = m ((c.tc : Thread Cert.MixoutIdeal.nD Cert.MixoutIdeal.τ).loc Cert.MixoutIdeal.main_arg13)
      ∧ r.2.mem ((c.tc : Thread Cert.MixoutIdeal.nD Cert.MixoutIdeal.τ).loc Cert.MixoutIdeal.main_arg14) = m ((c.tc : Thread Cert.MixoutIdeal.nD Cert.MixoutIdeal.τ).loc Cert.MixoutIdeal.main_arg14))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5)
      ∧ r.2.mem ((c.tc : Thread Cert.MixoutRefIdeal.nD Cert.MixoutRefIdeal.τ).loc Cert.MixoutRefIdeal.main_arg6) = m ((c.tc : Thread Cert.MixoutRefIdeal.nD Cert.MixoutRefIdeal.τ).loc Cert.MixoutRefIdeal.main_arg6)
      ∧ r.2.mem ((c.tc : Thread Cert.MixoutRefIdeal.nD Cert.MixoutRefIdeal.τ).loc Cert.MixoutRefIdeal.main_arg7) = m ((c.tc : Thread Cert.MixoutRefIdeal.nD Cert.MixoutRefIdeal.τ).loc Cert.MixoutRefIdeal.main_arg7)
      ∧ r.2.mem ((c.tc : Thread Cert.MixoutRefIdeal.nD Cert.MixoutRefIdeal.τ).loc Cert.MixoutRefIdeal.main_arg8) = m ((c.tc : Thread Cert.MixoutRefIdeal.nD Cert.MixoutRefIdeal.τ).loc Cert.MixoutRefIdeal.main_arg8)
      ∧ r.2.mem ((c.tc : Thread Cert.MixoutRefIdeal.nD Cert.MixoutRefIdeal.τ).loc Cert.MixoutRefIdeal.main_arg9) = m ((c.tc : Thread Cert.MixoutRefIdeal.nD Cert.MixoutRefIdeal.τ).loc Cert.MixoutRefIdeal.main_arg9)
      ∧ r.2.mem ((c.tc : Thread Cert.MixoutRefIdeal.nD Cert.MixoutRefIdeal.τ).loc Cert.MixoutRefIdeal.main_arg10) = m ((c.tc : Thread Cert.MixoutRefIdeal.nD Cert.MixoutRefIdeal.τ).loc Cert.MixoutRefIdeal.main_arg10)
      ∧ r.2.mem ((c.tc : Thread Cert.MixoutRefIdeal.nD Cert.MixoutRefIdeal.τ).loc Cert.MixoutRefIdeal.main_arg11) = m ((c.tc : Thread Cert.MixoutRefIdeal.nD Cert.MixoutRefIdeal.τ).loc Cert.MixoutRefIdeal.main_arg11)
      ∧ r.2.mem ((c.tc : Thread Cert.MixoutRefIdeal.nD Cert.MixoutRefIdeal.τ).loc Cert.MixoutRefIdeal.main_arg12) = m ((c.tc : Thread Cert.MixoutRefIdeal.nD Cert.MixoutRefIdeal.τ).loc Cert.MixoutRefIdeal.main_arg12)
      ∧ r.2.mem ((c.tc : Thread Cert.MixoutRefIdeal.nD Cert.MixoutRefIdeal.τ).loc Cert.MixoutRefIdeal.main_arg13) = m ((c.tc : Thread Cert.MixoutRefIdeal.nD Cert.MixoutRefIdeal.τ).loc Cert.MixoutRefIdeal.main_arg13)
      ∧ r.2.mem ((c.tc : Thread Cert.MixoutRefIdeal.nD Cert.MixoutRefIdeal.τ).loc Cert.MixoutRefIdeal.main_arg14) = m ((c.tc : Thread Cert.MixoutRefIdeal.nD Cert.MixoutRefIdeal.τ).loc Cert.MixoutRefIdeal.main_arg14))
      ∧ r.2.sem = fun _ => 0)

def quiescent_MixoutRefIdeal_pre_finite_lse [hMixoutRefIdeal : Cert.MixoutRefIdeal.Facts] [hPre_finite_lse : Cert.Pre_finite_lse.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal_finite_lse m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5)
      ∧ r.2.mem ((c.tc : Thread Cert.MixoutRefIdeal.nD Cert.MixoutRefIdeal.τ).loc Cert.MixoutRefIdeal.main_arg6) = m ((c.tc : Thread Cert.MixoutRefIdeal.nD Cert.MixoutRefIdeal.τ).loc Cert.MixoutRefIdeal.main_arg6)
      ∧ r.2.mem ((c.tc : Thread Cert.MixoutRefIdeal.nD Cert.MixoutRefIdeal.τ).loc Cert.MixoutRefIdeal.main_arg7) = m ((c.tc : Thread Cert.MixoutRefIdeal.nD Cert.MixoutRefIdeal.τ).loc Cert.MixoutRefIdeal.main_arg7)
      ∧ r.2.mem ((c.tc : Thread Cert.MixoutRefIdeal.nD Cert.MixoutRefIdeal.τ).loc Cert.MixoutRefIdeal.main_arg8) = m ((c.tc : Thread Cert.MixoutRefIdeal.nD Cert.MixoutRefIdeal.τ).loc Cert.MixoutRefIdeal.main_arg8)
      ∧ r.2.mem ((c.tc : Thread Cert.MixoutRefIdeal.nD Cert.MixoutRefIdeal.τ).loc Cert.MixoutRefIdeal.main_arg9) = m ((c.tc : Thread Cert.MixoutRefIdeal.nD Cert.MixoutRefIdeal.τ).loc Cert.MixoutRefIdeal.main_arg9)
      ∧ r.2.mem ((c.tc : Thread Cert.MixoutRefIdeal.nD Cert.MixoutRefIdeal.τ).loc Cert.MixoutRefIdeal.main_arg10) = m ((c.tc : Thread Cert.MixoutRefIdeal.nD Cert.MixoutRefIdeal.τ).loc Cert.MixoutRefIdeal.main_arg10)
      ∧ r.2.mem ((c.tc : Thread Cert.MixoutRefIdeal.nD Cert.MixoutRefIdeal.τ).loc Cert.MixoutRefIdeal.main_arg11) = m ((c.tc : Thread Cert.MixoutRefIdeal.nD Cert.MixoutRefIdeal.τ).loc Cert.MixoutRefIdeal.main_arg11)
      ∧ r.2.mem ((c.tc : Thread Cert.MixoutRefIdeal.nD Cert.MixoutRefIdeal.τ).loc Cert.MixoutRefIdeal.main_arg12) = m ((c.tc : Thread Cert.MixoutRefIdeal.nD Cert.MixoutRefIdeal.τ).loc Cert.MixoutRefIdeal.main_arg12)
      ∧ r.2.mem ((c.tc : Thread Cert.MixoutRefIdeal.nD Cert.MixoutRefIdeal.τ).loc Cert.MixoutRefIdeal.main_arg13) = m ((c.tc : Thread Cert.MixoutRefIdeal.nD Cert.MixoutRefIdeal.τ).loc Cert.MixoutRefIdeal.main_arg13)
      ∧ r.2.mem ((c.tc : Thread Cert.MixoutRefIdeal.nD Cert.MixoutRefIdeal.τ).loc Cert.MixoutRefIdeal.main_arg14) = m ((c.tc : Thread Cert.MixoutRefIdeal.nD Cert.MixoutRefIdeal.τ).loc Cert.MixoutRefIdeal.main_arg14))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def preserves_Dil_DilIdeal : Prop :=
  True

def algebraic_DilIdeal_DilRefIdeal_pre_finite_qk [hDilIdeal : Cert.DilIdeal.Facts] [hDilRefIdeal : Cert.DilRefIdeal.Facts] [hPre_finite_qk : Cert.Pre_finite_qk.Facts] : Prop :=
  ∀ (m : (ℓ : Loc Cert.DilIdeal.nD Cert.DilIdeal.τ Cert.DilIdeal.sig) → Buf (Elt Ideal) ℓ) (g : Dev Cert.DilIdeal.nD → PrngReg)
    (m' : (ℓ : Loc Cert.DilRefIdeal.nD Cert.DilRefIdeal.τ Cert.DilRefIdeal.sig) → Buf (Elt Ideal) ℓ) (g' : Dev Cert.DilRefIdeal.nD → PrngReg), Pre_DilIdeal_finite_qk m →
    (∀ c : Dev Cert.DilIdeal.nD,
      m' ((c.tc : Thread Cert.DilRefIdeal.nD Cert.DilRefIdeal.τ).loc Cert.DilRefIdeal.main_arg0) = m ((c.tc : Thread Cert.DilIdeal.nD Cert.DilIdeal.τ).loc Cert.DilIdeal.main_arg0)
      ∧ m' ((c.tc : Thread Cert.DilRefIdeal.nD Cert.DilRefIdeal.τ).loc Cert.DilRefIdeal.main_arg1) = m ((c.tc : Thread Cert.DilIdeal.nD Cert.DilIdeal.τ).loc Cert.DilIdeal.main_arg1)
      ∧ m' ((c.tc : Thread Cert.DilRefIdeal.nD Cert.DilRefIdeal.τ).loc Cert.DilRefIdeal.main_arg2) = m ((c.tc : Thread Cert.DilIdeal.nD Cert.DilIdeal.τ).loc Cert.DilIdeal.main_arg2)) →
    ∃ (v0 : (c : Dev Cert.DilIdeal.nD) → Buf (Elt Ideal) ((c.tc : Thread Cert.DilIdeal.nD Cert.DilIdeal.τ).loc Cert.DilIdeal.main_v11_0)) (v1 : (c : Dev Cert.DilIdeal.nD) → Buf (Elt Ideal) ((c.tc : Thread Cert.DilIdeal.nD Cert.DilIdeal.τ).loc Cert.DilIdeal.main_v11_1)),
      θ_run (Cert.DilIdeal.defs (F := Ideal)) (onTc (τ := Cert.DilIdeal.τ) (Cert.DilIdeal.main (F := Ideal))) ⟨m, fun _ => 0, g⟩ (fun r => ∀ c : Dev Cert.DilIdeal.nD,
          r.2.mem ((c.tc : Thread Cert.DilIdeal.nD Cert.DilIdeal.τ).loc Cert.DilIdeal.main_v11_0) = v0 c
          ∧ r.2.mem ((c.tc : Thread Cert.DilIdeal.nD Cert.DilIdeal.τ).loc Cert.DilIdeal.main_v11_1) = v1 c
          ∧ r.2.mem ((c.tc : Thread Cert.DilIdeal.nD Cert.DilIdeal.τ).loc Cert.DilIdeal.main_arg0) = m ((c.tc : Thread Cert.DilIdeal.nD Cert.DilIdeal.τ).loc Cert.DilIdeal.main_arg0)
          ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
          ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ θ_run (Cert.DilRefIdeal.defs (F := Ideal)) (onTc (τ := Cert.DilRefIdeal.τ) (Cert.DilRefIdeal.main (F := Ideal))) ⟨m', fun _ => 0, g'⟩ (fun r => ∀ c : Dev Cert.DilRefIdeal.nD,
          r.2.mem ((c.tc : Thread Cert.DilRefIdeal.nD Cert.DilRefIdeal.τ).loc Cert.DilRefIdeal.main_v46) = v0 c
          ∧ r.2.mem ((c.tc : Thread Cert.DilRefIdeal.nD Cert.DilRefIdeal.τ).loc Cert.DilRefIdeal.main_v50) = v1 c
          ∧ r.2.mem ((c.tc : Thread Cert.DilRefIdeal.nD Cert.DilRefIdeal.τ).loc Cert.DilRefIdeal.main_arg0) = m' ((c.tc : Thread Cert.DilRefIdeal.nD Cert.DilRefIdeal.τ).loc Cert.DilRefIdeal.main_arg0)
          ∧ r.2.mem ((c.tc : Thread Cert.DilRefIdeal.nD Cert.DilRefIdeal.τ).loc Cert.DilRefIdeal.main_arg1) = m' ((c.tc : Thread Cert.DilRefIdeal.nD Cert.DilRefIdeal.τ).loc Cert.DilRefIdeal.main_arg1)
          ∧ r.2.mem ((c.tc : Thread Cert.DilRefIdeal.nD Cert.DilRefIdeal.τ).loc Cert.DilRefIdeal.main_arg2) = m' ((c.tc : Thread Cert.DilRefIdeal.nD Cert.DilRefIdeal.τ).loc Cert.DilRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mixout_MixoutIdeal : Prop :=
  True

def algebraic_MixoutIdeal_MixoutRefIdeal_pre_finite_lse [hMixoutIdeal : Cert.MixoutIdeal.Facts] [hMixoutRefIdeal : Cert.MixoutRefIdeal.Facts] [hPre_finite_lse : Cert.Pre_finite_lse.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal_finite_lse m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)
      ∧ m' ((c.tc : Thread Cert.MixoutRefIdeal.nD Cert.MixoutRefIdeal.τ).loc Cert.MixoutRefIdeal.main_arg4) = m ((c.tc : Thread Cert.MixoutIdeal.nD Cert.MixoutIdeal.τ).loc Cert.MixoutIdeal.main_arg4)
      ∧ m' ((c.tc : Thread Cert.MixoutRefIdeal.nD Cert.MixoutRefIdeal.τ).loc Cert.MixoutRefIdeal.main_arg5) = m ((c.tc : Thread Cert.MixoutIdeal.nD Cert.MixoutIdeal.τ).loc Cert.MixoutIdeal.main_arg5)
      ∧ m' ((c.tc : Thread Cert.MixoutRefIdeal.nD Cert.MixoutRefIdeal.τ).loc Cert.MixoutRefIdeal.main_arg6) = m ((c.tc : Thread Cert.MixoutIdeal.nD Cert.MixoutIdeal.τ).loc Cert.MixoutIdeal.main_arg6)
      ∧ m' ((c.tc : Thread Cert.MixoutRefIdeal.nD Cert.MixoutRefIdeal.τ).loc Cert.MixoutRefIdeal.main_arg7) = m ((c.tc : Thread Cert.MixoutIdeal.nD Cert.MixoutIdeal.τ).loc Cert.MixoutIdeal.main_arg7)
      ∧ m' ((c.tc : Thread Cert.MixoutRefIdeal.nD Cert.MixoutRefIdeal.τ).loc Cert.MixoutRefIdeal.main_arg8) = m ((c.tc : Thread Cert.MixoutIdeal.nD Cert.MixoutIdeal.τ).loc Cert.MixoutIdeal.main_arg8)
      ∧ m' ((c.tc : Thread Cert.MixoutRefIdeal.nD Cert.MixoutRefIdeal.τ).loc Cert.MixoutRefIdeal.main_arg9) = m ((c.tc : Thread Cert.MixoutIdeal.nD Cert.MixoutIdeal.τ).loc Cert.MixoutIdeal.main_arg9)
      ∧ m' ((c.tc : Thread Cert.MixoutRefIdeal.nD Cert.MixoutRefIdeal.τ).loc Cert.MixoutRefIdeal.main_arg10) = m ((c.tc : Thread Cert.MixoutIdeal.nD Cert.MixoutIdeal.τ).loc Cert.MixoutIdeal.main_arg10)
      ∧ m' ((c.tc : Thread Cert.MixoutRefIdeal.nD Cert.MixoutRefIdeal.τ).loc Cert.MixoutRefIdeal.main_arg11) = m ((c.tc : Thread Cert.MixoutIdeal.nD Cert.MixoutIdeal.τ).loc Cert.MixoutIdeal.main_arg11)
      ∧ m' ((c.tc : Thread Cert.MixoutRefIdeal.nD Cert.MixoutRefIdeal.τ).loc Cert.MixoutRefIdeal.main_arg12) = m ((c.tc : Thread Cert.MixoutIdeal.nD Cert.MixoutIdeal.τ).loc Cert.MixoutIdeal.main_arg12)
      ∧ m' ((c.tc : Thread Cert.MixoutRefIdeal.nD Cert.MixoutRefIdeal.τ).loc Cert.MixoutRefIdeal.main_arg13) = m ((c.tc : Thread Cert.MixoutIdeal.nD Cert.MixoutIdeal.τ).loc Cert.MixoutIdeal.main_arg13)
      ∧ m' ((c.tc : Thread Cert.MixoutRefIdeal.nD Cert.MixoutRefIdeal.τ).loc Cert.MixoutRefIdeal.main_arg14) = m ((c.tc : Thread Cert.MixoutIdeal.nD Cert.MixoutIdeal.τ).loc Cert.MixoutIdeal.main_arg14)) →
    ∃ (v0 : (c : Dev Cert.MixoutIdeal.nD) → Buf (Elt Ideal) ((c.tc : Thread Cert.MixoutIdeal.nD Cert.MixoutIdeal.τ).loc Cert.MixoutIdeal.main_v34)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v34) = v0 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
          ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
          ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
          ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
          ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8)
          ∧ r.2.mem ((c.tc : Thread Cert.MixoutIdeal.nD Cert.MixoutIdeal.τ).loc Cert.MixoutIdeal.main_arg9) = m ((c.tc : Thread Cert.MixoutIdeal.nD Cert.MixoutIdeal.τ).loc Cert.MixoutIdeal.main_arg9)
          ∧ r.2.mem ((c.tc : Thread Cert.MixoutIdeal.nD Cert.MixoutIdeal.τ).loc Cert.MixoutIdeal.main_arg10) = m ((c.tc : Thread Cert.MixoutIdeal.nD Cert.MixoutIdeal.τ).loc Cert.MixoutIdeal.main_arg10)
          ∧ r.2.mem ((c.tc : Thread Cert.MixoutIdeal.nD Cert.MixoutIdeal.τ).loc Cert.MixoutIdeal.main_arg11) = m ((c.tc : Thread Cert.MixoutIdeal.nD Cert.MixoutIdeal.τ).loc Cert.MixoutIdeal.main_arg11)
          ∧ r.2.mem ((c.tc : Thread Cert.MixoutIdeal.nD Cert.MixoutIdeal.τ).loc Cert.MixoutIdeal.main_arg12) = m ((c.tc : Thread Cert.MixoutIdeal.nD Cert.MixoutIdeal.τ).loc Cert.MixoutIdeal.main_arg12)
          ∧ r.2.mem ((c.tc : Thread Cert.MixoutIdeal.nD Cert.MixoutIdeal.τ).loc Cert.MixoutIdeal.main_arg13) = m ((c.tc : Thread Cert.MixoutIdeal.nD Cert.MixoutIdeal.τ).loc Cert.MixoutIdeal.main_arg13)
          ∧ r.2.mem ((c.tc : Thread Cert.MixoutIdeal.nD Cert.MixoutIdeal.τ).loc Cert.MixoutIdeal.main_arg14) = m ((c.tc : Thread Cert.MixoutIdeal.nD Cert.MixoutIdeal.τ).loc Cert.MixoutIdeal.main_arg14))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v60) = v0 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3)
          ∧ r.2.mem ((c.tc : Thread Cert.MixoutRefIdeal.nD Cert.MixoutRefIdeal.τ).loc Cert.MixoutRefIdeal.main_arg4) = m' ((c.tc : Thread Cert.MixoutRefIdeal.nD Cert.MixoutRefIdeal.τ).loc Cert.MixoutRefIdeal.main_arg4)
          ∧ r.2.mem ((c.tc : Thread Cert.MixoutRefIdeal.nD Cert.MixoutRefIdeal.τ).loc Cert.MixoutRefIdeal.main_arg5) = m' ((c.tc : Thread Cert.MixoutRefIdeal.nD Cert.MixoutRefIdeal.τ).loc Cert.MixoutRefIdeal.main_arg5)
          ∧ r.2.mem ((c.tc : Thread Cert.MixoutRefIdeal.nD Cert.MixoutRefIdeal.τ).loc Cert.MixoutRefIdeal.main_arg6) = m' ((c.tc : Thread Cert.MixoutRefIdeal.nD Cert.MixoutRefIdeal.τ).loc Cert.MixoutRefIdeal.main_arg6)
          ∧ r.2.mem ((c.tc : Thread Cert.MixoutRefIdeal.nD Cert.MixoutRefIdeal.τ).loc Cert.MixoutRefIdeal.main_arg7) = m' ((c.tc : Thread Cert.MixoutRefIdeal.nD Cert.MixoutRefIdeal.τ).loc Cert.MixoutRefIdeal.main_arg7)
          ∧ r.2.mem ((c.tc : Thread Cert.MixoutRefIdeal.nD Cert.MixoutRefIdeal.τ).loc Cert.MixoutRefIdeal.main_arg8) = m' ((c.tc : Thread Cert.MixoutRefIdeal.nD Cert.MixoutRefIdeal.τ).loc Cert.MixoutRefIdeal.main_arg8)
          ∧ r.2.mem ((c.tc : Thread Cert.MixoutRefIdeal.nD Cert.MixoutRefIdeal.τ).loc Cert.MixoutRefIdeal.main_arg9) = m' ((c.tc : Thread Cert.MixoutRefIdeal.nD Cert.MixoutRefIdeal.τ).loc Cert.MixoutRefIdeal.main_arg9)
          ∧ r.2.mem ((c.tc : Thread Cert.MixoutRefIdeal.nD Cert.MixoutRefIdeal.τ).loc Cert.MixoutRefIdeal.main_arg10) = m' ((c.tc : Thread Cert.MixoutRefIdeal.nD Cert.MixoutRefIdeal.τ).loc Cert.MixoutRefIdeal.main_arg10)
          ∧ r.2.mem ((c.tc : Thread Cert.MixoutRefIdeal.nD Cert.MixoutRefIdeal.τ).loc Cert.MixoutRefIdeal.main_arg11) = m' ((c.tc : Thread Cert.MixoutRefIdeal.nD Cert.MixoutRefIdeal.τ).loc Cert.MixoutRefIdeal.main_arg11)
          ∧ r.2.mem ((c.tc : Thread Cert.MixoutRefIdeal.nD Cert.MixoutRefIdeal.τ).loc Cert.MixoutRefIdeal.main_arg12) = m' ((c.tc : Thread Cert.MixoutRefIdeal.nD Cert.MixoutRefIdeal.τ).loc Cert.MixoutRefIdeal.main_arg12)
          ∧ r.2.mem ((c.tc : Thread Cert.MixoutRefIdeal.nD Cert.MixoutRefIdeal.τ).loc Cert.MixoutRefIdeal.main_arg13) = m' ((c.tc : Thread Cert.MixoutRefIdeal.nD Cert.MixoutRefIdeal.τ).loc Cert.MixoutRefIdeal.main_arg13)
          ∧ r.2.mem ((c.tc : Thread Cert.MixoutRefIdeal.nD Cert.MixoutRefIdeal.τ).loc Cert.MixoutRefIdeal.main_arg14) = m' ((c.tc : Thread Cert.MixoutRefIdeal.nD Cert.MixoutRefIdeal.τ).loc Cert.MixoutRefIdeal.main_arg14))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v63_2)) (v1 : (c : Dev Cert.InprojIdeal.nD) → Buf (Elt Ideal) ((c.tc : Thread Cert.InprojIdeal.nD Cert.InprojIdeal.τ).loc Cert.InprojIdeal.main_v63_5)) (v2 : (c : Dev Cert.InprojIdeal.nD) → Buf (Elt Ideal) ((c.tc : Thread Cert.InprojIdeal.nD Cert.InprojIdeal.τ).loc Cert.InprojIdeal.main_v63_8)) (v3 : (c : Dev Cert.InprojIdeal.nD) → Buf (Elt Ideal) ((c.tc : Thread Cert.InprojIdeal.nD Cert.InprojIdeal.τ).loc Cert.InprojIdeal.main_v63_11)) (v4 : (c : Dev Cert.InprojIdeal.nD) → Buf (Elt Ideal) ((c.tc : Thread Cert.InprojIdeal.nD Cert.InprojIdeal.τ).loc Cert.InprojIdeal.main_v63_12)) (v5 : (c : Dev Cert.InprojIdeal.nD) → Buf (Elt Ideal) ((c.tc : Thread Cert.InprojIdeal.nD Cert.InprojIdeal.τ).loc Cert.InprojIdeal.main_v63_13)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v63_2) = v0 c
          ∧ r.2.mem ((c.tc : Thread Cert.InprojIdeal.nD Cert.InprojIdeal.τ).loc Cert.InprojIdeal.main_v63_5) = v1 c
          ∧ r.2.mem ((c.tc : Thread Cert.InprojIdeal.nD Cert.InprojIdeal.τ).loc Cert.InprojIdeal.main_v63_8) = v2 c
          ∧ r.2.mem ((c.tc : Thread Cert.InprojIdeal.nD Cert.InprojIdeal.τ).loc Cert.InprojIdeal.main_v63_11) = v3 c
          ∧ r.2.mem ((c.tc : Thread Cert.InprojIdeal.nD Cert.InprojIdeal.τ).loc Cert.InprojIdeal.main_v63_12) = v4 c
          ∧ r.2.mem ((c.tc : Thread Cert.InprojIdeal.nD Cert.InprojIdeal.τ).loc Cert.InprojIdeal.main_v63_13) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v117) = v0 c
          ∧ r.2.mem ((c.tc : Thread Cert.InprojRefIdeal.nD Cert.InprojRefIdeal.τ).loc Cert.InprojRefIdeal.main_v96) = v1 c
          ∧ r.2.mem ((c.tc : Thread Cert.InprojRefIdeal.nD Cert.InprojRefIdeal.τ).loc Cert.InprojRefIdeal.main_v77) = v2 c
          ∧ r.2.mem ((c.tc : Thread Cert.InprojRefIdeal.nD Cert.InprojRefIdeal.τ).loc Cert.InprojRefIdeal.main_v71) = v3 c
          ∧ r.2.mem ((c.tc : Thread Cert.InprojRefIdeal.nD Cert.InprojRefIdeal.τ).loc Cert.InprojRefIdeal.main_v50) = v4 c
          ∧ r.2.mem ((c.tc : Thread Cert.InprojRefIdeal.nD Cert.InprojRefIdeal.τ).loc Cert.InprojRefIdeal.main_v33) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def Claim : Prop :=
  ∃ (hDil : Cert.Dil.Facts) (hDilIdeal : Cert.DilIdeal.Facts) (hDilRefIdeal : Cert.DilRefIdeal.Facts) (hFfn : Cert.Ffn.Facts) (hFfnIdeal : Cert.FfnIdeal.Facts) (hFfnRefIdeal : Cert.FfnRefIdeal.Facts) (hMixout : Cert.Mixout.Facts) (hMixoutIdeal : Cert.MixoutIdeal.Facts) (hMixoutRefIdeal : Cert.MixoutRefIdeal.Facts) (hInproj : Cert.Inproj.Facts) (hInprojIdeal : Cert.InprojIdeal.Facts) (hInprojRefIdeal : Cert.InprojRefIdeal.Facts) (hPre_finite_qk : Cert.Pre_finite_qk.Facts) (hPre_finite_lse : Cert.Pre_finite_lse.Facts),
    quiescent_Dil (hDil := hDil)
    ∧ quiescent_DilIdeal (hDilIdeal := hDilIdeal)
    ∧ quiescent_DilIdeal_pre_finite_qk (hDilIdeal := hDilIdeal) (hPre_finite_qk := hPre_finite_qk)
    ∧ quiescent_DilRefIdeal (hDilRefIdeal := hDilRefIdeal)
    ∧ quiescent_DilRefIdeal_pre_finite_qk (hDilRefIdeal := hDilRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Mixout (hMixout := hMixout)
    ∧ quiescent_MixoutIdeal (hMixoutIdeal := hMixoutIdeal)
    ∧ quiescent_MixoutIdeal_pre_finite_lse (hMixoutIdeal := hMixoutIdeal) (hPre_finite_lse := hPre_finite_lse)
    ∧ quiescent_MixoutRefIdeal (hMixoutRefIdeal := hMixoutRefIdeal)
    ∧ quiescent_MixoutRefIdeal_pre_finite_lse (hMixoutRefIdeal := hMixoutRefIdeal) (hPre_finite_lse := hPre_finite_lse)
    ∧ quiescent_Inproj (hInproj := hInproj)
    ∧ quiescent_InprojIdeal (hInprojIdeal := hInprojIdeal)
    ∧ quiescent_InprojRefIdeal (hInprojRefIdeal := hInprojRefIdeal)
    ∧ preserves_Dil_DilIdeal
    ∧ algebraic_DilIdeal_DilRefIdeal_pre_finite_qk (hDilIdeal := hDilIdeal) (hDilRefIdeal := hDilRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Mixout_MixoutIdeal
    ∧ algebraic_MixoutIdeal_MixoutRefIdeal_pre_finite_lse (hMixoutIdeal := hMixoutIdeal) (hMixoutRefIdeal := hMixoutRefIdeal) (hPre_finite_lse := hPre_finite_lse)
    ∧ preserves_Inproj_InprojIdeal
    ∧ algebraic_InprojIdeal_InprojRefIdeal (hInprojIdeal := hInprojIdeal) (hInprojRefIdeal := hInprojRefIdeal)
-- ==== Pre_finite_lse.lean ====
abbrev S8x4096x1024 : Shape := ⟨3, ![8, 4096, 1024]⟩
abbrev S1024 : Shape := ⟨1, ![1024]⟩
abbrev S1024x7240 : Shape := ⟨2, ![1024, 7240]⟩
abbrev S8x4096x6x64 : Shape := ⟨4, ![8, 4096, 6, 64]⟩
abbrev S8x4096x4x64 : Shape := ⟨4, ![8, 4096, 4, 64]⟩
abbrev S8x4096x4 : Shape := ⟨3, ![8, 4096, 4]⟩
abbrev S8x4096x8x64 : Shape := ⟨4, ![8, 4096, 8, 64]⟩
abbrev S384x1024 : Shape := ⟨2, ![384, 1024]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩

class Facts : Prop where
  bcast_S_S8x4096x4 : S_.BroadcastsInDim S8x4096x4 (![] : Fin 0 → Fin S8x4096x4.rank)

variable [Facts]

def fn {F : FTy → Type} [FloatOps F] (main_arg0 : FVec F S8x4096x1024 .f32) (main_arg1 : FVec F S1024 .f32) (main_arg2 : FVec F S1024x7240 .f32) (main_arg3 : FVec F S8x4096x6x64 .f32) (main_arg4 : FVec F S8x4096x4x64 .f32) (main_arg5 : FVec F S8x4096x4x64 .f32) (main_arg6 : FVec F S8x4096x4x64 .f32) (main_arg7 : FVec F S8x4096x4 .f32) (main_arg8 : FVec F S8x4096x4 .f32) (main_arg9 : FVec F S8x4096x4 .f32) (main_arg10 : FVec F S8x4096x8x64 .f32) (main_arg11 : FVec F S384x1024 .f32) (main_arg12 : FVec F S256x1024 .f32) (main_arg13 : FVec F S512x1024 .f32) (main_arg14 : FVec F S1024x1024 .f32) : IVec S8x4096x4 1 × IVec S8x4096x4 1 × IVec S8x4096x4 1 :=
  let main_v0 : FVec F S8x4096x4 .f32 := Host.absf main_arg7
  let main_cst : FVec F S_ .f32 := constant S_ .f32 0x7F800000#32
  let main_v1 : FVec F S8x4096x4 .f32 := broadcastInDim S8x4096x4 ![] bcast_S_S8x4096x4 main_cst
  let main_v2 : IVec S8x4096x4 1 := cmpf .olt main_v0 main_v1
  let main_v3 : FVec F S8x4096x4 .f32 := Host.absf main_arg8
  let main_cst_0 : FVec F S_ .f32 := constant S_ .f32 0x7F800000#32
  let main_v4 : FVec F S8x4096x4 .f32 := broadcastInDim S8x4096x4 ![] bcast_S_S8x4096x4 main_cst_0
  let main_v5 : IVec S8x4096x4 1 := cmpf .olt main_v3 main_v4
  let main_v6 : FVec F S8x4096x4 .f32 := Host.absf main_arg9
  let main_cst_1 : FVec F S_ .f32 := constant S_ .f32 0x7F800000#32
  let main_v7 : FVec F S8x4096x4 .f32 := broadcastInDim S8x4096x4 ![] bcast_S_S8x4096x4 main_cst_1
  let main_v8 : IVec S8x4096x4 1 := cmpf .olt main_v6 main_v7
  (main_v2, main_v5, main_v8)
-- ==== Pre_finite_qk.lean ====
abbrev S8x4096x4x64 : Shape := ⟨4, ![8, 4096, 4, 64]⟩
abbrev S_ : Shape := ⟨0, ![]⟩

class Facts : Prop where
  bcast_S_S8x4096x4x64 : S_.BroadcastsInDim S8x4096x4x64 (![] : Fin 0 → Fin S8x4096x4x64.rank)

variable [Facts]

def fn {F : FTy → Type} [FloatOps F] (main_arg0 : FVec F S8x4096x4x64 .f32) (main_arg1 : FVec F S8x4096x4x64 .f32) (main_arg2 : FVec F S8x4096x4x64 .f32) : IVec S8x4096x4x64 1 × IVec S8x4096x4x64 1 :=
  let main_v0 : FVec F S8x4096x4x64 .f32 := Host.absf main_arg0
  let main_cst : FVec F S_ .f32 := constant S_ .f32 0x7F800000#32
  let main_v1 : FVec F S8x4096x4x64 .f32 := broadcastInDim S8x4096x4x64 ![] bcast_S_S8x4096x4x64 main_cst
  let main_v2 : IVec S8x4096x4x64 1 := cmpf .olt main_v0 main_v1
  let main_v3 : FVec F S8x4096x4x64 .f32 := Host.absf main_arg1
  let main_cst_0 : FVec F S_ .f32 := constant S_ .f32 0x7F800000#32
  let main_v4 : FVec F S8x4096x4x64 .f32 := broadcastInDim S8x4096x4x64 ![] bcast_S_S8x4096x4x64 main_cst_0
  let main_v5 : IVec S8x4096x4x64 1 := cmpf .olt main_v3 main_v4
  (main_v2, main_v5)
-- ==== Dil.lean ====
abbrev S8x4096x4x64 : Shape := ⟨4, ![8, 4096, 4, 64]⟩
abbrev S_ : Shape := ⟨0, ![]⟩
abbrev S8x1024x4x256 : Shape := ⟨4, ![8, 1024, 4, 256]⟩
abbrev S8x4x1024x256 : Shape := ⟨4, ![8, 4, 1024, 256]⟩
abbrev S1x1x512x256 : Shape := ⟨4, ![1, 1, 512, 256]⟩
abbrev S1x1x128x256 : Shape := ⟨4, ![1, 1, 128, 256]⟩
abbrev S1x256 : Shape := ⟨2, ![1, 256]⟩
abbrev S512x256 : Shape := ⟨2, ![512, 256]⟩
abbrev S128x256 : Shape := ⟨2, ![128, 256]⟩
abbrev S640x256 : Shape := ⟨2, ![640, 256]⟩
abbrev S256x256 : Shape := ⟨2, ![256, 256]⟩
abbrev S512 : Shape := ⟨1, ![512]⟩
abbrev S512x1 : Shape := ⟨2, ![512, 1]⟩
abbrev S128x1 : Shape := ⟨2, ![128, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x4x64, .f32⟩
  | .hbm, ⟨1, _⟩ => ⟨S8x4096x4x64, .f32⟩
  | .hbm, ⟨2, _⟩ => ⟨S8x4096x4x64, .f32⟩
  | .hbm, ⟨3, _⟩ => ⟨S_, .f32⟩
  | .hbm, ⟨4, _⟩ => ⟨S8x4096x4x64, .f32⟩
  | .hbm, ⟨5, _⟩ => ⟨S8x4096x4x64, .f32⟩
  | .hbm, ⟨6, _⟩ => ⟨S8x1024x4x256, .f32⟩
  | .hbm, ⟨7, _⟩ => ⟨S8x4x1024x256, .f32⟩
  | .hbm, ⟨8, _⟩ => ⟨S8x4x1024x256, .bf16⟩
  | .hbm, ⟨9, _⟩ => ⟨S8x1024x4x256, .f32⟩
  | .hbm, ⟨10, _⟩ => ⟨S8x4x1024x256, .f32⟩
  | .hbm, ⟨11, _⟩ => ⟨S8x4x1024x256, .bf16⟩
  | .hbm, ⟨12, _⟩ => ⟨S8x1024x4x256, .f32⟩
  | .hbm, ⟨13, _⟩ => ⟨S8x4x1024x256, .f32⟩
  | .hbm, ⟨14, _⟩ => ⟨S8x4x1024x256, .bf16⟩
  | .hbm, ⟨15, _⟩ => ⟨S8x4x1024x256, .f32⟩
  | .hbm, ⟨16, _⟩ => ⟨S8x4x1024x256, .f32⟩
  | .local _ .vmem, ⟨0, _⟩ => ⟨S1x1x512x256, .bf16⟩
  | .local _ .vmem, ⟨1, _⟩ => ⟨S1x1x512x256, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1x128x256, .bf16⟩
  | .local _ .vmem, ⟨5, _⟩ => ⟨S1x1x128x256, .bf16⟩
  | .local _ .vmem, ⟨6, _⟩ => ⟨S1x1x512x256, .bf16⟩
  | .local _ .vmem, ⟨7, _⟩ => ⟨S1x1x512x256, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S1x1x512x256, .f32⟩
  | .local _ .vmem, ⟨11, _⟩ => ⟨S1x1x512x256, .f32⟩
  | .local _ .vmem, ⟨12, _⟩ => ⟨S1x1x512x256, .f32⟩
  | .local _ .vmem, ⟨13, _⟩ => ⟨S1x1x512x256, .f32⟩
  | _, _ => ⟨S8x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DilRefIdeal.lean ====
abbrev S8x4096x4x64 : Shape := ⟨4, ![8, 4096, 4, 64]⟩
abbrev S4096 : Shape := ⟨1, ![4096]⟩
abbrev S4096x1 : Shape := ⟨2, ![4096, 1]⟩
abbrev S129 : Shape := ⟨1, ![129]⟩
abbrev S1x129 : Shape := ⟨2, ![1, 129]⟩
abbrev S_ : Shape := ⟨0, ![]⟩
abbrev S4096x129 : Shape := ⟨2, ![4096, 129]⟩
abbrev S4096x129x1 : Shape := ⟨3, ![4096, 129, 1]⟩
abbrev S8x4096x129x4x64 : Shape := ⟨5, ![8, 4096, 129, 4, 64]⟩
abbrev S8x4096x4x129 : Shape := ⟨4, ![8, 4096, 4, 129]⟩
abbrev S1x4096x1x129 : Shape := ⟨4, ![1, 4096, 1, 129]⟩
abbrev S8x4096x4 : Shape := ⟨3, ![8, 4096, 4]⟩
abbrev S8x4096x4x1 : Shape := ⟨4, ![8, 4096, 4, 1]⟩
abbrev S8x1024x4x256 : Shape := ⟨4, ![8, 1024, 4, 256]⟩
abbrev S8x4x1024x256 : Shape := ⟨4, ![8, 4, 1024, 256]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x4x64, .f32⟩
  | .hbm, ⟨1, _⟩ => ⟨S8x4096x4x64, .f32⟩
  | .hbm, ⟨2, _⟩ => ⟨S8x4096x4x64, .f32⟩
  | .hbm, ⟨3, _⟩ => ⟨S4096, .i32⟩
  | .hbm, ⟨4, _⟩ => ⟨S4096x1, .i32⟩
  | .hbm, ⟨5, _⟩ => ⟨S129, .i32⟩
  | .hbm, ⟨6, _⟩ => ⟨S1x129, .i32⟩
  | .hbm, ⟨7, _⟩ => ⟨S_, .i32⟩
  | .hbm, ⟨8, _⟩ => ⟨S1x129, .i32⟩
  | .hbm, ⟨9, _⟩ => ⟨S1x129, .i32⟩
  | .hbm, ⟨10, _⟩ => ⟨S4096x129, .i32⟩
  | .hbm, ⟨11, _⟩ => ⟨S4096x129, .i32⟩
  | .hbm, ⟨12, _⟩ => ⟨S4096x129, .i32⟩
  | .hbm, ⟨13, _⟩ => ⟨S_, .i32⟩
  | .hbm, ⟨14, _⟩ => ⟨S4096x129, .i32⟩
  | .hbm, ⟨15, _⟩ => ⟨S4096x129, .i1⟩
  | .hbm, ⟨16, _⟩ => ⟨S_, .i32⟩
  | .hbm, ⟨17, _⟩ => ⟨S4096x129, .i32⟩
  | .hbm, ⟨18, _⟩ => ⟨S4096x129, .i32⟩
  | .hbm, ⟨19, _⟩ => ⟨S_, .i32⟩
  | .hbm, ⟨20, _⟩ => ⟨S4096x129, .i32⟩
  | .hbm, ⟨21, _⟩ => ⟨S4096x129, .i1⟩
  | .hbm, ⟨22, _⟩ => ⟨S_, .i32⟩
  | .hbm, ⟨23, _⟩ => ⟨S4096x129, .i32⟩
  | .hbm, ⟨24, _⟩ => ⟨S4096x129, .i32⟩
  | .hbm, ⟨25, _⟩ => ⟨S4096x129, .i32⟩
  | .hbm, ⟨26, _⟩ => ⟨S4096x129x1, .i32⟩
  | .hbm, ⟨27, _⟩ => ⟨S8x4096x129x4x64, .f32⟩
  | .hbm, ⟨28, _⟩ => ⟨S_, .i32⟩
  | .hbm, ⟨29, _⟩ => ⟨S4096x129, .i32⟩
  | .hbm, ⟨30, _⟩ => ⟨S4096x129, .i1⟩
  | .hbm, ⟨31, _⟩ => ⟨S_, .i32⟩
  | .hbm, ⟨32, _⟩ => ⟨S4096x129, .i32⟩
  | .hbm, ⟨33, _⟩ => ⟨S4096x129, .i32⟩
  | .hbm, ⟨34, _⟩ => ⟨S4096x129, .i32⟩
  | .hbm, ⟨35, _⟩ => ⟨S4096x129x1, .i32⟩
  | .hbm, ⟨36, _⟩ => ⟨S8x4096x129x4x64, .f32⟩
  | .hbm, ⟨37, _⟩ => ⟨S8x4096x4x129, .f32⟩
  | .hbm, ⟨38, _⟩ => ⟨S_, .f32⟩
  | .hbm, ⟨39, _⟩ => ⟨S8x4096x4x129, .f32⟩
  | .hbm, ⟨40, _⟩ => ⟨S8x4096x4x129, .f32⟩
  | .hbm, ⟨41, _⟩ => ⟨S1x4096x1x129, .i1⟩
  | .hbm, ⟨42, _⟩ => ⟨S_, .f32⟩
  | .hbm, ⟨43, _⟩ => ⟨S_, .f32⟩
  | .hbm, ⟨44, _⟩ => ⟨S8x4096x4x129, .i1⟩
  | .hbm, ⟨45, _⟩ => ⟨S8x4096x4x129, .f32⟩
  | .hbm, ⟨46, _⟩ => ⟨S8x4096x4x129, .f32⟩
  | .hbm, ⟨47, _⟩ => ⟨S_, .f32⟩
  | .hbm, ⟨48, _⟩ => ⟨S8x4096x4, .f32⟩
  | .hbm, ⟨49, _⟩ => ⟨S8x4096x4x1, .f32⟩
  | .hbm, ⟨50, _⟩ => ⟨S8x4096x4x129, .f32⟩
  | .hbm, ⟨51, _⟩ => ⟨S8x4096x4x129, .f32⟩
  | .hbm, ⟨52, _⟩ => ⟨S8x4096x4x129, .f32⟩
  | .hbm, ⟨53, _⟩ => ⟨S_, .f32⟩
  | .hbm, ⟨54, _⟩ => ⟨S8x4096x4, .f32⟩
  | .hbm, ⟨55, _⟩ => ⟨S8x4096x4x1, .f32⟩
  | .hbm, ⟨56, _⟩ => ⟨S8x4096x4x129, .f32⟩
  | .hbm, ⟨57, _⟩ => ⟨S8x4096x4x129, .f32⟩
  | .hbm, ⟨58, _⟩ => ⟨S8x4096x4x64, .f32⟩
  | .hbm, ⟨59, _⟩ => ⟨S8x4096x4, .f32⟩
  | .hbm, ⟨60, _⟩ => ⟨S8x4096x4, .f32⟩
  | .hbm, ⟨61, _⟩ => ⟨S8x4096x4, .f32⟩
  | .hbm, ⟨62, _⟩ => ⟨S8x1024x4x256, .f32⟩
  | .hbm, ⟨63, _⟩ => ⟨S8x4x1024x256, .f32⟩
  | .hbm, ⟨64, _⟩ => ⟨S8x4096x4x1, .f32⟩
  | .hbm, ⟨65, _⟩ => ⟨S8x4096x4x64, .f32⟩
  | .hbm, ⟨66, _⟩ => ⟨S8x1024x4x256, .f32⟩
  | .hbm, ⟨67, _⟩ => ⟨S8x4x1024x256, .f32⟩
  | _, _ => ⟨S8x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Ffn.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S1x1x1024, .f32⟩
  | .hbm, ⟨42, _⟩ => ⟨S8x4096x1024, .f32⟩
  | .hbm, ⟨43, _⟩ => ⟨S8x4096x1024, .f32⟩
  | .hbm, ⟨44, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Mixout.lean ====
abbrev S8x4096x1024 : Shape := ⟨3, ![8, 4096, 1024]⟩
abbrev S1024 : Shape := ⟨1, ![1024]⟩
abbrev S1024x7240 : Shape := ⟨2, ![1024, 7240]⟩
abbrev S8x4096x6x64 : Shape := ⟨4, ![8, 4096, 6, 64]⟩
abbrev S8x4096x4x64 : Shape := ⟨4, ![8, 4096, 4, 64]⟩
abbrev S8x4096x4 : Shape := ⟨3, ![8, 4096, 4]⟩
abbrev S8x4096x8x64 : Shape := ⟨4, ![8, 4096, 8, 64]⟩
abbrev S384x1024 : Shape := ⟨2, ![384, 1024]⟩
abbrev S256x1024 : Shape := ⟨2, ![256, 1024]⟩
abbrev S512x1024 : Shape := ⟨2, ![512, 1024]⟩
abbrev S1024x1024 : Shape := ⟨2, ![1024, 1024]⟩
abbrev S8x4096x1x256 : Shape := ⟨4, ![8, 4096, 1, 256]⟩
abbrev S8x1x4096x256 : Shape := ⟨4, ![8, 1, 4096, 256]⟩
abbrev S8x1024x4x256 : Shape := ⟨4, ![8, 1024, 4, 256]⟩
abbrev S8x4x1024x256 : Shape := ⟨4, ![8, 4, 1024, 256]⟩
abbrev S8x256x16x256 : Shape := ⟨4, ![8, 256, 16, 256]⟩
abbrev S8x16x256x256 : Shape := ⟨4, ![8, 16, 256, 256]⟩
abbrev S8x4096x4x1 : Shape := ⟨4, ![8, 4096, 4, 1]⟩
abbrev S8x4096x2x4x64 : Shape := ⟨5, ![8, 4096, 2, 4, 64]⟩
abbrev S8x4096x4x2x64 : Shape := ⟨5, ![8, 4096, 4, 2, 64]⟩
abbrev S8x4096x512 : Shape := ⟨3, ![8, 4096, 512]⟩
abbrev S2x4x64x1024 : Shape := ⟨4, ![2, 4, 64, 1024]⟩
abbrev S4x2x64x1024 : Shape := ⟨4, ![4, 2, 64, 1024]⟩
abbrev S1024x3072 : Shape := ⟨2, ![1024, 3072]⟩
abbrev S1x1024 : Shape := ⟨2, ![1, 1024]⟩
abbrev S8x4096x384 : Shape := ⟨3, ![8, 4096, 384]⟩
abbrev S1x512x1024 : Shape := ⟨3, ![1, 512, 1024]⟩
abbrev S1x512x384 : Shape := ⟨3, ![1, 512, 384]⟩
abbrev S1x1x512x256 : Shape := ⟨4, ![1, 1, 512, 256]⟩
abbrev S1x4x128x256 : Shape := ⟨4, ![1, 4, 128, 256]⟩
abbrev S1x16x32x256 : Shape := ⟨4, ![1, 16, 32, 256]⟩
abbrev S1x512x512 : Shape := ⟨3, ![1, 512, 512]⟩
abbrev S2x512x128 : Shape := ⟨3, ![2, 512, 128]⟩
abbrev S512 : Shape := ⟨1, ![512]⟩
abbrev S512x1 : Shape := ⟨2, ![512, 1]⟩
abbrev S512x256 : Shape := ⟨2, ![512, 256]⟩
abbrev S1x1x128x128 : Shape := ⟨4, ![1, 1, 128, 128]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S1x1x32x128 : Shape := ⟨4, ![1, 1, 32, 128]⟩
abbrev S32x128 : Shape := ⟨2, ![32, 128]⟩
abbrev S1x32x128 : Shape := ⟨3, ![1, 32, 128]⟩
abbrev S512x384 : Shape := ⟨2, ![512, 384]⟩
abbrev S512x512 : Shape := ⟨2, ![512, 512]⟩

abbrev nBuf : Space → Nat
  | .hbm => 50
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7240, .f32⟩
  | .hbm, ⟨3, _⟩ => ⟨S8x4096x6x64, .f32⟩
  | .hbm, ⟨4, _⟩ => ⟨S8x4096x4x64, .f32⟩
  | .hbm, ⟨5, _⟩ => ⟨S8x4096x4x64, .f32⟩
  | .hbm, ⟨6, _⟩ => ⟨S8x4096x4x64, .f32⟩
  | .hbm, ⟨7, _⟩ => ⟨S8x4096x4, .f32⟩
  | .hbm, ⟨8, _⟩ => ⟨S8x4096x4, .f32⟩
  | .hbm, ⟨9, _⟩ => ⟨S8x4096x4, .f32⟩
  | .hbm, ⟨10, _⟩ => ⟨S8x4096x8x64, .f32⟩
  | .hbm, ⟨11, _⟩ => ⟨S384x1024, .f32⟩
  | .hbm, ⟨12, _⟩ => ⟨S256x1024, .f32⟩
  | .hbm, ⟨13, _⟩ => ⟨S512x1024, .f32⟩
  | .hbm, ⟨14, _⟩ => ⟨S1024x1024, .f32⟩
  | .hbm, ⟨15, _⟩ => ⟨S8x4096x1x256, .f32⟩
  | .hbm, ⟨16, _⟩ => ⟨S8x1x4096x256, .f32⟩
  | .hbm, ⟨17, _⟩ => ⟨S8x1024x4x256, .f32⟩
  | .hbm, ⟨18, _⟩ => ⟨S8x4x1024x256, .f32⟩
  | .hbm, ⟨19, _⟩ => ⟨S8x256x16x256, .f32⟩
  | .hbm, ⟨20, _⟩ => ⟨S8x16x256x256, .f32⟩
  | .hbm, ⟨21, _⟩ => ⟨S8x4096x4x1, .f32⟩
  | .hbm, ⟨22, _⟩ => ⟨S8x4096x4x64, .f32⟩
  | .hbm, ⟨23, _⟩ => ⟨S8x4096x1x256, .f32⟩
  | .hbm, ⟨24, _⟩ => ⟨S8x1x4096x256, .f32⟩
  | .hbm, ⟨25, _⟩ => ⟨S8x4096x4x1, .f32⟩
  | .hbm, ⟨26, _⟩ => ⟨S8x4096x4x64, .f32⟩
  | .hbm, ⟨27, _⟩ => ⟨S8x1024x4x256, .f32⟩
  | .hbm, ⟨28, _⟩ => ⟨S8x4x1024x256, .f32⟩
  | .hbm, ⟨29, _⟩ => ⟨S8x4096x4x1, .f32⟩
  | .hbm, ⟨30, _⟩ => ⟨S8x4096x4x64, .f32⟩
  | .hbm, ⟨31, _⟩ => ⟨S8x256x16x256, .f32⟩
  | .hbm, ⟨32, _⟩ => ⟨S8x16x256x256, .f32⟩
  | .hbm, ⟨33, _⟩ => ⟨S8x4096x2x4x64, .f32⟩
  | .hbm, ⟨34, _⟩ => ⟨S8x4096x4x2x64, .f32⟩
  | .hbm, ⟨35, _⟩ => ⟨S8x4096x512, .f32⟩
  | .hbm, ⟨36, _⟩ => ⟨S2x4x64x1024, .f32⟩
  | .hbm, ⟨37, _⟩ => ⟨S4x2x64x1024, .f32⟩
  | .hbm, ⟨38, _⟩ => ⟨S512x1024, .f32⟩
  | .hbm, ⟨39, _⟩ => ⟨S1024x3072, .f32⟩
  | .hbm, ⟨40, _⟩ => ⟨S1024x3072, .bf16⟩
  | .hbm, ⟨41, _⟩ => ⟨S1x1024, .f32⟩
  | .hbm, ⟨42, _⟩ => ⟨S8x4096x384, .f32⟩
  | .hbm, ⟨43, _⟩ => ⟨S8x4096x384, .bf16⟩
  | .hbm, ⟨44, _⟩ => ⟨S8x4096x512, .bf16⟩
  | .hbm, ⟨45, _⟩ => ⟨S384x1024, .bf16⟩
  | .hbm, ⟨46, _⟩ => ⟨S256x1024, .bf16⟩
  | .hbm, ⟨47, _⟩ => ⟨S512x1024, .bf16⟩
  | .hbm, ⟨48, _⟩ => ⟨S1024x1024, .bf16⟩
  | .hbm, ⟨49, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512x384, .bf16⟩
  | .local _ .vmem, ⟨5, _⟩ => ⟨S1x512x384, .bf16⟩
  | .local _ .vmem, ⟨6, _⟩ => ⟨S1x1x512x256, .f32⟩
  | .local _ .vmem, ⟨7, _⟩ => ⟨S1x1x512x256, .f32⟩
  | .local _ .vmem, ⟨8, _⟩ => ⟨S1x4x128x256, .f32⟩
  | .local _ .vmem, ⟨9, _⟩ => ⟨S1x4x128x256, .f32⟩
  | .local _ .vmem, ⟨10, _⟩ => ⟨S1x16x32x256, .f32⟩
  | .local _ .vmem, ⟨11, _⟩ => ⟨S1x16x32x256, .f32⟩
  | .local _ .vmem, ⟨12, _⟩ => ⟨S1x1x512x256, .f32⟩
  | .local _ .vmem, ⟨13, _⟩ => ⟨S1x1x512x256, .f32⟩
  | .local _ .vmem, ⟨14, _⟩ => ⟨S1x4x128x256, .f32⟩
  | .local _ .vmem, ⟨15, _⟩ => ⟨S1x4x128x256, .f32⟩
  | .local _ .vmem, ⟨16, _⟩ => ⟨S1x16x32x256, .f32⟩
  | .local _ .vmem, ⟨17, _⟩ => ⟨S1x16x32x256, .f32⟩
  | .local _ .vmem, ⟨18, _⟩ => ⟨S1x512x512, .bf16⟩
  | .local _ .vmem, ⟨19, _⟩ => ⟨S1x512x512, .bf16⟩
  | .local _ .vmem, ⟨20, _⟩ => ⟨S384x1024, .bf16⟩
  | .local _ .vmem, ⟨21, _⟩ => ⟨S256x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x512x1024, .f32⟩
  | .local _ .vmem, ⟨25, _⟩ => ⟨S1x512x1024, .f32⟩
  | .local _ .vmem, ⟨26, _⟩ => ⟨S2x512x128, .f32⟩
  | .local _ .vmem, ⟨27, _⟩ => ⟨S2x512x128, .f32⟩
  | .local _ .vmem, ⟨28, _⟩ => ⟨S2x512x128, .f32⟩
  | .local _ .vmem, ⟨29, _⟩ => ⟨S2x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MixoutRefIdeal.lean ====
abbrev S8x4096x1024 : Shape := ⟨3, ![8, 4096, 1024]⟩
abbrev S1024 : Shape := ⟨1, ![1024]⟩
abbrev S1024x7240 : Shape := ⟨2, ![1024, 7240]⟩
abbrev S8x4096x6x64 : Shape := ⟨4, ![8, 4096, 6, 64]⟩
abbrev S8x4096x4x64 : Shape := ⟨4, ![8, 4096, 4, 64]⟩
abbrev S8x4096x4 : Shape := ⟨3, ![8, 4096, 4]⟩
abbrev S8x4096x8x64 : Shape := ⟨4, ![8, 4096, 8, 64]⟩
abbrev S384x1024 : Shape := ⟨2, ![384, 1024]⟩
abbrev S256x1024 : Shape := ⟨2, ![256, 1024]⟩
abbrev S512x1024 : Shape := ⟨2, ![512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7240 : Shape := ⟨3, ![8, 4096, 7240]⟩
abbrev S8x4096x3072 : Shape := ⟨3, ![8, 4096, 3072]⟩
abbrev S1x8x4096x4 : Shape := ⟨4, ![1, 8, 4096, 4]⟩
abbrev S3x8x4096x4 : Shape := ⟨4, ![3, 8, 4096, 4]⟩
abbrev S1x8x4096x4x64 : Shape := ⟨5, ![1, 8, 4096, 4, 64]⟩
abbrev S3x8x4096x4x64 : Shape := ⟨5, ![3, 8, 4096, 4, 64]⟩
abbrev S8x4096x3x1024 : Shape := ⟨4, ![8, 4096, 3, 1024]⟩
abbrev S8x4096x1x1024 : Shape := ⟨4, ![8, 4096, 1, 1024]⟩
abbrev S8x4096x384 : Shape := ⟨3, ![8, 4096, 384]⟩
abbrev S8x4096x256 : Shape := ⟨3, ![8, 4096, 256]⟩
abbrev S8x4096x512 : Shape := ⟨3, ![8, 4096, 512]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7240, .f32⟩
  | .hbm, ⟨3, _⟩ => ⟨S8x4096x6x64, .f32⟩
  | .hbm, ⟨4, _⟩ => ⟨S8x4096x4x64, .f32⟩
  | .hbm, ⟨5, _⟩ => ⟨S8x4096x4x64, .f32⟩
  | .hbm, ⟨6, _⟩ => ⟨S8x4096x4x64, .f32⟩
  | .hbm, ⟨7, _⟩ => ⟨S8x4096x4, .f32⟩
  | .hbm, ⟨8, _⟩ => ⟨S8x4096x4, .f32⟩
  | .hbm, ⟨9, _⟩ => ⟨S8x4096x4, .f32⟩
  | .hbm, ⟨10, _⟩ => ⟨S8x4096x8x64, .f32⟩
  | .hbm, ⟨11, _⟩ => ⟨S384x1024, .f32⟩
  | .hbm, ⟨12, _⟩ => ⟨S256x1024, .f32⟩
  | .hbm, ⟨13, _⟩ => ⟨S512x1024, .f32⟩
  | .hbm, ⟨14, _⟩ => ⟨S1024x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x7240, .f32⟩
  | .hbm, ⟨32, _⟩ => ⟨S8x4096x3072, .f32⟩
  | .hbm, ⟨33, _⟩ => ⟨S1x8x4096x4, .f32⟩
  | .hbm, ⟨34, _⟩ => ⟨S1x8x4096x4, .f32⟩
  | .hbm, ⟨35, _⟩ => ⟨S1x8x4096x4, .f32⟩
  | .hbm, ⟨36, _⟩ => ⟨S3x8x4096x4, .f32⟩
  | .hbm, ⟨37, _⟩ => ⟨S_, .f32⟩
  | .hbm, ⟨38, _⟩ => ⟨S8x4096x4, .f32⟩
  | .hbm, ⟨39, _⟩ => ⟨S_, .f32⟩
  | .hbm, ⟨40, _⟩ => ⟨S8x4096x4, .f32⟩
  | .hbm, ⟨41, _⟩ => ⟨S8x4096x4, .f32⟩
  | .hbm, ⟨42, _⟩ => ⟨S1x8x4096x4, .f32⟩
  | .hbm, ⟨43, _⟩ => ⟨S3x8x4096x4, .f32⟩
  | .hbm, ⟨44, _⟩ => ⟨S3x8x4096x4, .f32⟩
  | .hbm, ⟨45, _⟩ => ⟨S3x8x4096x4, .f32⟩
  | .hbm, ⟨46, _⟩ => ⟨S_, .f32⟩
  | .hbm, ⟨47, _⟩ => ⟨S8x4096x4, .f32⟩
  | .hbm, ⟨48, _⟩ => ⟨S1x8x4096x4, .f32⟩
  | .hbm, ⟨49, _⟩ => ⟨S3x8x4096x4, .f32⟩
  | .hbm, ⟨50, _⟩ => ⟨S3x8x4096x4, .f32⟩
  | .hbm, ⟨51, _⟩ => ⟨S1x8x4096x4x64, .f32⟩
  | .hbm, ⟨52, _⟩ => ⟨S1x8x4096x4x64, .f32⟩
  | .hbm, ⟨53, _⟩ => ⟨S1x8x4096x4x64, .f32⟩
  | .hbm, ⟨54, _⟩ => ⟨S3x8x4096x4x64, .f32⟩
  | .hbm, ⟨55, _⟩ => ⟨S8x4096x4x64, .f32⟩
  | .hbm, ⟨56, _⟩ => ⟨S8x4096x3x1024, .f32⟩
  | .hbm, ⟨57, _⟩ => ⟨S8x4096x3x1024, .f32⟩
  | .hbm, ⟨58, _⟩ => ⟨S8x4096x3x1024, .f32⟩
  | .hbm, ⟨59, _⟩ => ⟨S_, .f32⟩
  | .hbm, ⟨60, _⟩ => ⟨S8x4096x3x1024, .f32⟩
  | .hbm, ⟨61, _⟩ => ⟨S8x4096x3x1024, .f32⟩
  | .hbm, ⟨62, _⟩ => ⟨S_, .f32⟩
  | .hbm, ⟨63, _⟩ => ⟨S8x4096x3x1024, .f32⟩
  | .hbm, ⟨64, _⟩ => ⟨S8x4096x3x1024, .f32⟩
  | .hbm, ⟨65, _⟩ => ⟨S8x4096x1x1024, .f32⟩
  | .hbm, ⟨66, _⟩ => ⟨S8x4096x1024, .f32⟩
  | .hbm, ⟨67, _⟩ => ⟨S8x4096x384, .f32⟩
  | .hbm, ⟨68, _⟩ => ⟨S8x4096x1024, .f32⟩
  | .hbm, ⟨69, _⟩ => ⟨S8x4096x1024, .f32⟩
  | .hbm, ⟨70, _⟩ => ⟨S8x4096x1x1024, .f32⟩
  | .hbm, ⟨71, _⟩ => ⟨S8x4096x1024, .f32⟩
  | .hbm, ⟨72, _⟩ => ⟨S8x4096x256, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x1x1024, .f32⟩
  | .hbm, ⟨77, _⟩ => ⟨S8x4096x1024, .f32⟩
  | .hbm, ⟨78, _⟩ => ⟨S8x4096x512, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Inproj.lean ====
abbrev S8x4096x1024 : Shape := ⟨3, ![8, 4096, 1024]⟩
abbrev S8x4096 : Shape := ⟨2, ![8, 4096]⟩
abbrev S1024 : Shape := ⟨1, ![1024]⟩
abbrev S1024x7240 : Shape := ⟨2, ![1024, 7240]⟩
abbrev S64 : Shape := ⟨1, ![64]⟩
abbrev S512x1024 : Shape := ⟨2, ![512, 1024]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x64 : Shape := ⟨2, ![1024, 64]⟩
abbrev S1024x768 : Shape := ⟨2, ![1024, 768]⟩
abbrev S_ : Shape := ⟨0, ![]⟩
abbrev S1024x128 : Shape := ⟨2, ![1024, 128]⟩
abbrev S1024x3200 : Shape := ⟨2, ![1024, 3200]⟩
abbrev S1024x384 : Shape := ⟨2, ![1024, 384]⟩
abbrev S1024x8 : Shape := ⟨2, ![1024, 8]⟩
abbrev S1024x968 : Shape := ⟨2, ![1024, 968]⟩
abbrev S968x1024 : Shape := ⟨2, ![968, 1024]⟩
abbrev S1024x3072 : Shape := ⟨2, ![1024, 3072]⟩
abbrev S128 : Shape := ⟨1, ![128]⟩
abbrev S1x128 : Shape := ⟨2, ![1, 128]⟩
abbrev S2x4x64x1024 : Shape := ⟨4, ![2, 4, 64, 1024]⟩
abbrev S4x2x64x1024 : Shape := ⟨4, ![4, 2, 64, 1024]⟩
abbrev S1x1024 : Shape := ⟨2, ![1, 1024]⟩
abbrev S32 : Shape := ⟨1, ![32]⟩
abbrev S8x4096x1 : Shape := ⟨3, ![8, 4096, 1]⟩
abbrev S1x1x32 : Shape := ⟨3, ![1, 1, 32]⟩
abbrev S8x4096x32 : Shape := ⟨3, ![8, 4096, 32]⟩
abbrev S8x4096x64 : Shape := ⟨3, ![8, 4096, 64]⟩
abbrev S1x8x1x4096x1x64 : Shape := ⟨6, ![1, 8, 1, 4096, 1, 64]⟩
abbrev S1x8x1x4096x2x64 : Shape := ⟨6, ![1, 8, 1, 4096, 2, 64]⟩
abbrev S8x4096x128 : Shape := ⟨3, ![8, 4096, 128]⟩
abbrev S8x32x4096 : Shape := ⟨3, ![8, 32, 4096]⟩
abbrev S8x1x4096x256 : Shape := ⟨4, ![8, 1, 4096, 256]⟩
abbrev S8x4x1024x256 : Shape := ⟨4, ![8, 4, 1024, 256]⟩
abbrev S8x16x256x256 : Shape := ⟨4, ![8, 16, 256, 256]⟩
abbrev S8x4096x512 : Shape := ⟨3, ![8, 4096, 512]⟩
abbrev S8x16x64x1536 : Shape := ⟨4, ![8, 16, 64, 1536]⟩
abbrev S8x16x64x2048 : Shape := ⟨4, ![8, 16, 64, 2048]⟩
abbrev S8x16x64x256 : Shape := ⟨4, ![8, 16, 64, 256]⟩
abbrev S8x16x1x2048 : Shape := ⟨4, ![8, 16, 1, 2048]⟩
abbrev S1x512x1024 : Shape := ⟨3, ![1, 512, 1024]⟩
abbrev S1x512x128 : Shape := ⟨3, ![1, 512, 128]⟩
abbrev S1x32x512 : Shape := ⟨3, ![1, 32, 512]⟩
abbrev S1x512x64 : Shape := ⟨3, ![1, 512, 64]⟩
abbrev S1x1x512x256 : Shape := ⟨4, ![1, 1, 512, 256]⟩
abbrev S1x4x128x256 : Shape := ⟨4, ![1, 4, 128, 256]⟩
abbrev S1x16x32x256 : Shape := ⟨4, ![1, 16, 32, 256]⟩
abbrev S1x512x512 : Shape := ⟨3, ![1, 512, 512]⟩
abbrev S1x2x64x1536 : Shape := ⟨4, ![1, 2, 64, 1536]⟩
abbrev S1x2x64x2048 : Shape := ⟨4, ![1, 2, 64, 2048]⟩
abbrev S1x2x64x256 : Shape := ⟨4, ![1, 2, 64, 256]⟩
abbrev S1x2x1x2048 : Shape := ⟨4, ![1, 2, 1, 2048]⟩
abbrev S2x512x128 : Shape := ⟨3, ![2, 512, 128]⟩
abbrev S512 : Shape := ⟨1, ![512]⟩
abbrev S512x1 : Shape := ⟨2, ![512, 1]⟩
abbrev S512x128 : Shape := ⟨2, ![512, 128]⟩
abbrev S512x64 : Shape := ⟨2, ![512, 64]⟩
abbrev S1024x256 : Shape := ⟨2, ![1024, 256]⟩
abbrev S512x256 : Shape := ⟨2, ![512, 256]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩
abbrev S512x512 : Shape := ⟨2, ![512, 512]⟩
abbrev S32x512 : Shape := ⟨2, ![32, 512]⟩
abbrev S968x512 : Shape := ⟨2, ![968, 512]⟩
abbrev S384x512 : Shape := ⟨2, ![384, 512]⟩
abbrev S32x256 : Shape := ⟨2, ![32, 256]⟩
abbrev S1x1x32x256 : Shape := ⟨4, ![1, 1, 32, 256]⟩
abbrev S64x512 : Shape := ⟨2, ![64, 512]⟩
abbrev S64x256 : Shape := ⟨2, ![64, 256]⟩
abbrev S1x1x64x256 : Shape := ⟨4, ![1, 1, 64, 256]⟩
abbrev S8x512 : Shape := ⟨2, ![8, 512]⟩
abbrev S1x256 : Shape := ⟨2, ![1, 256]⟩
abbrev S1x1x1x256 : Shape := ⟨4, ![1, 1, 1, 256]⟩

abbrev nBuf : Space → Nat
  | .hbm => 94
  | .vmem => 51
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024, .f32⟩
  | .hbm, ⟨3, _⟩ => ⟨S1024x7240, .f32⟩
  | .hbm, ⟨4, _⟩ => ⟨S64, .f32⟩
  | .hbm, ⟨5, _⟩ => ⟨S512x1024, .f32⟩
  | .hbm, ⟨6, _⟩ => ⟨S1024x512, .f32⟩
  | .hbm, ⟨7, _⟩ => ⟨S1024x2x4x64, .f32⟩
  | .hbm, ⟨8, _⟩ => ⟨S1024x4x2x64, .f32⟩
  | .hbm, ⟨9, _⟩ => ⟨S1024x512, .f32⟩
  | .hbm, ⟨10, _⟩ => ⟨S1024x64, .f32⟩
  | .hbm, ⟨11, _⟩ => ⟨S1024x64, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x128, .f32⟩
  | .hbm, ⟨22, _⟩ => ⟨S1024x128, .f32⟩
  | .hbm, ⟨23, _⟩ => ⟨S1024x3200, .f32⟩
  | .hbm, ⟨24, _⟩ => ⟨S1024x3200, .bf16⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x64, .f32⟩
  | .hbm, ⟨34, _⟩ => ⟨S1024x8, .f32⟩
  | .hbm, ⟨35, _⟩ => ⟨S1024x968, .f32⟩
  | .hbm, ⟨36, _⟩ => ⟨S968x1024, .f32⟩
  | .hbm, ⟨37, _⟩ => ⟨S968x1024, .bf16⟩
  | .hbm, ⟨38, _⟩ => ⟨S1024x3072, .f32⟩
  | .hbm, ⟨39, _⟩ => ⟨S1024x3072, .bf16⟩
  | .hbm, ⟨40, _⟩ => ⟨S_, .f32⟩
  | .hbm, ⟨41, _⟩ => ⟨S64, .f32⟩
  | .hbm, ⟨42, _⟩ => ⟨S128, .f32⟩
  | .hbm, ⟨43, _⟩ => ⟨S1x128, .f32⟩
  | .hbm, ⟨44, _⟩ => ⟨S2x4x64x1024, .f32⟩
  | .hbm, ⟨45, _⟩ => ⟨S4x2x64x1024, .f32⟩
  | .hbm, ⟨46, _⟩ => ⟨S512x1024, .f32⟩
  | .hbm, ⟨47, _⟩ => ⟨S512x1024, .bf16⟩
  | .hbm, ⟨48, _⟩ => ⟨S1x1024, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S8x4096, .f32⟩
  | .hbm, ⟨58, _⟩ => ⟨S8x4096x1, .f32⟩
  | .hbm, ⟨59, _⟩ => ⟨S1x1x32, .f32⟩
  | .hbm, ⟨60, _⟩ => ⟨S8x4096x32, .f32⟩
  | .hbm, ⟨61, _⟩ => ⟨S8x4096x32, .f32⟩
  | .hbm, ⟨62, _⟩ => ⟨S8x4096x32, .f32⟩
  | .hbm, ⟨63, _⟩ => ⟨S8x4096x32, .f32⟩
  | .hbm, ⟨64, _⟩ => ⟨S8x4096x32, .f32⟩
  | .hbm, ⟨65, _⟩ => ⟨S8x4096x64, .f32⟩
  | .hbm, ⟨66, _⟩ => ⟨S1x8x1x4096x1x64, .f32⟩
  | .hbm, ⟨67, _⟩ => ⟨S1x8x1x4096x2x64, .f32⟩
  | .hbm, ⟨68, _⟩ => ⟨S8x4096x128, .f32⟩
  | .hbm, ⟨69, _⟩ => ⟨S8x4096x32, .f32⟩
  | .hbm, ⟨70, _⟩ => ⟨S8x4096x64, .f32⟩
  | .hbm, ⟨71, _⟩ => ⟨S1x8x1x4096x1x64, .f32⟩
  | .hbm, ⟨72, _⟩ => ⟨S1x8x1x4096x2x64, .f32⟩
  | .hbm, ⟨73, _⟩ => ⟨S8x4096x128, .f32⟩
  | .hbm, ⟨74, _⟩ => ⟨S8x32x4096, .f32⟩
  | .hbm, ⟨75, _⟩ => ⟨S8x32x4096, .f32⟩
  | .hbm, ⟨76, _⟩ => ⟨S8x4096x64, .bf16⟩
  | .hbm, ⟨77, _⟩ => ⟨S8x4096x64, .bf16⟩
  | .hbm, ⟨78, _⟩ => ⟨S8x1x4096x256, .bf16⟩
  | .hbm, ⟨79, _⟩ => ⟨S8x4x1024x256, .bf16⟩
  | .hbm, ⟨80, _⟩ => ⟨S8x16x256x256, .bf16⟩
  | .hbm, ⟨81, _⟩ => ⟨S8x1x4096x256, .bf16⟩
  | .hbm, ⟨82, _⟩ => ⟨S8x4x1024x256, .bf16⟩
  | .hbm, ⟨83, _⟩ => ⟨S8x16x256x256, .bf16⟩
  | .hbm, ⟨84, _⟩ => ⟨S8x1x4096x256, .bf16⟩
  | .hbm, ⟨85, _⟩ => ⟨S8x4x1024x256, .bf16⟩
  | .hbm, ⟨86, _⟩ => ⟨S8x16x256x256, .bf16⟩
  | .hbm, ⟨87, _⟩ => ⟨S8x4096x512, .bf16⟩
  | .hbm, ⟨88, _⟩ => ⟨S8x4096x128, .bf16⟩
  | .hbm, ⟨89, _⟩ => ⟨S8x4096x128, .bf16⟩
  | .hbm, ⟨90, _⟩ => ⟨S8x16x64x1536, .bf16⟩
  | .hbm, ⟨91, _⟩ => ⟨S8x16x64x2048, .bf16⟩
  | .hbm, ⟨92, _⟩ => ⟨S8x16x64x256, .bf16⟩
  | .hbm, ⟨93, _⟩ => ⟨S8x16x1x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3200, .bf16⟩
  | .local _ .vmem, ⟨4, _⟩ => ⟨S968x1024, .bf16⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x32x512, .f32⟩
  | .local _ .vmem, ⟨10, _⟩ => ⟨S1x32x512, .f32⟩
  | .local _ .vmem, ⟨11, _⟩ => ⟨S1x32x512, .f32⟩
  | .local _ .vmem, ⟨12, _⟩ => ⟨S1x32x512, .f32⟩
  | .local _ .vmem, ⟨13, _⟩ => ⟨S1x128, .f32⟩
  | .local _ .vmem, ⟨14, _⟩ => ⟨S1x512x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x512x64, .bf16⟩
  | .local _ .vmem, ⟨18, _⟩ => ⟨S1x1x512x256, .bf16⟩
  | .local _ .vmem, ⟨19, _⟩ => ⟨S1x1x512x256, .bf16⟩
  | .local _ .vmem, ⟨20, _⟩ => ⟨S1x4x128x256, .bf16⟩
  | .local _ .vmem, ⟨21, _⟩ => ⟨S1x4x128x256, .bf16⟩
  | .local _ .vmem, ⟨22, _⟩ => ⟨S1x16x32x256, .bf16⟩
  | .local _ .vmem, ⟨23, _⟩ => ⟨S1x16x32x256, .bf16⟩
  | .local _ .vmem, ⟨24, _⟩ => ⟨S1x1x512x256, .bf16⟩
  | .local _ .vmem, ⟨25, _⟩ => ⟨S1x1x512x256, .bf16⟩
  | .local _ .vmem, ⟨26, _⟩ => ⟨S1x4x128x256, .bf16⟩
  | .local _ .vmem, ⟨27, _⟩ => ⟨S1x4x128x256, .bf16⟩
  | .local _ .vmem, ⟨28, _⟩ => ⟨S1x16x32x256, .bf16⟩
  | .local _ .vmem, ⟨29, _⟩ => ⟨S1x16x32x256, .bf16⟩
  | .local _ .vmem, ⟨30, _⟩ => ⟨S1x1x512x256, .bf16⟩
  | .local _ .vmem, ⟨31, _⟩ => ⟨S1x1x512x256, .bf16⟩
  | .local _ .vmem, ⟨32, _⟩ => ⟨S1x4x128x256, .bf16⟩
  | .local _ .vmem, ⟨33, _⟩ => ⟨S1x4x128x256, .bf16⟩
  | .local _ .vmem, ⟨34, _⟩ => ⟨S1x16x32x256, .bf16⟩
  | .local _ .vmem, ⟨35, _⟩ => ⟨S1x16x32x256, .bf16⟩
  | .local _ .vmem, ⟨36, _⟩ => ⟨S1x512x512, .bf16⟩
  | .local _ .vmem, ⟨37, _⟩ => ⟨S1x512x512, .bf16⟩
  | .local _ .vmem, ⟨38, _⟩ => ⟨S1x512x128, .bf16⟩
  | .local _ .vmem, ⟨39, _⟩ => ⟨S1x512x128, .bf16⟩
  | .local _ .vmem, ⟨40, _⟩ => ⟨S1x512x128, .bf16⟩
  | .local _ .vmem, ⟨41, _⟩ => ⟨S1x512x128, .bf16⟩
  | .local _ .vmem, ⟨42, _⟩ => ⟨S1x2x64x1536, .bf16⟩
  | .local _ .vmem, ⟨43, _⟩ => ⟨S1x2x64x1536, .bf16⟩
  | .local _ .vmem, ⟨44, _⟩ => ⟨S1x2x64x2048, .bf16⟩
  | .local _ .vmem, ⟨45, _⟩ => ⟨S1x2x64x2048, .bf16⟩
  | .local _ .vmem, ⟨46, _⟩ => ⟨S1x2x64x256, .bf16⟩
  | .local _ .vmem, ⟨47, _⟩ => ⟨S1x2x64x256, .bf16⟩
  | .local _ .vmem, ⟨48, _⟩ => ⟨S1x2x1x2048, .f32⟩
  | .local _ .vmem, ⟨49, _⟩ => ⟨S1x2x1x2048, .f32⟩
  | .local _ .vmem, ⟨50, _⟩ => ⟨S2x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63_0 : Ref sig .tc := ⟨.hbm, 76, rfl⟩
abbrev main_v63_1 : Ref sig .tc := ⟨.hbm, 77, rfl⟩
abbrev main_v63_2 : Ref sig .tc := ⟨.hbm, 78, rfl⟩
abbrev main_v63_3 : Ref sig .tc := ⟨.hbm, 79, rfl⟩
abbrev main_v63_4 : Ref sig .tc := ⟨.hbm, 80, rfl⟩
abbrev main_v63_5 : Ref sig .tc := ⟨.hbm, 81, rfl⟩
abbrev main_v63_6 : Ref sig .tc := ⟨.hbm, 82, rfl⟩
abbrev main_v63_7 : Ref sig .tc := ⟨.hbm, 83, rfl⟩
abbrev main_v63_8 : Ref sig .tc := ⟨.hbm, 84, rfl⟩
abbrev main_v63_9 : Ref sig .tc := ⟨.hbm, 85, rfl⟩
abbrev main_v63_10 : Ref sig .tc := ⟨.hbm, 86, rfl⟩
abbrev main_v63_11 : Ref sig .tc := ⟨.hbm, 87, rfl⟩
abbrev main_v63_12 : Ref sig .tc := ⟨.hbm, 88, rfl⟩
abbrev main_v63_13 : Ref sig .tc := ⟨.hbm, 89, rfl⟩
abbrev main_v63_14 : Ref sig .tc := ⟨.hbm, 90, rfl⟩
abbrev main_v63_15 : Ref sig .tc := ⟨.hbm, 91, rfl⟩
abbrev main_v63_16 : Ref sig .tc := ⟨.hbm, 92, rfl⟩
abbrev main_v63_17 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_stg26_0 : Ref sig .tc := ⟨.vmem, 48, rfl⟩
abbrev cc0_stg26_1 : Ref sig .tc := ⟨.vmem, 49, rfl⟩
abbrev cc0_scratch0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47
abbrev cc0_sem26_0 : DmaSem sig := 48
abbrev cc0_sem26_1 : DmaSem sig := 49

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S968x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x32x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x32x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x128x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x32x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x2x64x1536 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x2x64x2048 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x2x64x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x2x1x2048 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== InprojRefIdeal.lean ====
abbrev S8x4096x1024 : Shape := ⟨3, ![8, 4096, 1024]⟩
abbrev S8x4096 : Shape := ⟨2, ![8, 4096]⟩
abbrev S1024 : Shape := ⟨1, ![1024]⟩
abbrev S1024x7240 : Shape := ⟨2, ![1024, 7240]⟩
abbrev S64 : Shape := ⟨1, ![64]⟩
abbrev S512x1024 : Shape := ⟨2, ![512, 1024]⟩
abbrev S_ : Shape := ⟨0, ![]⟩
abbrev S8x4096x1 : Shape := ⟨3, ![8, 4096, 1]⟩
abbrev S1x1x1024 : Shape := ⟨3, ![1, 1, 1024]⟩
abbrev S8x4096x7240 : Shape := ⟨3, ![8, 4096, 7240]⟩
abbrev S32 : Shape := ⟨1, ![32]⟩
abbrev S1x1x32 : Shape := ⟨3, ![1, 1, 32]⟩
abbrev S8x4096x32 : Shape := ⟨3, ![8, 4096, 32]⟩
abbrev S8x4096x1x32 : Shape := ⟨4, ![8, 4096, 1, 32]⟩
abbrev S8x4096x128 : Shape := ⟨3, ![8, 4096, 128]⟩
abbrev S8x4096x2x64 : Shape := ⟨4, ![8, 4096, 2, 64]⟩
abbrev S8x4096x2x32 : Shape := ⟨4, ![8, 4096, 2, 32]⟩
abbrev S8x4096x512 : Shape := ⟨3, ![8, 4096, 512]⟩
abbrev S8x4096x8x64 : Shape := ⟨4, ![8, 4096, 8, 64]⟩
abbrev S8x4096x8x32 : Shape := ⟨4, ![8, 4096, 8, 32]⟩
abbrev S8x4096x2x4x64 : Shape := ⟨5, ![8, 4096, 2, 4, 64]⟩
abbrev S8x4096x4x2x64 : Shape := ⟨5, ![8, 4096, 4, 2, 64]⟩
abbrev S8x4096x768 : Shape := ⟨3, ![8, 4096, 768]⟩
abbrev S8x4096x12x64 : Shape := ⟨4, ![8, 4096, 12, 64]⟩
abbrev S8x4096x4x64 : Shape := ⟨4, ![8, 4096, 4, 64]⟩
abbrev S8x4096x1x256 : Shape := ⟨4, ![8, 4096, 1, 256]⟩
abbrev S8x1x4096x256 : Shape := ⟨4, ![8, 1, 4096, 256]⟩
abbrev S8x4096x12x32 : Shape := ⟨4, ![8, 4096, 12, 32]⟩

abbrev nBuf : Space → Nat
  | .hbm => 131
  | .vmem => 0
  | .smem => 0
  | _ => 0

abbrev hbmTy0_0 (i : Nat) : BufTy := match i % 128 with
  | 0 => ⟨S8x4096x1024, .f32⟩
  | 1 => ⟨S8x4096, .i32⟩
  | 2 => ⟨S1024, .f32⟩
  | 3 => ⟨S1024x7240, .f32⟩
  | 4 => ⟨S64, .f32⟩
  | 5 => ⟨S512x1024, .f32⟩
  | 6 => ⟨S8x4096x1024, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S_, .f32⟩
  | 14 => ⟨S8x4096x1, .f32⟩
  | 15 => ⟨S8x4096x1, .f32⟩
  | 16 => ⟨S8x4096x1, .f32⟩
  | 17 => ⟨S8x4096x1024, .f32⟩
  | 18 => ⟨S8x4096x1024, .f32⟩
  | 19 => ⟨S1x1x1024, .f32⟩
  | 20 => ⟨S8x4096x1024, .f32⟩
  | 21 => ⟨S8x4096x1024, .f32⟩
  | 22 => ⟨S8x4096x7240, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S8x4096, .f32⟩
  | 32 => ⟨S8x4096x1, .f32⟩
  | 33 => ⟨S1x1x32, .f32⟩
  | 34 => ⟨S8x4096x32, .f32⟩
  | 35 => ⟨S8x4096x32, .f32⟩
  | 36 => ⟨S8x4096x32, .f32⟩
  | 37 => ⟨S8x4096x32, .f32⟩
  | 38 => ⟨S8x4096x1x32, .f32⟩
  | 39 => ⟨S8x4096x32, .f32⟩
  | 40 => ⟨S8x4096x1x32, .f32⟩
  | 41 => ⟨S8x4096x128, .f32⟩
  | 42 => ⟨S8x4096x2x64, .f32⟩
  | 43 => ⟨S8x4096x128, .f32⟩
  | 44 => ⟨S8x4096x128, .bf16⟩
  | 45 => ⟨S8x4096x128, .f32⟩
  | 46 => ⟨S8x4096x2x64, .f32⟩
  | 47 => ⟨S8x4096x2x32, .f32⟩
  | 48 => ⟨S8x4096x2x32, .f32⟩
  | 49 => ⟨S8x4096x2x32, .f32⟩
  | 50 => ⟨S8x4096x2x32, .f32⟩
  | 51 => ⟨S8x4096x2x32, .f32⟩
  | 52 => ⟨S8x4096x2x32, .f32⟩
  | 53 => ⟨S8x4096x2x32, .f32⟩
  | 54 => ⟨S8x4096x2x32, .f32⟩
  | 55 => ⟨S8x4096x2x32, .f32⟩
  | 56 => ⟨S8x4096x2x32, .f32⟩
  | 57 => ⟨S8x4096x2x32, .f32⟩
  | 58 => ⟨S8x4096x2x32, .f32⟩
  | 59 => ⟨S8x4096x2x64, .f32⟩
  | 60 => ⟨S8x4096x128, .f32⟩
  | 61 => ⟨S8x4096x128, .bf16⟩
  | 62 => ⟨S8x4096x512, .f32⟩
  | 63 => ⟨S8x4096x8x64, .f32⟩
  | 64 => ⟨S8x4096x8x32, .f32⟩
  | 65 => ⟨S8x4096x8x32, .f32⟩
  | 66 => ⟨S8x4096x8x32, .f32⟩
  | 67 => ⟨S8x4096x8x32, .f32⟩
  | 68 => ⟨S8x4096x8x32, .f32⟩
  | 69 => ⟨S8x4096x8x32, .f32⟩
  | 70 => ⟨S8x4096x8x32, .f32⟩
  | 71 => ⟨S8x4096x8x32, .f32⟩
  | 72 => ⟨S8x4096x8x32, .f32⟩
  | 73 => ⟨S8x4096x8x32, .f32⟩
  | 74 => ⟨S8x4096x8x32, .f32⟩
  | 75 => ⟨S8x4096x8x32, .f32⟩
  | 76 => ⟨S8x4096x8x64, .f32⟩
  | 77 => ⟨S_, .f32⟩
  | 78 => ⟨S8x4096x8x64, .f32⟩
  | 79 => ⟨S8x4096x8x64, .f32⟩
  | 80 => ⟨S8x4096x2x4x64, .f32⟩
  | 81 => ⟨S8x4096x4x2x64, .f32⟩
  | 82 => ⟨S8x4096x512, .f32⟩
  | 83 => ⟨S8x4096x512, .bf16⟩
  | 84 => ⟨S8x4096x768, .f32⟩
  | 85 => ⟨S8x4096x12x64, .f32⟩
  | 86 => ⟨S8x4096x4x64, .f32⟩
  | 87 => ⟨S8x4096x1x256, .f32⟩
  | 88 => ⟨S8x1x4096x256, .f32⟩
  | 89 => ⟨S8x1x4096x256, .bf16⟩
  | 90 => ⟨S8x4096x768, .f32⟩
  | 91 => ⟨S8x4096x12x64, .f32⟩
  | 92 => ⟨S8x4096x12x32, .f32⟩
  | 93 => ⟨S8x4096x12x32, .f32⟩
  | 94 => ⟨S8x4096x12x32, .f32⟩
  | 95 => ⟨S8x4096x12x32, .f32⟩
  | 96 => ⟨S8x4096x12x32, .f32⟩
  | 97 => ⟨S8x4096x12x32, .f32⟩
  | 98 => ⟨S8x4096x12x32, .f32⟩
  | 99 => ⟨S8x4096x12x32, .f32⟩
  | 100 => ⟨S8x4096x12x32, .f32⟩
  | 101 => ⟨S8x4096x12x32, .f32⟩
  | 102 => ⟨S8x4096x12x32, .f32⟩
  | 103 => ⟨S8x4096x12x32, .f32⟩
  | 104 => ⟨S8x4096x12x64, .f32⟩
  | 105 => ⟨S8x4096x4x64, .f32⟩
  | 106 => ⟨S8x4096x1x256, .f32⟩
  | 107 => ⟨S8x1x4096x256, .f32⟩
  | 108 => ⟨S8x1x4096x256, .bf16⟩
  | 109 => ⟨S8x4096x768, .f32⟩
  | 110 => ⟨S8x4096x12x64, .f32⟩
  | 111 => ⟨S8x4096x12x32, .f32⟩
  | 112 => ⟨S8x4096x12x32, .f32⟩
  | 113 => ⟨S8x4096x12x32, .f32⟩
  | 114 => ⟨S8x4096x12x32, .f32⟩
  | 115 => ⟨S8x4096x12x32, .f32⟩
  | 116 => ⟨S8x4096x12x32, .f32⟩
  | 117 => ⟨S8x4096x12x32, .f32⟩
  | 118 => ⟨S8x4096x12x32, .f32⟩
  | 119 => ⟨S8x4096x12x32, .f32⟩
  | 120 => ⟨S8x4096x12x32, .f32⟩
  | 121 => ⟨S8x4096x12x32, .f32⟩
  | 122 => ⟨S8x4096x12x32, .f32⟩
  | 123 => ⟨S8x4096x12x64, .f32⟩
  | 124 => ⟨S_, .f32⟩
  | 125 => ⟨S8x4096x12x64, .f32⟩
  | 126 => ⟨S8x4096x12x64, .f32⟩
  | 127 => ⟨S8x4096x4x64, .f32⟩
  | _ => ⟨S8x4096x1024, .f32⟩

abbrev hbmTy0_1 (i : Nat) : BufTy := match i % 128 with
  | 0 => ⟨S8x4096x1x256, .f32⟩
  | 1 => ⟨S8x1x4096x256, .f32⟩
  | 2 => ⟨S8x1x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_4 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_cst_5 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩

abbrev nD : Nat := 1
abbrev τ : Topo := Topo.v7x

variable {F : FTy → Type} [FloatOps F]
-- ==== Proof.Softmax.lean ====
/- Softmax rows over the extended reals: one row's maximum, denominator, weighted value and log-sum, written for any
   finite set of keys; that they depend only on the keys that are not masked (`⊥` logits), whatever set enumerates them;
   and that dividing after the weighted sum is dividing each weight before it. -/
module

public import Idealize.ShloMosaic.Lib.ValueIdx
public import Idealize.ShloMosaic.PureOps.Ideal.Laws

@[expose] public section

noncomputable section

namespace Cert.Softmax

open Idealize.ShloMosaic

/-- The words of the two infinities. -/
theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

variable {ι κ : Type} [Fintype ι] [Fintype κ]

/-- The maximum of a row of logits, starting from `⊥`. -/
def rmax (l : ι → EReal) : EReal := Finset.univ.fold max ⊥ l

/-- The row's exponentials below a stabilizer `m`, summed. -/
def rden (m : EReal) (l : ι → EReal) : EReal := ∑ c, Ideal.exp (l c - m)

/-- The exponentials weighting the values `v`, not yet divided. -/
def rnum (m : EReal) (l v : ι → EReal) : EReal := ∑ c, Ideal.exp (l c - m) * v c

theorem rmax_eq_sup (l : ι → EReal) : rmax l = Finset.univ.sup l := rfl

/-- Rows `l` over `ι` and `l'` over `κ` hold the same unmasked logits: `f` names, for each unmasked key of the first,
    the key of the second with the same logit and value, one to one and onto the unmasked keys of the second. -/
structure Same (l v : ι → EReal) (l' v' : κ → EReal) (f : ι → κ) : Prop where
  logit : ∀ c, l c ≠ ⊥ → l c = l' (f c)
  value : ∀ c, l c ≠ ⊥ → v c = v' (f c)
  inj : ∀ c d, l c ≠ ⊥ → l d ≠ ⊥ → f c = f d → c = d
  onto : ∀ s, l' s ≠ ⊥ → ∃ c, l c ≠ ⊥ ∧ f c = s

variable {l v : ι → EReal} {l' v' : κ → EReal} {f : ι → κ}

/-- Sums over the keys of a function that vanishes on masked keys agree. -/
theorem Same.sum (h : Same l v l' v' f) (G : EReal → EReal → EReal) (hG : ∀ x, G ⊥ x = 0) :
    ∑ c, G (l c) (v c) = ∑ s, G (l' s) (v' s) := by
  have nb : ∀ c, G (l c) (v c) ≠ 0 → l c ≠ ⊥ := fun c hc hb => hc (by rw [hb, hG])
  have nb' : ∀ s, G (l' s) (v' s) ≠ 0 → l' s ≠ ⊥ := fun c hc hb => hc (by rw [hb, hG])
  refine Finset.sum_bij_ne_zero (fun c _ _ => f c) (fun _ _ _ => Finset.mem_univ _)
    (fun c _ hc d _ hd e => h.inj c d (nb c hc) (nb d hd) e) (fun s _ hs => ?_)
    (fun c _ hc => by rw [← h.logit c (nb c hc), ← h.value c (nb c hc)])
  obtain ⟨c, hc, rfl⟩ := h.onto s (nb' s hs)
  exact ⟨c, Finset.mem_univ _, by rw [h.logit c hc, h.value c hc]; exact hs, rfl⟩

/-- Their maxima agree. -/
theorem Same.rmax (h : Same l v l' v' f) : rmax l = rmax l' := by
  rw [rmax_eq_sup, rmax_eq_sup]
  apply le_antisymm
  · refine Finset.sup_le fun c _ => ?_
    by_cases hc : l c = ⊥
    · rw [hc]; exact bot_le
    · rw [h.logit c hc]; exact Finset.le_sup (f := l') (Finset.mem_univ _)
  · refine Finset.sup_le fun s _ => ?_
    by_cases hs : l' s = ⊥
    · rw [hs]; exact bot_le
    · obtain ⟨c, hc, rfl⟩ := h.onto s hs
      rw [← h.logit c hc]; exact Finset.le_sup (f := l) (Finset.mem_univ _)

theorem exp_bot_sub (m : EReal) : Ideal.exp (⊥ - m) = 0 := by rw [EReal.bot_sub]; rfl

/-- Their denominators agree. -/
theorem Same.rden (h : Same l v l' v' f) (m : EReal) : rden m l = rden m l' :=
  h.sum (fun x _ => Ideal.exp (x - m)) (fun _ => exp_bot_sub m)

/-- Their weighted values agree. -/
theorem Same.rnum (h : Same l v l' v' f) (m : EReal) : rnum m l v = rnum m l' v' :=
  h.sum (fun x y => Ideal.exp (x - m) * y) (fun _ => by rw [exp_bot_sub, zero_mul])

/-- The exponential is nowhere negative. -/
theorem exp_nonneg (x : EReal) : 0 ≤ Ideal.exp x := by
  induction x with
  | bot => exact le_refl _
  | top => exact le_top
  | coe r => exact EReal.coe_nonneg.2 (Real.exp_pos r).le

/-- The exponential of a number below `⊤` is below `⊤`. -/
theorem exp_ne_top {x : EReal} (h : x ≠ ⊤) : Ideal.exp x ≠ ⊤ := by
  induction x with
  | bot => exact EReal.zero_ne_top
  | top => exact absurd rfl h
  | coe r => exact EReal.coe_ne_top _

theorem exp_pos {x : EReal} (h : x ≠ ⊥) : 0 < Ideal.exp x := by
  induction x with
  | bot => exact absurd rfl h
  | top => exact EReal.zero_lt_top
  | coe r => exact EReal.coe_pos.2 (Real.exp_pos r)

/-- A finite sum of extended reals below `⊤` is below `⊤`. -/
theorem sum_ne_top (s : Finset ι) (g : ι → EReal) (h : ∀ c, g c ≠ ⊤) : ∑ c ∈ s, g c ≠ ⊤ := by
  classical
  induction s using Finset.induction_on with
  | empty => rw [Finset.sum_empty]; exact EReal.zero_ne_top
  | insert a t ha ih =>
    rw [Finset.sum_insert ha]
    exact (EReal.add_lt_top (h a) ih).ne

/-- A finite sum of finite extended reals is finite. -/
theorem sum_ne_bot (s : Finset ι) (g : ι → EReal) (h : ∀ c, g c ≠ ⊥) : ∑ c ∈ s, g c ≠ ⊥ := by
  classical
  induction s using Finset.induction_on with
  | empty => rw [Finset.sum_empty]; exact EReal.zero_ne_bot
  | insert a t ha ih =>
    rw [Finset.sum_insert ha]
    exact EReal.add_ne_bot_iff.2 ⟨h a, ih⟩

/-- A product of finite extended reals is finite. -/
theorem mul_finite {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- A sum of products of finite extended reals is finite. -/
theorem sum_mul_finite (x y : ι → EReal) (hx : ∀ c, x c ≠ ⊤ ∧ x c ≠ ⊥) (hy : ∀ c, y c ≠ ⊤ ∧ y c ≠ ⊥) :
    ∑ c, x c * y c ≠ ⊤ ∧ ∑ c, x c * y c ≠ ⊥ :=
  ⟨sum_ne_top _ _ fun c => (mul_finite (hx c) (hy c)).1, sum_ne_bot _ _ fun c => (mul_finite (hx c) (hy c)).2⟩

/-- The maximum of a row of logits below `⊤` is below `⊤`. -/
theorem rmax_ne_top (l : ι → EReal) (h : ∀ c, l c ≠ ⊤) : Softmax.rmax l ≠ ⊤ := by
  rw [rmax_eq_sup]
  exact ((Finset.sup_lt_iff (bot_lt_top)).2 fun c _ => (h c).lt_top).ne

/-- The maximum of a row with an unmasked logit is not `⊥`. -/
theorem rmax_ne_bot (l : ι → EReal) (c : ι) (h : l c ≠ ⊥) : Softmax.rmax l ≠ ⊥ := fun e => by
  rw [rmax_eq_sup] at e
  exact h (le_bot_iff.1 (e ▸ Finset.le_sup (f := l) (Finset.mem_univ c)))

theorem sub_ne_top {x m : EReal} (hx : x ≠ ⊤) (hm : m ≠ ⊥) : x - m ≠ ⊤ := by
  rw [sub_eq_add_neg]
  exact (EReal.add_lt_top hx (by rwa [Ne, EReal.neg_eq_top_iff])).ne

theorem sub_ne_bot {x m : EReal} (hx : x ≠ ⊥) (hm : m ≠ ⊤) : x - m ≠ ⊥ := by
  rw [sub_eq_add_neg]
  exact EReal.add_ne_bot_iff.2 ⟨hx, by rwa [Ne, EReal.neg_eq_bot_iff]⟩

theorem rden_nonneg (m : EReal) (l : ι → EReal) : 0 ≤ Softmax.rden m l :=
  Finset.sum_nonneg fun _ _ => exp_nonneg _

theorem rden_ne_top {m : EReal} (l : ι → EReal) (hl : ∀ c, l c ≠ ⊤) (hm : m ≠ ⊥) : Softmax.rden m l ≠ ⊤ :=
  sum_ne_top _ _ fun c => exp_ne_top (sub_ne_top (hl c) hm)

theorem rden_pos {m : EReal} (l : ι → EReal) (c : ι) (hc : l c ≠ ⊥) (hm : m ≠ ⊤) : 0 < Softmax.rden m l :=
  (exp_pos (sub_ne_bot hc hm)).trans_le
    (Finset.single_le_sum (f := fun c => Ideal.exp (l c - m)) (fun _ _ => exp_nonneg _) (Finset.mem_univ c))

/-- Multiplying a sum by a number that is neither negative nor `⊤` multiplies each term. -/
theorem sum_mul_of_nonneg {r : EReal} (h0 : 0 ≤ r) (ht : r ≠ ⊤) (s : Finset ι) (g : ι → EReal) :
    (∑ c ∈ s, g c) * r = ∑ c ∈ s, g c * r := by
  classical
  induction s using Finset.induction_on with
  | empty => rw [Finset.sum_empty, Finset.sum_empty, zero_mul]
  | insert a t ha ih =>
    rw [Finset.sum_insert ha, Finset.sum_insert ha, ← ih, mul_comm, EReal.left_distrib_of_nonneg_of_ne_top h0 ht,
      mul_comm r, mul_comm r]

/-- Division by a denominator that is not zero is multiplication by its inverse. -/
theorem div_of_ne_zero {x d : EReal} (h : d ≠ 0) : Ideal.div x d = x * d⁻¹ := if_neg h

/-- Dividing after the weighted sum is dividing each weight before it: the denominator `d` is positive and below `⊤`. -/
theorem rnum_mul_div (m : EReal) (l v : ι → EReal) {d : EReal} (h0 : 0 < d) (ht : d ≠ ⊤) :
    Softmax.rnum m l v * Ideal.div 1 d = ∑ c, Ideal.div (Ideal.exp (l c - m)) d * v c := by
  have hi : (0 : EReal) ≤ d⁻¹ := EReal.inv_nonneg_of_nonneg h0.le
  have hit : d⁻¹ ≠ ⊤ := by
    lift d to ℝ using ⟨ht, (EReal.bot_lt_zero.trans h0).ne'⟩
    rw [← EReal.coe_inv]; exact EReal.coe_ne_top _
  rw [div_of_ne_zero h0.ne', one_mul]
  unfold Softmax.rnum
  rw [sum_mul_of_nonneg hi hit]
  exact Finset.sum_congr rfl fun c _ => by rw [div_of_ne_zero h0.ne', mul_right_comm]

end Cert.Softmax

end
-- ==== Proof.Block.lean ====
/- One block of 128 queries of a dilated group: four heads side by side in 256 lanes, the queries of each head stacked with
   the other heads' lanes zeroed, one product with the block's 256 keys, the masked softmax of each of the 512 rows, one
   product with the values, and each lane read back from its own head's rows. The functions here are the block's
   operations in the kernel's order; the theorems read them at an index. -/
module

public import proofs.«01_k».proof.Proof.Softmax
public import proofs.«01_k».proof.Proof.Gen.DilIdeal
public import Idealize.ShloMosaic.Lib.Pipeline.Value
public import Idealize.ShloMosaic.Lib.ValueIdx
public import Idealize.ShloMosaic.Lib.WordCmp
public import Idealize.ShloMosaic.Lib.IdealHost

@[expose] public section

noncomputable section

namespace Cert.Dilated

open Cert.DilIdeal Cert.DilIdeal.Gen Idealize.ShloMosaic Idealize.ShloMosaic.ValueIdx

/-- The head a lane belongs to, as the kernel computes it: the lane number divided by 64. -/
def headOf : IVec S1x256 32 :=
  have v0 : IVec S1x256 32 := iota .tc S1x256 32 [1] iota_S1x256_d1_w32
  have v2 : IVec S1x256 32 := divsi v0 (broadcast S1x256 64#32)
  have v5 : IVec S1x256 32 := extui 32 (cmpi .sgt v0 (broadcast S1x256 0#32)) natLt_1_32
  have v8 : IVec S1x256 32 := extui 32 (cmpi .slt v0 (broadcast S1x256 0#32)) natLt_1_32
  have v14 : BitVec 32 := Scalar.subi (Scalar.extui (Scalar.cmpi .sgt 64#32 0#32)) (Scalar.extui (Scalar.cmpi .slt 64#32 0#32))
  have v16 : IVec S1x256 1 := cmpi .ne (subi v5 v8) (broadcast S1x256 v14)
  have v20 : IVec S1x256 1 := cmpi .ne (remsi v0 (broadcast S1x256 64#32)) (broadcast S1x256 0#32)
  select (andi v16 v20) (subi v2 (broadcast S1x256 1#32)) v2

/-- The query a stacked row belongs to: the row number modulo 128. -/
def rowOf : IVec S512x256 32 :=
  have v25 : IVec S512x256 32 := iota .tc S512x256 32 [0] iota_S512x256_d0_w32
  have v27 : BitVec 32 := Scalar.select (Scalar.cmpi .eq 128#32 0#32) 1#32 128#32
  have v29 : IVec S512x256 32 := remsi v25 (broadcast S512x256 v27)
  have v36 : IVec S512x256 1 := broadcastTo S512x256 (broadcast S512x256 (Scalar.cmpi .slt v27 0#32)) broadcasts_S512x256_S512x256
  have v38 : IVec S512x256 1 := andi (xori (cmpi .slt v29 (broadcast S512x256 0#32)) v36) (cmpi .ne v29 (broadcast S512x256 0#32))
  select v38 (addi v29 (broadcast S512x256 v27)) v29

/-- The key a column names. -/
def colOf : IVec S512x256 32 := iota .tc S512x256 32 [1] iota_S512x256_d1_w32

/-- The band of 129 keys a query sees. -/
def band : IVec S512x256 1 := andi (cmpi .sge colOf rowOf) (cmpi .sle colOf (addi rowOf (broadcast S512x256 128#32)))

/-- The band in an array's first block, whose previous 128 keys exist only past the first grid step `a`. -/
def bandFirst (a : BitVec 32) : IVec S512x256 1 :=
  andi band (ori (cmpi .sge colOf (broadcast S512x256 128#32)) (broadcast S512x256 (Scalar.cmpi .sgt a 0#32)))

/-- The lanes of head `h`, over the block's rows. -/
def lanes (h : BitVec 32) : IVec S128x256 1 :=
  broadcastTo S128x256 (shapeCast S1x256 (cmpi .eq headOf (broadcast S1x256 h)) shapeCasts_S1x256_S1x256) broadcasts_S1x256_S128x256

/-- The queries with every lane outside head `h` zeroed. -/
def only (h : BitVec 32) (q : FVec Ideal S128x256 .bf16) : FVec Ideal S128x256 .bf16 :=
  select (lanes h) q (broadcast S128x256 (Scalar.ofBits .bf16 0x0000#16))

/-- The masked logits of the 512 stacked rows. -/
def logits (q : FVec Ideal S128x256 .bf16) (k : FVec Ideal S256x256 .bf16) (mask : IVec S512x256 1) : FVec Ideal S512x256 .f32 :=
  select mask
    (matmul dot_S512x256_S256x256_S512x256_1_1_0_0_n_n none
      (concatenate S512x256 0 [⟨S128x256, only 0#32 q⟩, ⟨S128x256, only 1#32 q⟩, ⟨S128x256, only 2#32 q⟩, ⟨S128x256, only 3#32 q⟩]
        concatenates_S128x256_S128x256_S128x256_S128x256_S512x256_d0) k (constant S512x256 .f32 0x00000000#32))
    (broadcast S512x256 (Scalar.ofBits .f32 0xFF800000#32))

/-- Each row's maximum. -/
def rowMax (lg : FVec Ideal S512x256 .f32) : FVec Ideal S512x1 .f32 :=
  shapeCast S512x1 (multiReduction .maximumf [1] S512 lg 0xFF800000#32 reduces_S512x256_S512 (.inl rfl) rfl) shapeCasts_S512_S512x1

/-- The exponentials below each row's maximum. -/
def weights (lg : FVec Ideal S512x256 .f32) : FVec Ideal S512x256 .f32 :=
  exp (subf lg (broadcastTo S512x256 (rowMax lg) broadcasts_S512x1_S512x256))

/-- Each row's denominator. -/
def rowDen (lg : FVec Ideal S512x256 .f32) : FVec Ideal S512x1 .f32 :=
  shapeCast S512x1 (multiReduction .add [1] S512 (weights lg) 0x00000000#32 reduces_S512x256_S512 (.inl rfl) rfl) shapeCasts_S512_S512x1

/-- The weighted values, divided. -/
def attn (lg : FVec Ideal S512x256 .f32) (v : FVec Ideal S256x256 .bf16) : FVec Ideal S512x256 .f32 :=
  mulf (matmul dot_S512x256_S256x256_S512x256_1_0_0_1_n_n none (truncf .bf16 (weights lg) bitsLt_bf16_f32) v (constant S512x256 .f32 0x00000000#32))
    (broadcastTo S512x256 (divf (broadcast S512x1 (Scalar.ofBits .f32 0x3F800000#32)) (rowDen lg)) broadcasts_S512x1_S512x256)

/-- The logarithm of each row's sum of exponentials. -/
def logSum (lg : FVec Ideal S512x256 .f32) : FVec Ideal S512x1 .f32 := addf (rowMax lg) (log (rowDen lg))

/-- Each lane's value, from its own head's rows. -/
def ownRows (y : FVec Ideal S512x256 .f32) : FVec Ideal S128x256 .f32 :=
  select (lanes 3#32) (extractStridedSlice S128x256 ![384, 0] y slices_S512x256_o384_0_S128x256)
    (select (lanes 2#32) (extractStridedSlice S128x256 ![256, 0] y slices_S512x256_o256_0_S128x256)
      (select (lanes 1#32) (extractStridedSlice S128x256 ![128, 0] y slices_S512x256_o128_0_S128x256)
        (extractStridedSlice S128x256 ![0, 0] y slices_S512x256_o0_0_S128x256)))

/-- A column of 128 rows laid along the lanes. -/
def along (y : FVec Ideal S128x1 .f32) : FVec Ideal S128x256 .f32 :=
  broadcastTo S128x256 (shapeCast S128x1 y shapeCasts_S128x1_S128x1) broadcasts_S128x1_S128x256

/-- Each lane's entry of a column of the 512 rows, from its own head's rows. -/
def ownRow (y : FVec Ideal S512x1 .f32) : FVec Ideal S128x256 .f32 :=
  select (lanes 3#32) (along (extractStridedSlice S128x1 ![384, 0] y slices_S512x1_o384_0_S128x1))
    (select (lanes 2#32) (along (extractStridedSlice S128x1 ![256, 0] y slices_S512x1_o256_0_S128x1))
      (select (lanes 1#32) (along (extractStridedSlice S128x1 ![128, 0] y slices_S512x1_o128_0_S128x1))
        (along (extractStridedSlice S128x1 ![0, 0] y slices_S512x1_o0_0_S128x1))))

/-- The block's two results: the attention values and the log-sums. -/
def outBlock (q : FVec Ideal S128x256 .bf16) (k v : FVec Ideal S256x256 .bf16) (mask : IVec S512x256 1) : FVec Ideal S128x256 .f32 :=
  ownRows (attn (logits q k mask) v)

def lseBlock (q : FVec Ideal S128x256 .bf16) (k : FVec Ideal S256x256 .bf16) (mask : IVec S512x256 1) : FVec Ideal S128x256 .f32 :=
  ownRow (logSum (logits q k mask))

/-! ## The integer parts at an index -/

theorem headOf_apply (c : Fin 256) : headOf (ix2 0 c) = BitVec.ofNat 32 (c.val / 64) := by
  have h : ∀ c : Fin 256, headOf (ix2 0 c) = BitVec.ofNat 32 (c.val / 64) := by decide +kernel
  exact h c

theorem rowOf_apply (r : Fin 512) (c : Fin 256) : rowOf (ix2 r c) = BitVec.ofNat 32 (r.val % 128) := by
  have h : ∀ r : Fin 512, rowOf (ix2 r 0) = BitVec.ofNat 32 (r.val % 128) := by decide +kernel
  exact h r

theorem colOf_apply (r : Fin 512) (c : Fin 256) : colOf (ix2 r c) = BitVec.ofNat 32 c.val := by
  unfold colOf
  exact iota_single_apply ..

/-- Whether stacked row `r` sees key `c`. -/
abbrev Sees (r c : ℕ) : Prop := r % 128 ≤ c ∧ c ≤ r % 128 + 128

theorem band_apply (r : Fin 512) (c : Fin 256) : band (ix2 r c) = BitVec.ofBool (decide (Sees r c)) := by
  have hr := r.isLt
  have hc := c.isLt
  change IntOp.cmpi .sge (colOf (ix2 r c)) (rowOf (ix2 r c)) &&& IntOp.cmpi .sle (colOf (ix2 r c)) (rowOf (ix2 r c) + 128#32) = _
  rw [rowOf_apply, colOf_apply, show (BitVec.ofNat 32 (r.val % 128) + 128#32) = BitVec.ofNat 32 (r.val % 128 + 128) from
    (BitVec.ofNat_add ..).symm, WordCmp.cmpi_sle_ofNat (by norm_num; omega) (by norm_num; omega),
    WordCmp.cmpi_sge_ofNat (by norm_num; omega) (by norm_num; omega)]
  rw [Bool.decide_and]
  cases decide (r.val % 128 ≤ c.val) <;> cases decide (c.val ≤ r.val % 128 + 128) <;> rfl

theorem bandFirst_apply (b : ℕ) (hb : b < 32) (r : Fin 512) (c : Fin 256) :
    bandFirst (BitVec.ofNat 32 b) (ix2 r c) = BitVec.ofBool (decide (Sees r c ∧ (128 ≤ c.val ∨ 0 < b))) := by
  have hc := c.isLt
  change band (ix2 r c) &&& (IntOp.cmpi .sge (colOf (ix2 r c)) (BitVec.ofNat 32 128) ||| IntOp.cmpi .sgt (BitVec.ofNat 32 b) (BitVec.ofNat 32 0)) = _
  rw [band_apply, colOf_apply, WordCmp.cmpi_sge_ofNat (by norm_num; omega) (by norm_num),
    WordCmp.cmpi_sgt_ofNat (by norm_num; omega) (by norm_num), Bool.decide_and (Sees _ _), Bool.decide_or]
  cases decide (Sees r c) <;> cases decide (128 ≤ c.val) <;> cases decide (0 < b) <;> rfl

theorem lanes_apply (h : BitVec 32) (r : Fin 128) (c : Fin 256) :
    lanes h (ix2 r c) = BitVec.ofBool (decide (BitVec.ofNat 32 (c.val / 64) = h)) := by
  unfold lanes
  rw [broadcastTo_apply _ _ (ix2 r c) (ix2 0 c) (by intro a; fin_cases a <;> rfl), shapeCast_self]
  change BitVec.ofBool (headOf (ix2 0 c) == h) = _
  rw [headOf_apply]
  rfl

theorem lanes_ofNat (h : ℕ) (hh : h < 4) (r : Fin 128) (c : Fin 256) :
    lanes (BitVec.ofNat 32 h) (ix2 r c) = BitVec.ofBool (decide (c.val / 64 = h)) := by
  have hc := c.isLt
  rw [lanes_apply]
  congr 1
  refine decide_eq_decide.mpr ⟨fun e => ?_, fun e => by rw [e]⟩
  have := congrArg BitVec.toNat e
  simp only [BitVec.toNat_ofNat] at this
  omega

/-! ## The products -/

/-- Lane `d` of head `h`. -/
def lane (h : Fin 4) (d : Fin 64) : Fin 256 := ⟨h.val * 64 + d.val, by omega⟩

/-- A sum over the 256 lanes of what is zero outside head `h` is the sum over the head's 64 lanes. -/
theorem sum_lanes (h : Fin 4) (f : Fin 256 → EReal) :
    ∑ l : Fin 256, (if l.val / 64 = h.val then f l else 0) = ∑ d : Fin 64, f (lane h d) := by
  symm
  rw [← Finset.sum_filter]
  refine Finset.sum_bij (fun d _ => lane h d) ?_ ?_ ?_ ?_
  · intro d _
    have := d.isLt
    simp only [Finset.mem_filter, Finset.mem_univ, true_and, lane]
    omega
  · intro a _ b _ e
    have := congrArg Fin.val e
    simp only [lane] at this
    exact Fin.ext (by omega)
  · intro l hl
    simp only [Finset.mem_filter, Finset.mem_univ, true_and] at hl
    exact ⟨⟨l.val % 64, Nat.mod_lt _ (by norm_num)⟩, Finset.mem_univ _, Fin.ext (by simp only [lane]; omega)⟩
  · intros
    rfl

theorem dotQK_apply (x : FVec Ideal S512x256 .bf16) (y : FVec Ideal S256x256 .bf16) (r : Fin 512) (c : Fin 256) :
    matmul dot_S512x256_S256x256_S512x256_1_1_0_0_n_n none x y (constant S512x256 .f32 0x00000000#32) (ix2 r c)
      = ∑ l : Fin 256, x (ix2 r l) * y (ix2 c l) := by
  refine (Ideal.matmul_constant_zero_apply _ none x y (ix2 r c)).trans ?_
  rw [← (contrEquiv1 dot_S512x256_S256x256_S512x256_1_1_0_0_n_n 256 rfl rfl).symm.sum_comp]
  refine Finset.sum_congr rfl fun l _ => ?_
  congr 2
  · funext a; fin_cases a <;> rfl
  · funext a; fin_cases a <;> rfl

theorem dotPV_apply (x : FVec Ideal S512x256 .bf16) (y : FVec Ideal S256x256 .bf16) (r : Fin 512) (c : Fin 256) :
    matmul dot_S512x256_S256x256_S512x256_1_0_0_1_n_n none x y (constant S512x256 .f32 0x00000000#32) (ix2 r c)
      = ∑ l : Fin 256, x (ix2 r l) * y (ix2 l c) := by
  refine (Ideal.matmul_constant_zero_apply _ none x y (ix2 r c)).trans ?_
  rw [← (contrEquiv1 dot_S512x256_S256x256_S512x256_1_0_0_1_n_n 256 rfl rfl).symm.sum_comp]
  refine Finset.sum_congr rfl fun l _ => ?_
  congr 2
  · funext a; fin_cases a <;> rfl
  · funext a; fin_cases a <;> rfl

/-- Row `r` of head `h` among the stacked rows. -/
def stacked (h : Fin 4) (r : Fin 128) : Fin 512 := ⟨h.val * 128 + r.val, by omega⟩

theorem only_apply (h : Fin 4) (q : FVec Ideal S128x256 .bf16) (r : Fin 128) (l : Fin 256) :
    only (BitVec.ofNat 32 h.val) q (ix2 r l) = if l.val / 64 = h.val then q (ix2 r l) else 0 := by
  unfold only
  rw [select_apply, lanes_ofNat h.val h.isLt, WordCmp.select_ofBool, broadcast_apply]
  simp only [decide_eq_true_eq]
  congr 1
  exact Ideal.ofBits_zero_bf16

/-- The four heads' queries, stacked. -/
theorem stack_apply (q : FVec Ideal S128x256 .bf16) (h : Fin 4) (r : Fin 128) (l : Fin 256) :
    concatenate S512x256 0 [⟨S128x256, only 0#32 q⟩, ⟨S128x256, only 1#32 q⟩, ⟨S128x256, only 2#32 q⟩, ⟨S128x256, only 3#32 q⟩]
        concatenates_S128x256_S128x256_S128x256_S128x256_S512x256_d0 (ix2 (stacked h r) l)
      = if l.val / 64 = h.val then q (ix2 r l) else 0 := by
  rw [← only_apply h q r l]
  fin_cases h
  · refine concatenate_apply_piece 0 [⟨S128x256, only 0#32 q⟩, ⟨S128x256, only 1#32 q⟩, ⟨S128x256, only 2#32 q⟩, ⟨S128x256, only 3#32 q⟩]
      concatenates_S128x256_S128x256_S128x256_S128x256_S512x256_d0 (ix2 (stacked 0 r) l) 0 (by simp) S128x256 (only 0#32 q) rfl rfl 0 rfl
      (ix2 r l) ?_ ?_
    · intro b hb; fin_cases b; exact absurd rfl hb; rfl
    · simp [stacked]
  · refine concatenate_apply_piece 0 [⟨S128x256, only 0#32 q⟩, ⟨S128x256, only 1#32 q⟩, ⟨S128x256, only 2#32 q⟩, ⟨S128x256, only 3#32 q⟩]
      concatenates_S128x256_S128x256_S128x256_S128x256_S512x256_d0 (ix2 (stacked 1 r) l) 1 (by simp) S128x256 (only 1#32 q) rfl rfl 128 rfl
      (ix2 r l) ?_ ?_
    · intro b hb; fin_cases b; exact absurd rfl hb; rfl
    · simp [stacked]
  · refine concatenate_apply_piece 0 [⟨S128x256, only 0#32 q⟩, ⟨S128x256, only 1#32 q⟩, ⟨S128x256, only 2#32 q⟩, ⟨S128x256, only 3#32 q⟩]
      concatenates_S128x256_S128x256_S128x256_S128x256_S512x256_d0 (ix2 (stacked 2 r) l) 2 (by simp) S128x256 (only 2#32 q) rfl rfl 256 rfl
      (ix2 r l) ?_ ?_
    · intro b hb; fin_cases b; exact absurd rfl hb; rfl
    · simp [stacked]
  · refine concatenate_apply_piece 0 [⟨S128x256, only 0#32 q⟩, ⟨S128x256, only 1#32 q⟩, ⟨S128x256, only 2#32 q⟩, ⟨S128x256, only 3#32 q⟩]
      concatenates_S128x256_S128x256_S128x256_S128x256_S512x256_d0 (ix2 (stacked 3 r) l) 3 (by simp) S128x256 (only 3#32 q) rfl rfl 384 rfl
      (ix2 r l) ?_ ?_
    · intro b hb; fin_cases b; exact absurd rfl hb; rfl
    · simp [stacked]

/-- The logit of a stacked row at a key: the head's 64-term product where the mask allows it, `⊥` elsewhere. -/
theorem logits_apply (q : FVec Ideal S128x256 .bf16) (k : FVec Ideal S256x256 .bf16) (mask : IVec S512x256 1) (h : Fin 4) (r : Fin 128)
    (c : Fin 256) (b : Bool) (hm : mask (ix2 (stacked h r) c) = BitVec.ofBool b) :
    logits q k mask (ix2 (stacked h r) c) = if b then ∑ d : Fin 64, q (ix2 r (lane h d)) * k (ix2 c (lane h d)) else ⊥ := by
  unfold logits
  rw [select_apply, hm, WordCmp.select_ofBool, dotQK_apply, broadcast_apply]
  congr 1
  · rw [← sum_lanes h fun l => q (ix2 r l) * k (ix2 c l)]
    refine Finset.sum_congr rfl fun l _ => ?_
    rw [stack_apply]
    split
    · rfl
    · exact zero_mul _

/-! ## The softmax of a stacked row -/

theorem column_apply (y : FVec Ideal S512 .f32) (r : Fin 512) (c : Fin 1) : shapeCast S512x1 y shapeCasts_S512_S512x1 (ix2 r c) = y (ix1 r) := by
  refine shapeCast_apply _ _ _ _ ?_
  rw [Shape.rowMajor_val_one, Shape.rowMajor_val_two]
  have := c.isLt
  simp

theorem rowMax_apply (lg : FVec Ideal S512x256 .f32) (r : Fin 512) (c : Fin 1) : rowMax lg (ix2 r c) = Softmax.rmax fun c : Fin 256 => lg (ix2 r c) := by
  unfold rowMax
  rw [column_apply]
  refine (Ideal.multiReduction_maximumf_single (a := 1) lg _ _ _ _ _).trans ?_
  rw [Softmax.rmax, show (FloatOps.ofBits FTy.f32 0xFF800000#32 : Ideal .f32) = ⊥ from Softmax.ofBits_bot]
  congr 1
  funext c
  exact congrArg lg (by funext a; fin_cases a <;> rfl)

theorem weights_apply (lg : FVec Ideal S512x256 .f32) (r : Fin 512) (c : Fin 256) :
    weights lg (ix2 r c) = Ideal.exp (lg (ix2 r c) - Softmax.rmax fun c : Fin 256 => lg (ix2 r c)) := by
  rw [← rowMax_apply lg r 0]
  change Ideal.exp (lg (ix2 r c) - broadcastTo S512x256 (rowMax lg) broadcasts_S512x1_S512x256 (ix2 r c)) = _
  rw [broadcastTo_apply _ _ (ix2 r c) (ix2 r 0) (by intro a; fin_cases a <;> rfl)]

theorem rowDen_apply (lg : FVec Ideal S512x256 .f32) (r : Fin 512) (c : Fin 1) :
    rowDen lg (ix2 r c) = Softmax.rden (Softmax.rmax fun c : Fin 256 => lg (ix2 r c)) fun c : Fin 256 => lg (ix2 r c) := by
  unfold rowDen
  rw [column_apply]
  refine (Ideal.multiReduction_add_single (a := 1) (weights lg) _ _ _ _ _).trans ?_
  refine Finset.sum_congr rfl fun c _ => ?_
  refine Eq.trans ?_ (weights_apply lg r c)
  exact congrArg (weights lg) (by funext a; fin_cases a <;> rfl)

theorem attn_apply (lg : FVec Ideal S512x256 .f32) (v : FVec Ideal S256x256 .bf16) (r : Fin 512) (l : Fin 256) :
    attn lg v (ix2 r l)
      = Softmax.rnum (Softmax.rmax fun c : Fin 256 => lg (ix2 r c)) (fun c : Fin 256 => lg (ix2 r c)) (fun c => v (ix2 c l))
        * Ideal.div 1 (Softmax.rden (Softmax.rmax fun c : Fin 256 => lg (ix2 r c)) fun c : Fin 256 => lg (ix2 r c)) := by
  rw [← rowDen_apply lg r 0]
  unfold attn
  rw [mulf_apply, dotPV_apply, broadcastTo_apply _ _ (ix2 r l) (ix2 r 0) (by intro a; fin_cases a <;> rfl), divf_apply, broadcast_apply]
  refine congrArg₂ (· * ·) (Finset.sum_congr rfl fun c _ => ?_) (congrArg₂ Ideal.div Ideal.ofBits_one_f32 rfl)
  rw [← weights_apply]
  rfl

theorem logSum_apply (lg : FVec Ideal S512x256 .f32) (r : Fin 512) (c : Fin 1) :
    logSum lg (ix2 r c) = (Softmax.rmax fun c : Fin 256 => lg (ix2 r c))
      + Ideal.log (Softmax.rden (Softmax.rmax fun c : Fin 256 => lg (ix2 r c)) fun c : Fin 256 => lg (ix2 r c)) := by
  rw [← rowDen_apply lg r c, ← rowMax_apply lg r c]
  rfl

/-! ## Each lane from its own head's rows -/

/-- The head of a lane. -/
def headIx (l : Fin 256) : Fin 4 := ⟨l.val / 64, by omega⟩

theorem nested {α : Type} (l : Fin 256) (f : Fin 4 → α) :
    (if decide (l.val / 64 = 3) then f 3 else if decide (l.val / 64 = 2) then f 2 else if decide (l.val / 64 = 1) then f 1 else f 0)
      = f (headIx l) := by
  have hl := l.isLt
  rcases (by omega : l.val / 64 = 0 ∨ l.val / 64 = 1 ∨ l.val / 64 = 2 ∨ l.val / 64 = 3) with e | e | e | e <;>
    simp only [e, headIx] <;> rfl

theorem ownRows_apply (y : FVec Ideal S512x256 .f32) (r : Fin 128) (l : Fin 256) :
    ownRows y (ix2 r l) = y (ix2 (stacked (headIx l) r) l) := by
  unfold ownRows
  rw [select_apply, select_apply, select_apply, lanes_ofNat 3 (by norm_num), lanes_ofNat 2 (by norm_num), lanes_ofNat 1 (by norm_num),
    WordCmp.select_ofBool, WordCmp.select_ofBool, WordCmp.select_ofBool,
    extractStridedSlice_apply _ _ _ (ix2 r l) (ix2 (stacked 3 r) l) (by intro a; fin_cases a <;> simp [stacked]),
    extractStridedSlice_apply _ _ _ (ix2 r l) (ix2 (stacked 2 r) l) (by intro a; fin_cases a <;> simp [stacked]),
    extractStridedSlice_apply _ _ _ (ix2 r l) (ix2 (stacked 1 r) l) (by intro a; fin_cases a <;> simp [stacked]),
    extractStridedSlice_apply _ _ _ (ix2 r l) (ix2 (stacked 0 r) l) (by intro a; fin_cases a <;> simp [stacked])]
  exact nested l fun h => y (ix2 (stacked h r) l)

theorem along_apply (y : FVec Ideal S128x1 .f32) (r : Fin 128) (l : Fin 256) : along y (ix2 r l) = y (ix2 r 0) := by
  unfold along
  rw [broadcastTo_apply _ _ (ix2 r l) (ix2 r 0) (by intro a; fin_cases a <;> rfl), shapeCast_self]

theorem ownRow_apply (y : FVec Ideal S512x1 .f32) (r : Fin 128) (l : Fin 256) :
    ownRow y (ix2 r l) = y (ix2 (stacked (headIx l) r) 0) := by
  unfold ownRow
  rw [select_apply, select_apply, select_apply, lanes_ofNat 3 (by norm_num), lanes_ofNat 2 (by norm_num), lanes_ofNat 1 (by norm_num),
    WordCmp.select_ofBool, WordCmp.select_ofBool, WordCmp.select_ofBool, along_apply, along_apply, along_apply, along_apply,
    extractStridedSlice_apply _ _ _ (ix2 r 0) (ix2 (stacked 3 r) 0) (by intro a; fin_cases a <;> simp [stacked]),
    extractStridedSlice_apply _ _ _ (ix2 r 0) (ix2 (stacked 2 r) 0) (by intro a; fin_cases a <;> simp [stacked]),
    extractStridedSlice_apply _ _ _ (ix2 r 0) (ix2 (stacked 1 r) 0) (by intro a; fin_cases a <;> simp [stacked]),
    extractStridedSlice_apply _ _ _ (ix2 r 0) (ix2 (stacked 0 r) 0) (by intro a; fin_cases a <;> simp [stacked])]
  exact nested l fun h => y (ix2 (stacked h r) 0)

/-- The attention value of row `r` at lane `l`, from the row's 256 logits `f`. -/
theorem outBlock_apply (q : FVec Ideal S128x256 .bf16) (k v : FVec Ideal S256x256 .bf16) (mask : IVec S512x256 1) (r : Fin 128) (l : Fin 256)
    (f : Fin 256 → EReal) (hf : ∀ c, logits q k mask (ix2 (stacked (headIx l) r) c) = f c) :
    outBlock q k v mask (ix2 r l)
      = Softmax.rnum (Softmax.rmax f) f (fun c => v (ix2 c l)) * Ideal.div 1 (Softmax.rden (Softmax.rmax f) f) := by
  unfold outBlock
  rw [ownRows_apply, attn_apply, show (fun c : Fin 256 => logits q k mask (ix2 (stacked (headIx l) r) c)) = f from funext hf]

/-- The log-sum of row `r` at lane `l`, from the row's 256 logits `f`. -/
theorem lseBlock_apply (q : FVec Ideal S128x256 .bf16) (k : FVec Ideal S256x256 .bf16) (mask : IVec S512x256 1) (r : Fin 128) (l : Fin 256)
    (f : Fin 256 → EReal) (hf : ∀ c, logits q k mask (ix2 (stacked (headIx l) r) c) = f c) :
    lseBlock q k mask (ix2 r l) = Softmax.rmax f + Ideal.log (Softmax.rden (Softmax.rmax f) f) := by
  unfold lseBlock
  rw [ownRow_apply, logSum_apply, show (fun c : Fin 256 => logits q k mask (ix2 (stacked (headIx l) r) c)) = f from funext hf]

end Cert.Dilated

end
-- ==== Proof.DilOut.lean ====
/- What one grid point of the dilated group leaves in its two output windows: four blocks of 128 rows, each over 256 of the
   640 keys (the 128 rows before the block and the block's 512), read at an index from the point's five input blocks. -/
module

public import proofs.«01_k».proof.Proof.Block
public import proofs.«01_k».proof.Proof.Gen.DilIdeal.Value

@[expose] public section

noncomputable section

namespace Cert.Dilated

open Cert.DilIdeal Cert.DilIdeal.Gen Idealize.ShloMosaic Idealize.ShloMosaic.ValueIdx

/-- A block's 512 rows. -/
def rows (x : Vec Ideal S1x1x512x256 .bf16) : FVec Ideal S512x256 .bf16 :=
  shapeCast S512x256 (View.ld x r0_0) shapeCasts_S1x1x512x256_S512x256

/-- The 128 rows before the block and the block's 512. -/
def ext (x' : Vec Ideal S1x1x128x256 .bf16) (x : Vec Ideal S1x1x512x256 .bf16) : FVec Ideal S640x256 .bf16 :=
  concatenate S640x256 0 [⟨S128x256, shapeCast S128x256 (View.ld x' r0_1) shapeCasts_S1x1x128x256_S128x256⟩, ⟨S512x256, rows x⟩]
    concatenates_S128x256_S512x256_S640x256_d0

/-- A block's result laid in the output window's shape. -/
def lay (y : FVec Ideal S128x256 .f32) : Vec Ideal S1x1x128x256 .f32 := shapeCast S1x1x128x256 y shapeCasts_S128x256_S1x1x128x256

variable (i : grid0.Coords) (x0 x1 : Vec Ideal S1x1x512x256 .bf16) (x2 : Vec Ideal S1x1x128x256 .bf16) (x3 : Vec Ideal S1x1x512x256 .bf16)
  (x4 : Vec Ideal S1x1x128x256 .bf16)

/-- The attention window's four blocks. -/
theorem out5_eq : out0_5 i x0 x1 x2 x3 x4 = View.canon
    [⟨r0_5, lay (outBlock (extractStridedSlice S128x256 ![384, 0] (rows x0) slices_S512x256_o384_0_S128x256)
        (extractStridedSlice S256x256 ![384, 0] (ext x2 x1) slices_S640x256_o384_0_S256x256)
        (extractStridedSlice S256x256 ![384, 0] (ext x4 x3) slices_S640x256_o384_0_S256x256) band)⟩,
     ⟨r0_4, lay (outBlock (extractStridedSlice S128x256 ![256, 0] (rows x0) slices_S512x256_o256_0_S128x256)
        (extractStridedSlice S256x256 ![256, 0] (ext x2 x1) slices_S640x256_o256_0_S256x256)
        (extractStridedSlice S256x256 ![256, 0] (ext x4 x3) slices_S640x256_o256_0_S256x256) band)⟩,
     ⟨r0_3, lay (outBlock (extractStridedSlice S128x256 ![128, 0] (rows x0) slices_S512x256_o128_0_S128x256)
        (extractStridedSlice S256x256 ![128, 0] (ext x2 x1) slices_S640x256_o128_0_S256x256)
        (extractStridedSlice S256x256 ![128, 0] (ext x4 x3) slices_S640x256_o128_0_S256x256) band)⟩,
     ⟨r0_2, lay (outBlock (extractStridedSlice S128x256 ![0, 0] (rows x0) slices_S512x256_o0_0_S128x256)
        (extractStridedSlice S256x256 ![0, 0] (ext x2 x1) slices_S640x256_o0_0_S256x256)
        (extractStridedSlice S256x256 ![0, 0] (ext x4 x3) slices_S640x256_o0_0_S256x256) (bandFirst (BitVec.ofNat 32 (i 2).val)))⟩] := by
  unfold_out out0_5
  rfl

/-- The log-sum window's four blocks. -/
theorem out6_eq : out0_6 i x0 x1 x2 x3 x4 = View.canon
    [⟨r0_5, lay (lseBlock (extractStridedSlice S128x256 ![384, 0] (rows x0) slices_S512x256_o384_0_S128x256)
        (extractStridedSlice S256x256 ![384, 0] (ext x2 x1) slices_S640x256_o384_0_S256x256) band)⟩,
     ⟨r0_4, lay (lseBlock (extractStridedSlice S128x256 ![256, 0] (rows x0) slices_S512x256_o256_0_S128x256)
        (extractStridedSlice S256x256 ![256, 0] (ext x2 x1) slices_S640x256_o256_0_S256x256) band)⟩,
     ⟨r0_3, lay (lseBlock (extractStridedSlice S128x256 ![128, 0] (rows x0) slices_S512x256_o128_0_S128x256)
        (extractStridedSlice S256x256 ![128, 0] (ext x2 x1) slices_S640x256_o128_0_S256x256) band)⟩,
     ⟨r0_2, lay (lseBlock (extractStridedSlice S128x256 ![0, 0] (rows x0) slices_S512x256_o0_0_S128x256)
        (extractStridedSlice S256x256 ![0, 0] (ext x2 x1) slices_S640x256_o0_0_S256x256) (bandFirst (BitVec.ofNat 32 (i 2).val)))⟩] := by
  unfold_out out0_6
  rfl

/-! ## The index reading -/

/-- The logit of row `p` (head `h`) at its block's key `c`, from the block's queries and the extended keys; `⊥` where the
    band or the missing previous block masks it. -/
def lgt (b : ℕ) (Q : Fin 512 → Fin 256 → EReal) (K : Fin 640 → Fin 256 → EReal) (p : Fin 512) (h : Fin 4) (c : Fin 256) : EReal :=
  if Sees p c ∧ (128 ≤ p.val ∨ 128 ≤ c.val ∨ 0 < b)
  then ∑ d : Fin 64, Q p (lane h d) * K ⟨p.val / 128 * 128 + c.val, by omega⟩ (lane h d) else ⊥

/-- The attention value of row `p` at lane `l`. -/
def oval (b : ℕ) (Q : Fin 512 → Fin 256 → EReal) (K V : Fin 640 → Fin 256 → EReal) (p : Fin 512) (l : Fin 256) : EReal :=
  Softmax.rnum (Softmax.rmax (lgt b Q K p (headIx l))) (lgt b Q K p (headIx l)) (fun c : Fin 256 => V ⟨p.val / 128 * 128 + c.val, by omega⟩ l)
    * Ideal.div 1 (Softmax.rden (Softmax.rmax (lgt b Q K p (headIx l))) (lgt b Q K p (headIx l)))

/-- The log-sum of row `p` at lane `l`. -/
def lval (b : ℕ) (Q : Fin 512 → Fin 256 → EReal) (K : Fin 640 → Fin 256 → EReal) (p : Fin 512) (l : Fin 256) : EReal :=
  Softmax.rmax (lgt b Q K p (headIx l)) + Ideal.log (Softmax.rden (Softmax.rmax (lgt b Q K p (headIx l))) (lgt b Q K p (headIx l)))

/-- Row `r` of block `s`. -/
def rowAt (s : Fin 4) (r : Fin 128) : Fin 512 := ⟨s.val * 128 + r.val, by omega⟩

/-- A block of the rows. -/
theorem slice_rows_apply (s : Fin 4) (h : S512x256.Slices ![s.val * 128, 0] S128x256) (x : FVec Ideal S512x256 .bf16) (r : Fin 128) (l : Fin 256) :
    extractStridedSlice S128x256 ![s.val * 128, 0] x h (ix2 r l) = x (ix2 (rowAt s r) l) :=
  extractStridedSlice_apply _ _ _ _ _ (by intro a; fin_cases a <;> simp [rowAt])

theorem slice_ext_apply (s : Fin 4) (h : S640x256.Slices ![s.val * 128, 0] S256x256) (x : FVec Ideal S640x256 .bf16) (c l : Fin 256) :
    extractStridedSlice S256x256 ![s.val * 128, 0] x h (ix2 c l) = x (ix2 ⟨s.val * 128 + c.val, by omega⟩ l) :=
  extractStridedSlice_apply _ _ _ _ _ (by intro a; fin_cases a <;> simp)

section
variable (s : Fin 4) (hq : S512x256.Slices ![s.val * 128, 0] S128x256) (hk : S640x256.Slices ![s.val * 128, 0] S256x256)
  (q : FVec Ideal S512x256 .bf16) (k v : FVec Ideal S640x256 .bf16) (b : ℕ) (mask : IVec S512x256 1)
  (hm : ∀ (r : Fin 512) (c : Fin 256), mask (ix2 r c) = BitVec.ofBool (decide (Sees r c ∧ (1 ≤ s.val ∨ 128 ≤ c.val ∨ 0 < b))))
include hm

/-- One block's logits, in the point's rows. -/
theorem block_logits (h : Fin 4) (r : Fin 128) (c : Fin 256) :
    logits (extractStridedSlice S128x256 ![s.val * 128, 0] q hq) (extractStridedSlice S256x256 ![s.val * 128, 0] k hk) mask (ix2 (stacked h r) c)
      = lgt b (fun p l => q (ix2 p l)) (fun e l => k (ix2 e l)) (rowAt s r) h c := by
  have hs := s.isLt
  have hr := r.isLt
  rw [logits_apply _ _ _ _ _ _ _ (hm _ _), lgt]
  have e1 : (stacked h r).val % 128 = r.val := by simp only [stacked]; omega
  have e2 : (rowAt s r).val % 128 = r.val := by simp only [rowAt]; omega
  have e3 : (rowAt s r).val / 128 = s.val := by simp only [rowAt]; omega
  have e4 : 1 ≤ s.val ↔ 128 ≤ (rowAt s r).val := by simp only [rowAt]; omega
  simp only [Sees, e1, e2, e4, decide_eq_true_eq]
  split
  · refine Finset.sum_congr rfl fun d _ => ?_
    rw [slice_rows_apply, slice_ext_apply]
    simp only [e3]
  · rfl

/-- One block's attention values, in the point's rows. -/
theorem block_out (r : Fin 128) (l : Fin 256) :
    outBlock (extractStridedSlice S128x256 ![s.val * 128, 0] q hq) (extractStridedSlice S256x256 ![s.val * 128, 0] k hk)
        (extractStridedSlice S256x256 ![s.val * 128, 0] v hk) mask (ix2 r l)
      = oval b (fun p l => q (ix2 p l)) (fun e l => k (ix2 e l)) (fun e l => v (ix2 e l)) (rowAt s r) l := by
  have hs := s.isLt
  have hr := r.isLt
  rw [outBlock_apply _ _ _ _ _ _ _ fun c => block_logits s hq hk q k b mask hm (headIx l) r c, oval]
  have e3 : (rowAt s r).val / 128 = s.val := by simp only [rowAt]; omega
  simp only [slice_ext_apply, e3]

/-- One block's log-sums, in the point's rows. -/
theorem block_lse (r : Fin 128) (l : Fin 256) :
    lseBlock (extractStridedSlice S128x256 ![s.val * 128, 0] q hq) (extractStridedSlice S256x256 ![s.val * 128, 0] k hk) mask (ix2 r l)
      = lval b (fun p l => q (ix2 p l)) (fun e l => k (ix2 e l)) (rowAt s r) l := by
  rw [lseBlock_apply _ _ _ _ _ _ fun c => block_logits s hq hk q k b mask hm (headIx l) r c, lval]

end

theorem lay_apply (y : FVec Ideal S128x256 .f32) (x : S1x1x128x256.Idx) : lay y x = y (ix2 (x 2) (x 3)) := by
  refine shapeCast_apply _ _ _ _ ?_
  rw [Shape.rowMajor_val_two, Shape.rowMajor_val_four]
  have h0 : (x 0).val < 1 := (x 0).isLt
  have h1 : (x 1).val < 1 := (x 1).isLt
  simp
  omega

theorem zero4 : (![0, 0, 0, 0] : Fin 4 → ℕ) = fun _ => 0 := by funext a; fin_cases a <;> rfl

theorem rows_apply (x : Vec Ideal S1x1x512x256 .bf16) (p : Fin 512) (l : Fin 256) : rows x (ix2 p l) = x (ix4 0 0 p l) := by
  unfold rows
  rw [View.ld_unit_zero zero4]
  refine shapeCast_apply _ _ _ _ ?_
  rw [Shape.rowMajor_val_two, Shape.rowMajor_val_four]
  simp

/-- The extended rows of a block: the previous 128, then its own. -/
def extAt (x' : Vec Ideal S1x1x128x256 .bf16) (x : Vec Ideal S1x1x512x256 .bf16) (e : Fin 640) (l : Fin 256) : EReal :=
  if h : e.val < 128 then x' (ix4 0 0 ⟨e.val, h⟩ l) else x (ix4 0 0 ⟨e.val - 128, by omega⟩ l)

theorem ext_apply (x' : Vec Ideal S1x1x128x256 .bf16) (x : Vec Ideal S1x1x512x256 .bf16) (e : Fin 640) (l : Fin 256) :
    ext x' x (ix2 e l) = extAt x' x e l := by
  unfold ext extAt
  split
  · rename_i h
    refine (concatenate_apply_piece 0 [⟨S128x256, shapeCast S128x256 (View.ld x' r0_1) shapeCasts_S1x1x128x256_S128x256⟩, ⟨S512x256, rows x⟩]
      concatenates_S128x256_S512x256_S640x256_d0 (ix2 e l) 0 (by simp) S128x256 _ rfl rfl 0 rfl (ix2 ⟨e.val, h⟩ l) ?_ ?_).trans ?_
    · intro b hb; fin_cases b; exact absurd rfl hb; rfl
    · simp
    · rw [View.ld_unit_zero zero4]
      refine shapeCast_apply _ _ _ _ ?_
      rw [Shape.rowMajor_val_two, Shape.rowMajor_val_four]
      simp
  · rename_i h
    refine (concatenate_apply_piece 0 [⟨S128x256, shapeCast S128x256 (View.ld x' r0_1) shapeCasts_S1x1x128x256_S128x256⟩, ⟨S512x256, rows x⟩]
      concatenates_S128x256_S512x256_S640x256_d0 (ix2 e l) 1 (by simp) S512x256 _ rfl rfl 128 rfl (ix2 ⟨e.val - 128, by omega⟩ l) ?_ ?_).trans ?_
    · intro b hb; fin_cases b; exact absurd rfl hb; rfl
    · change 128 + (e.val - 128) = e.val
      omega
    · exact rows_apply x _ _

theorem band_mask (s : Fin 4) (hs : 1 ≤ s.val) (b : ℕ) (r : Fin 512) (c : Fin 256) :
    band (ix2 r c) = BitVec.ofBool (decide (Sees r c ∧ (1 ≤ s.val ∨ 128 ≤ c.val ∨ 0 < b))) := by
  rw [band_apply]
  congr 1
  exact decide_eq_decide.mpr ⟨fun h => ⟨h, .inl hs⟩, fun h => h.1⟩

theorem first_mask (b : ℕ) (hb : b < 32) (r : Fin 512) (c : Fin 256) :
    bandFirst (BitVec.ofNat 32 b) (ix2 r c) = BitVec.ofBool (decide (Sees r c ∧ (1 ≤ (0 : Fin 4).val ∨ 128 ≤ c.val ∨ 0 < b))) := by
  rw [bandFirst_apply b hb]
  congr 1
  refine decide_eq_decide.mpr (and_congr_right fun _ => ⟨.inr, fun h => h.resolve_left (by simp)⟩)

/-- A block's attention values in the window are the point's rows' values. -/
theorem lay_out (s : Fin 4) (hq : S512x256.Slices ![s.val * 128, 0] S128x256) (hk : S640x256.Slices ![s.val * 128, 0] S256x256) (b : ℕ)
    (mask : IVec S512x256 1)
    (hm : ∀ (r : Fin 512) (c : Fin 256), mask (ix2 r c) = BitVec.ofBool (decide (Sees r c ∧ (1 ≤ s.val ∨ 128 ≤ c.val ∨ 0 < b))))
    (x : S1x1x128x256.Idx) (y : S1x1x512x256.Idx) (h2 : (y 2).val = s.val * 128 + (x 2).val) (h3 : (y 3).val = (x 3).val) :
    lay (outBlock (extractStridedSlice S128x256 ![s.val * 128, 0] (rows x0) hq) (extractStridedSlice S256x256 ![s.val * 128, 0] (ext x2 x1) hk)
        (extractStridedSlice S256x256 ![s.val * 128, 0] (ext x4 x3) hk) mask) x
      = oval b (fun p l => x0 (ix4 0 0 p l)) (extAt x2 x1) (extAt x4 x3) (y 2) (y 3) := by
  rw [lay_apply]
  refine (block_out s hq hk _ _ _ b mask hm (x 2) (x 3)).trans ?_
  rw [show (y 2) = rowAt s (x 2) from Fin.ext h2, show (y 3) = x 3 from Fin.ext h3]
  simp only [rows_apply, ext_apply]

theorem lay_lse (s : Fin 4) (hq : S512x256.Slices ![s.val * 128, 0] S128x256) (hk : S640x256.Slices ![s.val * 128, 0] S256x256) (b : ℕ)
    (mask : IVec S512x256 1)
    (hm : ∀ (r : Fin 512) (c : Fin 256), mask (ix2 r c) = BitVec.ofBool (decide (Sees r c ∧ (1 ≤ s.val ∨ 128 ≤ c.val ∨ 0 < b))))
    (x : S1x1x128x256.Idx) (y : S1x1x512x256.Idx) (h2 : (y 2).val = s.val * 128 + (x 2).val) (h3 : (y 3).val = (x 3).val) :
    lay (lseBlock (extractStridedSlice S128x256 ![s.val * 128, 0] (rows x0) hq) (extractStridedSlice S256x256 ![s.val * 128, 0] (ext x2 x1) hk) mask) x
      = lval b (fun p l => x0 (ix4 0 0 p l)) (extAt x2 x1) (y 2) (y 3) := by
  rw [lay_apply]
  refine (block_lse s hq hk _ _ b mask hm (x 2) (x 3)).trans ?_
  rw [show (y 2) = rowAt s (x 2) from Fin.ext h2, show (y 3) = x 3 from Fin.ext h3]
  simp only [rows_apply, ext_apply]

/-- The attention window after the point, at an index. -/
theorem out5_apply (hb : (i 2).val < 32) (y : S1x1x512x256.Idx) :
    out0_5 i x0 x1 x2 x3 x4 y = oval (i 2).val (fun p l => x0 (ix4 0 0 p l)) (extAt x2 x1) (extAt x4 x3) (y 2) (y 3) := by
  rw [out5_eq]
  refine View.canon_apply_of_pieces (Val := Elt Ideal) (S := S1x1x512x256) (e := .f32) (fun y => oval (i 2).val (fun p l => x0 (ix4 0 0 p l)) (extAt x2 x1) (extAt x4 x3) (y 2) (y 3)) _ ?_ y
    (cover0_5 _ _ _ _ y)
  intro p hp
  simp only [List.mem_cons, List.not_mem_nil, or_false] at hp
  rcases hp with rfl | rfl | rfl | rfl <;> intro x
  · exact lay_out x0 x1 x2 x3 x4 3 _ _ _ _ (band_mask 3 (by decide) _) x _ (by simp) (by simp)
  · exact lay_out x0 x1 x2 x3 x4 2 _ _ _ _ (band_mask 2 (by decide) _) x _ (by simp) (by simp)
  · exact lay_out x0 x1 x2 x3 x4 1 _ _ _ _ (band_mask 1 (by decide) _) x _ (by simp) (by simp)
  · exact lay_out x0 x1 x2 x3 x4 0 _ _ _ _ (first_mask _ hb) x _ (by simp) (by simp)

/-- The log-sum window after the point, at an index. -/
theorem out6_apply (hb : (i 2).val < 32) (y : S1x1x512x256.Idx) :
    out0_6 i x0 x1 x2 x3 x4 y = lval (i 2).val (fun p l => x0 (ix4 0 0 p l)) (extAt x2 x1) (y 2) (y 3) := by
  rw [out6_eq]
  refine View.canon_apply_of_pieces (Val := Elt Ideal) (S := S1x1x512x256) (e := .f32) (fun y => lval (i 2).val (fun p l => x0 (ix4 0 0 p l)) (extAt x2 x1) (y 2) (y 3)) _ ?_ y
    (cover0_6 _ _ _ _ y)
  intro p hp
  simp only [List.mem_cons, List.not_mem_nil, or_false] at hp
  rcases hp with rfl | rfl | rfl | rfl <;> intro x
  · exact lay_lse x0 x1 x2 3 _ _ _ _ (band_mask 3 (by decide) _) x _ (by simp) (by simp)
  · exact lay_lse x0 x1 x2 2 _ _ _ _ (band_mask 2 (by decide) _) x _ (by simp) (by simp)
  · exact lay_lse x0 x1 x2 1 _ _ _ _ (band_mask 1 (by decide) _) x _ (by simp) (by simp)
  · exact lay_lse x0 x1 x2 0 _ _ _ _ (first_mask _ hb) x _ (by simp) (by simp)

end Cert.Dilated

end
-- ==== Proof.DilRun.lean ====
/- The dilated group's kernel run: its two result arrays as functions of the argument arrays. Result row `p` of residue `j`
   is token `4 p + j`. -/
module

public import proofs.«01_k».proof.Proof.DilOut
public import Idealize.ShloMosaic.Lib.Claim

@[expose] public section

noncomputable section

namespace Cert.Dilated

open Cert.DilIdeal Cert.DilIdeal.Gen Idealize.ShloMosaic Idealize.ShloMosaic.ValueIdx

variable (m : (ℓ : Loc nD τ sig) → Buf (Elt Ideal) ℓ)

/-- The grid point's coordinates. -/
theorem coords_val : ∀ t : Fin grid0.N, ((grid0.coords t) 0).val = t.val / 8 ∧ ((grid0.coords t) 1).val = t.val / 2 % 4 ∧ ((grid0.coords t) 2).val = t.val % 2 := by
  decide +kernel

theorem index_val : ∀ t : Fin grid0.N,
    win0_0.index t = ![t.val / 8, t.val / 2 % 4, t.val % 2, 0] ∧ win0_1.index t = ![t.val / 8, t.val / 2 % 4, t.val % 2, 0]
    ∧ win0_2.index t = ![t.val / 8, t.val / 2 % 4, t.val % 2 * 4 - 1, 0] ∧ win0_3.index t = ![t.val / 8, t.val / 2 % 4, t.val % 2, 0]
    ∧ win0_4.index t = ![t.val / 8, t.val / 2 % 4, t.val % 2 * 4 - 1, 0] ∧ win0_5.index t = ![t.val / 8, t.val / 2 % 4, t.val % 2, 0]
    ∧ win0_6.index t = ![t.val / 8, t.val / 2 % 4, t.val % 2, 0] := by
  decide +kernel

/-- The extended rows of block `b` of one residue's array: the 128 rows before it, then its own 512. -/
def extRow (b : Fin 2) (e : Fin 640) : Fin 1024 :=
  if e.val < 128 then ⟨(b.val * 4 - 1) * 128 + e.val % 128, by omega⟩ else ⟨b.val * 512 + (e.val - 128), by omega⟩

/-- Row `p` of block `b`. -/
def blkRow (b : Fin 2) (p : Fin 512) : Fin 1024 := ⟨b.val * 512 + p.val, by omega⟩

/-- One residue's attention values from the three prepared arrays. -/
def oarr (q k v : S8x4x1024x256.Idx → EReal) : S8x4x1024x256.Idx → EReal := fun i =>
  have hi : (i 2).val < 1024 := (i 2).isLt
  oval ((i 2).val / 512) (fun p l => q (ix4 (i 0) (i 1) (blkRow ⟨(i 2).val / 512, by omega⟩ p) l))
    (fun e l => k (ix4 (i 0) (i 1) (extRow ⟨(i 2).val / 512, by omega⟩ e) l))
    (fun e l => v (ix4 (i 0) (i 1) (extRow ⟨(i 2).val / 512, by omega⟩ e) l)) ⟨(i 2).val % 512, Nat.mod_lt _ (by norm_num)⟩ (i 3)

/-- One residue's log-sums. -/
def larr (q k : S8x4x1024x256.Idx → EReal) : S8x4x1024x256.Idx → EReal := fun i =>
  have hi : (i 2).val < 1024 := (i 2).isLt
  lval ((i 2).val / 512) (fun p l => q (ix4 (i 0) (i 1) (blkRow ⟨(i 2).val / 512, by omega⟩ p) l))
    (fun e l => k (ix4 (i 0) (i 1) (extRow ⟨(i 2).val / 512, by omega⟩ e) l)) ⟨(i 2).val % 512, Nat.mod_lt _ (by norm_num)⟩ (i 3)

theorem oval_congr {b b' : ℕ} (hb : b = b') {Q Q' : Fin 512 → Fin 256 → EReal} (hQ : ∀ p l, Q p l = Q' p l) {K K' V V' : Fin 640 → Fin 256 → EReal}
    (hK : ∀ e l, K e l = K' e l) (hV : ∀ e l, V e l = V' e l) (p : Fin 512) (l : Fin 256) : oval b Q K V p l = oval b' Q' K' V' p l := by
  rw [hb, show Q = Q' from funext fun p => funext (hQ p), show K = K' from funext fun p => funext (hK p), show V = V' from funext fun p => funext (hV p)]

theorem lval_congr {b b' : ℕ} (hb : b = b') {Q Q' : Fin 512 → Fin 256 → EReal} (hQ : ∀ p l, Q p l = Q' p l) {K K' : Fin 640 → Fin 256 → EReal}
    (hK : ∀ e l, K e l = K' e l) (p : Fin 512) (l : Fin 256) : lval b Q K p l = lval b' Q' K' p l := by
  rw [hb, show Q = Q' from funext fun p => funext (hQ p), show K = K' from funext fun p => funext (hK p)]

theorem oarr_blk (q k v : S8x4x1024x256.Idx → EReal) (b : Fin 8) (j : Fin 4) (kk : Fin 2) (p : Fin 512) (l : Fin 256) :
    oarr q k v (ix4 b j (blkRow kk p) l) = oval kk.val (fun p l => q (ix4 b j (blkRow kk p) l)) (fun e l => k (ix4 b j (extRow kk e) l))
      (fun e l => v (ix4 b j (extRow kk e) l)) p l := by
  have hp := p.isLt
  have hk := kk.isLt
  have hd : (blkRow kk p).val / 512 = kk.val := by simp only [blkRow]; omega
  have hm : (blkRow kk p).val % 512 = p.val := by simp only [blkRow]; omega
  have h2 : (blkRow kk p).val / 512 < 2 := by omega
  have eK : (⟨(blkRow kk p).val / 512, h2⟩ : Fin 2) = kk := Fin.ext hd
  have eP : (⟨(blkRow kk p).val % 512, Nat.mod_lt _ (by norm_num)⟩ : Fin 512) = p := Fin.ext hm
  show oval ((blkRow kk p).val / 512) (fun p' l' => q (ix4 b j (blkRow ⟨(blkRow kk p).val / 512, h2⟩ p') l'))
    (fun e l' => k (ix4 b j (extRow ⟨(blkRow kk p).val / 512, h2⟩ e) l'))
    (fun e l' => v (ix4 b j (extRow ⟨(blkRow kk p).val / 512, h2⟩ e) l')) ⟨(blkRow kk p).val % 512, Nat.mod_lt _ (by norm_num)⟩ l = _
  rw [eK, eP, hd]

theorem larr_blk (q k : S8x4x1024x256.Idx → EReal) (b : Fin 8) (j : Fin 4) (kk : Fin 2) (p : Fin 512) (l : Fin 256) :
    larr q k (ix4 b j (blkRow kk p) l) = lval kk.val (fun p l => q (ix4 b j (blkRow kk p) l)) (fun e l => k (ix4 b j (extRow kk e) l)) p l := by
  have hp := p.isLt
  have hk := kk.isLt
  have hd : (blkRow kk p).val / 512 = kk.val := by simp only [blkRow]; omega
  have hm : (blkRow kk p).val % 512 = p.val := by simp only [blkRow]; omega
  have h2 : (blkRow kk p).val / 512 < 2 := by omega
  have eK : (⟨(blkRow kk p).val / 512, h2⟩ : Fin 2) = kk := Fin.ext hd
  have eP : (⟨(blkRow kk p).val % 512, Nat.mod_lt _ (by norm_num)⟩ : Fin 512) = p := Fin.ext hm
  show lval ((blkRow kk p).val / 512) (fun p' l' => q (ix4 b j (blkRow ⟨(blkRow kk p).val / 512, h2⟩ p') l'))
    (fun e l' => k (ix4 b j (extRow ⟨(blkRow kk p).val / 512, h2⟩ e) l')) ⟨(blkRow kk p).val % 512, Nat.mod_lt _ (by norm_num)⟩ l = _
  rw [eK, eP, hd]

section
variable (c : Dev nD) (t : Fin cfg0.N)

/-- The point's batch, residue and block. -/
def bOf (t : Fin cfg0.N) : Fin 8 := ⟨t.val / 8, by have := t.isLt; have : cfg0.N = 64 := N_0; omega⟩
def jOf (t : Fin cfg0.N) : Fin 4 := ⟨t.val / 2 % 4, Nat.mod_lt _ (by norm_num)⟩
def kOf (t : Fin cfg0.N) : Fin 2 := ⟨t.val % 2, Nat.mod_lt _ (by norm_num)⟩

theorem iblk0_apply (p : Fin 512) (l : Fin 256) :
    (iblk m c 0 t : Vec Ideal S1x1x512x256 .bf16) (ix4 0 0 p l) = V m c main_v4 (ix4 (bOf t) (jOf t) (blkRow (kOf t) p) l) := by
  have hi := (index_val t).1
  unfold iblk
  rw [View.read_apply]
  show V m c main_v4 _ = V m c main_v4 _
  congr 1
  funext a
  apply Fin.ext
  match a with
  | ⟨0, _⟩ => show win0_0.index t 0 * 1 + 1 * 0 = t.val / 8; rw [hi]; simp
  | ⟨1, _⟩ => show win0_0.index t 1 * 1 + 1 * 0 = t.val / 2 % 4; rw [hi]; simp
  | ⟨2, _⟩ => show win0_0.index t 2 * 512 + 1 * p.val = t.val % 2 * 512 + p.val; rw [hi]; simp
  | ⟨3, _⟩ => show win0_0.index t 3 * 256 + 1 * l.val = l.val; rw [hi]; simp

theorem iblk1_apply (p : Fin 512) (l : Fin 256) :
    (iblk m c 1 t : Vec Ideal S1x1x512x256 .bf16) (ix4 0 0 p l) = V m c main_v7 (ix4 (bOf t) (jOf t) (blkRow (kOf t) p) l) := by
  have hi := (index_val t).2.1
  unfold iblk
  rw [View.read_apply]
  show V m c main_v7 _ = V m c main_v7 _
  congr 1
  funext a
  apply Fin.ext
  match a with
  | ⟨0, _⟩ => show win0_1.index t 0 * 1 + 1 * 0 = t.val / 8; rw [hi]; simp
  | ⟨1, _⟩ => show win0_1.index t 1 * 1 + 1 * 0 = t.val / 2 % 4; rw [hi]; simp
  | ⟨2, _⟩ => show win0_1.index t 2 * 512 + 1 * p.val = t.val % 2 * 512 + p.val; rw [hi]; simp
  | ⟨3, _⟩ => show win0_1.index t 3 * 256 + 1 * l.val = l.val; rw [hi]; simp

theorem iblk3_apply (p : Fin 512) (l : Fin 256) :
    (iblk m c 3 t : Vec Ideal S1x1x512x256 .bf16) (ix4 0 0 p l) = V m c main_v10 (ix4 (bOf t) (jOf t) (blkRow (kOf t) p) l) := by
  have hi := (index_val t).2.2.2.1
  unfold iblk
  rw [View.read_apply]
  show V m c main_v10 _ = V m c main_v10 _
  congr 1
  funext a
  apply Fin.ext
  match a with
  | ⟨0, _⟩ => show win0_3.index t 0 * 1 + 1 * 0 = t.val / 8; rw [hi]; simp
  | ⟨1, _⟩ => show win0_3.index t 1 * 1 + 1 * 0 = t.val / 2 % 4; rw [hi]; simp
  | ⟨2, _⟩ => show win0_3.index t 2 * 512 + 1 * p.val = t.val % 2 * 512 + p.val; rw [hi]; simp
  | ⟨3, _⟩ => show win0_3.index t 3 * 256 + 1 * l.val = l.val; rw [hi]; simp

theorem iblk2_apply (e : Fin 640) (he : e.val < 128) (l : Fin 256) :
    (iblk m c 2 t : Vec Ideal S1x1x128x256 .bf16) (ix4 0 0 ⟨e.val, he⟩ l) = V m c main_v7 (ix4 (bOf t) (jOf t) (extRow (kOf t) e) l) := by
  have hi := (index_val t).2.2.1
  unfold iblk
  rw [View.read_apply]
  show V m c main_v7 _ = V m c main_v7 _
  congr 1
  funext a
  apply Fin.ext
  match a with
  | ⟨0, _⟩ => show win0_2.index t 0 * 1 + 1 * 0 = t.val / 8; rw [hi]; simp
  | ⟨1, _⟩ => show win0_2.index t 1 * 1 + 1 * 0 = t.val / 2 % 4; rw [hi]; simp
  | ⟨2, _⟩ => show win0_2.index t 2 * 128 + 1 * e.val = (extRow (kOf t) e).val; rw [hi, extRow, if_pos he]; simp [kOf]; omega
  | ⟨3, _⟩ => show win0_2.index t 3 * 256 + 1 * l.val = l.val; rw [hi]; simp

theorem iblk4_apply (e : Fin 640) (he : e.val < 128) (l : Fin 256) :
    (iblk m c 4 t : Vec Ideal S1x1x128x256 .bf16) (ix4 0 0 ⟨e.val, he⟩ l) = V m c main_v10 (ix4 (bOf t) (jOf t) (extRow (kOf t) e) l) := by
  have hi := (index_val t).2.2.2.2.1
  unfold iblk
  rw [View.read_apply]
  show V m c main_v10 _ = V m c main_v10 _
  congr 1
  funext a
  apply Fin.ext
  match a with
  | ⟨0, _⟩ => show win0_4.index t 0 * 1 + 1 * 0 = t.val / 8; rw [hi]; simp
  | ⟨1, _⟩ => show win0_4.index t 1 * 1 + 1 * 0 = t.val / 2 % 4; rw [hi]; simp
  | ⟨2, _⟩ => show win0_4.index t 2 * 128 + 1 * e.val = (extRow (kOf t) e).val; rw [hi, extRow, if_pos he]; simp [kOf]; omega
  | ⟨3, _⟩ => show win0_4.index t 3 * 256 + 1 * l.val = l.val; rw [hi]; simp

theorem extK (e : Fin 640) (l : Fin 256) :
    extAt (iblk m c 2 t) (iblk m c 1 t) e l = V m c main_v7 (ix4 (bOf t) (jOf t) (extRow (kOf t) e) l) := by
  unfold extAt
  split
  · rename_i h; exact iblk2_apply m c t e h l
  · rename_i h
    refine (iblk1_apply m c t _ l).trans ?_
    rw [extRow, if_neg h]
    rfl

theorem extV (e : Fin 640) (l : Fin 256) :
    extAt (iblk m c 4 t) (iblk m c 3 t) e l = V m c main_v10 (ix4 (bOf t) (jOf t) (extRow (kOf t) e) l) := by
  unfold extAt
  split
  · rename_i h; exact iblk4_apply m c t e h l
  · rename_i h
    refine (iblk3_apply m c t _ l).trans ?_
    rw [extRow, if_neg h]
    rfl

/-- Every point writes back its block of the attention array. -/
theorem flushed5_eq : (dats m 0 c).flushed 5 t = ((cfg0.win 5).blk t).view.read (Elt Ideal) (oarr (V m c main_v4) (V m c main_v7) (V m c main_v10)) := by
  rw [Value.flushed5]
  funext y
  rw [View.read_apply]
  have hc := (coords_val t).2.2
  have hi := (index_val t).2.2.2.2.2.1
  have h2 : (y 2).val < 512 := (y 2).isLt
  refine (out5_apply (grid0.coords t) _ _ _ _ _ (by omega) y).trans ?_
  have e0 : (y 0).val = 0 := by have : (y 0).val < 1 := (y 0).isLt; omega
  have e1 : (y 1).val = 0 := by have : (y 1).val < 1 := (y 1).isLt; omega
  have he : ((cfg0.win 5).blk t).view.emb y = (ix4 (bOf t) (jOf t) (blkRow (kOf t) (y 2)) (y 3) : S8x4x1024x256.Idx) := by
    funext a
    apply Fin.ext
    match a with
    | ⟨0, _⟩ => show win0_5.index t 0 * 1 + 1 * (y 0).val = t.val / 8; rw [hi, e0]; simp
    | ⟨1, _⟩ => show win0_5.index t 1 * 1 + 1 * (y 1).val = t.val / 2 % 4; rw [hi, e1]; simp
    | ⟨2, _⟩ => show win0_5.index t 2 * 512 + 1 * (y 2).val = t.val % 2 * 512 + (y 2).val; rw [hi]; simp
    | ⟨3, _⟩ => show win0_5.index t 3 * 256 + 1 * (y 3).val = (y 3).val; rw [hi]; simp
  show _ = oarr _ _ _ (((cfg0.win 5).blk t).view.emb y)
  rw [he]
  refine Eq.trans ?_ (oarr_blk (V m c main_v4) (V m c main_v7) (V m c main_v10) (bOf t) (jOf t) (kOf t) (y 2) (y 3)).symm
  exact oval_congr hc (iblk0_apply m c t) (extK m c t) (extV m c t) _ _

/-- Every point writes back its block of the log-sum array. -/
theorem flushed6_eq : (dats m 0 c).flushed 6 t = ((cfg0.win 6).blk t).view.read (Elt Ideal) (larr (V m c main_v4) (V m c main_v7)) := by
  rw [Value.flushed6]
  funext y
  rw [View.read_apply]
  have hc := (coords_val t).2.2
  have hi := (index_val t).2.2.2.2.2.2
  have h2 : (y 2).val < 512 := (y 2).isLt
  refine (out6_apply (grid0.coords t) _ _ _ _ _ (by omega) y).trans ?_
  have e0 : (y 0).val = 0 := by have : (y 0).val < 1 := (y 0).isLt; omega
  have e1 : (y 1).val = 0 := by have : (y 1).val < 1 := (y 1).isLt; omega
  have he : ((cfg0.win 6).blk t).view.emb y = (ix4 (bOf t) (jOf t) (blkRow (kOf t) (y 2)) (y 3) : S8x4x1024x256.Idx) := by
    funext a
    apply Fin.ext
    match a with
    | ⟨0, _⟩ => show win0_6.index t 0 * 1 + 1 * (y 0).val = t.val / 8; rw [hi, e0]; simp
    | ⟨1, _⟩ => show win0_6.index t 1 * 1 + 1 * (y 1).val = t.val / 2 % 4; rw [hi, e1]; simp
    | ⟨2, _⟩ => show win0_6.index t 2 * 512 + 1 * (y 2).val = t.val % 2 * 512 + (y 2).val; rw [hi]; simp
    | ⟨3, _⟩ => show win0_6.index t 3 * 256 + 1 * (y 3).val = (y 3).val; rw [hi]; simp
  show _ = larr _ _ (((cfg0.win 6).blk t).view.emb y)
  rw [he]
  refine Eq.trans ?_ (larr_blk (V m c main_v4) (V m c main_v7) (bOf t) (jOf t) (kOf t) (y 2) (y 3)).symm
  exact lval_congr hc (iblk0_apply m c t) (extK m c t) _ _

/-- The point whose block holds index `i`. -/
def pointOf (i : S8x4x1024x256.Idx) : Fin cfg0.N :=
  ⟨(i 0).val * 8 + (i 1).val * 2 + (i 2).val / 512, by
    have h0 : (i 0).val < 8 := (i 0).isLt
    have h1 : (i 1).val < 4 := (i 1).isLt
    have h2 : (i 2).val < 1024 := (i 2).isLt
    have : cfg0.N = 64 := N_0
    omega⟩

/-- The attention array after the run. -/
theorem final5 : (dats m 0 c).arrAt 5 cfg0.N = oarr (V m c main_v4) (V m c main_v7) (V m c main_v10) :=
  (dats m 0 c).arrAt_eq_of_cover 5 (oarr (V m c main_v4) (V m c main_v7) (V m c main_v10)) (fun t _ => flushed5_eq m c t) fun i =>
    ⟨pointOf i, flush0_5 _, by
      have h0 : (i 0).val < 8 := (i 0).isLt
      have h1 : (i 1).val < 4 := (i 1).isLt
      have h2 : (i 2).val < 1024 := (i 2).isLt
      have h3 : (i 3).val < 256 := (i 3).isLt
      have hi := (index_val (pointOf i)).2.2.2.2.2.1
      have hp : (pointOf i).val = (i 0).val * 8 + (i 1).val * 2 + (i 2).val / 512 := rfl
      show i ∈ ((View.whole main_v11_0).slice (win0_5.rect (pointOf i))).set
      rw [View.set_slice_whole, Rect.mem_set_unit]
      intro a
      match a with
      | ⟨0, _⟩ => show win0_5.index (pointOf i) 0 * 1 ≤ (i 0).val ∧ (i 0).val < win0_5.index (pointOf i) 0 * 1 + 1
                  rw [hi]; simp; omega
      | ⟨1, _⟩ => show win0_5.index (pointOf i) 1 * 1 ≤ (i 1).val ∧ (i 1).val < win0_5.index (pointOf i) 1 * 1 + 1
                  rw [hi]; simp; omega
      | ⟨2, _⟩ => show win0_5.index (pointOf i) 2 * 512 ≤ (i 2).val ∧ (i 2).val < win0_5.index (pointOf i) 2 * 512 + 512
                  rw [hi]; simp; omega
      | ⟨3, _⟩ => show win0_5.index (pointOf i) 3 * 256 ≤ (i 3).val ∧ (i 3).val < win0_5.index (pointOf i) 3 * 256 + 256
                  rw [hi]; simp; omega⟩

/-- The log-sum array after the run. -/
theorem final6 : (dats m 0 c).arrAt 6 cfg0.N = larr (V m c main_v4) (V m c main_v7) :=
  (dats m 0 c).arrAt_eq_of_cover 6 (larr (V m c main_v4) (V m c main_v7)) (fun t _ => flushed6_eq m c t) fun i =>
    ⟨pointOf i, flush0_6 _, by
      have h0 : (i 0).val < 8 := (i 0).isLt
      have h1 : (i 1).val < 4 := (i 1).isLt
      have h2 : (i 2).val < 1024 := (i 2).isLt
      have h3 : (i 3).val < 256 := (i 3).isLt
      have hi := (index_val (pointOf i)).2.2.2.2.2.2
      have hp : (pointOf i).val = (i 0).val * 8 + (i 1).val * 2 + (i 2).val / 512 := rfl
      show i ∈ ((View.whole main_v11_1).slice (win0_6.rect (pointOf i))).set
      rw [View.set_slice_whole, Rect.mem_set_unit]
      intro a
      match a with
      | ⟨0, _⟩ => show win0_6.index (pointOf i) 0 * 1 ≤ (i 0).val ∧ (i 0).val < win0_6.index (pointOf i) 0 * 1 + 1
                  rw [hi]; simp; omega
      | ⟨1, _⟩ => show win0_6.index (pointOf i) 1 * 1 ≤ (i 1).val ∧ (i 1).val < win0_6.index (pointOf i) 1 * 1 + 1
                  rw [hi]; simp; omega
      | ⟨2, _⟩ => show win0_6.index (pointOf i) 2 * 512 ≤ (i 2).val ∧ (i 2).val < win0_6.index (pointOf i) 2 * 512 + 512
                  rw [hi]; simp; omega
      | ⟨3, _⟩ => show win0_6.index (pointOf i) 3 * 256 ≤ (i 3).val ∧ (i 3).val < win0_6.index (pointOf i) 3 * 256 + 256
                  rw [hi]; simp; omega⟩

end

/-! ## The prepared arrays -/

/-- Token `4 p + j`. -/
def tok (j : Fin 4) (p : Fin 1024) : Fin 4096 := ⟨p.val * 4 + j.val, by omega⟩

/-- The lane within its head. -/
def laneIx (l : Fin 256) : Fin 64 := ⟨l.val % 64, Nat.mod_lt _ (by norm_num)⟩

theorem split_apply {φ : FTy} (x : FVec Ideal S8x4096x4x64 φ) (b : Fin 8) (j : Fin 4) (p : Fin 1024) (l : Fin 256) :
    transpose S8x4x1024x256 [0, 2, 1, 3] (shapeCast S8x1024x4x256 x (by decide)) (by decide) (ix4 b j p l) = x (ix4 b (tok j p) (headIx l) (laneIx l)) := by
  rw [transpose_apply _ _ _ _ (ix4 b p j l) (by intro a; fin_cases a <;> rfl)]
  refine shapeCast_apply _ _ _ _ ?_
  rw [Shape.rowMajor_val_four, Shape.rowMajor_val_four]
  change ((b.val * 4096 + (p.val * 4 + j.val)) * 4 + l.val / 64) * 64 + l.val % 64 = ((b.val * 1024 + p.val) * 4 + j.val) * 256 + l.val
  omega

variable (c : Dev nD)

/-- The three arguments. -/
abbrev qArg : S8x4096x4x64.Idx → EReal := m (c.tc.loc main_arg0)
abbrev kArg : S8x4096x4x64.Idx → EReal := m (c.tc.loc main_arg1)
abbrev vArg : S8x4096x4x64.Idx → EReal := m (c.tc.loc main_arg2)

theorem qarr_apply (b : Fin 8) (j : Fin 4) (p : Fin 1024) (l : Fin 256) :
    (V m c main_v4 : S8x4x1024x256.Idx → EReal) (ix4 b j p l)
      = qArg m c (ix4 b (tok j p) (headIx l) (laneIx l)) * Ideal.ofBits .f32 0x3E000000#32 := by
  entry_read
  exact split_apply (φ := .f32) (mulf (m (c.tc.loc main_arg0)) (broadcastInDim S8x4096x4x64 ![] bcast_S_S8x4096x4x64 (constant S_ .f32 0x3E000000#32))) b j p l

theorem karr_apply (b : Fin 8) (j : Fin 4) (p : Fin 1024) (l : Fin 256) :
    (V m c main_v7 : S8x4x1024x256.Idx → EReal) (ix4 b j p l) = kArg m c (ix4 b (tok j p) (headIx l) (laneIx l)) := by
  entry_read
  exact split_apply (φ := .f32) _ b j p l

theorem varr_apply (b : Fin 8) (j : Fin 4) (p : Fin 1024) (l : Fin 256) :
    (V m c main_v10 : S8x4x1024x256.Idx → EReal) (ix4 b j p l) = vArg m c (ix4 b (tok j p) (headIx l) (laneIx l)) := by
  entry_read
  exact split_apply (φ := .f32) _ b j p l

end Cert.Dilated

end
-- ==== Proof.DilRef.lean ====
/- The dilated group's reference, read at an index: query `t` and its 129 keys at distances `0, 4, 8, …, 512`, gathered; the
   softmax of its masked logits; the weighted values and the log-sum. -/
module

public import proofs.«01_k».proof.Proof.Softmax
public import proofs.«01_k».proof.Proof.Gen.DilRefIdeal.Read
public import Idealize.ShloMosaic.Lib.WordCmp
public import Idealize.ShloMosaic.Lib.IdealHost
public import Idealize.ShloMosaic.Lib.KernelVsHost

@[expose] public section

noncomputable section

namespace Cert.DilatedRef

open Cert.DilRefIdeal Cert.DilRefIdeal.Gen Cert.DilRefIdeal.Read Idealize.ShloMosaic Idealize.ShloMosaic.ValueIdx

/-! ## The gathered positions -/

/-- The signed value of `t - d j`. -/
theorem pos_toInt (t d j : ℕ) (ht : t < 4096) (hd : d ≤ 16) (hj : j < 129) :
    (BitVec.ofNat 32 t - BitVec.ofNat 32 d * BitVec.ofNat 32 j).toInt = (t : ℤ) - ((d * j : ℕ) : ℤ) := by
  have h : d * j ≤ 16 * 128 := Nat.mul_le_mul hd (by omega)
  rw [← BitVec.ofNat_mul, BitVec.toInt_sub, BitVec.toInt_ofNat', BitVec.toInt_ofNat']
  generalize d * j = e at h ⊢
  simp only [Int.bmod_def]
  omega

/-- A small number's word, read signed. -/
theorem small_toInt (e : ℕ) (he : e < 4096) : (BitVec.ofNat 32 e).toInt = (e : ℤ) := by
  rw [BitVec.toInt_ofNat']
  simp only [Int.bmod_def]
  omega

/-- The clipped position, as a word. -/
theorem clip (t d j : ℕ) (ht : t < 4096) (hd : d ≤ 16) (hj : j < 129) :
    IntOp.maxsi (BitVec.ofNat 32 t - BitVec.ofNat 32 d * BitVec.ofNat 32 j) 0#32 = BitVec.ofNat 32 (t - d * j) := by
  have hp := pos_toInt t d j ht hd hj
  have hs := small_toInt (t - d * j) (by omega)
  unfold IntOp.maxsi
  rw [BitVec.slt_eq_decide]
  apply BitVec.eq_of_toInt_eq
  rw [hs]
  by_cases hc : (0#32).toInt < (BitVec.ofNat 32 t - BitVec.ofNat 32 d * BitVec.ofNat 32 j).toInt
  · rw [if_pos (decide_eq_true hc), hp]
    rw [hp] at hc
    simp only [BitVec.toInt_zero] at hc
    omega
  · rw [if_neg (fun h => hc (of_decide_eq_true h))]
    rw [hp] at hc
    simp only [BitVec.toInt_zero] at hc ⊢
    omega

theorem valid_apply (t : Fin 4096) (j : Fin 129) : val_main_v10 (F := Ideal) (ix2 t j) = BitVec.ofBool (decide (4 * j.val ≤ t.val)) := by
  have hp := pos_toInt t.val 4 j.val t.isLt (by norm_num) j.isLt
  rw [val_main_v10_apply, val_main_v8_apply, val_main_v9_apply, val_main_c_0_apply, val_main_v6_apply, val_main_v1_apply, val_main_v0_apply,
    val_main_v7_apply, val_main_v5_apply, val_main_v4_apply, val_main_c_apply, val_main_v3_apply, val_main_v2_apply]
  change BitVec.ofBool (decide ((0#32).toInt ≤ (BitVec.ofNat 32 t.val - BitVec.ofNat 32 4 * BitVec.ofNat 32 j.val).toInt)) = _
  rw [hp]
  congr 1
  refine decide_eq_decide.mpr ?_
  simp only [BitVec.toInt_zero]
  omega

/-- The token at distance `4 j` before `t`, clipped to the first. -/
def at_ (t : Fin 4096) (j : Fin 129) : Fin 4096 := ⟨t.val - 4 * j.val, by omega⟩

theorem start12 (t : Fin 4096) (j : Fin 129) : val_main_v12 (F := Ideal) (ix2 t j) = BitVec.ofNat 32 (t.val - 4 * j.val) := by
  rw [val_main_v12_apply, val_main_v8_apply, val_main_v11_apply, val_main_c_1_apply, val_main_v6_apply, val_main_v1_apply, val_main_v0_apply,
    val_main_v7_apply, val_main_v5_apply, val_main_v4_apply, val_main_c_apply, val_main_v3_apply, val_main_v2_apply]
  exact clip t.val 4 j.val t.isLt (by norm_num) j.isLt

theorem start17 (t : Fin 4096) (j : Fin 129) : val_main_v17 (F := Ideal) (ix2 t j) = BitVec.ofNat 32 (t.val - 4 * j.val) := by
  have ht := t.isLt
  rw [val_main_v17_apply, val_main_v14_apply, val_main_v13_apply, val_main_c_2_apply, start12]
  rw [show (0#32) = BitVec.ofNat 32 0 from rfl, WordCmp.cmpi_slt_ofNat (by norm_num; omega) (by norm_num), WordCmp.select_ofBool]
  simp

theorem start24 (t : Fin 4096) (j : Fin 129) : val_main_v24 (F := Ideal) (ix2 t j) = BitVec.ofNat 32 (t.val - 4 * j.val) := by
  have ht := t.isLt
  rw [val_main_v24_apply, val_main_v21_apply, val_main_v20_apply, val_main_c_4_apply, start12]
  rw [show (0#32) = BitVec.ofNat 32 0 from rfl, WordCmp.cmpi_slt_ofNat (by norm_num; omega) (by norm_num), WordCmp.select_ofBool]
  simp

/-- The gather along tokens, read at an index: the operand at the token its index array names. -/
theorem gather_at (x : S8x4096x4x64.Idx → EReal) (idx : IVec S4096x129x1 32) (b : Fin 8) (t : Fin 4096) (j : Fin 129) (h : Fin 4) (d : Fin 64)
    (n : Fin 4096) (hn : idx (ix3 t j 0) = BitVec.ofNat 32 n.val) :
    Host.gather gather_S8x4096x4x64_S4096x129x1_S8x4096x129x4x64_034_1_n_n_1_2_81464 x idx (ix5 b t j h d) = x (ix4 b n h d) := by
  have hlt := n.isLt
  unfold Host.gather
  congr 1
  funext a
  refine Fin.ext ?_
  have hk0 : ∀ a : Fin 4, a ≠ 1 → a ∈ (gather_S8x4096x4x64_S4096x129x1_S8x4096x129x4x64_034_1_n_n_1_2_81464).sKept := fun a ha =>
    (GatherDims.mem_sKept _ _).mpr ⟨fun hm => ha (List.mem_singleton.mp hm), List.not_mem_nil⟩
  have hm0 : ∀ a : Fin 4, a ≠ 1 → a ∉ (gather_S8x4096x4x64_S4096x129x1_S8x4096x129x4x64_034_1_n_n_1_2_81464).startIndexMap := fun a ha hm =>
    ha (List.mem_singleton.mp hm)
  have hoff : ∀ (a : Fin 4), a ≠ 1 → ((gather_S8x4096x4x64_S4096x129x1_S8x4096x129x4x64_034_1_n_n_1_2_81464).operandIdx (ix5 b t j h d) idx a).val
      = (gather_S8x4096x4x64_S4096x129x1_S8x4096x129x4x64_034_1_n_n_1_2_81464).offCoord (ix5 b t j h d) a := fun a ha => by
    have hs : (gather_S8x4096x4x64_S4096x129x1_S8x4096x129x4x64_034_1_n_n_1_2_81464).start (ix5 b t j h d) idx a = 0 := by
      unfold GatherDims.start
      rw [dif_neg (hm0 a ha)]
    have hc := (gather_S8x4096x4x64_S4096x129x1_S8x4096x129x4x64_034_1_n_n_1_2_81464).batchCoord_eq_zero (ix5 b t j h d) a List.not_mem_nil
    show _ + _ + _ = _
    rw [hs, hc]
    omega
  fin_cases a
  · refine (hoff 0 (by decide)).trans ?_
    unfold GatherDims.offCoord
    rw [dif_pos (hk0 0 (by decide))]
    rfl
  · show (gather_S8x4096x4x64_S4096x129x1_S8x4096x129x4x64_034_1_n_n_1_2_81464).start (ix5 b t j h d) idx 1
      + (gather_S8x4096x4x64_S4096x129x1_S8x4096x129x4x64_034_1_n_n_1_2_81464).batchCoord (ix5 b t j h d) 1
      + (gather_S8x4096x4x64_S4096x129x1_S8x4096x129x4x64_034_1_n_n_1_2_81464).offCoord (ix5 b t j h d) 1 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 4) ∈ (gather_S8x4096x4x64_S4096x129x1_S8x4096x129x4x64_034_1_n_n_1_2_81464).startIndexMap from List.mem_singleton.mpr rfl)]
    have hsi : (gather_S8x4096x4x64_S4096x129x1_S8x4096x129x4x64_034_1_n_n_1_2_81464).siIdx (ix5 b t j h d)
        ⟨List.idxOf (1 : Fin 4) (gather_S8x4096x4x64_S4096x129x1_S8x4096x129x4x64_034_1_n_n_1_2_81464).startIndexMap,
          List.idxOf_lt_length_iff.2 (List.mem_singleton.mpr rfl)⟩ = ix3 t j 0 := by
      funext c
      refine Fin.ext ?_
      match c with
      | ⟨0, _⟩ => rfl
      | ⟨1, _⟩ => rfl
      | ⟨2, _⟩ => rfl
    rw [hsi, hn, small_toInt n.val hlt]
    show min ((n.val : ℤ)).toNat 4095 = n.val
    omega
  · refine (hoff 2 (by decide)).trans ?_
    unfold GatherDims.offCoord
    rw [dif_pos (hk0 2 (by decide))]
    rfl
  · refine (hoff 3 (by decide)).trans ?_
    unfold GatherDims.offCoord
    rw [dif_pos (hk0 3 (by decide))]
    rfl

variable (q k v : S8x4096x4x64.Idx → EReal)

theorem kg_apply (b : Fin 8) (t : Fin 4096) (j : Fin 129) (h : Fin 4) (d : Fin 64) :
    val_main_v19 (F := Ideal) k (ix5 b t j h d) = k (ix4 b (at_ t j) h d) := by
  refine gather_at k _ b t j h d (at_ t j) ?_
  rw [val_main_v18_apply]
  exact start17 t j

theorem vg_apply (b : Fin 8) (t : Fin 4096) (j : Fin 129) (h : Fin 4) (d : Fin 64) :
    val_main_v26 (F := Ideal) v (ix5 b t j h d) = v (ix4 b (at_ t j) h d) := by
  refine gather_at v _ b t j h d (at_ t j) ?_
  rw [val_main_v25_apply]
  exact start24 t j

/-! ## The softmax -/

/-- The scaling of the logits. -/
abbrev scale : EReal := Ideal.ofBits .f32 0x3E000000#32

/-- The masked logit of query `t` at distance `4 j`. -/
def rlgt (b : Fin 8) (t : Fin 4096) (h : Fin 4) (j : Fin 129) : EReal :=
  if 4 * j.val ≤ t.val then (∑ d : Fin 64, q (ix4 b t h d) * k (ix4 b (at_ t j) h d)) * scale else ⊥

theorem logits_apply (b : Fin 8) (t : Fin 4096) (h : Fin 4) (j : Fin 129) : val_main_v31 (F := Ideal) q k (ix4 b t h j) = rlgt q k b t h j := by
  have hv : val_main_call0_v1 (F := Ideal) (ix4 b t h j) = BitVec.ofBool (decide (4 * j.val ≤ t.val)) := by
    rw [val_main_call0_v1_apply, val_main_v30_apply]
    exact valid_apply t j
  rw [val_main_v31_apply, hv, WordCmp.select_ofBool, val_main_v29_apply, val_main_v27_apply, val_main_v28_apply, val_main_cst_apply,
    val_main_call0_v2_apply, val_main_call0_v0_apply, val_main_cst_6_apply, rlgt]
  simp only [decide_eq_true_eq]
  congr 1
  · refine congrArg (· * scale) (Finset.sum_congr rfl fun d _ => ?_)
    rw [show lidx_main_v27 (ix4 b t h j) d = ix4 b t h d from by funext a; fin_cases a <;> rfl,
      show ridx_main_v27 (ix4 b t h j) d = ix5 b t j h d from by funext a; fin_cases a <;> rfl, kg_apply]

/-- A row's maximum. -/
theorem hostMax_apply (x : FVec Ideal S8x4096x4x129 .f32) (b : Fin 8) (t : Fin 4096) (h : Fin 4) :
    Host.reduce FloatOps.maximumf x (constant (F := Ideal) S_ .f32 0xFF800000#32) reducesTo_S8x4096x4x129_S8x4096x4_d3 h_S_ (ix3 b t h)
      = Softmax.rmax fun j : Fin 129 => x (ix4 b t h j) := by
  have hr : S8x4096x4x129.Reduces [3] S8x4096x4 := by decide
  rw [hostReduce_maximumf_eq_multiReduction x 0xFF800000#32 reducesTo_S8x4096x4x129_S8x4096x4_d3 h_S_ hr (.inl rfl) rfl]
  refine (Ideal.multiReduction_maximumf_single (a := 3) x _ _ _ _ _).trans ?_
  rw [Softmax.rmax, show (FloatOps.ofBits FTy.f32 0xFF800000#32 : Ideal .f32) = ⊥ from Softmax.ofBits_bot]
  congr 1
  funext j
  exact congrArg x (by funext a; fin_cases a <;> rfl)

theorem max_apply (b : Fin 8) (t : Fin 4096) (h : Fin 4) : val_main_v32 (F := Ideal) q k (ix3 b t h) = Softmax.rmax (rlgt q k b t h) := by
  unfold val_main_v32 val_main_cst_7
  refine (hostMax_apply (val_main_v31 (F := Ideal) q k) b t h).trans (congrArg Softmax.rmax (funext fun j => ?_))
  exact logits_apply q k b t h j

/-- The index under two broadcasts along the distances. -/
theorem under34 (b : Fin 8) (t : Fin 4096) (h : Fin 4) (j : Fin 129) : idx_main_v33 (idx_main_v34 (ix4 b t h j)) = ix3 b t h := by
  funext a; fin_cases a <;> rfl

theorem under39 (b : Fin 8) (t : Fin 4096) (h : Fin 4) (j : Fin 129) : idx_main_v38 (idx_main_v39 (ix4 b t h j)) = ix3 b t h := by
  funext a; fin_cases a <;> rfl

theorem under37 (b : Fin 8) (t : Fin 4096) (h : Fin 4) (j : Fin 129) : idx_main_v37 (ix3 b t h) j = ix4 b t h j := by
  funext a; fin_cases a <;> rfl

theorem exp_apply (b : Fin 8) (t : Fin 4096) (h : Fin 4) (j : Fin 129) :
    val_main_v36 (F := Ideal) q k (ix4 b t h j) = Ideal.exp (rlgt q k b t h j - Softmax.rmax (rlgt q k b t h)) := by
  rw [val_main_v36_apply, val_main_v35_apply, logits_apply, val_main_v34_apply, val_main_v33_apply, under34, max_apply]
  rfl

theorem den_apply (b : Fin 8) (t : Fin 4096) (h : Fin 4) :
    val_main_v37 (F := Ideal) q k (ix3 b t h) = Softmax.rden (Softmax.rmax (rlgt q k b t h)) (rlgt q k b t h) := by
  rw [val_main_v37_apply, val_main_cst_8_apply]
  refine (congrArg₂ (· + ·) Ideal.ofBits_zero_f32 (Finset.sum_congr rfl fun j _ => ?_)).trans (zero_add _)
  rw [under37]
  exact exp_apply q k b t h j

/-- The reference's attention value at query `t`, head `h`, lane `d`. -/
def rout (b : Fin 8) (t : Fin 4096) (h : Fin 4) (d : Fin 64) : EReal :=
  ∑ j : Fin 129, Ideal.div (Ideal.exp (rlgt q k b t h j - Softmax.rmax (rlgt q k b t h)))
    (Softmax.rden (Softmax.rmax (rlgt q k b t h)) (rlgt q k b t h)) * v (ix4 b (at_ t j) h d)

/-- The reference's log-sum at query `t`, head `h`. -/
def rlse (b : Fin 8) (t : Fin 4096) (h : Fin 4) : EReal :=
  Softmax.rmax (rlgt q k b t h) + Ideal.log (Softmax.rden (Softmax.rmax (rlgt q k b t h)) (rlgt q k b t h))

theorem out_apply (b : Fin 8) (t : Fin 4096) (h : Fin 4) (d : Fin 64) : val_main_v41 (F := Ideal) q k v (ix4 b t h d) = rout q k v b t h d := by
  rw [val_main_v41_apply, rout]
  refine Finset.sum_congr rfl fun j _ => ?_
  rw [show lidx_main_v41 (ix4 b t h d) j = ix4 b t h j from by funext a; fin_cases a <;> rfl,
    show ridx_main_v41 (ix4 b t h d) j = ix5 b t j h d from by funext a; fin_cases a <;> rfl, vg_apply, val_main_v40_apply, exp_apply,
    val_main_v39_apply, val_main_v38_apply, under39, den_apply]
  rfl

theorem under42 (b : Fin 8) (t : Fin 4096) (h : Fin 4) : idx_main_v33 (idx_main_v42 (ix3 b t h)) = ix3 b t h := by
  have hb := b.isLt
  have ht := t.isLt
  have hh := h.isLt
  funext a
  refine Fin.ext ?_
  match a with
  | ⟨0, _⟩ => show ((b.val * 4096 + t.val) * 4 + h.val) / 16384 = b.val; omega
  | ⟨1, _⟩ => show ((b.val * 4096 + t.val) * 4 + h.val) / 4 % 4096 = t.val; omega
  | ⟨2, _⟩ => show ((b.val * 4096 + t.val) * 4 + h.val) / 1 % 4 = h.val; omega

theorem lse_apply (b : Fin 8) (t : Fin 4096) (h : Fin 4) : val_main_v44 (F := Ideal) q k (ix3 b t h) = rlse q k b t h := by
  rw [val_main_v44_apply, val_main_v43_apply, den_apply, val_main_v42_apply, val_main_v33_apply, under42, max_apply, rlse]
  rfl

/-! ## The results' layout -/

/-- The token at place `p` of residue `j`, and its index before the split into residues. -/
theorem under46 (b : Fin 8) (j : Fin 4) (p : Fin 1024) (l : Fin 256) :
    idx_main_v45 (idx_main_v46 (ix4 b j p l)) = ix4 b (⟨p.val * 4 + j.val, by omega⟩ : Fin 4096) (⟨l.val / 64, by omega⟩ : Fin 4) (⟨l.val % 64, by omega⟩ : Fin 64) := by
  have hb := b.isLt
  have hj := j.isLt
  have hp := p.isLt
  have hl := l.isLt
  funext a
  refine Fin.ext ?_
  match a with
  | ⟨0, _⟩ => show (((b.val * 1024 + p.val) * 4 + j.val) * 256 + l.val) / 1048576 = b.val; omega
  | ⟨1, _⟩ => show (((b.val * 1024 + p.val) * 4 + j.val) * 256 + l.val) / 256 % 4096 = p.val * 4 + j.val; omega
  | ⟨2, _⟩ => show (((b.val * 1024 + p.val) * 4 + j.val) * 256 + l.val) / 64 % 4 = l.val / 64; omega
  | ⟨3, _⟩ => show (((b.val * 1024 + p.val) * 4 + j.val) * 256 + l.val) % 64 = l.val % 64; omega

theorem under50 (b : Fin 8) (j : Fin 4) (p : Fin 1024) (l : Fin 256) :
    idx_main_v47 (idx_main_v48 (idx_main_v49 (idx_main_v50 (ix4 b j p l)))) = ix3 b (⟨p.val * 4 + j.val, by omega⟩ : Fin 4096) (⟨l.val / 64, by omega⟩ : Fin 4) := by
  have hb := b.isLt
  have hj := j.isLt
  have hp := p.isLt
  have hl := l.isLt
  funext a
  refine Fin.ext ?_
  match a with
  | ⟨0, _⟩ => show (((b.val * 1024 + p.val) * 4 + j.val) * 256 + l.val) / 1048576 = b.val; omega
  | ⟨1, _⟩ => show (((b.val * 1024 + p.val) * 4 + j.val) * 256 + l.val) / 256 % 4096 = p.val * 4 + j.val; omega
  | ⟨2, _⟩ => show (((b.val * 1024 + p.val) * 4 + j.val) * 256 + l.val) / 64 % 4 = l.val / 64; omega

theorem res46_apply (b : Fin 8) (j : Fin 4) (p : Fin 1024) (l : Fin 256) :
    val_main_v46 (F := Ideal) q k v (ix4 b j p l) = rout q k v b ⟨p.val * 4 + j.val, by omega⟩ ⟨l.val / 64, by omega⟩ ⟨l.val % 64, by omega⟩ := by
  rw [val_main_v46_apply, val_main_v45_apply, under46, out_apply]

theorem res50_apply (b : Fin 8) (j : Fin 4) (p : Fin 1024) (l : Fin 256) :
    val_main_v50 (F := Ideal) q k (ix4 b j p l) = rlse q k b ⟨p.val * 4 + j.val, by omega⟩ ⟨l.val / 64, by omega⟩ := by
  rw [val_main_v50_apply, val_main_v49_apply, val_main_v48_apply, val_main_v47_apply, under50, lse_apply]

end Cert.DilatedRef

end
-- ==== Proof.DilEq.lean ====
/- The dilated group's two sides meet: a block's 256 keys of one residue, masked to a band, are the 129 keys at distances
   `0, 4, …, 512` of the reference, so the two softmaxes have the same unmasked logits and values. -/
module

public import proofs.«01_k».proof.Proof.DilRun
public import proofs.«01_k».proof.Proof.DilRef

@[expose] public section

noncomputable section

namespace Cert.DilatedEq

open Idealize.ShloMosaic Idealize.ShloMosaic.ValueIdx Cert.Dilated Cert.DilatedRef

/-- The queries', keys' and values' shape. -/
abbrev Arg : Type := (⟨4, ![8, 4096, 4, 64]⟩ : Shape).Idx → EReal

/-- Neither infinity. -/
abbrev Fin' (x : EReal) : Prop := x ≠ ⊤ ∧ x ≠ ⊥

/-- The scale is one eighth. -/
theorem scale_eq : scale = (((1 : ℝ) / 8 : ℝ) : EReal) := by
  simp [scale, Ideal.ofBits, Ideal.ieee]
  rw [← EReal.coe_mul]
  norm_num

theorem scale_nonneg : 0 ≤ scale := by
  rw [scale_eq]
  exact EReal.coe_nonneg.2 (by norm_num)

theorem scale_ne_top : scale ≠ ⊤ := by
  rw [scale_eq]
  exact EReal.coe_ne_top _

theorem scale_finite : Fin' scale := by
  rw [scale_eq]
  exact ⟨EReal.coe_ne_top _, EReal.coe_ne_bot _⟩

variable (q k v : Arg) (hq : ∀ i, Fin' (q i)) (hk : ∀ i, Fin' (k i))

section Row

variable (b : Fin 8) (j : Fin 4) (kk : Fin 2) (p : Fin 512)

/-- The row's token. -/
abbrev tk : Fin 4096 := ⟨(blkRow kk p).val * 4 + j.val, by have := (blkRow kk p).isLt; omega⟩

/-- The block's queries, keys and values, from the arguments. -/
abbrev qB : Fin 512 → Fin 256 → EReal := fun p l => q (ix4 b (tok j (blkRow kk p)) (headIx l) (laneIx l)) * scale
abbrev kB : Fin 640 → Fin 256 → EReal := fun e l => k (ix4 b (tok j (extRow kk e)) (headIx l) (laneIx l))

/-- The distance of a block's key, in steps of the dilation. -/
def dist (c : Fin 256) : Fin 129 := ⟨min 128 (128 + p.val % 128 - c.val), by omega⟩

theorem headIx_lane (h : Fin 4) (d : Fin 64) : headIx (lane h d) = h := Fin.ext (by simp only [headIx, lane]; omega)

theorem laneIx_lane (h : Fin 4) (d : Fin 64) : laneIx (lane h d) = d := Fin.ext (by simp only [laneIx, lane]; omega)

/-- A seen key's distance reaches back to a token. -/
theorem seen_le (c : Fin 256) (hc : Sees p c ∧ (128 ≤ p.val ∨ 128 ≤ c.val ∨ 0 < kk.val)) : 4 * (dist p c).val ≤ (tk j kk p).val := by
  obtain ⟨⟨h1, h2⟩, h3⟩ := hc
  simp only [dist, blkRow]
  omega

/-- A seen key's row is the token at its distance. -/
theorem seen_tok (c : Fin 256) (hc : Sees p c ∧ (128 ≤ p.val ∨ 128 ≤ c.val ∨ 0 < kk.val)) :
    tok j (extRow kk ⟨p.val / 128 * 128 + c.val, by omega⟩) = at_ (tk j kk p) (dist p c) := by
  obtain ⟨⟨h1, h2⟩, h3⟩ := hc
  refine Fin.ext ?_
  simp only [tok, at_, dist, blkRow, extRow]
  split
  · show ((kk.val * 4 - 1) * 128 + (p.val / 128 * 128 + c.val) % 128) * 4 + j.val = _
    omega
  · show (kk.val * 512 + (p.val / 128 * 128 + c.val - 128)) * 4 + j.val = _
    omega

include hq hk

/-- The block's logit of a seen key is the reference's at its distance. -/
theorem seen_logit (h : Fin 4) (c : Fin 256) (hc : Sees p c ∧ (128 ≤ p.val ∨ 128 ≤ c.val ∨ 0 < kk.val)) :
    lgt kk.val (qB q b j kk) (kB k b j kk) p h c = rlgt q k b (tk j kk p) h (dist p c) := by
  rw [lgt, if_pos hc, rlgt, if_pos (seen_le j kk p c hc), Softmax.sum_mul_of_nonneg scale_nonneg scale_ne_top]
  refine Finset.sum_congr rfl fun d _ => ?_
  simp only [qB, kB, headIx_lane, laneIx_lane, seen_tok j kk p c hc]
  exact mul_right_comm _ _ _

/-- Its logits are finite or masked. -/
theorem rlgt_ne_top (t : Fin 4096) (h : Fin 4) (s : Fin 129) : rlgt q k b t h s ≠ ⊤ := by
  rw [rlgt]
  split
  · exact (Softmax.mul_finite (Softmax.sum_mul_finite _ _ (fun _ => hq _) (fun _ => hk _)) scale_finite).1
  · exact bot_ne_top

theorem rlgt_ne_bot (t : Fin 4096) (h : Fin 4) (s : Fin 129) (hs : 4 * s.val ≤ t.val) : rlgt q k b t h s ≠ ⊥ := by
  rw [rlgt, if_pos hs]
  exact (Softmax.mul_finite (Softmax.sum_mul_finite _ _ (fun _ => hq _) (fun _ => hk _)) scale_finite).2

omit hq hk in
theorem lgt_seen (h : Fin 4) (c : Fin 256) (hc : lgt kk.val (qB q b j kk) (kB k b j kk) p h c ≠ ⊥) :
    Sees p c ∧ (128 ≤ p.val ∨ 128 ≤ c.val ∨ 0 < kk.val) := by
  by_contra hn
  exact hc (by rw [lgt, if_neg hn])

/-- The block's row of logits and values is the reference's. -/
theorem same (h : Fin 4) (d : Fin 64) :
    Softmax.Same (lgt kk.val (qB q b j kk) (kB k b j kk) p h) (fun c : Fin 256 => kB v b j kk ⟨p.val / 128 * 128 + c.val, by omega⟩ (lane h d))
      (rlgt q k b (tk j kk p) h) (fun s : Fin 129 => v (ix4 b (at_ (tk j kk p) s) h d)) (dist p) where
  logit c hc := seen_logit q k hq hk b j kk p h c (lgt_seen q k b j kk p h c hc)
  value c hc := by
    simp only [kB, headIx_lane, laneIx_lane, seen_tok j kk p c (lgt_seen q k b j kk p h c hc)]
  inj c e hc he hce := by
    obtain ⟨⟨h1, h2⟩, _⟩ := lgt_seen q k b j kk p h c hc
    obtain ⟨⟨h3, h4⟩, _⟩ := lgt_seen q k b j kk p h e he
    have := congrArg Fin.val hce
    simp only [dist] at this
    exact Fin.ext (by omega)
  onto s hs := by
    have hle : 4 * s.val ≤ (tk j kk p).val := by
      by_contra hn
      exact hs (by rw [rlgt, if_neg hn])
    have hs' := s.isLt
    simp only [blkRow] at hle
    have hc : Sees p (⟨128 + p.val % 128 - s.val, by omega⟩ : Fin 256) ∧
        (128 ≤ p.val ∨ 128 ≤ (⟨128 + p.val % 128 - s.val, by omega⟩ : Fin 256).val ∨ 0 < kk.val) := by
      refine ⟨⟨?_, ?_⟩, ?_⟩
      · show p.val % 128 ≤ 128 + p.val % 128 - s.val; omega
      · show 128 + p.val % 128 - s.val ≤ p.val % 128 + 128; omega
      · show 128 ≤ p.val ∨ 128 ≤ 128 + p.val % 128 - s.val ∨ 0 < kk.val; omega
    have hd : dist p (⟨128 + p.val % 128 - s.val, by omega⟩ : Fin 256) = s := Fin.ext (by simp only [dist]; omega)
    refine ⟨_, ?_, hd⟩
    rw [seen_logit q k hq hk b j kk p h _ hc, hd]
    exact hs

/-- The block's attention value is the reference's. -/
theorem out_row (h : Fin 4) (d : Fin 64) :
    oval kk.val (qB q b j kk) (kB k b j kk) (kB v b j kk) p (lane h d) = rout q k v b (tk j kk p) h d := by
  have hs := same q k v hq hk b j kk p h d
  have h0 : rlgt q k b (tk j kk p) h 0 ≠ ⊥ := rlgt_ne_bot q k hq hk b _ h 0 (Nat.zero_le _)
  have ht := rlgt_ne_top q k hq hk b (tk j kk p) h
  rw [oval, headIx_lane, hs.rmax, hs.rnum, hs.rden]
  exact Softmax.rnum_mul_div _ _ _ (Softmax.rden_pos _ 0 h0 (Softmax.rmax_ne_top _ ht)) (Softmax.rden_ne_top _ ht (Softmax.rmax_ne_bot _ 0 h0))

/-- The block's log-sum is the reference's. -/
theorem lse_row (h : Fin 4) (d : Fin 64) : lval kk.val (qB q b j kk) (kB k b j kk) p (lane h d) = rlse q k b (tk j kk p) h := by
  have hs := same q k k hq hk b j kk p h d
  rw [lval, headIx_lane, hs.rmax, hs.rden]
  rfl

end Row

/-! ## The arrays -/

section Arrays

variable (m : (ℓ : Loc Cert.DilIdeal.nD Cert.DilIdeal.τ Cert.DilIdeal.sig) → Buf (Elt Ideal) ℓ) (c : Dev Cert.DilIdeal.nD)
variable (hqm : ∀ i, Fin' (qArg m c i)) (hkm : ∀ i, Fin' (kArg m c i))

/-- A lane is its head's lane. -/
theorem lane_eq (l : Fin 256) : lane (headIx l) (laneIx l) = l := Fin.ext (by simp only [headIx, laneIx, lane]; omega)

include hqm hkm

/-- The kernel's attention array is the reference's. -/
theorem out_eq : (Cert.DilIdeal.Gen.dats m 0 c).arrAt 5 Cert.DilIdeal.cfg0.N = Cert.DilRefIdeal.Read.val_main_v46 (F := Ideal) (qArg m c) (kArg m c) (vArg m c) := by
  refine (final5 m c).trans (funext fun i => ?_)
  rw [eq_ix4 i]
  generalize hb : i 0 = b
  generalize hj : i 1 = j
  generalize hP : i 2 = P
  generalize hl : i 3 = l
  have hB : ∃ (kk : Fin 2) (p : Fin 512), P = blkRow kk p :=
    ⟨⟨P.val / 512, by have : P.val < 1024 := P.isLt; omega⟩, ⟨P.val % 512, Nat.mod_lt _ (by norm_num)⟩, Fin.ext (by simp only [blkRow]; omega)⟩
  obtain ⟨kk, p, rfl⟩ := hB
  refine (oarr_blk _ _ _ b j kk p l).trans ((oval_congr rfl (fun p l => qarr_apply m c b j (blkRow kk p) l)
    (fun e l => karr_apply m c b j (extRow kk e) l) (fun e l => varr_apply m c b j (extRow kk e) l) p l).trans ?_)
  refine Eq.trans ?_ (res46_apply (qArg m c) (kArg m c) (vArg m c) b j (blkRow kk p) l).symm
  exact (congrArg (oval kk.val (qB (qArg m c) b j kk) (kB (kArg m c) b j kk) (kB (vArg m c) b j kk) p) (lane_eq l).symm).trans
    (out_row (qArg m c) (kArg m c) (vArg m c) hqm hkm b j kk p (headIx l) (laneIx l))

/-- The kernel's log-sum array is the reference's. -/
theorem lse_eq : (Cert.DilIdeal.Gen.dats m 0 c).arrAt 6 Cert.DilIdeal.cfg0.N = Cert.DilRefIdeal.Read.val_main_v50 (F := Ideal) (qArg m c) (kArg m c) := by
  refine (final6 m c).trans (funext fun i => ?_)
  rw [eq_ix4 i]
  generalize hb : i 0 = b
  generalize hj : i 1 = j
  generalize hP : i 2 = P
  generalize hl : i 3 = l
  have hB : ∃ (kk : Fin 2) (p : Fin 512), P = blkRow kk p :=
    ⟨⟨P.val / 512, by have : P.val < 1024 := P.isLt; omega⟩, ⟨P.val % 512, Nat.mod_lt _ (by norm_num)⟩, Fin.ext (by simp only [blkRow]; omega)⟩
  obtain ⟨kk, p, rfl⟩ := hB
  refine (larr_blk _ _ b j kk p l).trans ((lval_congr rfl (fun p l => qarr_apply m c b j (blkRow kk p) l)
    (fun e l => karr_apply m c b j (extRow kk e) l) p l).trans ?_)
  refine Eq.trans ?_ (res50_apply (qArg m c) (kArg m c) b j (blkRow kk p) l).symm
  exact (congrArg (lval kk.val (qB (qArg m c) b j kk) (kB (kArg m c) b j kk) p) (lane_eq l).symm).trans
    (lse_row (qArg m c) (kArg m c) hqm hkm b j kk p (headIx l) (laneIx l))

end Arrays

end Cert.DilatedEq

end
-- ==== Proof.Rows.lean ====
/- Arithmetic of one row: the root-mean-square norm, the feed-forward part's middle value, and a sum over 4096 terms as four
   sums over 1024. -/
module

public import Idealize.ShloMosaic.Lib.ValueIdx
public import Idealize.ShloMosaic.PureOps.Ideal.Laws

@[expose] public section

noncomputable section

namespace Cert.Rows

open Idealize.ShloMosaic

/-- The root-mean-square norm of a row of 1024 entries, times the gain. -/
def rms (h g : Fin 1024 → EReal) (l : Fin 1024) : EReal :=
  h l * Ideal.rsqrt (Ideal.div (∑ k : Fin 1024, h k * h k) (Ideal.ofBits .f32 0x44800000#32) + Ideal.ofBits .f32 0x358637BD#32) * g l

/-- The squared positive part. -/
def act (x : EReal) : EReal := max x 0 * max x 0

/-- The hidden row `f`, one of 4096, of a normed row `u`, times its outgoing weight into lane `l`. -/
def hidden (u : Fin 1024 → EReal) (wu : Fin 1024 → Fin 4096 → EReal) (wd : Fin 4096 → Fin 1024 → EReal) (l : Fin 1024) (f : Fin 4096) : EReal :=
  act (∑ k : Fin 1024, u k * wu k f) * wd f l

/-- The row after the feed-forward part. -/
def mid (h g : Fin 1024 → EReal) (wu : Fin 1024 → Fin 4096 → EReal) (wd : Fin 4096 → Fin 1024 → EReal) (l : Fin 1024) : EReal :=
  h l + ∑ f : Fin 4096, hidden (rms h g) wu wd l f

/-- The row after the last norm. -/
def ffn (h g : Fin 1024 → EReal) (wu : Fin 1024 → Fin 4096 → EReal) (wd : Fin 4096 → Fin 1024 → EReal) (gf : Fin 1024 → EReal) (l : Fin 1024) : EReal :=
  rms (mid h g wu wd) gf l

/-- Chunk `s`'s entry `f`. -/
def part (s : Fin 4) (f : Fin 1024) : Fin 4096 := ⟨s.val * 1024 + f.val, by omega⟩

/-- A sum over 4096 terms in four chunks of 1024. -/
theorem sum_parts (F : Fin 4096 → EReal) :
    ∑ f, F f = ∑ f, F (part 0 f) + ∑ f, F (part 1 f) + ∑ f, F (part 2 f) + ∑ f, F (part 3 f) := by
  have h1 := Fin.sum_univ_add (a := 3072) (b := 1024) F
  have h2 := Fin.sum_univ_add (a := 2048) (b := 1024) (fun i : Fin 3072 => F (Fin.castAdd 1024 i))
  have h3 := Fin.sum_univ_add (a := 1024) (b := 1024) (fun i : Fin 2048 => F (Fin.castAdd 1024 (Fin.castAdd 1024 i : Fin 3072)))
  refine h1.trans ?_
  refine (congrArg (· + _) (h2.trans (congrArg (· + _) h3))).trans ?_
  refine congrArg₂ (· + ·) (congrArg₂ (· + ·) (congrArg₂ (· + ·) ?_ ?_) ?_) ?_ <;>
    refine Finset.sum_congr rfl fun f _ => congrArg F (Fin.ext ?_)
  · show f.val = 0 * 1024 + f.val; omega
  · show 1024 + f.val = 1 * 1024 + f.val; omega
  · show 2048 + f.val = 2 * 1024 + f.val; omega
  · show 3072 + f.val = 3 * 1024 + f.val; omega

end Cert.Rows

end
-- ==== Proof.FfnOut.lean ====
/- What one grid point of the feed-forward call leaves in its output window: 512 rows, each read at an index from the point's
   five input blocks. -/
module

public import proofs.«01_k».proof.Proof.Rows
public import proofs.«01_k».proof.Proof.Gen.FfnIdeal.Value
public import Idealize.ShloMosaic.Lib.Pipeline.Value
public import Idealize.ShloMosaic.Lib.IdealHost

@[expose] public section

noncomputable section

namespace Cert.FeedForward

open Cert.FfnIdeal Cert.FfnIdeal.Gen Idealize.ShloMosaic Idealize.ShloMosaic.ValueIdx

/-- The norm of 512 rows. -/
def norm (h : FVec Ideal S512x1024 .f32) (g : FVec Ideal S1x1024 .f32) : FVec Ideal S512x1024 .f32 :=
  mulf (mulf h (broadcastTo S512x1024 (rsqrt (addf (divf
      (shapeCast S512x1 (multiReduction .add [1] S512 (mulf h h) 0x00000000#32 reduces_S512x1024_S512 (.inl rfl) rfl) shapeCasts_S512_S512x1)
      (broadcast S512x1 (Scalar.ofBits .f32 0x44800000#32))) (broadcast S512x1 (Scalar.ofBits .f32 0x358637BD#32))))
    broadcasts_S512x1_S512x1024)) (broadcastTo S512x1024 g broadcasts_S1x1024_S512x1024)

/-- A product of 512 rows with a square of weights. -/
def prod (x : FVec Ideal S512x1024 .bf16) (w : FVec Ideal S1024x1024 .bf16) : FVec Ideal S512x1024 .f32 :=
  matmul dot_S512x1024_S1024x1024_S512x1024_1_0_0_1_n_n none x w (constant S512x1024 .f32 0x00000000#32)

/-- The positive part. -/
def relu (x : FVec Ideal S512x1024 .f32) : FVec Ideal S512x1024 .f32 := maximumf x (broadcast S512x1024 (Scalar.ofBits .f32 0x00000000#32))

/-- One chunk of the hidden lanes. -/
def chunk (u : FVec Ideal S512x1024 .bf16) (wu wd : FVec Ideal S1024x1024 .bf16) : FVec Ideal S512x1024 .f32 :=
  prod (truncf .bf16 (mulf (relu (prod u (shapeCast S1024x1024 wu shapeCasts_S1024x1024_S1024x1024)))
    (relu (prod u (shapeCast S1024x1024 wu shapeCasts_S1024x1024_S1024x1024)))) bitsLt_bf16_f32)
    (shapeCast S1024x1024 wd shapeCasts_S1024x1024_S1024x1024)

/-- The same shape again. -/
def same (h : FVec Ideal S512x1024 .f32) : FVec Ideal S512x1024 .f32 := shapeCast S512x1024 h shapeCasts_S512x1024_S512x1024
def sameRow (g : FVec Ideal S1x1024 .f32) : FVec Ideal S1x1024 .f32 := shapeCast S1x1024 g shapeCasts_S1x1024_S1x1024

variable (x0 : Vec Ideal S512x1024 .f32) (x1 : Vec Ideal S1x1024 .f32) (x2 : Vec Ideal S1024x4096 .bf16) (x3 : Vec Ideal S4096x1024 .bf16)
  (x4 : Vec Ideal S1x1024 .f32)

/-- The normed rows of the point. -/
def normed : FVec Ideal S512x1024 .bf16 := truncf .bf16 (norm (same (View.ld x0 r0_0)) (sameRow (View.ld x1 r0_1))) bitsLt_bf16_f32

/-- The rows after the feed-forward part. -/
def after : FVec Ideal S512x1024 .f32 :=
  addf (addf (addf (addf (same (View.ld x0 r0_0)) (chunk (normed x0 x1) (View.ld x2 r0_2) (View.ld x3 r0_3)))
    (chunk (normed x0 x1) (View.ld x2 r0_4) (View.ld x3 r0_5))) (chunk (normed x0 x1) (View.ld x2 r0_6) (View.ld x3 r0_7)))
    (chunk (normed x0 x1) (View.ld x2 r0_8) (View.ld x3 r0_9))

theorem out5_eq : out0_5 x0 x1 x2 x3 x4 = View.canon [⟨r0_0, norm (after x0 x1 x2 x3) (sameRow (View.ld x4 r0_1))⟩] := by
  unfold out0_5
  rfl

theorem column_apply (y : FVec Ideal S512 .f32) (r : Fin 512) (c : Fin 1) : shapeCast S512x1 y shapeCasts_S512_S512x1 (ix2 r c) = y (ix1 r) := by
  refine shapeCast_apply _ _ _ _ ?_
  rw [Shape.rowMajor_val_one, Shape.rowMajor_val_two]
  have := c.isLt
  simp

theorem norm_apply (h : FVec Ideal S512x1024 .f32) (g : FVec Ideal S1x1024 .f32) (r : Fin 512) (l : Fin 1024) :
    norm h g (ix2 r l) = Rows.rms (fun k => h (ix2 r k)) (fun k => g (ix2 0 k)) l := by
  have hs : multiReduction .add [1] S512 (mulf h h) 0x00000000#32 reduces_S512x1024_S512 (.inl rfl) rfl (ix1 r) = ∑ k : Fin 1024, h (ix2 r k) * h (ix2 r k) := by
    refine (Ideal.multiReduction_add_single (a := 1) (mulf h h) _ _ _ _ _).trans ?_
    refine Finset.sum_congr rfl fun k _ => ?_
    show mulf h h _ = mulf h h (ix2 r k)
    exact congrArg (mulf h h) (by funext a; fin_cases a <;> rfl)
  unfold norm Rows.rms
  refine congrArg₂ (· * ·) (congrArg (h (ix2 r l) * ·) ?_) ?_
  · refine (broadcastTo_apply _ _ _ (ix2 r 0) (by intro a; fin_cases a <;> rfl)).trans ?_
    exact congrArg (fun z => Ideal.rsqrt (Ideal.div z _ + _)) ((column_apply _ r 0).trans hs)
  · exact broadcastTo_apply _ _ _ (ix2 0 l) (by intro a; fin_cases a <;> rfl)

theorem prod_apply (x : FVec Ideal S512x1024 .bf16) (w : FVec Ideal S1024x1024 .bf16) (r : Fin 512) (c : Fin 1024) :
    prod x w (ix2 r c) = ∑ l : Fin 1024, x (ix2 r l) * w (ix2 l c) := by
  refine (Ideal.matmul_constant_zero_apply _ none x w (ix2 r c)).trans ?_
  rw [← (contrEquiv1 dot_S512x1024_S1024x1024_S512x1024_1_0_0_1_n_n 1024 rfl rfl).symm.sum_comp]
  refine Finset.sum_congr rfl fun l _ => ?_
  congr 2
  · funext a; fin_cases a <;> rfl
  · funext a; fin_cases a <;> rfl

theorem relu_apply (x : FVec Ideal S512x1024 .f32) (i : S512x1024.Idx) : relu x i = max (x i) 0 := by
  show max (x i) (Ideal.ofBits .f32 0x00000000#32) = _
  rw [Ideal.ofBits_zero_f32]

theorem chunk_apply (u : FVec Ideal S512x1024 .bf16) (wu wd : FVec Ideal S1024x1024 .bf16) (r : Fin 512) (l : Fin 1024) :
    chunk u wu wd (ix2 r l) = ∑ f : Fin 1024, Rows.act (∑ k : Fin 1024, u (ix2 r k) * wu (ix2 k f)) * wd (ix2 f l) := by
  unfold chunk
  rw [shapeCast_self, shapeCast_self, prod_apply]
  refine Finset.sum_congr rfl fun f _ => congrArg (· * wd (ix2 f l)) ?_
  show relu (prod u wu) (ix2 r f) * relu (prod u wu) (ix2 r f) = _
  rw [relu_apply, prod_apply]
  rfl

theorem ld_rows : same (View.ld x0 r0_0) = x0 := by
  unfold same
  rw [shapeCast_self]
  exact View.ld_unit_zero (by funext a; fin_cases a <;> rfl) _ _

theorem ld_row (x : Vec Ideal S1x1024 .f32) : sameRow (View.ld x r0_1) = x := by
  unfold sameRow
  rw [shapeCast_self]
  exact View.ld_unit_zero (by funext a; fin_cases a <;> rfl) _ _

theorem normed_apply (r : Fin 512) (k : Fin 1024) :
    normed x0 x1 (ix2 r k) = Rows.rms (fun k => x0 (ix2 r k)) (fun k => x1 (ix2 0 k)) k := by
  unfold normed
  rw [ld_rows, ld_row]
  exact norm_apply x0 x1 r k

/-- A chunk over the point's weights. -/
theorem chunk_part (s : Fin 4) (wu wd : FVec Ideal S1024x1024 .bf16)
    (hu : ∀ k f : Fin 1024, wu (ix2 k f) = x2 (ix2 k (Rows.part s f))) (hd : ∀ f l : Fin 1024, wd (ix2 f l) = x3 (ix2 (Rows.part s f) l))
    (r : Fin 512) (l : Fin 1024) :
    chunk (normed x0 x1) wu wd (ix2 r l)
      = ∑ f : Fin 1024, Rows.hidden (Rows.rms (fun k => x0 (ix2 r k)) (fun k => x1 (ix2 0 k))) (fun k f => x2 (ix2 k f)) (fun f l => x3 (ix2 f l)) l (Rows.part s f) := by
  rw [chunk_apply]
  refine Finset.sum_congr rfl fun f _ => ?_
  unfold Rows.hidden
  rw [hd]
  refine congrArg (fun z => Rows.act z * _) (Finset.sum_congr rfl fun k _ => ?_)
  rw [hu, normed_apply]

theorem after_apply (r : Fin 512) (l : Fin 1024) :
    after x0 x1 x2 x3 (ix2 r l) = Rows.mid (fun k => x0 (ix2 r k)) (fun k => x1 (ix2 0 k)) (fun k f => x2 (ix2 k f)) (fun f l => x3 (ix2 f l)) l := by
  unfold after Rows.mid
  rw [ld_rows, Rows.sum_parts, ← add_assoc, ← add_assoc, ← add_assoc]
  refine congrArg₂ (· + ·) (congrArg₂ (· + ·) (congrArg₂ (· + ·) (congrArg (x0 (ix2 r l) + ·) ?_) ?_) ?_) ?_
  · exact chunk_part x0 x1 x2 x3 0 _ _
      (fun k f => congrArg x2 (by funext a; apply Fin.ext; fin_cases a <;> simp [Rows.part]))
      (fun k f => congrArg x3 (by funext a; apply Fin.ext; fin_cases a <;> simp [Rows.part])) r l
  · exact chunk_part x0 x1 x2 x3 1 _ _
      (fun k f => congrArg x2 (by funext a; apply Fin.ext; fin_cases a <;> simp [Rows.part]))
      (fun k f => congrArg x3 (by funext a; apply Fin.ext; fin_cases a <;> simp [Rows.part])) r l
  · exact chunk_part x0 x1 x2 x3 2 _ _
      (fun k f => congrArg x2 (by funext a; apply Fin.ext; fin_cases a <;> simp [Rows.part]))
      (fun k f => congrArg x3 (by funext a; apply Fin.ext; fin_cases a <;> simp [Rows.part])) r l
  · exact chunk_part x0 x1 x2 x3 3 _ _
      (fun k f => congrArg x2 (by funext a; apply Fin.ext; fin_cases a <;> simp [Rows.part]))
      (fun k f => congrArg x3 (by funext a; apply Fin.ext; fin_cases a <;> simp [Rows.part])) r l

/-- The output window after the point, at an index. -/
theorem out5_apply (y : S512x1024.Idx) :
    out0_5 x0 x1 x2 x3 x4 y = Rows.ffn (fun k => x0 (ix2 (y 0) k)) (fun k => x1 (ix2 0 k)) (fun k f => x2 (ix2 k f)) (fun f l => x3 (ix2 f l))
      (fun k => x4 (ix2 0 k)) (y 1) := by
  rw [out5_eq]
  refine View.canon_apply_of_pieces (Val := Elt Ideal) (S := S512x1024) (e := .f32) (fun y => Rows.ffn (fun k => x0 (ix2 (y 0) k)) (fun k => x1 (ix2 0 k))
    (fun k f => x2 (ix2 k f)) (fun f l => x3 (ix2 f l)) (fun k => x4 (ix2 0 k)) (y 1)) _ ?_ y (cover0_5 _ y)
  intro p hp
  simp only [List.mem_cons, List.not_mem_nil, or_false] at hp
  subst hp
  intro x
  have hx : r0_0.emb x = x := by funext a; apply Fin.ext; fin_cases a <;> simp
  have he : x = ix2 (x 0) (x 1) := eq_ix2 x
  show norm _ _ x = _
  rw [hx, ld_row]
  refine (congrArg (norm _ _) he).trans ((norm_apply _ _ (x 0) (x 1)).trans ?_)
  unfold Rows.ffn
  exact congrArg (fun z => Rows.rms z _ _) (funext fun k => after_apply x0 x1 x2 x3 (x 0) k)

end Cert.FeedForward

end
-- ==== Proof.FfnRun.lean ====
/- The feed-forward call's run: its result array as a function of the argument arrays, row by row. -/
module

public import proofs.«01_k».proof.Proof.FfnOut
public import Idealize.ShloMosaic.Lib.Claim

@[expose] public section

noncomputable section

namespace Cert.FeedForward

open Cert.FfnIdeal Cert.FfnIdeal.Gen Idealize.ShloMosaic Idealize.ShloMosaic.ValueIdx

variable (m : (ℓ : Loc nD τ sig) → Buf (Elt Ideal) ℓ)

theorem index_val : ∀ t : Fin grid0.N,
    win0_0.index t = ![t.val, 0] ∧ win0_1.index t = ![0, 0] ∧ win0_2.index t = ![0, 0] ∧ win0_3.index t = ![0, 0] ∧ win0_4.index t = ![0, 0]
    ∧ win0_5.index t = ![t.val, 0] := by
  decide +kernel

/-- Row `p` of block `t`. -/
def rowOf (t : Fin cfg0.N) (p : Fin 512) : Fin 32768 := ⟨t.val * 512 + p.val, by have := t.isLt; have : cfg0.N = 64 := N_0; omega⟩

/-- The result array from the five prepared arrays. -/
def arr (h : S32768x1024.Idx → EReal) (g : S1x1024.Idx → EReal) (wu : S1024x4096.Idx → EReal) (wd : S4096x1024.Idx → EReal) (gf : S1x1024.Idx → EReal) :
    S32768x1024.Idx → EReal := fun i =>
  Rows.ffn (fun k => h (ix2 (i 0) k)) (fun k => g (ix2 0 k)) (fun k f => wu (ix2 k f)) (fun f l => wd (ix2 f l)) (fun k => gf (ix2 0 k)) (i 1)

theorem ffn_congr {h h' g g' gf gf' : Fin 1024 → EReal} {wu wu' : Fin 1024 → Fin 4096 → EReal} {wd wd' : Fin 4096 → Fin 1024 → EReal}
    (e0 : ∀ k, h k = h' k) (e1 : ∀ k, g k = g' k) (e2 : ∀ k f, wu k f = wu' k f) (e3 : ∀ f l, wd f l = wd' f l) (e4 : ∀ k, gf k = gf' k) (l : Fin 1024) :
    Rows.ffn h g wu wd gf l = Rows.ffn h' g' wu' wd' gf' l := by
  rw [show h = h' from funext e0, show g = g' from funext e1, show wu = wu' from funext fun k => funext (e2 k),
    show wd = wd' from funext fun k => funext (e3 k), show gf = gf' from funext e4]

section
variable (c : Dev nD) (t : Fin cfg0.N)

theorem iblk0_apply (p : Fin 512) (l : Fin 1024) :
    (iblk m c 0 t : Vec Ideal S512x1024 .f32) (ix2 p l) = V m c main_v0 (ix2 (rowOf t p) l) := by
  have hi := (index_val t).1
  unfold iblk
  rw [View.read_apply]
  show V m c main_v0 _ = V m c main_v0 _
  congr 1
  funext a
  apply Fin.ext
  match a with
  | ⟨0, _⟩ => show win0_0.index t 0 * 512 + 1 * p.val = t.val * 512 + p.val; rw [hi]; simp
  | ⟨1, _⟩ => show win0_0.index t 1 * 1024 + 1 * l.val = l.val; rw [hi]; simp

theorem iblk1_apply (l : Fin 1024) : (iblk m c 1 t : Vec Ideal S1x1024 .f32) (ix2 0 l) = V m c main_v1 (ix2 0 l) := by
  have hi := (index_val t).2.1
  unfold iblk
  rw [View.read_apply]
  show V m c main_v1 _ = V m c main_v1 _
  congr 1
  funext a
  apply Fin.ext
  match a with
  | ⟨0, _⟩ => show win0_1.index t 0 * 1 + 1 * 0 = 0; rw [hi]; simp
  | ⟨1, _⟩ => show win0_1.index t 1 * 1024 + 1 * l.val = l.val; rw [hi]; simp

theorem iblk2_apply (k : Fin 1024) (f : Fin 4096) : (iblk m c 2 t : Vec Ideal S1024x4096 .bf16) (ix2 k f) = V m c main_v2 (ix2 k f) := by
  have hi := (index_val t).2.2.1
  unfold iblk
  rw [View.read_apply]
  show V m c main_v2 _ = V m c main_v2 _
  congr 1
  funext a
  apply Fin.ext
  match a with
  | ⟨0, _⟩ => show win0_2.index t 0 * 1024 + 1 * k.val = k.val; rw [hi]; simp
  | ⟨1, _⟩ => show win0_2.index t 1 * 4096 + 1 * f.val = f.val; rw [hi]; simp

theorem iblk3_apply (f : Fin 4096) (l : Fin 1024) : (iblk m c 3 t : Vec Ideal S4096x1024 .bf16) (ix2 f l) = V m c main_v3 (ix2 f l) := by
  have hi := (index_val t).2.2.2.1
  unfold iblk
  rw [View.read_apply]
  show V m c main_v3 _ = V m c main_v3 _
  congr 1
  funext a
  apply Fin.ext
  match a with
  | ⟨0, _⟩ => show win0_3.index t 0 * 4096 + 1 * f.val = f.val; rw [hi]; simp
  | ⟨1, _⟩ => show win0_3.index t 1 * 1024 + 1 * l.val = l.val; rw [hi]; simp

theorem iblk4_apply (l : Fin 1024) : (iblk m c 4 t : Vec Ideal S1x1024 .f32) (ix2 0 l) = V m c main_v4 (ix2 0 l) := by
  have hi := (index_val t).2.2.2.2.1
  unfold iblk
  rw [View.read_apply]
  show V m c main_v4 _ = V m c main_v4 _
  congr 1
  funext a
  apply Fin.ext
  match a with
  | ⟨0, _⟩ => show win0_4.index t 0 * 1 + 1 * 0 = 0; rw [hi]; simp
  | ⟨1, _⟩ => show win0_4.index t 1 * 1024 + 1 * l.val = l.val; rw [hi]; simp

/-- The array the run leaves. -/
abbrev result : S32768x1024.Idx → EReal := arr (V m c main_v0) (V m c main_v1) (V m c main_v2) (V m c main_v3) (V m c main_v4)

/-- Every point writes back its block of the result. -/
theorem flushed5_eq : (dats m 0 c).flushed 5 t = ((cfg0.win 5).blk t).view.read (Elt Ideal) (result m c) := by
  rw [Value.flushed5]
  funext y
  rw [View.read_apply]
  have hi := (index_val t).2.2.2.2.2
  refine (out5_apply _ _ _ _ _ y).trans ?_
  have he : ((cfg0.win 5).blk t).view.emb y = (ix2 (rowOf t (y 0)) (y 1) : S32768x1024.Idx) := by
    funext a
    apply Fin.ext
    match a with
    | ⟨0, _⟩ => show win0_5.index t 0 * 512 + 1 * (y 0).val = t.val * 512 + (y 0).val; rw [hi]; simp
    | ⟨1, _⟩ => show win0_5.index t 1 * 1024 + 1 * (y 1).val = (y 1).val; rw [hi]; simp
  show _ = result m c (((cfg0.win 5).blk t).view.emb y)
  rw [he]
  exact ffn_congr (iblk0_apply m c t (y 0)) (iblk1_apply m c t) (iblk2_apply m c t) (iblk3_apply m c t) (iblk4_apply m c t) (y 1)

end

/-- The point whose block holds index `i`. -/
def pointOf (i : S32768x1024.Idx) : Fin cfg0.N :=
  ⟨(i 0).val / 512, by
    have h0 : (i 0).val < 32768 := (i 0).isLt
    have : cfg0.N = 64 := N_0
    omega⟩

variable (c : Dev nD)

/-- The result array after the run. -/
theorem final5 : (dats m 0 c).arrAt 5 cfg0.N = result m c :=
  (dats m 0 c).arrAt_eq_of_cover 5 (result m c) (fun t _ => flushed5_eq m c t) fun i =>
    ⟨pointOf i, flush0_5 _, by
      have h0 : (i 0).val < 32768 := (i 0).isLt
      have h1 : (i 1).val < 1024 := (i 1).isLt
      have hi := (index_val (pointOf i)).2.2.2.2.2
      have hp : (pointOf i).val = (i 0).val / 512 := rfl
      show i ∈ ((View.whole main_v5).slice (win0_5.rect (pointOf i))).set
      rw [View.set_slice_whole, Rect.mem_set_unit]
      intro a
      match a with
      | ⟨0, _⟩ => show win0_5.index (pointOf i) 0 * 512 ≤ (i 0).val ∧ (i 0).val < win0_5.index (pointOf i) 0 * 512 + 512
                  rw [hi]; simp; omega
      | ⟨1, _⟩ => show win0_5.index (pointOf i) 1 * 1024 ≤ (i 1).val ∧ (i 1).val < win0_5.index (pointOf i) 1 * 1024 + 1024
                  rw [hi]; simp; omega⟩

/-! ## From the arguments -/

/-- The five arguments. -/
abbrev hArg : S8x4096x1024.Idx → EReal := m (c.tc.loc main_arg0)
abbrev gArg : S1024.Idx → EReal := m (c.tc.loc main_arg1)
abbrev upArg : S1024x4096.Idx → EReal := m (c.tc.loc main_arg2)
abbrev downArg : S4096x1024.Idx → EReal := m (c.tc.loc main_arg3)
abbrev gfArg : S1024.Idx → EReal := m (c.tc.loc main_arg4)

theorem flat_apply (x : FVec Ideal S8x4096x1024 .f32) (h : S8x4096x1024.ShapeCasts S32768x1024) (r : Fin 32768) (l : Fin 1024) :
    shapeCast S32768x1024 x h (ix2 r l) = x (ix3 ⟨r.val / 4096, by omega⟩ ⟨r.val % 4096, by omega⟩ l) := by
  refine shapeCast_apply _ _ _ _ ?_
  rw [Shape.rowMajor_val_three, Shape.rowMajor_val_two]
  show (r.val / 4096 * 4096 + r.val % 4096) * 1024 + l.val = r.val * 1024 + l.val
  omega

theorem rows_apply (r : Fin 32768) (l : Fin 1024) :
    (V m c main_v0 : S32768x1024.Idx → EReal) (ix2 r l) = hArg m c (ix3 ⟨r.val / 4096, by omega⟩ ⟨r.val % 4096, by omega⟩ l) := by
  entry_read
  exact flat_apply _ _ r l

theorem gain_apply (l : Fin 1024) : (V m c main_v1 : S1x1024.Idx → EReal) (ix2 0 l) = gArg m c (ix1 l) := by
  entry_read
  exact broadcastInDim_apply _ _ _ _ (ix1 l) (by intro a; fin_cases a; rfl)

theorem gainf_apply (l : Fin 1024) : (V m c main_v4 : S1x1024.Idx → EReal) (ix2 0 l) = gfArg m c (ix1 l) := by
  entry_read
  exact broadcastInDim_apply _ _ _ _ (ix1 l) (by intro a; fin_cases a; rfl)

theorem up_eq : (V m c main_v2 : S1024x4096.Idx → EReal) = upArg m c := by
  entry_read
  rfl

theorem down_eq : (V m c main_v3 : S4096x1024.Idx → EReal) = downArg m c := by
  entry_read
  rfl

/-- The result array, from the arguments. -/
theorem result_apply (i : S32768x1024.Idx) (b : Fin 8) (p : Fin 4096) (hb : b.val = (i 0).val / 4096) (hp : p.val = (i 0).val % 4096) :
    result m c i = Rows.ffn (fun k => hArg m c (ix3 b p k)) (fun k => gArg m c (ix1 k)) (fun k f => upArg m c (ix2 k f))
      (fun f l => downArg m c (ix2 f l)) (fun k => gfArg m c (ix1 k)) (i 1) := by
  refine ffn_congr (fun k => (rows_apply m c (i 0) k).trans (congrArg (hArg m c) ?_)) (gain_apply m c) (fun k f => congrFun (up_eq m c) _)
    (fun f l => congrFun (down_eq m c) _) (gainf_apply m c) (i 1)
  have h0 : (i 0).val < 32768 := (i 0).isLt
  rw [show b = ⟨(i 0).val / 4096, by omega⟩ from Fin.ext hb, show p = ⟨(i 0).val % 4096, by omega⟩ from Fin.ext hp]

end Cert.FeedForward

end
-- ==== Proof.FfnRef.lean ====
/- The feed-forward reference at an index, and its equality with the call's result array. -/
module

public import proofs.«01_k».proof.Proof.FfnRun
public import proofs.«01_k».proof.Proof.Gen.FfnRefIdeal.Read

@[expose] public section

noncomputable section

namespace Cert.FeedForwardRef

open Cert.FfnRefIdeal Cert.FfnRefIdeal.Gen Cert.FfnRefIdeal.Read Idealize.ShloMosaic Idealize.ShloMosaic.ValueIdx

variable (x0 : S8x4096x1024.Idx → EReal) (x1 : S1024.Idx → EReal) (x2 : S1024x4096.Idx → EReal) (x3 : S4096x1024.Idx → EReal) (x4 : S1024.Idx → EReal)
  (b : Fin 8) (p : Fin 4096)

theorem v12_apply (l : Fin 1024) :
    val_main_v12 (F := Ideal) x0 x1 (ix3 b p l) = Rows.rms (fun k => x0 (ix3 b p k)) (fun k => x1 (ix1 k)) l := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  have hs : (val_main_cst (F := Ideal)) (Shape.Idx.first h_S_) + ∑ k : Fin 1024, (val_main_v0 (F := Ideal) x0) (idx_main_v1 (idx_main_v2 (idx_main_v8 (ix3 b p l))) k)
      = ∑ k : Fin 1024, x0 (ix3 b p k) * x0 (ix3 b p k) := by
    rw [val_main_cst_apply]
    refine (congrArg (· + _) Ideal.ofBits_zero_f32).trans ((zero_add _).trans ?_)
    refine Finset.sum_congr rfl fun k _ => ?_
    rw [val_main_v0_apply, show idx_main_v1 (idx_main_v2 (idx_main_v8 (ix3 b p l))) k = ix3 b p k by funext a; fin_cases a <;> rfl]
    rfl
  rw [hs, show idx_main_v10 (idx_main_v11 (ix3 b p l)) = ix1 l by funext a; fin_cases a; rfl]
  rfl

theorem v15_apply (f : Fin 4096) :
    val_main_v15 (F := Ideal) x0 x1 x2 (ix3 b p f)
      = Rows.act (∑ k : Fin 1024, Rows.rms (fun k => x0 (ix3 b p k)) (fun k => x1 (ix1 k)) k * x2 (ix2 k f)) := by
  have h13 : val_main_v13 (F := Ideal) x0 x1 x2 (ix3 b p f) = ∑ k : Fin 1024, Rows.rms (fun k => x0 (ix3 b p k)) (fun k => x1 (ix1 k)) k * x2 (ix2 k f) := by
    rw [val_main_v13_apply]
    refine Finset.sum_congr rfl fun k _ => ?_
    rw [show lidx_main_v13 (ix3 b p f) k = ix3 b p k by funext a; fin_cases a <;> rfl,
      show ridx_main_v13 (ix3 b p f) k = ix2 k f by funext a; fin_cases a <;> rfl, v12_apply]
  have h14 : val_main_v14 (F := Ideal) x0 x1 x2 (ix3 b p f) = max (val_main_v13 (F := Ideal) x0 x1 x2 (ix3 b p f)) 0 := by
    rw [val_main_v14_apply, val_main_call0_v0_apply, val_main_call0_cst_apply]
    exact congrArg (max _) Ideal.ofBits_zero_f32
  rw [val_main_v15_apply, h14, h13]
  rfl

theorem v17_apply (l : Fin 1024) :
    val_main_v17 (F := Ideal) x0 x1 x2 x3 (ix3 b p l)
      = Rows.mid (fun k => x0 (ix3 b p k)) (fun k => x1 (ix1 k)) (fun k f => x2 (ix2 k f)) (fun f l => x3 (ix2 f l)) l := by
  rw [val_main_v17_apply, val_main_v16_apply]
  refine congrArg (x0 (ix3 b p l) + ·) (Finset.sum_congr rfl fun f _ => ?_)
  rw [show lidx_main_v16 (ix3 b p l) f = ix3 b p f by funext a; fin_cases a <;> rfl,
    show ridx_main_v16 (ix3 b p l) f = ix2 f l by funext a; fin_cases a <;> rfl, v15_apply]
  rfl

theorem v30_apply (l : Fin 1024) :
    val_main_v30 (F := Ideal) x0 x1 x2 x3 x4 (ix3 b p l)
      = Rows.ffn (fun k => x0 (ix3 b p k)) (fun k => x1 (ix1 k)) (fun k f => x2 (ix2 k f)) (fun f l => x3 (ix2 f l)) (fun k => x4 (ix1 k)) l := by
  rw [val_main_v30_apply, val_main_v27_apply, val_main_v26_apply, val_main_v25_apply, val_main_v24_apply, val_main_v22_apply, val_main_v20_apply,
    val_main_v19_apply, val_main_v21_apply, val_main_v23_apply, val_main_v29_apply, val_main_v28_apply]
  have hs : (val_main_cst_2 (F := Ideal)) (Shape.Idx.first h_S_)
        + ∑ k : Fin 1024, (val_main_v18 (F := Ideal) x0 x1 x2 x3) (idx_main_v19 (idx_main_v20 (idx_main_v26 (ix3 b p l))) k)
      = ∑ k : Fin 1024, Rows.mid (fun k => x0 (ix3 b p k)) (fun k => x1 (ix1 k)) (fun k f => x2 (ix2 k f)) (fun f l => x3 (ix2 f l)) k
        * Rows.mid (fun k => x0 (ix3 b p k)) (fun k => x1 (ix1 k)) (fun k f => x2 (ix2 k f)) (fun f l => x3 (ix2 f l)) k := by
    rw [val_main_cst_2_apply]
    refine (congrArg (· + _) Ideal.ofBits_zero_f32).trans ((zero_add _).trans ?_)
    refine Finset.sum_congr rfl fun k _ => ?_
    rw [val_main_v18_apply, show idx_main_v19 (idx_main_v20 (idx_main_v26 (ix3 b p l))) k = ix3 b p k by funext a; fin_cases a <;> rfl, v17_apply]
    rfl
  rw [hs, v17_apply, show idx_main_v28 (idx_main_v29 (ix3 b p l)) = ix1 l by funext a; fin_cases a; rfl]
  rfl

/-- The reference's rows, at an index. -/
theorem v31_apply (i : S32768x1024.Idx) (hb : b.val = (i 0).val / 4096) (hp : p.val = (i 0).val % 4096) :
    val_main_v31 (F := Ideal) x0 x1 x2 x3 x4 i
      = Rows.ffn (fun k => x0 (ix3 b p k)) (fun k => x1 (ix1 k)) (fun k f => x2 (ix2 k f)) (fun f l => x3 (ix2 f l)) (fun k => x4 (ix1 k)) (i 1) := by
  rw [val_main_v31_apply]
  refine Eq.trans (congrArg (val_main_v30 (F := Ideal) x0 x1 x2 x3 x4) ?_) (v30_apply x0 x1 x2 x3 x4 b p (i 1))
  have h0 : (i 0).val < 32768 := (i 0).isLt
  have h1 : (i 1).val < 1024 := (i 1).isLt
  funext a
  apply Fin.ext
  match a with
  | ⟨0, _⟩ => show ((i 0).val * 1024 + (i 1).val) / 4194304 = b.val; omega
  | ⟨1, _⟩ => show ((i 0).val * 1024 + (i 1).val) / 1024 % 4096 = p.val; omega
  | ⟨2, _⟩ => show ((i 0).val * 1024 + (i 1).val) % 1024 = (i 1).val; omega

/-- The two result arrays agree. -/
theorem eq (m : (ℓ : Loc Cert.FfnIdeal.nD Cert.FfnIdeal.τ Cert.FfnIdeal.sig) → Buf (Elt Ideal) ℓ) (c : Dev Cert.FfnIdeal.nD) :
    (Cert.FfnIdeal.Gen.dats m 0 c).arrAt 5 Cert.FfnIdeal.cfg0.N
      = val_main_v31 (F := Ideal) (FeedForward.hArg m c) (FeedForward.gArg m c) (FeedForward.upArg m c) (FeedForward.downArg m c) (FeedForward.gfArg m c) := by
  rw [FeedForward.final5]
  funext i
  have h0 : (i 0).val < 32768 := (i 0).isLt
  have hb : ((⟨(i 0).val / 4096, by omega⟩ : Fin 8)).val = (i 0).val / 4096 := rfl
  have hp : ((⟨(i 0).val % 4096, by omega⟩ : Fin 4096)).val = (i 0).val % 4096 := rfl
  rw [FeedForward.result_apply m c i _ _ hb hp]
  exact (v31_apply _ _ _ _ _ _ _ i hb hp).symm

end Cert.FeedForwardRef

end
-- ==== Proof.Merge.lean ====
/- Arithmetic of one row of the gated output projection: the three gates, and the merge of the three groups by their
   log-sum-exps, written as the kernel divides it and as the reference does. -/
module

public import proofs.«01_k».proof.Proof.Rows
public import proofs.«01_k».proof.Proof.Softmax

@[expose] public section

noncomputable section

namespace Cert.Merge

open Idealize.ShloMosaic

/-- One gate of a normed row. -/
def gate (u : Fin 1024 → EReal) (w : Fin 1024 → Fin 1024 → EReal) (n : Fin 1024) : EReal := Ideal.logistic (∑ k : Fin 1024, u k * w k n)

/-- The row after the gated projections `pa`, `pb` and `pc` and the outgoing weights. -/
def row (h g : Fin 1024 → EReal) (w0 w1 w2 : Fin 1024 → Fin 1024 → EReal) (pa pb pc : Fin 1024 → EReal) (wo : Fin 1024 → Fin 1024 → EReal) (c : Fin 1024) : EReal :=
  h c + ∑ n : Fin 1024, (gate (Rows.rms h g) w0 n * pa n + gate (Rows.rms h g) w1 n * pb n + gate (Rows.rms h g) w2 n * pc n) * wo n c

/-- The merge, divided after the weighted sum. -/
def after (l0 l1 l2 o0 o1 o2 : EReal) : EReal :=
  (Ideal.exp (l0 - max (max l0 l1) l2) * o0 + Ideal.exp (l1 - max (max l0 l1) l2) * o1 + Ideal.exp (l2 - max (max l0 l1) l2) * o2)
    * Ideal.div 1 (Ideal.exp (l0 - max (max l0 l1) l2) + Ideal.exp (l1 - max (max l0 l1) l2) + Ideal.exp (l2 - max (max l0 l1) l2))

/-- The three groups' values, by number. -/
def pick (x0 x1 x2 : EReal) (s : Fin 3) : EReal := if s.val = 0 then x0 else if s.val = 1 then x1 else x2

/-- The merge, each weight divided before it. -/
def before (l0 l1 l2 o0 o1 o2 : EReal) : EReal :=
  ∑ s : Fin 3, Ideal.div (Ideal.exp (pick l0 l1 l2 s - Softmax.rmax (pick l0 l1 l2))) (Softmax.rden (Softmax.rmax (pick l0 l1 l2)) (pick l0 l1 l2)) * pick o0 o1 o2 s

theorem rmax_pick (l0 l1 l2 : EReal) : Softmax.rmax (pick l0 l1 l2) = max (max l0 l1) l2 := by
  rw [Softmax.rmax_eq_sup]
  apply le_antisymm
  · refine Finset.sup_le fun s _ => ?_
    unfold pick
    split_ifs
    · exact (le_max_left _ _).trans (le_max_left _ _)
    · exact (le_max_right _ _).trans (le_max_left _ _)
    · exact le_max_right _ _
  · exact max_le (max_le (Finset.le_sup (f := pick l0 l1 l2) (Finset.mem_univ 0)) (Finset.le_sup (f := pick l0 l1 l2) (Finset.mem_univ 1)))
      (Finset.le_sup (f := pick l0 l1 l2) (Finset.mem_univ 2))

theorem after_eq (l0 l1 l2 o0 o1 o2 : EReal) :
    after l0 l1 l2 o0 o1 o2
      = Softmax.rnum (max (max l0 l1) l2) (pick l0 l1 l2) (pick o0 o1 o2) * Ideal.div 1 (Softmax.rden (max (max l0 l1) l2) (pick l0 l1 l2)) := by
  unfold Softmax.rnum Softmax.rden
  rw [Fin.sum_univ_three, Fin.sum_univ_three]
  rfl

/-- With finite log-sum-exps the two merges agree, whatever the groups' values. -/
theorem after_eq_before (l0 l1 l2 o0 o1 o2 : EReal) (h0 : l0 ≠ ⊤ ∧ l0 ≠ ⊥) (h1 : l1 ≠ ⊤ ∧ l1 ≠ ⊥) (h2 : l2 ≠ ⊤ ∧ l2 ≠ ⊥) :
    after l0 l1 l2 o0 o1 o2 = before l0 l1 l2 o0 o1 o2 := by
  have ht : ∀ s, pick l0 l1 l2 s ≠ ⊤ := fun s => by unfold pick; split_ifs <;> [exact h0.1; exact h1.1; exact h2.1]
  have hb : pick l0 l1 l2 0 ≠ ⊥ := h0.2
  have hm : Softmax.rmax (pick l0 l1 l2) ≠ ⊥ := Softmax.rmax_ne_bot _ 0 hb
  rw [after_eq, ← rmax_pick]
  exact Softmax.rnum_mul_div _ _ _ (Softmax.rden_pos _ 0 hb (Softmax.rmax_ne_top _ ht)) (Softmax.rden_ne_top _ ht hm)

end Cert.Merge

end
-- ==== Proof.MixStage.lean ====
/- The staging buffers of the gated output projection: blocks that hold tokens by residue are stored row by row with a stride,
   so that the buffer holds them in token order, and are read back in two halves of the lanes. -/
module

public import proofs.«01_k».proof.Proof.Gen.MixoutIdeal.Value
public import Idealize.ShloMosaic.Lib.Pipeline.Value
public import Idealize.ShloMosaic.Lib.IdealHost

@[expose] public section

set_option maxRecDepth 16384

noncomputable section

namespace Cert.Mixer

open Cert.MixoutIdeal Cert.MixoutIdeal.Gen Idealize.ShloMosaic Idealize.ShloMosaic.ValueIdx

/-- Two halves of 128 lanes side by side. -/
def halves (a b : Vec Ideal S1x512x128 .f32) : FVec Ideal S512x256 .f32 :=
  concatenate S512x256 1 [⟨S512x128, shapeCast S512x128 a shapeCasts_S1x512x128_S512x128⟩, ⟨S512x128, shapeCast S512x128 b shapeCasts_S1x512x128_S512x128⟩]
    concatenates_S512x128_S512x128_S512x256_d1

theorem half_apply (a : Vec Ideal S1x512x128 .f32) (p : Fin 512) (l : Fin 128) :
    shapeCast S512x128 a shapeCasts_S1x512x128_S512x128 (ix2 p l) = a (ix3 0 p l) := by
  refine shapeCast_apply _ _ _ _ ?_
  rw [Shape.rowMajor_val_two, Shape.rowMajor_val_three]
  show (0 * 512 + p.val) * 128 + l.val = p.val * 128 + l.val
  omega

/-- Lane `l` of 256 as a half and a lane of 128. -/
def halfOf (l : Fin 256) : Fin 2 := ⟨l.val / 128, by omega⟩
def laneOf (l : Fin 256) : Fin 128 := ⟨l.val % 128, by omega⟩

theorem halves_apply (Y : S2x512x128.Idx → EReal) (a b : Vec Ideal S1x512x128 .f32) (ha : ∀ p l, a (ix3 0 p l) = Y (ix3 0 p l))
    (hb : ∀ p l, b (ix3 0 p l) = Y (ix3 1 p l)) (p : Fin 512) (l : Fin 256) : halves a b (ix2 p l) = Y (ix3 (halfOf l) p (laneOf l)) := by
  unfold halves
  by_cases h : l.val < 128
  · refine (concatenate_pair_apply_left (t := S512x256) (s₁ := S512x128) (s₂ := S512x128) 1 _ _ _ (ix2 p l) rfl (ix2 p ⟨l.val, h⟩ : S512x128.Idx) (by intro a; fin_cases a <;> rfl)).trans ?_
    refine (half_apply a p _).trans ((ha _ _).trans (congrArg Y ?_))
    rw [show halfOf l = 0 from Fin.ext (show l.val / 128 = 0 by omega), show laneOf l = ⟨l.val, h⟩ from Fin.ext (show l.val % 128 = l.val by omega)]
  · have hl : l.val - 128 < 128 := by omega
    refine (concatenate_pair_apply_right (t := S512x256) (s₁ := S512x128) (s₂ := S512x128) 1 _ _ _ (ix2 p l) rfl rfl (ix2 p ⟨l.val - 128, hl⟩ : S512x128.Idx) (by
        intro a; fin_cases a
        · intro _; rfl
        · intro h; exact absurd rfl h)
      (show l.val - 128 + 128 = l.val by omega)).trans ?_
    refine (half_apply b p _).trans ((hb _ _).trans (congrArg Y ?_))
    rw [show halfOf l = 1 from Fin.ext (show l.val / 128 = 1 by omega), show laneOf l = ⟨l.val - 128, hl⟩ from Fin.ext (show l.val % 128 = l.val - 128 by omega)]

/-! ## Blocks that hold 512 tokens in `D` residues of `M` -/

section
variable {D M : ℕ} (hD : D * M = 512)

/-- A block of `M` tokens of every residue. -/
abbrev Blk (D M : ℕ) : Shape := ⟨4, ![1, D, M, 256]⟩

/-- The block in token order: half `y 0`, token `y 1` and lane `y 2`. -/
def tok (x : (Blk D M).Idx → EReal) (y : S2x512x128.Idx) : EReal :=
  have h1 : (y 1).val < D * M := hD ▸ (y 1).isLt
  have h0 : (y 0).val < 2 := (y 0).isLt
  have h2 : (y 2).val < 128 := (y 2).isLt
  x (ix4 0 ⟨(y 1).val % D, Nat.mod_lt _ (Nat.pos_of_ne_zero fun e => by subst e; omega)⟩ ⟨(y 1).val / D, Nat.div_lt_of_lt_mul h1⟩
    ⟨(y 0).val * 128 + (y 2).val, by omega⟩)

/-- Where residue `r`'s half `t` goes: every `D`-th row from row `r` on. -/
def spot (t r : ℕ) (ht : t < 2) (hr : r < D) : Rect S2x512x128 :=
  ⟨⟨![t, r, 0], ![1, M, 128], ![1, D, 1], fun a => by
    match a with
    | ⟨0, _⟩ => exact Or.inr (show t + 1 * (1 - 1) < 2 by omega)
    | ⟨1, _⟩ =>
      rcases Nat.eq_zero_or_pos M with h | h
      · exact Or.inl h
      · refine Or.inr (show r + D * (M - 1) < 512 from ?_)
        rw [Nat.mul_sub, hD, Nat.mul_one]
        have := Nat.le_mul_of_pos_right D h
        omega
    | ⟨2, _⟩ => exact Or.inr (show 0 + 1 * (128 - 1) < 128 by omega)⟩, fun a => by
    match a with
    | ⟨0, _⟩ => exact Nat.one_pos
    | ⟨1, _⟩ => show 0 < D; omega
    | ⟨2, _⟩ => exact Nat.one_pos⟩

/-- Residue `r`'s half `t` of a block. -/
def part (x : (Blk D M).Idx → EReal) (t r : ℕ) (ht : t < 2) (hr : r < D) : (⟨4, ![1, 1, M, 128]⟩ : Shape).Idx → EReal :=
  View.ld (Val := Elt Ideal) (e' := .f32) x (Rect.unit (s := Blk D M) ![0, r, 0, t * 128] ![1, 1, M, 128] fun a => by
    match a with
    | ⟨0, _⟩ => show 0 + 1 ≤ 1; omega
    | ⟨1, _⟩ => show r + 1 ≤ D; omega
    | ⟨2, _⟩ => show 0 + M ≤ M; omega
    | ⟨3, _⟩ => show t * 128 + 128 ≤ 256; omega)

theorem part_apply (x : (Blk D M).Idx → EReal) (t r : ℕ) (ht : t < 2) (hr : r < D) (k : Fin M) (l : Fin 128) :
    part x t r ht hr (ix4 0 0 k l) = x (ix4 0 ⟨r, hr⟩ k ⟨t * 128 + l.val, by omega⟩) := by
  unfold part
  refine congrArg x (funext fun a => Fin.ext ?_)
  match a with
  | ⟨0, _⟩ => show 0 + 1 * 0 = 0; omega
  | ⟨1, _⟩ => show r + 1 * 0 = r; omega
  | ⟨2, _⟩ => show 0 + 1 * k.val = k.val; omega
  | ⟨3, _⟩ => show t * 128 + 1 * l.val = t * 128 + l.val; omega

variable (h1 : (⟨4, ![1, 1, M, 128]⟩ : Shape).ShapeCasts ⟨2, ![M, 128]⟩) (h2 : (⟨2, ![M, 128]⟩ : Shape).ShapeCasts ⟨3, ![1, M, 128]⟩)

theorem flat_apply (u : (⟨4, ![1, 1, M, 128]⟩ : Shape).Idx → EReal) (z : Fin 1) (k : Fin M) (l : Fin 128) :
    shapeCast ⟨3, ![1, M, 128]⟩ (shapeCast ⟨2, ![M, 128]⟩ u h1) h2 (ix3 z k l) = u (ix4 0 0 k l) := by
  have hz := z.isLt
  refine (shapeCast_apply _ _ _ (ix2 k l) ?_).trans (shapeCast_apply _ _ _ (ix4 0 0 k l) ?_)
  · rw [Shape.rowMajor_val_two, Shape.rowMajor_val_three]
    show k.val * 128 + l.val = (z.val * M + k.val) * 128 + l.val
    rw [show z.val = 0 by omega]
    omega
  · rw [Shape.rowMajor_val_two, Shape.rowMajor_val_four]
    show ((0 * 1 + 0) * M + k.val) * 128 + l.val = k.val * 128 + l.val
    omega

/-- The store of residue `r`'s half `t`. -/
def put (x : (Blk D M).Idx → EReal) (t r : ℕ) (ht : t < 2) (hr : r < D) : View.Piece (Elt Ideal) S2x512x128 .f32 :=
  ⟨spot hD t r ht hr, shapeCast ⟨3, ![1, M, 128]⟩ (shapeCast ⟨2, ![M, 128]⟩ (part x t r ht hr) h1) h2⟩

theorem put_apply (x : (Blk D M).Idx → EReal) (t r : ℕ) (ht : t < 2) (hr : r < D) (j : (spot (M := M) hD t r ht hr).shape.Idx) :
    (put hD h1 h2 x t r ht hr).2 j = tok hD x ((spot (M := M) hD t r ht hr).emb j) := by
  have hj0 : (j 0).val < 1 := (j 0).isLt
  have hj1 : (j 1).val < M := (j 1).isLt
  have hj2 : (j 2).val < 128 := (j 2).isLt
  have e : j = (ix3 ⟨(j 0).val, hj0⟩ ⟨(j 1).val, hj1⟩ ⟨(j 2).val, hj2⟩ : (⟨3, ![1, M, 128]⟩ : Shape).Idx) := by
    funext a; fin_cases a <;> rfl
  have hD0 : 0 < D := by omega
  rw [e]
  refine (flat_apply h1 h2 _ _ _ _).trans ((part_apply x t r ht hr _ _).trans ?_)
  unfold tok
  refine congrArg x (funext fun a => Fin.ext ?_)
  match a with
  | ⟨0, _⟩ => rfl
  | ⟨1, _⟩ => show r = (r + D * (j 1).val) % D; rw [Nat.add_mul_mod_self_left, Nat.mod_eq_of_lt hr]
  | ⟨2, _⟩ => show (j 1).val = (r + D * (j 1).val) / D; rw [Nat.add_mul_div_left _ _ hD0, Nat.div_eq_of_lt hr, Nat.zero_add]
  | ⟨3, _⟩ => show t * 128 + (j 2).val = (t + 1 * (j 0).val) * 128 + (0 + 1 * (j 2).val); omega

theorem spot_mem (t r : ℕ) (ht : t < 2) (hr : r < D) (y : S2x512x128.Idx) (e0 : (y 0).val = t) (e1 : (y 1).val % D = r) :
    y ∈ (spot (M := M) hD t r ht hr).set := by
  have hy1 : (y 1).val < D * M := hD ▸ (y 1).isLt
  have hy2 : (y 2).val < 128 := (y 2).isLt
  rw [LoadRect.mem_set]
  intro a
  match a with
  | ⟨0, _⟩ => exact ⟨0, Nat.one_pos, show (y 0).val = t + 1 * 0 by omega⟩
  | ⟨1, _⟩ => exact ⟨(y 1).val / D, Nat.div_lt_of_lt_mul hy1, show (y 1).val = r + D * ((y 1).val / D) by rw [← e1, Nat.mod_add_div]⟩
  | ⟨2, _⟩ => exact ⟨(y 2).val, hy2, show (y 2).val = 0 + 1 * (y 2).val by omega⟩

/-- The stores of the first `n` residues, the last one first. -/
def puts (x : (Blk D M).Idx → EReal) : (n : ℕ) → n ≤ D → List (View.Piece (Elt Ideal) S2x512x128 .f32)
  | 0, _ => []
  | n + 1, h => put hD h1 h2 x 1 n Nat.one_lt_two h :: put hD h1 h2 x 0 n Nat.two_pos h :: puts x n (Nat.le_of_succ_le h)

theorem puts_agree (x : (Blk D M).Idx → EReal) : ∀ (n : ℕ) (h : n ≤ D), ∀ p ∈ puts hD h1 h2 x n h, ∀ j : p.1.shape.Idx, p.2 j = tok hD x (p.1.emb j)
  | 0, _, _, hp => absurd hp List.not_mem_nil
  | n + 1, h, p, hp => by
    rcases List.mem_cons.1 hp with rfl | hp
    · exact put_apply hD h1 h2 x 1 n _ _
    rcases List.mem_cons.1 hp with rfl | hp
    · exact put_apply hD h1 h2 x 0 n _ _
    exact puts_agree x n _ p hp

theorem puts_cover (x : (Blk D M).Idx → EReal) (y : S2x512x128.Idx) : ∀ (n : ℕ) (h : n ≤ D), (y 1).val % D < n → ∃ p ∈ puts hD h1 h2 x n h, y ∈ p.1.set
  | 0, _, hn => absurd hn (Nat.not_lt_zero _)
  | n + 1, h, hn => by
    rcases Nat.lt_succ_iff_lt_or_eq.1 hn with hn | hn
    · obtain ⟨p, hp, hy⟩ := puts_cover x y n (Nat.le_of_succ_le h) hn
      exact ⟨p, List.mem_cons_of_mem _ (List.mem_cons_of_mem _ hp), hy⟩
    · have h0 : (y 0).val < 2 := (y 0).isLt
      rcases (show (y 0).val = 1 ∨ (y 0).val = 0 by omega) with e | e
      · exact ⟨_, List.mem_cons_self, spot_mem hD 1 n Nat.one_lt_two h y e hn⟩
      · exact ⟨_, List.mem_cons_of_mem _ List.mem_cons_self, spot_mem hD 0 n Nat.two_pos h y e hn⟩

/-- After all its stores the buffer holds the block in token order. -/
theorem canon_puts (hpos : 0 < D) (x : (Blk D M).Idx → EReal) (y : S2x512x128.Idx) :
    View.canon (Val := Elt Ideal) (puts hD h1 h2 x D (Nat.le_refl D)) y = tok hD x y :=
  View.canon_apply_of_pieces (Val := Elt Ideal) (tok hD x) _ (puts_agree hD h1 h2 x D _) y (puts_cover hD h1 h2 x y D _ (Nat.mod_lt _ hpos))

end

/-- The two halves of a staging buffer. -/
abbrev low : Rect S2x512x128 := Rect.unit (s := S2x512x128) ![0, 0, 0] S1x512x128.size inb_S2x512x128_S1x512x128_0_0_0
abbrev high : Rect S2x512x128 := Rect.unit (s := S2x512x128) ![1, 0, 0] S1x512x128.size inb_S2x512x128_S1x512x128_1_0_0

section
variable (v : View sig .tc .vmem S2x512x128 .f32)

/-- A buffer read back whole after its stores. -/
def back (L : List (View.Piece (Elt Ideal) S2x512x128 .f32)) : FVec Ideal S512x256 .f32 :=
  halves (v.readCov L low.toLoadRect) (v.readCov L high.toLoadRect)

theorem back_apply {D M : ℕ} (hD : D * M = 512) (h1 : (⟨4, ![1, 1, M, 128]⟩ : Shape).ShapeCasts ⟨2, ![M, 128]⟩)
    (h2 : (⟨2, ![M, 128]⟩ : Shape).ShapeCasts ⟨3, ![1, M, 128]⟩) (hpos : 0 < D) (x : (Blk D M).Idx → EReal) (p : Fin 512) (l : Fin 256) :
    back v (puts hD h1 h2 x D (Nat.le_refl D)) (ix2 p l) = tok hD x (ix3 (halfOf l) p (laneOf l)) := by
  refine halves_apply (tok hD x) _ _ (fun p l => ?_) (fun p l => ?_) p l
  · refine (congrFun (View.readCov_eq_canon' v _ low.toLoadRect) (ix3 0 p l)).trans ((canon_puts hD h1 h2 hpos x _).trans (congrArg (tok hD x) ?_))
    funext a
    apply Fin.ext
    match a with
    | ⟨0, _⟩ => show 0 + 1 * 0 = 0; omega
    | ⟨1, _⟩ => show 0 + 1 * p.val = p.val; omega
    | ⟨2, _⟩ => show 0 + 1 * l.val = l.val; omega
  · refine (congrFun (View.readCov_eq_canon' v _ high.toLoadRect) (ix3 0 p l)).trans ((canon_puts hD h1 h2 hpos x _).trans (congrArg (tok hD x) ?_))
    funext a
    apply Fin.ext
    match a with
    | ⟨0, _⟩ => show 1 + 1 * 0 = 1; omega
    | ⟨1, _⟩ => show 0 + 1 * p.val = p.val; omega
    | ⟨2, _⟩ => show 0 + 1 * l.val = l.val; omega

end

end Cert.Mixer

end
-- ==== Proof.MixOut.lean ====
/- What one grid point of the gated output projection leaves in its output window: 512 rows, each read at an index from the point's
   fifteen input blocks. -/
module

public import proofs.«01_k».proof.Proof.Merge
public import proofs.«01_k».proof.Proof.MixStage
public import proofs.«01_k».proof.Proof.FfnOut
public import Idealize.ShloMosaic.Lib.Tactic

@[expose] public section

set_option maxRecDepth 16384

noncomputable section

namespace Cert.Mixer

open Cert.MixoutIdeal Cert.MixoutIdeal.Gen Idealize.ShloMosaic Idealize.ShloMosaic.TcCoe Idealize.ShloMosaic.ValueIdx

theorem square_apply (x : FVec Ideal S512x1024 .bf16) (w : FVec Ideal S1024x1024 .bf16) (r : Fin 512) (c : Fin 1024) :
    matmul dot_S512x1024_S1024x1024_S512x1024_1_0_0_1_n_n none x w (constant S512x1024 .f32 0x00000000#32) (ix2 r c) = ∑ l : Fin 1024, x (ix2 r l) * w (ix2 l c) := by
  refine (Ideal.matmul_constant_zero_apply _ none x w (ix2 r c)).trans ?_
  rw [← (contrEquiv1 dot_S512x1024_S1024x1024_S512x1024_1_0_0_1_n_n 1024 rfl rfl).symm.sum_comp]
  refine Finset.sum_congr rfl fun l _ => ?_
  congr 2
  · funext a; fin_cases a <;> rfl
  · funext a; fin_cases a <;> rfl

theorem wide_apply (x : FVec Ideal S512x384 .bf16) (w : FVec Ideal S384x1024 .bf16) (r : Fin 512) (c : Fin 1024) :
    matmul dot_S512x384_S384x1024_S512x1024_1_0_0_1_n_n none x w (constant S512x1024 .f32 0x00000000#32) (ix2 r c) = ∑ l : Fin 384, x (ix2 r l) * w (ix2 l c) := by
  refine (Ideal.matmul_constant_zero_apply _ none x w (ix2 r c)).trans ?_
  rw [← (contrEquiv1 dot_S512x384_S384x1024_S512x1024_1_0_0_1_n_n 384 rfl rfl).symm.sum_comp]
  refine Finset.sum_congr rfl fun l _ => ?_
  congr 2
  · funext a; fin_cases a <;> rfl
  · funext a; fin_cases a <;> rfl

theorem narrow_apply (x : FVec Ideal S512x256 .bf16) (w : FVec Ideal S256x1024 .bf16) (r : Fin 512) (c : Fin 1024) :
    matmul dot_S512x256_S256x1024_S512x1024_1_0_0_1_n_n none x w (constant S512x1024 .f32 0x00000000#32) (ix2 r c) = ∑ l : Fin 256, x (ix2 r l) * w (ix2 l c) := by
  refine (Ideal.matmul_constant_zero_apply _ none x w (ix2 r c)).trans ?_
  rw [← (contrEquiv1 dot_S512x256_S256x1024_S512x1024_1_0_0_1_n_n 256 rfl rfl).symm.sum_comp]
  refine Finset.sum_congr rfl fun l _ => ?_
  congr 2
  · funext a; fin_cases a <;> rfl
  · funext a; fin_cases a <;> rfl

theorem half2_apply (x : FVec Ideal S512x512 .bf16) (w : FVec Ideal S512x1024 .bf16) (r : Fin 512) (c : Fin 1024) :
    matmul dot_S512x512_S512x1024_S512x1024_1_0_0_1_n_n none x w (constant S512x1024 .f32 0x00000000#32) (ix2 r c) = ∑ l : Fin 512, x (ix2 r l) * w (ix2 l c) := by
  refine (Ideal.matmul_constant_zero_apply _ none x w (ix2 r c)).trans ?_
  rw [← (contrEquiv1 dot_S512x512_S512x1024_S512x1024_1_0_0_1_n_n 512 rfl rfl).symm.sum_comp]
  refine Finset.sum_congr rfl fun l _ => ?_
  congr 2
  · funext a; fin_cases a <;> rfl
  · funext a; fin_cases a <;> rfl

/-- Lane `n` of gate `i`. -/
def lane (i : Fin 3) (n : Fin 1024) : Fin 3072 := ⟨i.val * 1024 + n.val, by omega⟩

variable
  (x0 : Vec Ideal S1x512x1024 .f32)
  (x1 : Vec Ideal S1x1024 .f32)
  (x2 : Vec Ideal S1024x3072 .bf16)
  (x3 : Vec Ideal S1x512x384 .bf16)
  (x4 : Vec Ideal S1x1x512x256 .f32)
  (x5 : Vec Ideal S1x4x128x256 .f32)
  (x6 : Vec Ideal S1x16x32x256 .f32)
  (x7 : Vec Ideal S1x1x512x256 .f32)
  (x8 : Vec Ideal S1x4x128x256 .f32)
  (x9 : Vec Ideal S1x16x32x256 .f32)
  (x10 : Vec Ideal S1x512x512 .bf16)
  (x11 : Vec Ideal S384x1024 .bf16)
  (x12 : Vec Ideal S256x1024 .bf16)
  (x13 : Vec Ideal S512x1024 .bf16)
  (x14 : Vec Ideal S1024x1024 .bf16)

/-- The point's blocks, held by residue, in token order. -/
abbrev outs1 : FVec Ideal S512x256 .f32 := fun y => tok (D := 4) (M := 128) rfl x5 (ix3 (halfOf (y 1)) (y 0) (laneOf (y 1)))
abbrev outs2 : FVec Ideal S512x256 .f32 := fun y => tok (D := 16) (M := 32) rfl x6 (ix3 (halfOf (y 1)) (y 0) (laneOf (y 1)))
abbrev sums1 : FVec Ideal S512x256 .f32 := fun y => tok (D := 4) (M := 128) rfl x8 (ix3 (halfOf (y 1)) (y 0) (laneOf (y 1)))
abbrev sums2 : FVec Ideal S512x256 .f32 := fun y => tok (D := 16) (M := 32) rfl x9 (ix3 (halfOf (y 1)) (y 0) (laneOf (y 1)))

/-- The first group's block without its unit axes. -/
abbrev flat (x : Vec Ideal S1x1x512x256 .f32) : FVec Ideal S512x256 .f32 := shapeCast S512x256 x shapeCasts_S1x1x512x256_S512x256

/-- The largest of three log-sum-exps, an exponential below it, and their weighted sum. -/
abbrev top (l0 l1 l2 : FVec Ideal S512x256 .f32) : FVec Ideal S512x256 .f32 := maximumf (maximumf l0 l1) l2
abbrev weighted (o0 l0 o1 l1 o2 l2 : FVec Ideal S512x256 .f32) : FVec Ideal S512x256 .f32 :=
  addf (addf (mulf (exp (subf l0 (top l0 l1 l2))) o0) (mulf (exp (subf l1 (top l0 l1 l2))) o1)) (mulf (exp (subf l2 (top l0 l1 l2))) o2)
abbrev total (l0 l1 l2 : FVec Ideal S512x256 .f32) : FVec Ideal S512x256 .f32 :=
  addf (addf (exp (subf l0 (top l0 l1 l2))) (exp (subf l1 (top l0 l1 l2)))) (exp (subf l2 (top l0 l1 l2)))

/-- The rows of the point, given the three groups in token order. -/
def block (o1 l1 o2 l2 : FVec Ideal S512x256 .f32) : FVec Ideal S1x512x1024 .f32 :=
  k0_pay1 (k0_pay2 x0) (k0_pay106 (k0_pay3 x0 x1) (weighted (flat x4) (flat x7) o1 l1 o2 l2) (total (flat x7) l1 l2) k0_pay105
    (View.ld x2 (Rect.unit (s := S1024x3072) ![0, 0] S1024x1024.size inb_S1024x3072_S1024x1024_0_0)) x3 x11
    (View.ld x2 (Rect.unit (s := S1024x3072) ![0, 1024] S1024x1024.size inb_S1024x3072_S1024x1024_0_1024)) x12
    (View.ld x2 (Rect.unit (s := S1024x3072) ![0, 2048] S1024x1024.size inb_S1024x3072_S1024x1024_0_2048)) x10 x13) x14

/-- The staging buffers' stores. -/
abbrev puts4 (x : Vec Ideal S1x4x128x256 .f32) := puts (D := 4) (M := 128) rfl shapeCasts_S1x1x128x128_S128x128 shapeCasts_S128x128_S1x128x128 x 4 (Nat.le_refl 4)
abbrev puts16 (x : Vec Ideal S1x16x32x256 .f32) := puts (D := 16) (M := 32) rfl shapeCasts_S1x1x32x128_S32x128 shapeCasts_S32x128_S1x32x128 x 16 (Nat.le_refl 16)

theorem out15_read (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S1x512x384 .bf16) (harg5 : arg5.IsWhole)
  (arg6 : Memref sig .tc .vmem S1x1x512x256 .f32) (harg6 : arg6.IsWhole)
  (arg7 : Memref sig .tc .vmem S1x4x128x256 .f32) (harg7 : arg7.IsWhole)
  (arg8 : Memref sig .tc .vmem S1x16x32x256 .f32) (harg8 : arg8.IsWhole)
  (arg9 : Memref sig .tc .vmem S1x1x512x256 .f32) (harg9 : arg9.IsWhole)
  (arg10 : Memref sig .tc .vmem S1x4x128x256 .f32) (harg10 : arg10.IsWhole)
  (arg11 : Memref sig .tc .vmem S1x16x32x256 .f32) (harg11 : arg11.IsWhole)
  (arg12 : Memref sig .tc .vmem S1x512x512 .bf16) (harg12 : arg12.IsWhole)
  (arg13 : Memref sig .tc .vmem S384x1024 .bf16) (harg13 : arg13.IsWhole)
  (arg14 : Memref sig .tc .vmem S256x1024 .bf16) (harg14 : arg14.IsWhole)
  (arg15 : Memref sig .tc .vmem S512x1024 .bf16) (harg15 : arg15.IsWhole)
  (arg16 : Memref sig .tc .vmem S1024x1024 .bf16) (harg16 : arg16.IsWhole)
  (arg17 : Memref sig .tc .vmem S1x512x1024 .f32) (harg17 : arg17.IsWhole)
  (arg18 : Memref sig .tc .vmem S2x512x128 .f32) (harg18 : arg18.IsWhole)
  (arg19 : Memref sig .tc .vmem S2x512x128 .f32) (harg19 : arg19.IsWhole)
  (arg20 : Memref sig .tc .vmem S2x512x128 .f32) (harg20 : arg20.IsWhole)
  (arg21 : Memref sig .tc .vmem S2x512x128 .f32) (harg21 : arg21.IsWhole) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      x0 x1 x2 x3 x4 x5 x6 x7 x8 x9 x10 x11 x12 x13 x14
      = block x0 x1 x2 x3 x4 x7 x10 x11 x12 x13 x14 (back arg18.view (puts4 x5)) (back arg19.view (puts4 x8)) (back arg20.view (puts16 x6)) (back arg21.view (puts16 x9)) := by
  unfold out0_A_15
  rw [View.read_writes_junk_eq_canon]
  unfold kernelRun0_A
  dsimp only
  sl_unfold_words
  rw [View.canon_unit_zero (by funext a; fin_cases a <;> rfl)]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rw [View.ld_unit_zero (S := S1x512x1024) (by funext a; fin_cases a <;> rfl)]
  rw [View.ld_unit_zero (S := S1x1024) (by funext a; fin_cases a <;> rfl)]
  rw [View.ld_unit_zero (S := S1x512x384) (by funext a; fin_cases a <;> rfl)]
  rw [View.ld_unit_zero (S := S384x1024) (by funext a; fin_cases a <;> rfl)]
  rw [View.ld_unit_zero (S := S256x1024) (by funext a; fin_cases a <;> rfl)]
  rw [View.ld_unit_zero (S := S1x512x512) (by funext a; fin_cases a <;> rfl)]
  rw [View.ld_unit_zero (S := S512x1024) (by funext a; fin_cases a <;> rfl)]
  rw [View.ld_unit_zero (S := S1024x1024) (by funext a; fin_cases a <;> rfl)]
  rw [View.ld_unit_zero (S := S1x1x512x256) (by funext a; fin_cases a <;> rfl)]
  rw [View.ld_unit_zero (S := S1x1x512x256) (by funext a; fin_cases a <;> rfl)]
  rfl

theorem flat_unit_apply (x : Vec Ideal S1x1x512x256 .f32) (p : Fin 512) (l : Fin 256) : flat x (ix2 p l) = x (ix4 0 0 p l) := by
  refine shapeCast_apply _ _ _ _ ?_
  rw [Shape.rowMajor_val_two, Shape.rowMajor_val_four]
  show ((0 * 1 + 0) * 512 + p.val) * 256 + l.val = p.val * 256 + l.val
  omega

theorem rows_apply (x : Vec Ideal S1x512x1024 .f32) (p : Fin 512) (l : Fin 1024) : k0_pay2 x (ix2 p l) = x (ix3 0 p l) := by
  unfold k0_pay2
  refine shapeCast_apply _ _ _ _ ?_
  rw [Shape.rowMajor_val_two, Shape.rowMajor_val_three]
  show (0 * 512 + p.val) * 1024 + l.val = p.val * 1024 + l.val
  omega

theorem wide_rows_apply (x : Vec Ideal S1x512x384 .bf16) (p : Fin 512) (l : Fin 384) :
    shapeCast S512x384 x shapeCasts_S1x512x384_S512x384 (ix2 p l) = x (ix3 0 p l) := by
  refine shapeCast_apply _ _ _ _ ?_
  rw [Shape.rowMajor_val_two, Shape.rowMajor_val_three]
  show (0 * 512 + p.val) * 384 + l.val = p.val * 384 + l.val
  omega

theorem half_rows_apply (x : Vec Ideal S1x512x512 .bf16) (p : Fin 512) (l : Fin 512) :
    shapeCast S512x512 x shapeCasts_S1x512x512_S512x512 (ix2 p l) = x (ix3 0 p l) := by
  refine shapeCast_apply _ _ _ _ ?_
  rw [Shape.rowMajor_val_two, Shape.rowMajor_val_three]
  show (0 * 512 + p.val) * 512 + l.val = p.val * 512 + l.val
  omega

theorem normed_apply (p : Fin 512) (k : Fin 1024) :
    k0_pay3 x0 x1 (ix2 p k) = Rows.rms (fun k => x0 (ix3 0 p k)) (fun k => x1 (ix2 0 k)) k := by
  have e : k0_pay3 x0 x1 = FeedForward.norm (k0_pay2 x0) x1 := by
    unfold k0_pay3
    rw [shapeCast_self]
    rfl
  rw [e]
  refine (FeedForward.norm_apply _ _ p k).trans ?_
  exact congrArg (fun z => Rows.rms z _ k) (funext fun k => rows_apply x0 p k)

theorem three_congr {a a' b b' c c' d d' e e' f f' : EReal} (h1 : a = a') (h2 : b = b') (h3 : c = c') (h4 : d = d') (h5 : e = e') (h6 : f = f') :
    a * b + c * d + e * f = a' * b' + c' * d' + e' * f' := by
  rw [h1, h2, h3, h4, h5, h6]

theorem gates_apply (u : FVec Ideal S512x1024 .bf16) (ob den num : FVec Ideal S512x256 .f32) (w0 : Vec Ideal S1024x1024 .bf16)
    (a : Vec Ideal S1x512x384 .bf16) (wa : Vec Ideal S384x1024 .bf16) (w1 : Vec Ideal S1024x1024 .bf16) (wb : Vec Ideal S256x1024 .bf16)
    (w2 : Vec Ideal S1024x1024 .bf16) (c : Vec Ideal S1x512x512 .bf16) (wc : Vec Ideal S512x1024 .bf16) (p : Fin 512) (n : Fin 1024) :
    k0_pay106 u ob den num w0 a wa w1 wb w2 c wc (ix2 p n)
      = Ideal.logistic (∑ k : Fin 1024, u (ix2 p k) * w0 (ix2 k n)) * (∑ k : Fin 384, a (ix3 0 p k) * wa (ix2 k n))
        + Ideal.logistic (∑ k : Fin 1024, u (ix2 p k) * w1 (ix2 k n)) * (∑ k : Fin 256, (ob (ix2 p k) * Ideal.div (num (ix2 p k)) (den (ix2 p k))) * wb (ix2 k n))
        + Ideal.logistic (∑ k : Fin 1024, u (ix2 p k) * w2 (ix2 k n)) * (∑ k : Fin 512, c (ix3 0 p k) * wc (ix2 k n)) := by
  unfold k0_pay106
  rw [shapeCast_self, shapeCast_self, shapeCast_self, shapeCast_self, shapeCast_self, shapeCast_self]
  refine three_congr ?_ ?_ ?_ ?_ ?_ ?_
  · exact congrArg Ideal.logistic (square_apply u w0 p n)
  · exact (wide_apply _ wa p n).trans (Finset.sum_congr rfl fun k _ => congrArg (fun q : EReal => q * wa (ix2 k n)) (wide_rows_apply a p k))
  · exact congrArg Ideal.logistic (square_apply u w1 p n)
  · exact narrow_apply _ wb p n
  · exact congrArg Ideal.logistic (square_apply u w2 p n)
  · exact (half2_apply _ wc p n).trans (Finset.sum_congr rfl fun k _ => congrArg (fun q : EReal => q * wc (ix2 k n)) (half_rows_apply c p k))

theorem final_apply (h : FVec Ideal S512x1024 .f32) (g : FVec Ideal S512x1024 .bf16) (wo : Vec Ideal S1024x1024 .bf16) (z : Fin 1) (p : Fin 512) (c : Fin 1024) :
    k0_pay1 h g wo (ix3 z p c) = h (ix2 p c) + ∑ n : Fin 1024, g (ix2 p n) * wo (ix2 n c) := by
  unfold k0_pay1
  rw [shapeCast_self]
  refine (shapeCast_apply _ _ _ (ix2 p c) ?_).trans (congrArg (fun q : EReal => h (ix2 p c) + q) (square_apply g wo p c))
  have := z.isLt
  rw [Shape.rowMajor_val_two, Shape.rowMajor_val_three]
  show p.val * 1024 + c.val = (z.val * 512 + p.val) * 1024 + c.val
  omega

theorem gate_cols (s : Fin 3) (o : ℕ) (ho : o = s.val * 1024) (inb) (k n : Fin 1024) :
    View.ld x2 (Rect.unit (s := S1024x3072) ![0, o] S1024x1024.size inb) (ix2 k n) = x2 (ix2 k (lane s n)) := by
  subst ho
  refine congrArg x2 (funext fun a => Fin.ext ?_)
  match a with
  | ⟨0, _⟩ => show 0 + 1 * k.val = k.val; omega
  | ⟨1, _⟩ => show s.val * 1024 + 1 * n.val = s.val * 1024 + n.val; omega

/-- The merged groups at token `p` and lane `k`. -/
def merged (p : Fin 512) (k : Fin 256) : EReal :=
  Merge.after (x7 (ix4 0 0 p k)) (sums1 x8 (ix2 p k)) (sums2 x9 (ix2 p k)) (x4 (ix4 0 0 p k)) (outs1 x5 (ix2 p k)) (outs2 x6 (ix2 p k))

/-- The output window after the point, at an index. -/
theorem block_apply (z : Fin 1) (p : Fin 512) (c : Fin 1024) :
    block x0 x1 x2 x3 x4 x7 x10 x11 x12 x13 x14 (outs1 x5) (sums1 x8) (outs2 x6) (sums2 x9) (ix3 z p c)
      = Merge.row (fun k => x0 (ix3 0 p k)) (fun k => x1 (ix2 0 k)) (fun k n => x2 (ix2 k (lane 0 n))) (fun k n => x2 (ix2 k (lane 1 n))) (fun k n => x2 (ix2 k (lane 2 n)))
      (fun n => ∑ k : Fin 384, x3 (ix3 0 p k) * x11 (ix2 k n)) (fun n => ∑ k : Fin 256, merged x4 x5 x6 x7 x8 x9 p k * x12 (ix2 k n))
      (fun n => ∑ k : Fin 512, x10 (ix3 0 p k) * x13 (ix2 k n)) (fun n c => x14 (ix2 n c)) c := by
  unfold block
  refine (final_apply _ _ _ z p c).trans ?_
  unfold Merge.row
  refine congrArg₂ (fun a b : EReal => a + b) (rows_apply x0 p c) (Finset.sum_congr rfl fun n _ => congrArg (fun q : EReal => q * x14 (ix2 n c)) ?_)
  refine (gates_apply _ _ _ _ _ _ _ _ _ _ _ _ p n).trans ?_
  refine three_congr ?_ rfl ?_ ?_ ?_ rfl
  · exact congrArg Ideal.logistic (Finset.sum_congr rfl fun k _ => congrArg₂ (fun a b : EReal => a * b) (normed_apply x0 x1 p k) (gate_cols x2 0 0 rfl _ k n))
  · exact congrArg Ideal.logistic (Finset.sum_congr rfl fun k _ => congrArg₂ (fun a b : EReal => a * b) (normed_apply x0 x1 p k) (gate_cols x2 1 1024 rfl _ k n))
  · refine Finset.sum_congr rfl fun k _ => congrArg (fun q : EReal => q * x12 (ix2 k n)) ?_
    unfold merged Merge.after
    rw [← flat_unit_apply x7, ← flat_unit_apply x4]
    refine congrArg₂ (fun a b : EReal => a * b) rfl ?_
    exact congrArg (fun z => Ideal.div z _) Ideal.ofBits_one_f32
  · exact congrArg Ideal.logistic (Finset.sum_congr rfl fun k _ => congrArg₂ (fun a b : EReal => a * b) (normed_apply x0 x1 p k) (gate_cols x2 2 2048 rfl _ k n))

theorem back4_eq (v : View sig .tc .vmem S2x512x128 .f32) (x : Vec Ideal S1x4x128x256 .f32) : back v (puts4 x) = outs1 x := by
  funext y
  rw [eq_ix2 y]
  exact back_apply v (D := 4) (M := 128) rfl _ _ (by decide) x (y 0) (y 1)

theorem back16_eq (v : View sig .tc .vmem S2x512x128 .f32) (x : Vec Ideal S1x16x32x256 .f32) : back v (puts16 x) = outs2 x := by
  funext y
  rw [eq_ix2 y]
  exact back_apply v (D := 16) (M := 32) rfl _ _ (by decide) x (y 0) (y 1)

theorem out15_apply (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3072 .bf16) (harg4 : arg4.IsWhole)
  (arg5 : Memref sig .tc .vmem S1x512x384 .bf16) (harg5 : arg5.IsWhole)
  (arg6 : Memref sig .tc .vmem S1x1x512x256 .f32) (harg6 : arg6.IsWhole)
  (arg7 : Memref sig .tc .vmem S1x4x128x256 .f32) (harg7 : arg7.IsWhole)
  (arg8 : Memref sig .tc .vmem S1x16x32x256 .f32) (harg8 : arg8.IsWhole)
  (arg9 : Memref sig .tc .vmem S1x1x512x256 .f32) (harg9 : arg9.IsWhole)
  (arg10 : Memref sig .tc .vmem S1x4x128x256 .f32) (harg10 : arg10.IsWhole)
  (arg11 : Memref sig .tc .vmem S1x16x32x256 .f32) (harg11 : arg11.IsWhole)
  (arg12 : Memref sig .tc .vmem S1x512x512 .bf16) (harg12 : arg12.IsWhole)
  (arg13 : Memref sig .tc .vmem S384x1024 .bf16) (harg13 : arg13.IsWhole)
  (arg14 : Memref sig .tc .vmem S256x1024 .bf16) (harg14 : arg14.IsWhole)
  (arg15 : Memref sig .tc .vmem S512x1024 .bf16) (harg15 : arg15.IsWhole)
  (arg16 : Memref sig .tc .vmem S1024x1024 .bf16) (harg16 : arg16.IsWhole)
  (arg17 : Memref sig .tc .vmem S1x512x1024 .f32) (harg17 : arg17.IsWhole)
  (arg18 : Memref sig .tc .vmem S2x512x128 .f32) (harg18 : arg18.IsWhole)
  (arg19 : Memref sig .tc .vmem S2x512x128 .f32) (harg19 : arg19.IsWhole)
  (arg20 : Memref sig .tc .vmem S2x512x128 .f32) (harg20 : arg20.IsWhole)
  (arg21 : Memref sig .tc .vmem S2x512x128 .f32) (harg21 : arg21.IsWhole) (y : S1x512x1024.Idx) (p : Fin 512) (hp : p = y 1) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      x0 x1 x2 x3 x4 x5 x6 x7 x8 x9 x10 x11 x12 x13 x14 y
      = Merge.row (fun k => x0 (ix3 0 p k)) (fun k => x1 (ix2 0 k)) (fun k n => x2 (ix2 k (lane 0 n))) (fun k n => x2 (ix2 k (lane 1 n))) (fun k n => x2 (ix2 k (lane 2 n)))
      (fun n => ∑ k : Fin 384, x3 (ix3 0 p k) * x11 (ix2 k n)) (fun n => ∑ k : Fin 256, merged x4 x5 x6 x7 x8 x9 p k * x12 (ix2 k n))
      (fun n => ∑ k : Fin 512, x10 (ix3 0 p k) * x13 (ix2 k n)) (fun n c => x14 (ix2 n c)) (y 2) := by
  subst hp
  rw [out15_read, back4_eq, back4_eq, back16_eq, back16_eq]
  refine (congrArg _ (?_ : y = ix3 (y 0) (y 1) (y 2))).trans (block_apply x0 x1 x2 x3 x4 x5 x6 x7 x8 x9 x10 x11 x12 x13 x14 (y 0) (y 1) (y 2))
  exact eq_ix3 y

end Cert.Mixer

end
-- ==== Proof.MixRun.lean ====
/- The gated output projection's run: its result array as a function of the fifteen argument arrays, row by row. -/
module

public import proofs.«01_k».proof.Proof.MixOut
public import Idealize.ShloMosaic.Lib.Claim

@[expose] public section

set_option maxRecDepth 16384

noncomputable section

namespace Cert.Mixer

open Cert.MixoutIdeal Cert.MixoutIdeal.Gen Idealize.ShloMosaic Idealize.ShloMosaic.ValueIdx

variable (m : (ℓ : Loc nD τ sig) → Buf (Elt Ideal) ℓ)

theorem index0_val : ∀ t : Fin grid0.N, win0_0.index t = ![t.val / 8, t.val % 8, 0] := by decide +kernel

theorem index1_val : ∀ t : Fin grid0.N, win0_1.index t = ![0, 0] := by decide +kernel

theorem index2_val : ∀ t : Fin grid0.N, win0_2.index t = ![0, 0] := by decide +kernel

theorem index3_val : ∀ t : Fin grid0.N, win0_3.index t = ![t.val / 8, t.val % 8, 0] := by decide +kernel

theorem index4_val : ∀ t : Fin grid0.N, win0_4.index t = ![t.val / 8, 0, t.val % 8, 0] := by decide +kernel

theorem index5_val : ∀ t : Fin grid0.N, win0_5.index t = ![t.val / 8, 0, t.val % 8, 0] := by decide +kernel

theorem index6_val : ∀ t : Fin grid0.N, win0_6.index t = ![t.val / 8, 0, t.val % 8, 0] := by decide +kernel

theorem index7_val : ∀ t : Fin grid0.N, win0_7.index t = ![t.val / 8, 0, t.val % 8, 0] := by decide +kernel

theorem index8_val : ∀ t : Fin grid0.N, win0_8.index t = ![t.val / 8, 0, t.val % 8, 0] := by decide +kernel

theorem index9_val : ∀ t : Fin grid0.N, win0_9.index t = ![t.val / 8, 0, t.val % 8, 0] := by decide +kernel

theorem index10_val : ∀ t : Fin grid0.N, win0_10.index t = ![t.val / 8, t.val % 8, 0] := by decide +kernel

theorem index11_val : ∀ t : Fin grid0.N, win0_11.index t = ![0, 0] := by decide +kernel

theorem index12_val : ∀ t : Fin grid0.N, win0_12.index t = ![0, 0] := by decide +kernel

theorem index13_val : ∀ t : Fin grid0.N, win0_13.index t = ![0, 0] := by decide +kernel

theorem index14_val : ∀ t : Fin grid0.N, win0_14.index t = ![0, 0] := by decide +kernel

theorem index15_val : ∀ t : Fin grid0.N, win0_15.index t = ![t.val / 8, t.val % 8, 0] := by decide +kernel

/-- The point's batch, and the token of row `p`. -/
def bOf (t : Fin cfg0.N) : Fin 8 := ⟨t.val / 8, by have := t.isLt; have : cfg0.N = 64 := N_0; omega⟩
def tokOf (t : Fin cfg0.N) (p : Fin 512) : Fin 4096 := ⟨t.val % 8 * 512 + p.val, by omega⟩

/-- The head and the place in it of lane `k`; the same over eight heads and over six. -/
def headOf (k : Fin 256) : Fin 4 := ⟨k.val / 64, by omega⟩
def placeOf (k : Fin 256) : Fin 64 := ⟨k.val % 64, by omega⟩
def headOf8 (k : Fin 512) : Fin 8 := ⟨k.val / 64, by omega⟩
def placeOf8 (k : Fin 512) : Fin 64 := ⟨k.val % 64, by omega⟩
def headOf6 (k : Fin 384) : Fin 6 := ⟨k.val / 64, by omega⟩
def placeOf6 (k : Fin 384) : Fin 64 := ⟨k.val % 64, by omega⟩

/-- The column of gate `s` in the incoming weights. -/
def gateCol (s : Fin 3) (n : Fin 1024) : Fin 7240 := ⟨4168 + (s.val * 1024 + n.val), by omega⟩

/-- The kernel's place `k` among the eight heads holds the array's place `swap k`: group and pair trade their order. -/
def swap (k : Fin 512) : Fin 512 := ⟨(k.val / 64 % 2 * 4 + k.val / 64 / 2) * 64 + k.val % 64, by omega⟩

def swapBack (j : Fin 512) : Fin 512 := ⟨(j.val / 64 % 4 * 2 + j.val / 64 / 4) * 64 + j.val % 64, by omega⟩

theorem swapBack_swap (k : Fin 512) : swapBack (swap k) = k := by
  have q : (swap k).val / 64 = k.val / 64 % 2 * 4 + k.val / 64 / 2 := by simp only [swap]; omega
  have r : (swap k).val % 64 = k.val % 64 := by simp only [swap]; omega
  apply Fin.ext
  show ((swap k).val / 64 % 4 * 2 + (swap k).val / 64 / 4) * 64 + (swap k).val % 64 = k.val
  rw [q, r]
  omega

theorem swap_swapBack (k : Fin 512) : swap (swapBack k) = k := by
  have q : (swapBack k).val / 64 = k.val / 64 % 4 * 2 + k.val / 64 / 4 := by simp only [swapBack]; omega
  have r : (swapBack k).val % 64 = k.val % 64 := by simp only [swapBack]; omega
  apply Fin.ext
  show ((swapBack k).val / 64 % 2 * 4 + (swapBack k).val / 64 / 2) * 64 + (swapBack k).val % 64 = k.val
  rw [q, r]
  omega

theorem sum_swap (f : Fin 512 → EReal) : ∑ k : Fin 512, f (swap k) = ∑ k : Fin 512, f k :=
  Fintype.sum_bijective swap ⟨fun a b h => by rw [← swapBack_swap a, h, swapBack_swap], fun b => ⟨_, swap_swapBack b⟩⟩ _ _ fun _ => rfl

section
variable (c : Dev nD)

/-- The fifteen arguments. -/
abbrev a0 : S8x4096x1024.Idx → EReal := m (c.tc.loc main_arg0)
abbrev a1 : S1024.Idx → EReal := m (c.tc.loc main_arg1)
abbrev a2 : S1024x7240.Idx → EReal := m (c.tc.loc main_arg2)
abbrev a3 : S8x4096x6x64.Idx → EReal := m (c.tc.loc main_arg3)
abbrev a4 : S8x4096x4x64.Idx → EReal := m (c.tc.loc main_arg4)
abbrev a5 : S8x4096x4x64.Idx → EReal := m (c.tc.loc main_arg5)
abbrev a6 : S8x4096x4x64.Idx → EReal := m (c.tc.loc main_arg6)
abbrev a7 : S8x4096x4.Idx → EReal := m (c.tc.loc main_arg7)
abbrev a8 : S8x4096x4.Idx → EReal := m (c.tc.loc main_arg8)
abbrev a9 : S8x4096x4.Idx → EReal := m (c.tc.loc main_arg9)
abbrev a10 : S8x4096x8x64.Idx → EReal := m (c.tc.loc main_arg10)
abbrev a11 : S384x1024.Idx → EReal := m (c.tc.loc main_arg11)
abbrev a12 : S256x1024.Idx → EReal := m (c.tc.loc main_arg12)
abbrev a13 : S512x1024.Idx → EReal := m (c.tc.loc main_arg13)
abbrev a14 : S1024x1024.Idx → EReal := m (c.tc.loc main_arg14)

/-! ## The prepared arrays -/

theorem split1_apply (x : FVec Ideal S8x4096x4x64 .f32) (h1 h2) (b : Fin 8) (j : Fin 1) (q : Fin 4096) (l : Fin 256) :
    transpose S8x1x4096x256 [0, 2, 1, 3] (shapeCast S8x4096x1x256 x h1) h2 (ix4 b j q l)
      = x (ix4 b ⟨q.val * 1 + j.val, by omega⟩ (headOf l) (placeOf l)) := by
  rw [transpose_apply _ _ _ _ (ix4 b q j l) (by intro a; fin_cases a <;> rfl)]
  refine shapeCast_apply _ _ _ _ ?_
  rw [Shape.rowMajor_val_four, Shape.rowMajor_val_four]
  change ((b.val * 4096 + (q.val * 1 + j.val)) * 4 + l.val / 64) * 64 + l.val % 64 = ((b.val * 4096 + q.val) * 1 + j.val) * 256 + l.val
  omega

theorem split4_apply (x : FVec Ideal S8x4096x4x64 .f32) (h1 h2) (b : Fin 8) (j : Fin 4) (q : Fin 1024) (l : Fin 256) :
    transpose S8x4x1024x256 [0, 2, 1, 3] (shapeCast S8x1024x4x256 x h1) h2 (ix4 b j q l)
      = x (ix4 b ⟨q.val * 4 + j.val, by omega⟩ (headOf l) (placeOf l)) := by
  rw [transpose_apply _ _ _ _ (ix4 b q j l) (by intro a; fin_cases a <;> rfl)]
  refine shapeCast_apply _ _ _ _ ?_
  rw [Shape.rowMajor_val_four, Shape.rowMajor_val_four]
  change ((b.val * 4096 + (q.val * 4 + j.val)) * 4 + l.val / 64) * 64 + l.val % 64 = ((b.val * 1024 + q.val) * 4 + j.val) * 256 + l.val
  omega

theorem split16_apply (x : FVec Ideal S8x4096x4x64 .f32) (h1 h2) (b : Fin 8) (j : Fin 16) (q : Fin 256) (l : Fin 256) :
    transpose S8x16x256x256 [0, 2, 1, 3] (shapeCast S8x256x16x256 x h1) h2 (ix4 b j q l)
      = x (ix4 b ⟨q.val * 16 + j.val, by omega⟩ (headOf l) (placeOf l)) := by
  rw [transpose_apply _ _ _ _ (ix4 b q j l) (by intro a; fin_cases a <;> rfl)]
  refine shapeCast_apply _ _ _ _ ?_
  rw [Shape.rowMajor_val_four, Shape.rowMajor_val_four]
  change ((b.val * 4096 + (q.val * 16 + j.val)) * 4 + l.val / 64) * 64 + l.val % 64 = ((b.val * 256 + q.val) * 16 + j.val) * 256 + l.val
  omega

/-- A log-sum-exp written over every place of its head. -/
def spread (x : FVec Ideal S8x4096x4 .f32) : FVec Ideal S8x4096x4x64 .f32 :=
  broadcastInDim S8x4096x4x64 ![0, 1, 2, 3] bcast_S8x4096x4x1_S8x4096x4x64_0_1_2_3 (broadcastInDim S8x4096x4x1 ![0, 1, 2] bcast_S8x4096x4_S8x4096x4x1_0_1_2 x)

theorem spread_apply (x : FVec Ideal S8x4096x4 .f32) (b : Fin 8) (t : Fin 4096) (h : Fin 4) (d : Fin 64) : spread x (ix4 b t h d) = x (ix3 b t h) := by
  unfold spread
  refine (broadcastInDim_apply _ _ _ _ (ix4 b t h 0) (by intro a; fin_cases a <;> rfl)).trans ?_
  exact broadcastInDim_apply _ _ _ _ (ix3 b t h) (by intro a; fin_cases a <;> rfl)

theorem v1_at (b : Fin 8) (j : Fin 1) (q : Fin 4096) (l : Fin 256) :
    (V m c main_v1 : S8x1x4096x256.Idx → EReal) (ix4 b j q l) = a4 m c (ix4 b ⟨q.val * 1 + j.val, by omega⟩ (headOf l) (placeOf l)) := by
  entry_read
  exact split1_apply _ _ _ b j q l

theorem v3_at (b : Fin 8) (j : Fin 4) (q : Fin 1024) (l : Fin 256) :
    (V m c main_v3 : S8x4x1024x256.Idx → EReal) (ix4 b j q l) = a5 m c (ix4 b ⟨q.val * 4 + j.val, by omega⟩ (headOf l) (placeOf l)) := by
  entry_read
  exact split4_apply _ _ _ b j q l

theorem v5_at (b : Fin 8) (j : Fin 16) (q : Fin 256) (l : Fin 256) :
    (V m c main_v5 : S8x16x256x256.Idx → EReal) (ix4 b j q l) = a6 m c (ix4 b ⟨q.val * 16 + j.val, by omega⟩ (headOf l) (placeOf l)) := by
  entry_read
  exact split16_apply _ _ _ b j q l

theorem v9_at (b : Fin 8) (j : Fin 1) (q : Fin 4096) (l : Fin 256) :
    (V m c main_v9 : S8x1x4096x256.Idx → EReal) (ix4 b j q l) = a7 m c (ix3 b ⟨q.val * 1 + j.val, by omega⟩ (headOf l)) := by
  entry_read
  exact (split1_apply (spread _) _ _ b j q l).trans (spread_apply _ _ _ _ _)

theorem v13_at (b : Fin 8) (j : Fin 4) (q : Fin 1024) (l : Fin 256) :
    (V m c main_v13 : S8x4x1024x256.Idx → EReal) (ix4 b j q l) = a8 m c (ix3 b ⟨q.val * 4 + j.val, by omega⟩ (headOf l)) := by
  entry_read
  exact (split4_apply (spread _) _ _ b j q l).trans (spread_apply _ _ _ _ _)

theorem v17_at (b : Fin 8) (j : Fin 16) (q : Fin 256) (l : Fin 256) :
    (V m c main_v17 : S8x16x256x256.Idx → EReal) (ix4 b j q l) = a9 m c (ix3 b ⟨q.val * 16 + j.val, by omega⟩ (headOf l)) := by
  entry_read
  exact (split16_apply (spread _) _ _ b j q l).trans (spread_apply _ _ _ _ _)

theorem v28_at (b : Fin 8) (t : Fin 4096) (k : Fin 384) : (V m c main_v28 : S8x4096x384.Idx → EReal) (ix3 b t k) = a3 m c (ix4 b t (headOf6 k) (placeOf6 k)) := by
  have e : (V m c main_v28 : S8x4096x384.Idx → EReal) = shapeCast S8x4096x384 (a3 m c) shapeCasts_S8x4096x6x64_S8x4096x384 := by
    entry_read
    rfl
  rw [e]
  refine shapeCast_apply _ _ _ _ ?_
  rw [Shape.rowMajor_val_four, Shape.rowMajor_val_three]
  change ((b.val * 4096 + t.val) * 6 + k.val / 64) * 64 + k.val % 64 = (b.val * 4096 + t.val) * 384 + k.val
  omega

theorem heads_apply (x : FVec Ideal S8x4096x8x64 .f32) (h1 h2 h3) (b : Fin 8) (t : Fin 4096) (k : Fin 512) :
    shapeCast S8x4096x512 (transpose S8x4096x4x2x64 [0, 1, 3, 2, 4] (shapeCast S8x4096x2x4x64 x h1) h2) h3 (ix3 b t k)
      = x (ix4 b t (headOf8 (swap k)) (placeOf8 (swap k))) := by
  have hk := k.isLt
  have e1 : k.val / 64 / 2 < 4 := by omega
  have e2 : k.val / 64 % 2 < 2 := by omega
  have e3 : k.val % 64 < 64 := by omega
  refine (shapeCast_apply _ _ _ (ix5 b t ⟨k.val / 64 / 2, e1⟩ ⟨k.val / 64 % 2, e2⟩ ⟨k.val % 64, e3⟩) ?_).trans ?_
  · rw [Shape.rowMajor_val_five, Shape.rowMajor_val_three]
    change ((((b.val * 4096 + t.val) * 4 + k.val / 64 / 2) * 2 + k.val / 64 % 2) * 64 + k.val % 64) = (b.val * 4096 + t.val) * 512 + k.val
    omega
  rw [transpose_apply _ _ _ _ (ix5 b t ⟨k.val / 64 % 2, e2⟩ ⟨k.val / 64 / 2, e1⟩ ⟨k.val % 64, e3⟩) (by intro a; fin_cases a <;> rfl)]
  refine shapeCast_apply _ _ _ _ ?_
  rw [Shape.rowMajor_val_four, Shape.rowMajor_val_five]
  change (((b.val * 4096 + t.val) * 8 + (swap k).val / 64) * 64 + (swap k).val % 64)
    = (((b.val * 4096 + t.val) * 2 + k.val / 64 % 2) * 4 + k.val / 64 / 2) * 64 + k.val % 64
  simp only [swap]
  omega

theorem v29_at (b : Fin 8) (t : Fin 4096) (k : Fin 512) : (V m c main_v29 : S8x4096x512.Idx → EReal) (ix3 b t k) = a10 m c (ix4 b t (headOf8 (swap k)) (placeOf8 (swap k))) := by
  have e : (V m c main_v29 : S8x4096x512.Idx → EReal)
      = shapeCast S8x4096x512 (transpose S8x4096x4x2x64 [0, 1, 3, 2, 4] (shapeCast S8x4096x2x4x64 (a10 m c) shapeCasts_S8x4096x8x64_S8x4096x2x4x64)
          transposes_S8x4096x2x4x64_S8x4096x4x2x64_0_1_3_2_4) shapeCasts_S8x4096x4x2x64_S8x4096x512 := by
    entry_read
    rfl
  rw [e]
  exact heads_apply (a10 m c) _ _ _ b t k

theorem weights_apply (x : FVec Ideal S512x1024 .f32) (h1 h2 h3) (k : Fin 512) (n : Fin 1024) :
    shapeCast S512x1024 (transpose S4x2x64x1024 [1, 0, 2, 3] (shapeCast S2x4x64x1024 x h1) h2) h3 (ix2 k n) = x (ix2 (swap k) n) := by
  have hk := k.isLt
  have e1 : k.val / 64 / 2 < 4 := by omega
  have e2 : k.val / 64 % 2 < 2 := by omega
  have e3 : k.val % 64 < 64 := by omega
  refine (shapeCast_apply _ _ _ (ix4 ⟨k.val / 64 / 2, e1⟩ ⟨k.val / 64 % 2, e2⟩ ⟨k.val % 64, e3⟩ n) ?_).trans ?_
  · rw [Shape.rowMajor_val_four, Shape.rowMajor_val_two]
    change ((k.val / 64 / 2 * 2 + k.val / 64 % 2) * 64 + k.val % 64) * 1024 + n.val = k.val * 1024 + n.val
    omega
  rw [transpose_apply _ _ _ _ (ix4 ⟨k.val / 64 % 2, e2⟩ ⟨k.val / 64 / 2, e1⟩ ⟨k.val % 64, e3⟩ n) (by intro a; fin_cases a <;> rfl)]
  refine shapeCast_apply _ _ _ _ ?_
  rw [Shape.rowMajor_val_two, Shape.rowMajor_val_four]
  change (swap k).val * 1024 + n.val = ((k.val / 64 % 2 * 4 + k.val / 64 / 2) * 64 + k.val % 64) * 1024 + n.val
  rfl

theorem v32_at (k : Fin 512) (n : Fin 1024) : (V m c main_v32 : S512x1024.Idx → EReal) (ix2 k n) = a13 m c (ix2 (swap k) n) := by
  have e : (V m c main_v32 : S512x1024.Idx → EReal)
      = shapeCast S512x1024 (transpose S4x2x64x1024 [1, 0, 2, 3] (shapeCast S2x4x64x1024 (a13 m c) shapeCasts_S512x1024_S2x4x64x1024)
          transposes_S2x4x64x1024_S4x2x64x1024_1_0_2_3) shapeCasts_S4x2x64x1024_S512x1024 := by
    entry_read
    rfl
  rw [e]
  exact weights_apply (a13 m c) _ _ _ k n

theorem v25_at (s : Fin 3) (k n : Fin 1024) : (V m c main_v25 : S1024x3072.Idx → EReal) (ix2 k (lane s n)) = a2 m c (ix2 k (gateCol s n)) := by
  have e : (V m c main_v25 : S1024x3072.Idx → EReal) = extractStridedSlice S1024x3072 ![0, 4168] (a2 m c) slices_S1024x7240_S1024x3072_0_4168 := by
    entry_read
    rfl
  rw [e]
  refine extractStridedSlice_apply _ _ _ _ (ix2 k (gateCol s n)) ?_
  intro a
  match a with
  | ⟨0, _⟩ => show k.val = 0 + k.val; omega
  | ⟨1, _⟩ => show 4168 + (s.val * 1024 + n.val) = 4168 + (s.val * 1024 + n.val); rfl

theorem v26_at (k : Fin 1024) : (V m c main_v26 : S1x1024.Idx → EReal) (ix2 0 k) = a1 m c (ix1 k) := by
  entry_read
  exact broadcastInDim_apply _ _ _ _ (ix1 k) (by intro a; fin_cases a; rfl)

theorem v0_eq : (V m c main_arg0 : S8x4096x1024.Idx → EReal) = a0 m c := by
  rfl

theorem v30_eq : (V m c main_v30 : S384x1024.Idx → EReal) = a11 m c := by
  entry_read
  rfl

theorem v31_eq : (V m c main_v31 : S256x1024.Idx → EReal) = a12 m c := by
  entry_read
  rfl

theorem v33_eq : (V m c main_v33 : S1024x1024.Idx → EReal) = a14 m c := by
  entry_read
  rfl

/-! ## The result -/

/-- The merged groups at a token and lane. -/
def merge (b : Fin 8) (t : Fin 4096) (k : Fin 256) : EReal :=
  Merge.after (a7 m c (ix3 b t (headOf k))) (a8 m c (ix3 b t (headOf k))) (a9 m c (ix3 b t (headOf k)))
    (a4 m c (ix4 b t (headOf k) (placeOf k))) (a5 m c (ix4 b t (headOf k) (placeOf k))) (a6 m c (ix4 b t (headOf k) (placeOf k)))

/-- The result array, from the arguments. -/
def result : S8x4096x1024.Idx → EReal := fun i =>
  Merge.row (fun k => a0 m c (ix3 (i 0) (i 1) k)) (fun k => a1 m c (ix1 k)) (fun k n => a2 m c (ix2 k (gateCol 0 n)))
    (fun k n => a2 m c (ix2 k (gateCol 1 n))) (fun k n => a2 m c (ix2 k (gateCol 2 n)))
    (fun n => ∑ k : Fin 384, a3 m c (ix4 (i 0) (i 1) (headOf6 k) (placeOf6 k)) * a11 m c (ix2 k n))
    (fun n => ∑ k : Fin 256, merge m c (i 0) (i 1) k * a12 m c (ix2 k n))
    (fun n => ∑ k : Fin 512, a10 m c (ix4 (i 0) (i 1) (headOf8 k) (placeOf8 k)) * a13 m c (ix2 k n)) (fun n d => a14 m c (ix2 n d)) (i 2)

theorem row_congr {h h' g g' : Fin 1024 → EReal} {w0 w0' w1 w1' w2 w2' : Fin 1024 → Fin 1024 → EReal} {pa pa' pb pb' pc pc' : Fin 1024 → EReal}
    {wo wo' : Fin 1024 → Fin 1024 → EReal} (e0 : ∀ k, h k = h' k) (e1 : ∀ k, g k = g' k) (e2 : ∀ k n, w0 k n = w0' k n) (e3 : ∀ k n, w1 k n = w1' k n)
    (e4 : ∀ k n, w2 k n = w2' k n) (e5 : ∀ n, pa n = pa' n) (e6 : ∀ n, pb n = pb' n) (e7 : ∀ n, pc n = pc' n) (e8 : ∀ n d, wo n d = wo' n d) (d : Fin 1024) :
    Merge.row h g w0 w1 w2 pa pb pc wo d = Merge.row h' g' w0' w1' w2' pa' pb' pc' wo' d := by
  rw [show h = h' from funext e0, show g = g' from funext e1, show w0 = w0' from funext fun k => funext (e2 k), show w1 = w1' from funext fun k => funext (e3 k),
    show w2 = w2' from funext fun k => funext (e4 k), show pa = pa' from funext e5, show pb = pb' from funext e6, show pc = pc' from funext e7,
    show wo = wo' from funext fun k => funext (e8 k)]

/-! ## The windows' blocks -/

variable (t : Fin cfg0.N)

theorem iblk0_apply (p : Fin 512) (l : Fin 1024) : (iblk m c 0 t : Vec Ideal S1x512x1024 .f32) (ix3 0 p l) = V m c main_arg0 (ix3 (bOf t) (tokOf t p) l) := by
  have hi := index0_val t
  unfold iblk
  rw [View.read_apply]
  show V m c main_arg0 _ = V m c main_arg0 _
  congr 1
  funext a
  apply Fin.ext
  match a with
  | ⟨0, _⟩ => show win0_0.index t 0 * 1 + 1 * 0 = t.val / 8; rw [hi]; simp
  | ⟨1, _⟩ => show win0_0.index t 1 * 512 + 1 * p.val = t.val % 8 * 512 + p.val; rw [hi]; simp
  | ⟨2, _⟩ => show win0_0.index t 2 * 1024 + 1 * l.val = l.val; rw [hi]; simp

theorem iblk3_apply (p : Fin 512) (l : Fin 384) : (iblk m c 3 t : Vec Ideal S1x512x384 .bf16) (ix3 0 p l) = V m c main_v28 (ix3 (bOf t) (tokOf t p) l) := by
  have hi := index3_val t
  unfold iblk
  rw [View.read_apply]
  show V m c main_v28 _ = V m c main_v28 _
  congr 1
  funext a
  apply Fin.ext
  match a with
  | ⟨0, _⟩ => show win0_3.index t 0 * 1 + 1 * 0 = t.val / 8; rw [hi]; simp
  | ⟨1, _⟩ => show win0_3.index t 1 * 512 + 1 * p.val = t.val % 8 * 512 + p.val; rw [hi]; simp
  | ⟨2, _⟩ => show win0_3.index t 2 * 384 + 1 * l.val = l.val; rw [hi]; simp

theorem iblk10_apply (p : Fin 512) (l : Fin 512) : (iblk m c 10 t : Vec Ideal S1x512x512 .bf16) (ix3 0 p l) = V m c main_v29 (ix3 (bOf t) (tokOf t p) l) := by
  have hi := index10_val t
  unfold iblk
  rw [View.read_apply]
  show V m c main_v29 _ = V m c main_v29 _
  congr 1
  funext a
  apply Fin.ext
  match a with
  | ⟨0, _⟩ => show win0_10.index t 0 * 1 + 1 * 0 = t.val / 8; rw [hi]; simp
  | ⟨1, _⟩ => show win0_10.index t 1 * 512 + 1 * p.val = t.val % 8 * 512 + p.val; rw [hi]; simp
  | ⟨2, _⟩ => show win0_10.index t 2 * 512 + 1 * l.val = l.val; rw [hi]; simp

theorem iblk1_apply (l : Fin 1024) : (iblk m c 1 t : Vec Ideal S1x1024 .f32) (ix2 0 l) = V m c main_v26 (ix2 0 l) := by
  have hi := index1_val t
  unfold iblk
  rw [View.read_apply]
  show V m c main_v26 _ = V m c main_v26 _
  congr 1
  funext a
  apply Fin.ext
  match a with
  | ⟨0, _⟩ => show win0_1.index t 0 * 1 + 1 * 0 = 0; rw [hi]; simp
  | ⟨1, _⟩ => show win0_1.index t 1 * 1024 + 1 * l.val = l.val; rw [hi]; simp

theorem iblk2_apply (k : Fin 1024) (l : Fin 3072) : (iblk m c 2 t : Vec Ideal S1024x3072 .bf16) (ix2 k l) = V m c main_v25 (ix2 k l) := by
  have hi := index2_val t
  unfold iblk
  rw [View.read_apply]
  show V m c main_v25 _ = V m c main_v25 _
  congr 1
  funext a
  apply Fin.ext
  match a with
  | ⟨0, _⟩ => show win0_2.index t 0 * 1024 + 1 * k.val = k.val; rw [hi]; simp
  | ⟨1, _⟩ => show win0_2.index t 1 * 3072 + 1 * l.val = l.val; rw [hi]; simp

theorem iblk11_apply (k : Fin 384) (l : Fin 1024) : (iblk m c 11 t : Vec Ideal S384x1024 .bf16) (ix2 k l) = V m c main_v30 (ix2 k l) := by
  have hi := index11_val t
  unfold iblk
  rw [View.read_apply]
  show V m c main_v30 _ = V m c main_v30 _
  congr 1
  funext a
  apply Fin.ext
  match a with
  | ⟨0, _⟩ => show win0_11.index t 0 * 384 + 1 * k.val = k.val; rw [hi]; simp
  | ⟨1, _⟩ => show win0_11.index t 1 * 1024 + 1 * l.val = l.val; rw [hi]; simp

theorem iblk12_apply (k : Fin 256) (l : Fin 1024) : (iblk m c 12 t : Vec Ideal S256x1024 .bf16) (ix2 k l) = V m c main_v31 (ix2 k l) := by
  have hi := index12_val t
  unfold iblk
  rw [View.read_apply]
  show V m c main_v31 _ = V m c main_v31 _
  congr 1
  funext a
  apply Fin.ext
  match a with
  | ⟨0, _⟩ => show win0_12.index t 0 * 256 + 1 * k.val = k.val; rw [hi]; simp
  | ⟨1, _⟩ => show win0_12.index t 1 * 1024 + 1 * l.val = l.val; rw [hi]; simp

theorem iblk13_apply (k : Fin 512) (l : Fin 1024) : (iblk m c 13 t : Vec Ideal S512x1024 .bf16) (ix2 k l) = V m c main_v32 (ix2 k l) := by
  have hi := index13_val t
  unfold iblk
  rw [View.read_apply]
  show V m c main_v32 _ = V m c main_v32 _
  congr 1
  funext a
  apply Fin.ext
  match a with
  | ⟨0, _⟩ => show win0_13.index t 0 * 512 + 1 * k.val = k.val; rw [hi]; simp
  | ⟨1, _⟩ => show win0_13.index t 1 * 1024 + 1 * l.val = l.val; rw [hi]; simp

theorem iblk14_apply (k : Fin 1024) (l : Fin 1024) : (iblk m c 14 t : Vec Ideal S1024x1024 .bf16) (ix2 k l) = V m c main_v33 (ix2 k l) := by
  have hi := index14_val t
  unfold iblk
  rw [View.read_apply]
  show V m c main_v33 _ = V m c main_v33 _
  congr 1
  funext a
  apply Fin.ext
  match a with
  | ⟨0, _⟩ => show win0_14.index t 0 * 1024 + 1 * k.val = k.val; rw [hi]; simp
  | ⟨1, _⟩ => show win0_14.index t 1 * 1024 + 1 * l.val = l.val; rw [hi]; simp

theorem iblk4_apply (r : Fin 1) (q : Fin 512) (l : Fin 256) : (iblk m c 4 t : Vec Ideal S1x1x512x256 .f32) (ix4 0 r q l) = V m c main_v1 (ix4 (bOf t) r (⟨t.val % 8 * 512 + q.val, by omega⟩ : Fin 4096) l) := by
  have hi := index4_val t
  unfold iblk
  rw [View.read_apply]
  show V m c main_v1 _ = V m c main_v1 _
  congr 1
  funext a
  apply Fin.ext
  match a with
  | ⟨0, _⟩ => show win0_4.index t 0 * 1 + 1 * 0 = t.val / 8; rw [hi]; simp
  | ⟨1, _⟩ => show win0_4.index t 1 * 1 + 1 * r.val = r.val; rw [hi]; simp
  | ⟨2, _⟩ => show win0_4.index t 2 * 512 + 1 * q.val = t.val % 8 * 512 + q.val; rw [hi]; simp
  | ⟨3, _⟩ => show win0_4.index t 3 * 256 + 1 * l.val = l.val; rw [hi]; simp

theorem iblk5_apply (r : Fin 4) (q : Fin 128) (l : Fin 256) : (iblk m c 5 t : Vec Ideal S1x4x128x256 .f32) (ix4 0 r q l) = V m c main_v3 (ix4 (bOf t) r (⟨t.val % 8 * 128 + q.val, by omega⟩ : Fin 1024) l) := by
  have hi := index5_val t
  unfold iblk
  rw [View.read_apply]
  show V m c main_v3 _ = V m c main_v3 _
  congr 1
  funext a
  apply Fin.ext
  match a with
  | ⟨0, _⟩ => show win0_5.index t 0 * 1 + 1 * 0 = t.val / 8; rw [hi]; simp
  | ⟨1, _⟩ => show win0_5.index t 1 * 4 + 1 * r.val = r.val; rw [hi]; simp
  | ⟨2, _⟩ => show win0_5.index t 2 * 128 + 1 * q.val = t.val % 8 * 128 + q.val; rw [hi]; simp
  | ⟨3, _⟩ => show win0_5.index t 3 * 256 + 1 * l.val = l.val; rw [hi]; simp

theorem iblk6_apply (r : Fin 16) (q : Fin 32) (l : Fin 256) : (iblk m c 6 t : Vec Ideal S1x16x32x256 .f32) (ix4 0 r q l) = V m c main_v5 (ix4 (bOf t) r (⟨t.val % 8 * 32 + q.val, by omega⟩ : Fin 256) l) := by
  have hi := index6_val t
  unfold iblk
  rw [View.read_apply]
  show V m c main_v5 _ = V m c main_v5 _
  congr 1
  funext a
  apply Fin.ext
  match a with
  | ⟨0, _⟩ => show win0_6.index t 0 * 1 + 1 * 0 = t.val / 8; rw [hi]; simp
  | ⟨1, _⟩ => show win0_6.index t 1 * 16 + 1 * r.val = r.val; rw [hi]; simp
  | ⟨2, _⟩ => show win0_6.index t 2 * 32 + 1 * q.val = t.val % 8 * 32 + q.val; rw [hi]; simp
  | ⟨3, _⟩ => show win0_6.index t 3 * 256 + 1 * l.val = l.val; rw [hi]; simp

theorem iblk7_apply (r : Fin 1) (q : Fin 512) (l : Fin 256) : (iblk m c 7 t : Vec Ideal S1x1x512x256 .f32) (ix4 0 r q l) = V m c main_v9 (ix4 (bOf t) r (⟨t.val % 8 * 512 + q.val, by omega⟩ : Fin 4096) l) := by
  have hi := index7_val t
  unfold iblk
  rw [View.read_apply]
  show V m c main_v9 _ = V m c main_v9 _
  congr 1
  funext a
  apply Fin.ext
  match a with
  | ⟨0, _⟩ => show win0_7.index t 0 * 1 + 1 * 0 = t.val / 8; rw [hi]; simp
  | ⟨1, _⟩ => show win0_7.index t 1 * 1 + 1 * r.val = r.val; rw [hi]; simp
  | ⟨2, _⟩ => show win0_7.index t 2 * 512 + 1 * q.val = t.val % 8 * 512 + q.val; rw [hi]; simp
  | ⟨3, _⟩ => show win0_7.index t 3 * 256 + 1 * l.val = l.val; rw [hi]; simp

theorem iblk8_apply (r : Fin 4) (q : Fin 128) (l : Fin 256) : (iblk m c 8 t : Vec Ideal S1x4x128x256 .f32) (ix4 0 r q l) = V m c main_v13 (ix4 (bOf t) r (⟨t.val % 8 * 128 + q.val, by omega⟩ : Fin 1024) l) := by
  have hi := index8_val t
  unfold iblk
  rw [View.read_apply]
  show V m c main_v13 _ = V m c main_v13 _
  congr 1
  funext a
  apply Fin.ext
  match a with
  | ⟨0, _⟩ => show win0_8.index t 0 * 1 + 1 * 0 = t.val / 8; rw [hi]; simp
  | ⟨1, _⟩ => show win0_8.index t 1 * 4 + 1 * r.val = r.val; rw [hi]; simp
  | ⟨2, _⟩ => show win0_8.index t 2 * 128 + 1 * q.val = t.val % 8 * 128 + q.val; rw [hi]; simp
  | ⟨3, _⟩ => show win0_8.index t 3 * 256 + 1 * l.val = l.val; rw [hi]; simp

theorem iblk9_apply (r : Fin 16) (q : Fin 32) (l : Fin 256) : (iblk m c 9 t : Vec Ideal S1x16x32x256 .f32) (ix4 0 r q l) = V m c main_v17 (ix4 (bOf t) r (⟨t.val % 8 * 32 + q.val, by omega⟩ : Fin 256) l) := by
  have hi := index9_val t
  unfold iblk
  rw [View.read_apply]
  show V m c main_v17 _ = V m c main_v17 _
  congr 1
  funext a
  apply Fin.ext
  match a with
  | ⟨0, _⟩ => show win0_9.index t 0 * 1 + 1 * 0 = t.val / 8; rw [hi]; simp
  | ⟨1, _⟩ => show win0_9.index t 1 * 16 + 1 * r.val = r.val; rw [hi]; simp
  | ⟨2, _⟩ => show win0_9.index t 2 * 32 + 1 * q.val = t.val % 8 * 32 + q.val; rw [hi]; simp
  | ⟨3, _⟩ => show win0_9.index t 3 * 256 + 1 * l.val = l.val; rw [hi]; simp

theorem tok_at {D M : ℕ} (hD : D * M = 512) (x : (Blk D M).Idx → EReal) (p : Fin 512) (k : Fin 256) (h1 : p.val % D < D) (h2 : p.val / D < M) :
    tok hD x (ix3 (halfOf k) p (laneOf k)) = x (ix4 0 ⟨p.val % D, h1⟩ ⟨p.val / D, h2⟩ k) := by
  unfold tok
  refine congrArg x (funext fun a => Fin.ext ?_)
  match a with
  | ⟨0, _⟩ => rfl
  | ⟨1, _⟩ => rfl
  | ⟨2, _⟩ => rfl
  | ⟨3, _⟩ => show k.val / 128 * 128 + k.val % 128 = k.val; omega

theorem outs1_at (p : Fin 512) (k : Fin 256) : outs1 (iblk m c 5 t) (ix2 p k) = a5 m c (ix4 (bOf t) (tokOf t p) (headOf k) (placeOf k)) := by
  refine (tok_at (D := 4) (M := 128) rfl _ p k (by omega) (by omega)).trans ((iblk5_apply m c t _ _ k).trans ((v3_at m c _ _ _ k).trans (congrArg (a5 m c) ?_)))
  have e : ∀ h, (⟨(t.val % 8 * 128 + p.val / 4) * 4 + p.val % 4, h⟩ : Fin 4096) = tokOf t p := fun h => Fin.ext (by show (t.val % 8 * 128 + p.val / 4) * 4 + p.val % 4 = t.val % 8 * 512 + p.val; omega)
  exact congrArg (fun z => (ix4 (bOf t) z (headOf k) (placeOf k))) (e _)

theorem outs2_at (p : Fin 512) (k : Fin 256) : outs2 (iblk m c 6 t) (ix2 p k) = a6 m c (ix4 (bOf t) (tokOf t p) (headOf k) (placeOf k)) := by
  refine (tok_at (D := 16) (M := 32) rfl _ p k (by omega) (by omega)).trans ((iblk6_apply m c t _ _ k).trans ((v5_at m c _ _ _ k).trans (congrArg (a6 m c) ?_)))
  have e : ∀ h, (⟨(t.val % 8 * 32 + p.val / 16) * 16 + p.val % 16, h⟩ : Fin 4096) = tokOf t p := fun h => Fin.ext (by show (t.val % 8 * 32 + p.val / 16) * 16 + p.val % 16 = t.val % 8 * 512 + p.val; omega)
  exact congrArg (fun z => (ix4 (bOf t) z (headOf k) (placeOf k))) (e _)

theorem sums1_at (p : Fin 512) (k : Fin 256) : sums1 (iblk m c 8 t) (ix2 p k) = a8 m c (ix3 (bOf t) (tokOf t p) (headOf k)) := by
  refine (tok_at (D := 4) (M := 128) rfl _ p k (by omega) (by omega)).trans ((iblk8_apply m c t _ _ k).trans ((v13_at m c _ _ _ k).trans (congrArg (a8 m c) ?_)))
  have e : ∀ h, (⟨(t.val % 8 * 128 + p.val / 4) * 4 + p.val % 4, h⟩ : Fin 4096) = tokOf t p := fun h => Fin.ext (by show (t.val % 8 * 128 + p.val / 4) * 4 + p.val % 4 = t.val % 8 * 512 + p.val; omega)
  exact congrArg (fun z => (ix3 (bOf t) z (headOf k))) (e _)

theorem sums2_at (p : Fin 512) (k : Fin 256) : sums2 (iblk m c 9 t) (ix2 p k) = a9 m c (ix3 (bOf t) (tokOf t p) (headOf k)) := by
  refine (tok_at (D := 16) (M := 32) rfl _ p k (by omega) (by omega)).trans ((iblk9_apply m c t _ _ k).trans ((v17_at m c _ _ _ k).trans (congrArg (a9 m c) ?_)))
  have e : ∀ h, (⟨(t.val % 8 * 32 + p.val / 16) * 16 + p.val % 16, h⟩ : Fin 4096) = tokOf t p := fun h => Fin.ext (by show (t.val % 8 * 32 + p.val / 16) * 16 + p.val % 16 = t.val % 8 * 512 + p.val; omega)
  exact congrArg (fun z => (ix3 (bOf t) z (headOf k))) (e _)

theorem outs0_at (p : Fin 512) (k : Fin 256) : (iblk m c 4 t : Vec Ideal S1x1x512x256 .f32) (ix4 0 0 p k) = a4 m c (ix4 (bOf t) (tokOf t p) (headOf k) (placeOf k)) := by
  refine (iblk4_apply m c t 0 p k).trans ((v1_at m c _ _ _ k).trans (congrArg (a4 m c) ?_))
  have e : ∀ h, (⟨(t.val % 8 * 512 + p.val) * 1 + (0 : Fin 1).val, h⟩ : Fin 4096) = tokOf t p := fun h => Fin.ext (by show (t.val % 8 * 512 + p.val) * 1 + 0 = t.val % 8 * 512 + p.val; omega)
  exact congrArg (fun z => (ix4 (bOf t) z (headOf k) (placeOf k))) (e _)

theorem sums0_at (p : Fin 512) (k : Fin 256) : (iblk m c 7 t : Vec Ideal S1x1x512x256 .f32) (ix4 0 0 p k) = a7 m c (ix3 (bOf t) (tokOf t p) (headOf k)) := by
  refine (iblk7_apply m c t 0 p k).trans ((v9_at m c _ _ _ k).trans (congrArg (a7 m c) ?_))
  have e : ∀ h, (⟨(t.val % 8 * 512 + p.val) * 1 + (0 : Fin 1).val, h⟩ : Fin 4096) = tokOf t p := fun h => Fin.ext (by show (t.val % 8 * 512 + p.val) * 1 + 0 = t.val % 8 * 512 + p.val; omega)
  exact congrArg (fun z => (ix3 (bOf t) z (headOf k))) (e _)

theorem merged_at (p : Fin 512) (k : Fin 256) :
    merged (iblk m c 4 t) (iblk m c 5 t) (iblk m c 6 t) (iblk m c 7 t) (iblk m c 8 t) (iblk m c 9 t) p k = merge m c (bOf t) (tokOf t p) k := by
  unfold merged merge
  rw [outs0_at, outs1_at, outs2_at, sums0_at, sums1_at, sums2_at]

theorem gates_at (s : Fin 3) (k n : Fin 1024) : (iblk m c 2 t : Vec Ideal S1024x3072 .bf16) (ix2 k (lane s n)) = a2 m c (ix2 k (gateCol s n)) :=
  (iblk2_apply m c t k _).trans (v25_at m c s k n)

/-- The sum over the eight heads, in the array's order. -/
theorem heads_sum (b : Fin 8) (q : Fin 4096) (n : Fin 1024) :
    ∑ k : Fin 512, a10 m c (ix4 b q (headOf8 (swap k)) (placeOf8 (swap k))) * a13 m c (ix2 (swap k) n)
      = ∑ k : Fin 512, a10 m c (ix4 b q (headOf8 k) (placeOf8 k)) * a13 m c (ix2 k n) :=
  sum_swap fun k => a10 m c (ix4 b q (headOf8 k) (placeOf8 k)) * a13 m c (ix2 k n)

/-- Every point writes back its block of the result. -/
theorem flushed15_eq : (dats m 0 c).flushed 15 t = ((cfg0.win 15).blk t).view.read (Elt Ideal) (result m c) := by
  rw [Value.flushed15_A]
  funext y
  rw [View.read_apply]
  have hi := index15_val t
  have h0 : (y 0).val < 1 := (y 0).isLt
  refine (out15_apply _ _ _ _ _ _ _ _ _ _ _ _ _ _ _ _ _ _ _ _ _ _ _ _ _ _ _ _ _ _ _ _ _ _ _ _ _ _ _ _ _ _ _ _ _ _ _ _ _ _ _ _ _ _ _ _ _ y (y 1) rfl).trans ?_
  have he : ((cfg0.win 15).blk t).view.emb y = (ix3 (bOf t) (tokOf t (y 1)) (y 2) : S8x4096x1024.Idx) := by
    funext a
    apply Fin.ext
    match a with
    | ⟨0, _⟩ => show win0_15.index t 0 * 1 + 1 * (y 0).val = t.val / 8; rw [hi]; simp; omega
    | ⟨1, _⟩ => show win0_15.index t 1 * 512 + 1 * (y 1).val = t.val % 8 * 512 + (y 1).val; rw [hi]; simp
    | ⟨2, _⟩ => show win0_15.index t 2 * 1024 + 1 * (y 2).val = (y 2).val; rw [hi]; simp
  show _ = result m c (((cfg0.win 15).blk t).view.emb y)
  rw [he]
  refine row_congr (fun k => (iblk0_apply m c t (y 1) k).trans (congrFun (v0_eq m c) _)) (fun k => (iblk1_apply m c t k).trans (v26_at m c k))
    (gates_at m c t 0) (gates_at m c t 1) (gates_at m c t 2) (fun n => Finset.sum_congr rfl fun k _ => ?_) (fun n => Finset.sum_congr rfl fun k _ => ?_)
    (fun n => Eq.trans (Finset.sum_congr rfl fun k _ => ?_) (heads_sum m c (bOf t) (tokOf t (y 1)) n)) (fun n d => (iblk14_apply m c t n d).trans (congrFun (v33_eq m c) _)) (y 2)
  · exact congrArg₂ (fun a b : EReal => a * b) ((iblk3_apply m c t (y 1) k).trans (v28_at m c _ _ k)) ((iblk11_apply m c t k n).trans (congrFun (v30_eq m c) _))
  · exact congrArg₂ (fun a b : EReal => a * b) (merged_at m c t (y 1) k) ((iblk12_apply m c t k n).trans (congrFun (v31_eq m c) _))
  · exact congrArg₂ (fun a b : EReal => a * b) ((iblk10_apply m c t (y 1) k).trans (v29_at m c _ _ k)) ((iblk13_apply m c t k n).trans (v32_at m c k n))

end

/-- The point whose block holds index `i`. -/
def pointOf (i : S8x4096x1024.Idx) : Fin cfg0.N :=
  ⟨(i 0).val * 8 + (i 1).val / 512, by
    have h0 : (i 0).val < 8 := (i 0).isLt
    have h1 : (i 1).val < 4096 := (i 1).isLt
    have : cfg0.N = 64 := N_0
    omega⟩

/-- The result array after the run. -/
theorem final15 (c : Dev nD) : (dats m 0 c).arrAt 15 cfg0.N = result m c :=
  (dats m 0 c).arrAt_eq_of_cover 15 (result m c) (fun t _ => flushed15_eq m c t) fun i =>
    ⟨pointOf i, flush0_15 _, by
      have h0 : (i 0).val < 8 := (i 0).isLt
      have h1 : (i 1).val < 4096 := (i 1).isLt
      have h2 : (i 2).val < 1024 := (i 2).isLt
      have hi := index15_val (pointOf i)
      have hp : (pointOf i).val = (i 0).val * 8 + (i 1).val / 512 := rfl
      show i ∈ ((View.whole main_v34).slice (win0_15.rect (pointOf i))).set
      rw [View.set_slice_whole, Rect.mem_set_unit]
      intro a
      match a with
      | ⟨0, _⟩ => show win0_15.index (pointOf i) 0 * 1 ≤ (i 0).val ∧ (i 0).val < win0_15.index (pointOf i) 0 * 1 + 1
                  rw [hi]; simp; omega
      | ⟨1, _⟩ => show win0_15.index (pointOf i) 1 * 512 ≤ (i 1).val ∧ (i 1).val < win0_15.index (pointOf i) 1 * 512 + 512
                  rw [hi]; simp; omega
      | ⟨2, _⟩ => show win0_15.index (pointOf i) 2 * 1024 ≤ (i 2).val ∧ (i 2).val < win0_15.index (pointOf i) 2 * 1024 + 1024
                  rw [hi]; simp; omega⟩

end Cert.Mixer

end
-- ==== Proof.MixRef.lean ====
/- The gated output projection's reference at an index, and its equality with the call's result array. -/
module

public import proofs.«01_k».proof.Proof.MixRun
public import proofs.«01_k».proof.Proof.Gen.MixoutRefIdeal.Read
public import Idealize.ShloMosaic.Lib.IdealHost
public import Idealize.ShloMosaic.Lib.KernelVsHost

@[expose] public section

set_option maxRecDepth 16384

noncomputable section

namespace Cert.MixerRef

open Cert.MixoutRefIdeal Cert.MixoutRefIdeal.Gen Cert.MixoutRefIdeal.Read Idealize.ShloMosaic Idealize.ShloMosaic.ValueIdx
open Cert.Mixer (headOf placeOf headOf6 placeOf6 headOf8 placeOf8 gateCol)

variable (x0 : S8x4096x1024.Idx → EReal) (x1 : S1024.Idx → EReal) (x2 : S1024x7240.Idx → EReal) (x3 : S8x4096x6x64.Idx → EReal)
  (x4 x5 x6 : S8x4096x4x64.Idx → EReal) (x7 x8 x9 : S8x4096x4.Idx → EReal) (x10 : S8x4096x8x64.Idx → EReal)
  (x11 : S384x1024.Idx → EReal) (x12 : S256x1024.Idx → EReal) (x13 : S512x1024.Idx → EReal) (x14 : S1024x1024.Idx → EReal)
  (b : Fin 8) (p : Fin 4096)

/-! ## The gates -/

theorem v12_apply (l : Fin 1024) :
    val_main_v12 (F := Ideal) x0 x1 (ix3 b p l) = Rows.rms (fun k => x0 (ix3 b p k)) (fun k => x1 (ix1 k)) l := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  have hs : (val_main_cst (F := Ideal)) (Shape.Idx.first h_S_) + ∑ k : Fin 1024, (val_main_v0 (F := Ideal) x0) (idx_main_v1 (idx_main_v2 (idx_main_v8 (ix3 b p l))) k)
      = ∑ k : Fin 1024, x0 (ix3 b p k) * x0 (ix3 b p k) := by
    rw [val_main_cst_apply]
    refine (congrArg (· + _) Ideal.ofBits_zero_f32).trans ((zero_add _).trans ?_)
    refine Finset.sum_congr rfl fun k _ => ?_
    rw [val_main_v0_apply, show idx_main_v1 (idx_main_v2 (idx_main_v8 (ix3 b p l))) k = ix3 b p k by funext a; fin_cases a <;> rfl]
    rfl
  rw [hs, show idx_main_v10 (idx_main_v11 (ix3 b p l)) = ix1 l by funext a; fin_cases a; rfl]
  rfl

theorem under35 (s : Fin 3) (n : Fin 1024) : idx_main_v14 (idx_main_v35 (ix4 b p s n)) = ix3 b p (gateCol s n) := by
  have hb := b.isLt
  have hp := p.isLt
  have hs := s.isLt
  have hn := n.isLt
  funext a
  apply Fin.ext
  match a with
  | ⟨0, _⟩ => show (((b.val * 4096 + p.val) * 3 + s.val) * 1024 + n.val) / 12582912 = b.val; omega
  | ⟨1, _⟩ => show (((b.val * 4096 + p.val) * 3 + s.val) * 1024 + n.val) / 3072 % 4096 = p.val; omega
  | ⟨2, _⟩ => show 4168 + (((b.val * 4096 + p.val) * 3 + s.val) * 1024 + n.val) % 3072 = 4168 + (s.val * 1024 + n.val); omega

theorem v35_apply (s : Fin 3) (n : Fin 1024) :
    val_main_v35 (F := Ideal) x0 x1 x2 (ix4 b p s n) = ∑ k : Fin 1024, Rows.rms (fun k => x0 (ix3 b p k)) (fun k => x1 (ix1 k)) k * x2 (ix2 k (gateCol s n)) := by
  rw [val_main_v35_apply, val_main_v14_apply, under35, val_main_v13_apply]
  refine Finset.sum_congr rfl fun k _ => ?_
  rw [show lidx_main_v13 (ix3 b p (gateCol s n)) k = ix3 b p k by funext a; fin_cases a <;> rfl,
    show ridx_main_v13 (ix3 b p (gateCol s n)) k = ix2 k (gateCol s n) by funext a; fin_cases a <;> rfl, v12_apply]

theorem v41_apply (s : Fin 3) (n : Fin 1024) :
    val_main_v41 (F := Ideal) x0 x1 x2 (ix4 b p s n)
      = Merge.gate (Rows.rms (fun k => x0 (ix3 b p k)) (fun k => x1 (ix1 k))) (fun k n => x2 (ix2 k (gateCol s n))) n := by
  rw [val_main_v41_apply, val_main_v40_apply, val_main_cst_6_apply, val_main_v39_apply, val_main_v38_apply, val_main_cst_5_apply, val_main_v37_apply,
    val_main_v36_apply, v35_apply]
  change Ideal.div (Ideal.ofBits .f32 0x3F800000#32) (Ideal.ofBits .f32 0x3F800000#32 + Ideal.exp (-(∑ k : Fin 1024, Rows.rms (fun k => x0 (ix3 b p k)) (fun k => x1 (ix1 k)) k * x2 (ix2 k (gateCol s n))))) = _
  rw [Ideal.ofBits_one_f32]
  rfl

theorem v43_apply (n : Fin 1024) :
    val_main_v43 (F := Ideal) x0 x1 x2 (ix3 b p n)
      = Merge.gate (Rows.rms (fun k => x0 (ix3 b p k)) (fun k => x1 (ix1 k))) (fun k n => x2 (ix2 k (gateCol 0 n))) n := by
  have hb := b.isLt
  have hp := p.isLt
  have hn := n.isLt
  rw [val_main_v43_apply, val_main_v42_apply]
  refine (congrArg (val_main_v41 (F := Ideal) x0 x1 x2) (funext fun a => Fin.ext ?_)).trans (v41_apply x0 x1 x2 b p 0 n)
  match a with
  | ⟨0, _⟩ => show ((b.val * 4096 + p.val) * 1024 + n.val) / 4194304 = b.val; omega
  | ⟨1, _⟩ => show ((b.val * 4096 + p.val) * 1024 + n.val) / 1024 % 4096 = p.val; omega
  | ⟨2, _⟩ => rfl
  | ⟨3, _⟩ => show ((b.val * 4096 + p.val) * 1024 + n.val) % 1024 = n.val; omega

theorem v48_apply (n : Fin 1024) :
    val_main_v48 (F := Ideal) x0 x1 x2 (ix3 b p n)
      = Merge.gate (Rows.rms (fun k => x0 (ix3 b p k)) (fun k => x1 (ix1 k))) (fun k n => x2 (ix2 k (gateCol 1 n))) n := by
  have hb := b.isLt
  have hp := p.isLt
  have hn := n.isLt
  rw [val_main_v48_apply, val_main_v47_apply]
  refine (congrArg (val_main_v41 (F := Ideal) x0 x1 x2) (funext fun a => Fin.ext ?_)).trans (v41_apply x0 x1 x2 b p 1 n)
  match a with
  | ⟨0, _⟩ => show ((b.val * 4096 + p.val) * 1024 + n.val) / 4194304 = b.val; omega
  | ⟨1, _⟩ => show ((b.val * 4096 + p.val) * 1024 + n.val) / 1024 % 4096 = p.val; omega
  | ⟨2, _⟩ => rfl
  | ⟨3, _⟩ => show ((b.val * 4096 + p.val) * 1024 + n.val) % 1024 = n.val; omega

theorem v54_apply (n : Fin 1024) :
    val_main_v54 (F := Ideal) x0 x1 x2 (ix3 b p n)
      = Merge.gate (Rows.rms (fun k => x0 (ix3 b p k)) (fun k => x1 (ix1 k))) (fun k n => x2 (ix2 k (gateCol 2 n))) n := by
  have hb := b.isLt
  have hp := p.isLt
  have hn := n.isLt
  rw [val_main_v54_apply, val_main_v53_apply]
  refine (congrArg (val_main_v41 (F := Ideal) x0 x1 x2) (funext fun a => Fin.ext ?_)).trans (v41_apply x0 x1 x2 b p 2 n)
  match a with
  | ⟨0, _⟩ => show ((b.val * 4096 + p.val) * 1024 + n.val) / 4194304 = b.val; omega
  | ⟨1, _⟩ => show ((b.val * 4096 + p.val) * 1024 + n.val) / 1024 % 4096 = p.val; omega
  | ⟨2, _⟩ => rfl
  | ⟨3, _⟩ => show ((b.val * 4096 + p.val) * 1024 + n.val) % 1024 = n.val; omega

/-! ## The three projections -/

theorem under44 (k : Fin 384) : idx_main_v44 (ix3 b p k) = ix4 b p (headOf6 k) (placeOf6 k) := by
  have hb := b.isLt
  have hp := p.isLt
  have hk := k.isLt
  funext a
  apply Fin.ext
  match a with
  | ⟨0, _⟩ => show ((b.val * 4096 + p.val) * 384 + k.val) / 1572864 = b.val; omega
  | ⟨1, _⟩ => show ((b.val * 4096 + p.val) * 384 + k.val) / 384 % 4096 = p.val; omega
  | ⟨2, _⟩ => show ((b.val * 4096 + p.val) * 384 + k.val) / 64 % 6 = k.val / 64; omega
  | ⟨3, _⟩ => show ((b.val * 4096 + p.val) * 384 + k.val) % 64 = k.val % 64; omega

theorem under49 (k : Fin 256) : idx_main_v49 (ix3 b p k) = ix4 b p (headOf k) (placeOf k) := by
  have hb := b.isLt
  have hp := p.isLt
  have hk := k.isLt
  funext a
  apply Fin.ext
  match a with
  | ⟨0, _⟩ => show ((b.val * 4096 + p.val) * 256 + k.val) / 1048576 = b.val; omega
  | ⟨1, _⟩ => show ((b.val * 4096 + p.val) * 256 + k.val) / 256 % 4096 = p.val; omega
  | ⟨2, _⟩ => show ((b.val * 4096 + p.val) * 256 + k.val) / 64 % 4 = k.val / 64; omega
  | ⟨3, _⟩ => show ((b.val * 4096 + p.val) * 256 + k.val) % 64 = k.val % 64; omega

theorem under55 (k : Fin 512) : idx_main_v55 (ix3 b p k) = ix4 b p (headOf8 k) (placeOf8 k) := by
  have hb := b.isLt
  have hp := p.isLt
  have hk := k.isLt
  funext a
  apply Fin.ext
  match a with
  | ⟨0, _⟩ => show ((b.val * 4096 + p.val) * 512 + k.val) / 2097152 = b.val; omega
  | ⟨1, _⟩ => show ((b.val * 4096 + p.val) * 512 + k.val) / 512 % 4096 = p.val; omega
  | ⟨2, _⟩ => show ((b.val * 4096 + p.val) * 512 + k.val) / 64 % 8 = k.val / 64; omega
  | ⟨3, _⟩ => show ((b.val * 4096 + p.val) * 512 + k.val) % 64 = k.val % 64; omega

theorem v45_apply (n : Fin 1024) :
    val_main_v45 (F := Ideal) x3 x11 (ix3 b p n) = ∑ k : Fin 384, x3 (ix4 b p (headOf6 k) (placeOf6 k)) * x11 (ix2 k n) := by
  rw [val_main_v45_apply]
  refine Finset.sum_congr rfl fun k _ => ?_
  rw [show lidx_main_v45 (ix3 b p n) k = ix3 b p k by funext a; fin_cases a <;> rfl,
    show ridx_main_v45 (ix3 b p n) k = ix2 k n by funext a; fin_cases a <;> rfl, val_main_v44_apply, under44]

theorem v56_apply (n : Fin 1024) :
    val_main_v56 (F := Ideal) x10 x13 (ix3 b p n) = ∑ k : Fin 512, x10 (ix4 b p (headOf8 k) (placeOf8 k)) * x13 (ix2 k n) := by
  rw [val_main_v56_apply]
  refine Finset.sum_congr rfl fun k _ => ?_
  rw [show lidx_main_v56 (ix3 b p n) k = ix3 b p k by funext a; fin_cases a <;> rfl,
    show ridx_main_v56 (ix3 b p n) k = ix2 k n by funext a; fin_cases a <;> rfl, val_main_v55_apply, under55]

/-! ## The merge of the groups -/

theorem v18_apply (h : Fin 4) (s : Fin 3) :
    val_main_v18 (F := Ideal) x7 x8 x9 (ix4 s b p h) = Merge.pick (x7 (ix3 b p h)) (x8 (ix3 b p h)) (x9 (ix3 b p h)) s := by
  unfold val_main_v18 Merge.pick
  have hs := s.isLt
  split_ifs with h0 h1
  · refine (concatenate_apply_piece 0 _ _ (ix4 s b p h) 0 (by show 0 < 3; omega) S1x8x4096x4 (val_main_v15 (F := Ideal) x7) rfl rfl 0 rfl (ix4 0 b p h) ?_ ?_).trans ?_
    · intro a ha
      fin_cases a
      · exact absurd rfl ha
      · rfl
      · rfl
      · rfl
    · show 0 + 0 = s.val
      omega
    · rw [val_main_v15_apply]
      exact congrArg x7 (by funext a; fin_cases a <;> rfl)
  · refine (concatenate_apply_piece 0 _ _ (ix4 s b p h) 1 (by show 1 < 3; omega) S1x8x4096x4 (val_main_v16 (F := Ideal) x8) rfl rfl 1 rfl (ix4 0 b p h) ?_ ?_).trans ?_
    · intro a ha
      fin_cases a
      · exact absurd rfl ha
      · rfl
      · rfl
      · rfl
    · show 1 + 0 = s.val
      omega
    · rw [val_main_v16_apply]
      exact congrArg x8 (by funext a; fin_cases a <;> rfl)
  · refine (concatenate_apply_piece 0 _ _ (ix4 s b p h) 2 (by show 2 < 3; omega) S1x8x4096x4 (val_main_v17 (F := Ideal) x9) rfl rfl 2 rfl (ix4 0 b p h) ?_ ?_).trans ?_
    · intro a ha
      fin_cases a
      · exact absurd rfl ha
      · rfl
      · rfl
      · rfl
    · show 2 + 0 = s.val
      omega
    · rw [val_main_v17_apply]
      exact congrArg x9 (by funext a; fin_cases a <;> rfl)

theorem v33_apply (h : Fin 4) (d : Fin 64) (s : Fin 3) :
    val_main_v33 (F := Ideal) x4 x5 x6 (ix5 s b p h d) = Merge.pick (x4 (ix4 b p h d)) (x5 (ix4 b p h d)) (x6 (ix4 b p h d)) s := by
  unfold val_main_v33 Merge.pick
  have hs := s.isLt
  split_ifs with h0 h1
  · refine (concatenate_apply_piece 0 _ _ (ix5 s b p h d) 0 (by show 0 < 3; omega) S1x8x4096x4x64 (val_main_v30 (F := Ideal) x4) rfl rfl 0 rfl (ix5 0 b p h d) ?_ ?_).trans ?_
    · intro a ha
      fin_cases a
      · exact absurd rfl ha
      · rfl
      · rfl
      · rfl
      · rfl
    · show 0 + 0 = s.val
      omega
    · rw [val_main_v30_apply]
      exact congrArg x4 (by funext a; fin_cases a <;> rfl)
  · refine (concatenate_apply_piece 0 _ _ (ix5 s b p h d) 1 (by show 1 < 3; omega) S1x8x4096x4x64 (val_main_v31 (F := Ideal) x5) rfl rfl 1 rfl (ix5 0 b p h d) ?_ ?_).trans ?_
    · intro a ha
      fin_cases a
      · exact absurd rfl ha
      · rfl
      · rfl
      · rfl
      · rfl
    · show 1 + 0 = s.val
      omega
    · rw [val_main_v31_apply]
      exact congrArg x5 (by funext a; fin_cases a <;> rfl)
  · refine (concatenate_apply_piece 0 _ _ (ix5 s b p h d) 2 (by show 2 < 3; omega) S1x8x4096x4x64 (val_main_v32 (F := Ideal) x6) rfl rfl 2 rfl (ix5 0 b p h d) ?_ ?_).trans ?_
    · intro a ha
      fin_cases a
      · exact absurd rfl ha
      · rfl
      · rfl
      · rfl
      · rfl
    · show 2 + 0 = s.val
      omega
    · rw [val_main_v32_apply]
      exact congrArg x6 (by funext a; fin_cases a <;> rfl)

/-- The greatest of the three log-sum-exps. -/
theorem greatest_apply (x : FVec Ideal S3x8x4096x4 .f32) (h : Fin 4) :
    Host.reduce FloatOps.maximumf x (constant (F := Ideal) S_ .f32 0xFF800000#32) reducesTo_S3x8x4096x4_S8x4096x4_d0 h_S_ (ix3 b p h)
      = Softmax.rmax fun s : Fin 3 => x (ix4 s b p h) := by
  have hr : S3x8x4096x4.Reduces [0] S8x4096x4 := by decide
  rw [hostReduce_maximumf_eq_multiReduction x 0xFF800000#32 reducesTo_S3x8x4096x4_S8x4096x4_d0 h_S_ hr (.inl rfl) rfl]
  refine (Ideal.multiReduction_maximumf_single (a := 0) x _ _ _ _ _).trans ?_
  rw [Softmax.rmax, show (FloatOps.ofBits FTy.f32 0xFF800000#32 : Ideal .f32) = ⊥ from Softmax.ofBits_bot]
  congr 1
  funext s
  exact congrArg x (by funext a; fin_cases a <;> rfl)

/-- One head's log-sum-exps. -/
abbrev lses (h : Fin 4) : Fin 3 → EReal := Merge.pick (x7 (ix3 b p h)) (x8 (ix3 b p h)) (x9 (ix3 b p h))

theorem v21_apply (h : Fin 4) : val_main_v21 (F := Ideal) x7 x8 x9 (ix3 b p h) = Softmax.rmax (lses x7 x8 x9 b p h) := by
  rw [val_main_v21_apply, val_main_v20_apply, val_main_cst_3_apply]
  have e : val_main_v19 (F := Ideal) x7 x8 x9 (ix3 b p h) = Softmax.rmax (lses x7 x8 x9 b p h) := by
    unfold val_main_v19 val_main_cst_2
    exact (greatest_apply b p (val_main_v18 (F := Ideal) x7 x8 x9) h).trans (congrArg Softmax.rmax (funext fun s => v18_apply x7 x8 x9 b p h s))
  rw [e]
  change max (Ideal.ofBits .f32 0xFF800000#32) _ = _
  rw [Softmax.ofBits_bot]
  exact max_eq_right bot_le

theorem v25_apply (h : Fin 4) (s : Fin 3) :
    val_main_v25 (F := Ideal) x7 x8 x9 (ix4 s b p h) = Ideal.exp (lses x7 x8 x9 b p h s - Softmax.rmax (lses x7 x8 x9 b p h)) := by
  rw [val_main_v25_apply, val_main_v24_apply, val_main_v23_apply, val_main_v22_apply, v18_apply,
    show idx_main_v22 (idx_main_v23 (ix4 s b p h)) = ix3 b p h by funext a; fin_cases a <;> rfl, v21_apply]
  rfl

theorem v26_apply (h : Fin 4) :
    val_main_v26 (F := Ideal) x7 x8 x9 (ix3 b p h) = Softmax.rden (Softmax.rmax (lses x7 x8 x9 b p h)) (lses x7 x8 x9 b p h) := by
  rw [val_main_v26_apply, val_main_cst_4_apply]
  refine (congrArg (· + _) Ideal.ofBits_zero_f32).trans ((zero_add _).trans ?_)
  refine Finset.sum_congr rfl fun s _ => ?_
  rw [show idx_main_v26 (ix3 b p h) s = ix4 s b p h by funext a; fin_cases a <;> rfl, v25_apply]

theorem v34_apply (h : Fin 4) (d : Fin 64) :
    val_main_v34 (F := Ideal) x4 x5 x6 x7 x8 x9 (ix4 b p h d)
      = Merge.before (x7 (ix3 b p h)) (x8 (ix3 b p h)) (x9 (ix3 b p h)) (x4 (ix4 b p h d)) (x5 (ix4 b p h d)) (x6 (ix4 b p h d)) := by
  rw [val_main_v34_apply]
  refine Finset.sum_congr rfl fun s _ => ?_
  rw [show lidx_main_v34 (ix4 b p h d) s = ix4 s b p h by funext a; fin_cases a <;> rfl,
    show ridx_main_v34 (ix4 b p h d) s = ix5 s b p h d by funext a; fin_cases a <;> rfl, v33_apply, val_main_v29_apply, v25_apply, val_main_v28_apply,
    val_main_v27_apply, show idx_main_v27 (idx_main_v28 (ix4 s b p h)) = ix3 b p h by funext a; fin_cases a <;> rfl, v26_apply]
  rfl

/-- The merged groups at a lane. -/
abbrev merged (k : Fin 256) : EReal :=
  Merge.before (x7 (ix3 b p (headOf k))) (x8 (ix3 b p (headOf k))) (x9 (ix3 b p (headOf k)))
    (x4 (ix4 b p (headOf k) (placeOf k))) (x5 (ix4 b p (headOf k) (placeOf k))) (x6 (ix4 b p (headOf k) (placeOf k)))

theorem v50_apply (n : Fin 1024) :
    val_main_v50 (F := Ideal) x4 x5 x6 x7 x8 x9 x12 (ix3 b p n) = ∑ k : Fin 256, merged x4 x5 x6 x7 x8 x9 b p k * x12 (ix2 k n) := by
  rw [val_main_v50_apply]
  refine Finset.sum_congr rfl fun k _ => ?_
  rw [show lidx_main_v50 (ix3 b p n) k = ix3 b p k by funext a; fin_cases a <;> rfl,
    show ridx_main_v50 (ix3 b p n) k = ix2 k n by funext a; fin_cases a <;> rfl, val_main_v49_apply, under49, v34_apply]

/-! ## The row -/

theorem v60_apply (c : Fin 1024) :
    val_main_v60 (F := Ideal) x0 x1 x2 x3 x4 x5 x6 x7 x8 x9 x10 x11 x12 x13 x14 (ix3 b p c)
      = Merge.row (fun k => x0 (ix3 b p k)) (fun k => x1 (ix1 k)) (fun k n => x2 (ix2 k (gateCol 0 n))) (fun k n => x2 (ix2 k (gateCol 1 n)))
          (fun k n => x2 (ix2 k (gateCol 2 n))) (fun n => ∑ k : Fin 384, x3 (ix4 b p (headOf6 k) (placeOf6 k)) * x11 (ix2 k n))
          (fun n => ∑ k : Fin 256, merged x4 x5 x6 x7 x8 x9 b p k * x12 (ix2 k n))
          (fun n => ∑ k : Fin 512, x10 (ix4 b p (headOf8 k) (placeOf8 k)) * x13 (ix2 k n)) (fun n d => x14 (ix2 n d)) c := by
  rw [val_main_v60_apply, val_main_v59_apply]
  refine congrArg (fun q : EReal => x0 (ix3 b p c) + q) (Finset.sum_congr rfl fun n _ => ?_)
  rw [show lidx_main_v59 (ix3 b p c) n = ix3 b p n by funext a; fin_cases a <;> rfl,
    show ridx_main_v59 (ix3 b p c) n = ix2 n c by funext a; fin_cases a <;> rfl, val_main_v58_apply, val_main_v57_apply, val_main_v52_apply,
    val_main_v51_apply, val_main_v46_apply, v43_apply, v48_apply, v54_apply, v45_apply, v50_apply, v56_apply]
  rfl

/-- The two result arrays agree where the log-sum-exps are finite. -/
theorem eq (m : (ℓ : Loc Cert.MixoutIdeal.nD Cert.MixoutIdeal.τ Cert.MixoutIdeal.sig) → Buf (Elt Ideal) ℓ) (c : Dev Cert.MixoutIdeal.nD)
    (h7 : ∀ i, Mixer.a7 m c i ≠ ⊤ ∧ Mixer.a7 m c i ≠ ⊥) (h8 : ∀ i, Mixer.a8 m c i ≠ ⊤ ∧ Mixer.a8 m c i ≠ ⊥) (h9 : ∀ i, Mixer.a9 m c i ≠ ⊤ ∧ Mixer.a9 m c i ≠ ⊥) :
    (Cert.MixoutIdeal.Gen.dats m 0 c).arrAt 15 Cert.MixoutIdeal.cfg0.N
      = val_main_v60 (F := Ideal) (Mixer.a0 m c) (Mixer.a1 m c) (Mixer.a2 m c) (Mixer.a3 m c) (Mixer.a4 m c) (Mixer.a5 m c) (Mixer.a6 m c) (Mixer.a7 m c)
          (Mixer.a8 m c) (Mixer.a9 m c) (Mixer.a10 m c) (Mixer.a11 m c) (Mixer.a12 m c) (Mixer.a13 m c) (Mixer.a14 m c) := by
  rw [Mixer.final15]
  funext i
  refine Eq.trans ?_ ((congrArg _ (eq_ix3 i)).trans (v60_apply _ _ _ _ _ _ _ _ _ _ _ _ _ _ _ (i 0) (i 1) (i 2))).symm
  refine Mixer.row_congr (fun _ => rfl) (fun _ => rfl) (fun _ _ => rfl) (fun _ _ => rfl) (fun _ _ => rfl) (fun _ => rfl)
    (fun n => Finset.sum_congr rfl fun k _ => ?_) (fun _ => rfl) (fun _ _ => rfl) (i 2)
  exact congrArg (fun q : EReal => q * Mixer.a12 m c (ix2 k n)) (Merge.after_eq_before _ _ _ _ _ _ (h7 _) (h8 _) (h9 _))

end Cert.MixerRef

end
-- ==== Proof.ProjLeft.lean ====
/- What one grid point of the input projection leaves in the windows of its first nine results: the pieces that its run stores cover each
   window, so the window is what they read back. -/
module

public import proofs.«01_k».proof.Proof.Gen.InprojIdeal.Frame.RunA
public import Idealize.ShloMosaic.Lib.Claim

@[expose] public section

set_option maxRecDepth 16384

noncomputable section

namespace Cert.Projected

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3200 .bf16) (harg4 : arg4.IsWhole)
  (arg5 : Memref sig .tc .vmem S968x1024 .bf16) (harg5 : arg5.IsWhole)
  (arg6 : Memref sig .tc .vmem S1x512x128 .f32) (harg6 : arg6.IsWhole)
  (arg7 : Memref sig .tc .vmem S1x512x128 .f32) (harg7 : arg7.IsWhole)
  (arg8 : Memref sig .tc .vmem S1x32x512 .f32) (harg8 : arg8.IsWhole)
  (arg9 : Memref sig .tc .vmem S1x32x512 .f32) (harg9 : arg9.IsWhole)
  (arg10 : Memref sig .tc .vmem S1x128 .f32) (harg10 : arg10.IsWhole)
  (arg11 : Memref sig .tc .vmem S1x512x64 .bf16) (harg11 : arg11.IsWhole)
  (arg12 : Memref sig .tc .vmem S1x512x64 .bf16) (harg12 : arg12.IsWhole)
  (arg13 : Memref sig .tc .vmem S1x1x512x256 .bf16) (harg13 : arg13.IsWhole)
  (arg14 : Memref sig .tc .vmem S1x4x128x256 .bf16) (harg14 : arg14.IsWhole)
  (arg15 : Memref sig .tc .vmem S1x16x32x256 .bf16) (harg15 : arg15.IsWhole)
  (arg16 : Memref sig .tc .vmem S1x1x512x256 .bf16) (harg16 : arg16.IsWhole)
  (arg17 : Memref sig .tc .vmem S1x4x128x256 .bf16) (harg17 : arg17.IsWhole)
  (arg18 : Memref sig .tc .vmem S1x16x32x256 .bf16) (harg18 : arg18.IsWhole)
  (arg19 : Memref sig .tc .vmem S1x1x512x256 .bf16) (harg19 : arg19.IsWhole)
  (arg20 : Memref sig .tc .vmem S1x4x128x256 .bf16) (harg20 : arg20.IsWhole)
  (arg21 : Memref sig .tc .vmem S1x16x32x256 .bf16) (harg21 : arg21.IsWhole)
  (arg22 : Memref sig .tc .vmem S1x512x512 .bf16) (harg22 : arg22.IsWhole)
  (arg23 : Memref sig .tc .vmem S1x512x128 .bf16) (harg23 : arg23.IsWhole)
  (arg24 : Memref sig .tc .vmem S1x512x128 .bf16) (harg24 : arg24.IsWhole)
  (arg25 : Memref sig .tc .vmem S1x2x64x1536 .bf16) (harg25 : arg25.IsWhole)
  (arg26 : Memref sig .tc .vmem S1x2x64x2048 .bf16) (harg26 : arg26.IsWhole)
  (arg27 : Memref sig .tc .vmem S1x2x64x256 .bf16) (harg27 : arg27.IsWhole)
  (arg28 : Memref sig .tc .vmem S1x2x1x2048 .f32) (harg28 : arg28.IsWhole)
  (arg29 : Memref sig .tc .vmem S2x512x128 .f32) (harg29 : arg29.IsWhole)
  (x0 : Vec F S1x512x1024 .f32) (x1 : Vec F S1x1024 .f32) (x2 : Vec F S1024x3200 .bf16) (x3 : Vec F S968x1024 .bf16) (x4 : Vec F S1x512x128 .f32) (x5 : Vec F S1x512x128 .f32) (x6 : Vec F S1x32x512 .f32) (x7 : Vec F S1x32x512 .f32) (x8 : Vec F S1x128 .f32)

theorem covered9 (y : S1x512x64.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).1 S1x512x64.size (by sl_kernel_rfl) y

def left9 : Vec F S1x512x64 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).1)

theorem covered10 (y : S1x512x64.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.1 S1x512x64.size (by sl_kernel_rfl) y

def left10 : Vec F S1x512x64 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.1)

theorem covered11 (y : S1x1x512x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.1 S1x1x512x256.size (by sl_kernel_rfl) y

def left11 : Vec F S1x1x512x256 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.1)

theorem covered12 (y : S1x4x128x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.1 S1x1x128x128.size (by sl_kernel_rfl) y

def left12 : Vec F S1x4x128x256 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.1)

theorem covered13 (y : S1x16x32x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.1 S1x1x32x128.size (by sl_kernel_rfl) y

def left13 : Vec F S1x16x32x256 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.1)

theorem covered14 (y : S1x1x512x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.1 S1x1x512x256.size (by sl_kernel_rfl) y

def left14 : Vec F S1x1x512x256 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.1)

theorem covered15 (y : S1x4x128x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.1 S1x1x128x128.size (by sl_kernel_rfl) y

def left15 : Vec F S1x4x128x256 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.1)

theorem covered16 (y : S1x16x32x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.1 S1x1x32x128.size (by sl_kernel_rfl) y

def left16 : Vec F S1x16x32x256 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.1)

theorem covered17 (y : S1x1x512x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.1 S1x1x512x256.size (by sl_kernel_rfl) y

def left17 : Vec F S1x1x512x256 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.1)

end Cert.Projected

end
-- ==== Proof.ProjLeft2.lean ====
/- What one grid point of the input projection leaves in the windows of its other nine results. -/
module

public import proofs.«01_k».proof.Proof.Gen.InprojIdeal.Frame.RunA
public import Idealize.ShloMosaic.Lib.Claim

@[expose] public section

set_option maxRecDepth 16384

noncomputable section

namespace Cert.Projected

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3200 .bf16) (harg4 : arg4.IsWhole)
  (arg5 : Memref sig .tc .vmem S968x1024 .bf16) (harg5 : arg5.IsWhole)
  (arg6 : Memref sig .tc .vmem S1x512x128 .f32) (harg6 : arg6.IsWhole)
  (arg7 : Memref sig .tc .vmem S1x512x128 .f32) (harg7 : arg7.IsWhole)
  (arg8 : Memref sig .tc .vmem S1x32x512 .f32) (harg8 : arg8.IsWhole)
  (arg9 : Memref sig .tc .vmem S1x32x512 .f32) (harg9 : arg9.IsWhole)
  (arg10 : Memref sig .tc .vmem S1x128 .f32) (harg10 : arg10.IsWhole)
  (arg11 : Memref sig .tc .vmem S1x512x64 .bf16) (harg11 : arg11.IsWhole)
  (arg12 : Memref sig .tc .vmem S1x512x64 .bf16) (harg12 : arg12.IsWhole)
  (arg13 : Memref sig .tc .vmem S1x1x512x256 .bf16) (harg13 : arg13.IsWhole)
  (arg14 : Memref sig .tc .vmem S1x4x128x256 .bf16) (harg14 : arg14.IsWhole)
  (arg15 : Memref sig .tc .vmem S1x16x32x256 .bf16) (harg15 : arg15.IsWhole)
  (arg16 : Memref sig .tc .vmem S1x1x512x256 .bf16) (harg16 : arg16.IsWhole)
  (arg17 : Memref sig .tc .vmem S1x4x128x256 .bf16) (harg17 : arg17.IsWhole)
  (arg18 : Memref sig .tc .vmem S1x16x32x256 .bf16) (harg18 : arg18.IsWhole)
  (arg19 : Memref sig .tc .vmem S1x1x512x256 .bf16) (harg19 : arg19.IsWhole)
  (arg20 : Memref sig .tc .vmem S1x4x128x256 .bf16) (harg20 : arg20.IsWhole)
  (arg21 : Memref sig .tc .vmem S1x16x32x256 .bf16) (harg21 : arg21.IsWhole)
  (arg22 : Memref sig .tc .vmem S1x512x512 .bf16) (harg22 : arg22.IsWhole)
  (arg23 : Memref sig .tc .vmem S1x512x128 .bf16) (harg23 : arg23.IsWhole)
  (arg24 : Memref sig .tc .vmem S1x512x128 .bf16) (harg24 : arg24.IsWhole)
  (arg25 : Memref sig .tc .vmem S1x2x64x1536 .bf16) (harg25 : arg25.IsWhole)
  (arg26 : Memref sig .tc .vmem S1x2x64x2048 .bf16) (harg26 : arg26.IsWhole)
  (arg27 : Memref sig .tc .vmem S1x2x64x256 .bf16) (harg27 : arg27.IsWhole)
  (arg28 : Memref sig .tc .vmem S1x2x1x2048 .f32) (harg28 : arg28.IsWhole)
  (arg29 : Memref sig .tc .vmem S2x512x128 .f32) (harg29 : arg29.IsWhole)
  (x0 : Vec F S1x512x1024 .f32) (x1 : Vec F S1x1024 .f32) (x2 : Vec F S1024x3200 .bf16) (x3 : Vec F S968x1024 .bf16) (x4 : Vec F S1x512x128 .f32) (x5 : Vec F S1x512x128 .f32) (x6 : Vec F S1x32x512 .f32) (x7 : Vec F S1x32x512 .f32) (x8 : Vec F S1x128 .f32)

theorem covered18 (y : S1x4x128x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.1 S1x1x128x128.size (by sl_kernel_rfl) y

def left18 : Vec F S1x4x128x256 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.1)

theorem covered19 (y : S1x16x32x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.1 S1x1x32x128.size (by sl_kernel_rfl) y

def left19 : Vec F S1x16x32x256 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.1)

theorem covered20 (y : S1x512x512.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.1 S1x512x128.size (by sl_kernel_rfl) y

def left20 : Vec F S1x512x512 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.1)

theorem covered21 (y : S1x512x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.1 S1x512x128.size (by sl_kernel_rfl) y

def left21 : Vec F S1x512x128 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.1)

theorem covered22 (y : S1x512x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.1 S1x512x128.size (by sl_kernel_rfl) y

def left22 : Vec F S1x512x128 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.1)

theorem covered23 (y : S1x2x64x1536.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.1 S1x1x32x256.size (by sl_kernel_rfl) y

def left23 : Vec F S1x2x64x1536 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.1)

theorem covered24 (y : S1x2x64x2048.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.2.1 S1x1x32x256.size (by sl_kernel_rfl) y

def left24 : Vec F S1x2x64x2048 .bf16 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.2.1)

theorem covered25 (y : S1x2x64x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.2.2.1 S1x1x64x256.size (by sl_kernel_rfl) y

def left25 : Vec F S1x2x64x256 .bf16 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.2.2.1)

theorem covered26 (y : S1x2x1x2048.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.2.2.2.1 S1x1x1x256.size (by sl_kernel_rfl) y

def left26 : Vec F S1x2x1x2048 .f32 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8).2.2.2.2.2.2.2.2.2.2.2.2.2.2.2.2.2.1)

end Cert.Projected

end
-- ==== Proof.ProjData.lean ====
/- The input projection's arrays and windows, point by point: each input's window holds its block, each result's what the point leaves. -/
module

public import proofs.«01_k».proof.Proof.ProjLeft
public import proofs.«01_k».proof.Proof.ProjLeft2
public import Idealize.ShloMosaic.Lib.Claim

@[expose] public section

set_option maxRecDepth 16384

noncomputable section

namespace Cert.Projected

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs' staging buffers hold after the body at point `t` (as a tuple, in window order): the run's contents at
    the point's memrefs and input blocks. -/
def outsAt0 (c : Dev nD) (t : Fin cfg0.N) : Vec F S1x512x64 .bf16 × Vec F S1x512x64 .bf16 × Vec F S1x1x512x256 .bf16 × Vec F S1x4x128x256 .bf16 × Vec F S1x16x32x256 .bf16 × Vec F S1x1x512x256 .bf16 × Vec F S1x4x128x256 .bf16 × Vec F S1x16x32x256 .bf16 × Vec F S1x1x512x256 .bf16 × Vec F S1x4x128x256 .bf16 × Vec F S1x16x32x256 .bf16 × Vec F S1x512x512 .bf16 × Vec F S1x512x128 .bf16 × Vec F S1x512x128 .bf16 × Vec F S1x2x64x1536 .bf16 × Vec F S1x2x64x2048 .bf16 × Vec F S1x2x64x256 .bf16 × Vec F S1x2x1x2048 .f32 :=
  (left9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t), left26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t).1
    | ⟨10, _⟩ => (outsAt0 m c t).2.1
    | ⟨11, _⟩ => (outsAt0 m c t).2.2.1
    | ⟨12, _⟩ => (outsAt0 m c t).2.2.2.1
    | ⟨13, _⟩ => (outsAt0 m c t).2.2.2.2.1
    | ⟨14, _⟩ => (outsAt0 m c t).2.2.2.2.2.1
    | ⟨15, _⟩ => (outsAt0 m c t).2.2.2.2.2.2.1
    | ⟨16, _⟩ => (outsAt0 m c t).2.2.2.2.2.2.2.1
    | ⟨17, _⟩ => (outsAt0 m c t).2.2.2.2.2.2.2.2.1
    | ⟨18, _⟩ => (outsAt0 m c t).2.2.2.2.2.2.2.2.2.1
    | ⟨19, _⟩ => (outsAt0 m c t).2.2.2.2.2.2.2.2.2.2.1
    | ⟨20, _⟩ => (outsAt0 m c t).2.2.2.2.2.2.2.2.2.2.2.1
    | ⟨21, _⟩ => (outsAt0 m c t).2.2.2.2.2.2.2.2.2.2.2.2.1
    | ⟨22, _⟩ => (outsAt0 m c t).2.2.2.2.2.2.2.2.2.2.2.2.2.1
    | ⟨23, _⟩ => (outsAt0 m c t).2.2.2.2.2.2.2.2.2.2.2.2.2.2.1
    | ⟨24, _⟩ => (outsAt0 m c t).2.2.2.2.2.2.2.2.2.2.2.2.2.2.2.1
    | ⟨25, _⟩ => (outsAt0 m c t).2.2.2.2.2.2.2.2.2.2.2.2.2.2.2.2.1
    | ⟨26, _⟩ => (outsAt0 m c t).2.2.2.2.2.2.2.2.2.2.2.2.2.2.2.2.2
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t).1 := by dsimp only [dats]
theorem after0_10 (c : Dev nD) (t : Fin cfg0.N) : (dats m 0 c).after 10 t = (outsAt0 m c t).2.1 := by dsimp only [dats]
theorem after0_11 (c : Dev nD) (t : Fin cfg0.N) : (dats m 0 c).after 11 t = (outsAt0 m c t).2.2.1 := by dsimp only [dats]
theorem after0_12 (c : Dev nD) (t : Fin cfg0.N) : (dats m 0 c).after 12 t = (outsAt0 m c t).2.2.2.1 := by dsimp only [dats]
theorem after0_13 (c : Dev nD) (t : Fin cfg0.N) : (dats m 0 c).after 13 t = (outsAt0 m c t).2.2.2.2.1 := by dsimp only [dats]
theorem after0_14 (c : Dev nD) (t : Fin cfg0.N) : (dats m 0 c).after 14 t = (outsAt0 m c t).2.2.2.2.2.1 := by dsimp only [dats]
theorem after0_15 (c : Dev nD) (t : Fin cfg0.N) : (dats m 0 c).after 15 t = (outsAt0 m c t).2.2.2.2.2.2.1 := by dsimp only [dats]
theorem after0_16 (c : Dev nD) (t : Fin cfg0.N) : (dats m 0 c).after 16 t = (outsAt0 m c t).2.2.2.2.2.2.2.1 := by dsimp only [dats]
theorem after0_17 (c : Dev nD) (t : Fin cfg0.N) : (dats m 0 c).after 17 t = (outsAt0 m c t).2.2.2.2.2.2.2.2.1 := by dsimp only [dats]
theorem after0_18 (c : Dev nD) (t : Fin cfg0.N) : (dats m 0 c).after 18 t = (outsAt0 m c t).2.2.2.2.2.2.2.2.2.1 := by dsimp only [dats]
theorem after0_19 (c : Dev nD) (t : Fin cfg0.N) : (dats m 0 c).after 19 t = (outsAt0 m c t).2.2.2.2.2.2.2.2.2.2.1 := by dsimp only [dats]
theorem after0_20 (c : Dev nD) (t : Fin cfg0.N) : (dats m 0 c).after 20 t = (outsAt0 m c t).2.2.2.2.2.2.2.2.2.2.2.1 := by dsimp only [dats]
theorem after0_21 (c : Dev nD) (t : Fin cfg0.N) : (dats m 0 c).after 21 t = (outsAt0 m c t).2.2.2.2.2.2.2.2.2.2.2.2.1 := by dsimp only [dats]
theorem after0_22 (c : Dev nD) (t : Fin cfg0.N) : (dats m 0 c).after 22 t = (outsAt0 m c t).2.2.2.2.2.2.2.2.2.2.2.2.2.1 := by dsimp only [dats]
theorem after0_23 (c : Dev nD) (t : Fin cfg0.N) : (dats m 0 c).after 23 t = (outsAt0 m c t).2.2.2.2.2.2.2.2.2.2.2.2.2.2.1 := by dsimp only [dats]
theorem after0_24 (c : Dev nD) (t : Fin cfg0.N) : (dats m 0 c).after 24 t = (outsAt0 m c t).2.2.2.2.2.2.2.2.2.2.2.2.2.2.2.1 := by dsimp only [dats]
theorem after0_25 (c : Dev nD) (t : Fin cfg0.N) : (dats m 0 c).after 25 t = (outsAt0 m c t).2.2.2.2.2.2.2.2.2.2.2.2.2.2.2.2.1 := by dsimp only [dats]
theorem after0_26 (c : Dev nD) (t : Fin cfg0.N) : (dats m 0 c).after 26 t = (outsAt0 m c t).2.2.2.2.2.2.2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

end Cert.Projected

end
-- ==== Proof.ProjBody.lean ====
/- The input projection's body at a grid point: it runs from the inputs' blocks to what the point leaves. -/
module

public import proofs.«01_k».proof.Proof.ProjData
public import Idealize.ShloMosaic.Lib.Claim

@[expose] public section

set_option maxRecDepth 16384

noncomputable section

namespace Cert.Projected

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.castSucc = Pipeline.ΦA spec0 c from rfl, PhiA0_eq]
  unfold outsAt0
  unfold left9 left10 left11 left12 left13 left14 left15 left16 left17 left18 left19 left20 left21 left22 left23 left24 left25 left26; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HS0]; · iexact HS0
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (covered9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (covered10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (covered11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (covered12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (covered13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (covered14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (covered15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (covered16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (covered17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (covered18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (covered19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (covered20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (covered21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (covered22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (covered23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (covered24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (covered25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (covered26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Projected

end
-- ==== Proof.ProjFrame.lean ====
/- The input projection's run and its frame, over any float values. -/
module

public import proofs.«01_k».proof.Proof.ProjBody
public import Idealize.ShloMosaic.Lib.Claim

@[expose] public section

set_option maxRecDepth 16384

noncomputable section

namespace Cert.Projected

open Cert.InprojIdeal Cert.InprojIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: it ends, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Projected

end
-- ==== Proof.Rotary.lean ====
/- The input projection's arithmetic, row by row: a projected column, the rotary embedding of a head of sixty-four lanes, and
   how both commute with a scale. -/
module

public import proofs.«01_k».proof.Proof.Softmax
public import proofs.«01_k».proof.Proof.Rows

@[expose] public section

noncomputable section

namespace Cert.Rotary

/-- A projected column. -/
def dot (u w : Fin 1024 → EReal) : EReal := ∑ k : Fin 1024, u k * w k

/-- The rotary embedding of a head: the first half against the second, by the angles' cosines and sines. -/
def turn (f : Fin 64 → EReal) (c s : Fin 32 → EReal) (d : Fin 64) : EReal :=
  if h : d.val < 32 then f d * c ⟨d.val, h⟩ - f ⟨d.val + 32, by omega⟩ * s ⟨d.val, h⟩
  else f d * c ⟨d.val - 32, by omega⟩ + f ⟨d.val - 32, by omega⟩ * s ⟨d.val - 32, by omega⟩

theorem turn_congr {f g : Fin 64 → EReal} {c c' s s' : Fin 32 → EReal} (hf : ∀ d, f d = g d) (hc : ∀ i, c i = c' i) (hs : ∀ i, s i = s' i) (d : Fin 64) :
    turn f c s d = turn g c' s' d := by
  rw [show f = g from funext hf, show c = c' from funext hc, show s = s' from funext hs]

theorem dot_congr {u u' w w' : Fin 1024 → EReal} (hu : ∀ k, u k = u' k) (hw : ∀ k, w k = w' k) : dot u w = dot u' w' := by
  rw [show u = u' from funext hu, show w = w' from funext hw]

/-- A finite scale that is not negative goes through a product with weights … -/
theorem dot_scale {x : EReal} (h0 : 0 ≤ x) (ht : x ≠ ⊤) (u w : Fin 1024 → EReal) : dot u (fun k => w k * x) = dot u w * x := by
  unfold dot
  rw [Softmax.sum_mul_of_nonneg h0 ht]
  exact Finset.sum_congr rfl fun k _ => (mul_assoc _ _ _).symm

/-- … and through the embedding. -/
theorem turn_scale {x : EReal} (h0 : 0 ≤ x) (ht : x ≠ ⊤) (f : Fin 64 → EReal) (c s : Fin 32 → EReal) (d : Fin 64) :
    turn (fun d => f d * x) c s d = turn f c s d * x := by
  unfold turn
  split
  · rw [sub_eq_add_neg, sub_eq_add_neg, EReal.right_distrib_of_nonneg_of_ne_top h0 ht, EReal.neg_mul, mul_right_comm, mul_right_comm (f _) x]
  · rw [EReal.right_distrib_of_nonneg_of_ne_top h0 ht, mul_right_comm, mul_right_comm (f _) x]

end Cert.Rotary

end
-- ==== Proof.RopeTile.lean ====
/- The input projection's pieces at one grid point, as functions of the point's blocks and read at an index: the normed rows, the
   products with the weights, and the rotary embedding of a tile of 128 lanes, two heads side by side. -/
module

public import proofs.«01_k».proof.Proof.Rotary
public import proofs.«01_k».proof.Proof.Gen.InprojIdeal.Skeleton
public import Idealize.ShloMosaic.Lib.Pipeline.Value
public import Idealize.ShloMosaic.Lib.IdealHost
public import Idealize.ShloMosaic.Lib.KernelVsHost

@[expose] public section

noncomputable section

namespace Cert.Projected

open Cert.InprojIdeal Cert.InprojIdeal.Gen Idealize.ShloMosaic Idealize.ShloMosaic.ValueIdx

/-! ## The normed rows -/

theorem column_apply (y : FVec Ideal S512 .f32) (r : Fin 512) (c : Fin 1) : shapeCast S512x1 y shapeCasts_S512_S512x1 (ix2 r c) = y (ix1 r) := by
  refine shapeCast_apply _ _ _ _ ?_
  rw [Shape.rowMajor_val_one, Shape.rowMajor_val_two]
  have := c.isLt
  simp

/-- The point's rows. -/
def page (x : FVec Ideal S1x512x1024 .f32) : FVec Ideal S512x1024 .f32 := shapeCast S512x1024 x shapeCasts_S1x512x1024_S512x1024

theorem page_apply (x : FVec Ideal S1x512x1024 .f32) (r : Fin 512) (k : Fin 1024) : page x (ix2 r k) = x (ix3 0 r k) := by
  unfold page
  refine shapeCast_apply _ _ _ _ ?_
  rw [Shape.rowMajor_val_three, Shape.rowMajor_val_two]
  show (0 * 512 + r.val) * 1024 + k.val = r.val * 1024 + k.val
  omega

/-- The point's normed rows. -/
theorem normed_apply (x : Vec Ideal S1x512x1024 .f32) (g : Vec Ideal S1x1024 .f32) (r : Fin 512) (k : Fin 1024) :
    k0_pay2 x g (ix2 r k) = Rows.rms (fun k => x (ix3 0 r k)) (fun k => g (ix2 0 k)) k := by
  have hs : multiReduction .add [1] S512 (mulf (page x) (page x)) 0x00000000#32 reduces_S512x1024_S512 (.inl rfl) rfl (ix1 r) = ∑ k : Fin 1024, x (ix3 0 r k) * x (ix3 0 r k) := by
    refine (Ideal.multiReduction_add_single (a := 1) (mulf (page x) (page x)) _ _ _ _ _).trans ?_
    refine Finset.sum_congr rfl fun k _ => ?_
    refine Eq.trans ?_ (congrArg₂ (fun a b : EReal => a * b) (page_apply x r k) (page_apply x r k))
    exact congrArg (mulf (page x) (page x)) (by funext a; fin_cases a <;> rfl)
  unfold k0_pay2 Rows.rms
  refine congrArg₂ (fun a b : EReal => a * b) (congrArg₂ (fun a b : EReal => a * b) (page_apply x r k) ?_) ?_
  · refine (broadcastTo_apply _ _ _ (ix2 r 0) (by intro a; fin_cases a <;> rfl)).trans ?_
    exact congrArg (fun z => Ideal.rsqrt (Ideal.div z _ + _)) ((column_apply _ r 0).trans hs)
  · refine (broadcastTo_apply _ _ _ (ix2 0 k) (by intro a; fin_cases a <;> rfl)).trans ?_
    rw [shapeCast_self]

/-! ## The products -/

def prod128 (u : FVec Ideal S512x1024 .bf16) (w : FVec Ideal S1024x128 .bf16) : FVec Ideal S512x128 .f32 :=
  matmul dot_S512x1024_S1024x128_S512x128_1_0_0_1_n_n none u (shapeCast S1024x128 w shapeCasts_S1024x128_S1024x128) (constant S512x128 .f32 0x00000000#32)
def prod256 (u : FVec Ideal S512x1024 .bf16) (w : FVec Ideal S1024x256 .bf16) : FVec Ideal S512x256 .f32 :=
  matmul dot_S512x1024_S1024x256_S512x256_1_0_0_1_n_n none u (shapeCast S1024x256 w shapeCasts_S1024x256_S1024x256) (constant S512x256 .f32 0x00000000#32)
def prod512 (u : FVec Ideal S512x1024 .bf16) (w : FVec Ideal S1024x512 .bf16) : FVec Ideal S512x512 .f32 :=
  matmul dot_S512x1024_S1024x512_S512x512_1_0_0_1_n_n none u (shapeCast S1024x512 w shapeCasts_S1024x512_S1024x512) (constant S512x512 .f32 0x00000000#32)

theorem prod128_apply (u : FVec Ideal S512x1024 .bf16) (w : FVec Ideal S1024x128 .bf16) (r : Fin 512) (c : Fin 128) :
    prod128 u w (ix2 r c) = Rotary.dot (fun k => u (ix2 r k)) (fun k => w (ix2 k c)) := by
  unfold prod128
  rw [shapeCast_self]
  refine (Ideal.matmul_constant_zero_apply _ none u w (ix2 r c)).trans ?_
  rw [← (contrEquiv1 dot_S512x1024_S1024x128_S512x128_1_0_0_1_n_n 1024 rfl rfl).symm.sum_comp]
  refine Finset.sum_congr rfl fun l _ => ?_
  congr 2
  · funext a; fin_cases a <;> rfl
  · funext a; fin_cases a <;> rfl

theorem prod256_apply (u : FVec Ideal S512x1024 .bf16) (w : FVec Ideal S1024x256 .bf16) (r : Fin 512) (c : Fin 256) :
    prod256 u w (ix2 r c) = Rotary.dot (fun k => u (ix2 r k)) (fun k => w (ix2 k c)) := by
  unfold prod256
  rw [shapeCast_self]
  refine (Ideal.matmul_constant_zero_apply _ none u w (ix2 r c)).trans ?_
  rw [← (contrEquiv1 dot_S512x1024_S1024x256_S512x256_1_0_0_1_n_n 1024 rfl rfl).symm.sum_comp]
  refine Finset.sum_congr rfl fun l _ => ?_
  congr 2
  · funext a; fin_cases a <;> rfl
  · funext a; fin_cases a <;> rfl

theorem prod512_apply (u : FVec Ideal S512x1024 .bf16) (w : FVec Ideal S1024x512 .bf16) (r : Fin 512) (c : Fin 512) :
    prod512 u w (ix2 r c) = Rotary.dot (fun k => u (ix2 r k)) (fun k => w (ix2 k c)) := by
  unfold prod512
  rw [shapeCast_self]
  refine (Ideal.matmul_constant_zero_apply _ none u w (ix2 r c)).trans ?_
  rw [← (contrEquiv1 dot_S512x1024_S1024x512_S512x512_1_0_0_1_n_n 1024 rfl rfl).symm.sum_comp]
  refine Finset.sum_congr rfl fun l _ => ?_
  congr 2
  · funext a; fin_cases a <;> rfl
  · funext a; fin_cases a <;> rfl

/-! ## The rotary embedding of a tile -/

/-- A tile of two heads, turned by a table of cosines and one of sines. -/
def tile (mask : IVec S1x128 1) (z c s : FVec Ideal S512x128 .f32) : FVec Ideal S512x128 .f32 :=
  addf (mulf z c) (mulf (select (broadcastTo S512x128 (shapeCast S1x128 mask shapeCasts_S1x128_S1x128) broadcasts_S1x128_S512x128)
    (dynamicRotate 1 96#32 none z rotates_S512x128_d1) (dynamicRotate 1 32#32 none z rotates_S512x128_d1)) s)

/-- The lanes of the heads' first halves. -/
def firsts : IVec S1x128 1 := k0_pay6 k0_pay5

theorem firsts_apply : ∀ l : Fin 128, firsts (ix2 0 l) = if l.val % 64 < 32 then 1#1 else 0#1 := by decide +kernel

/-- Lane `d` of the head that lane `l` belongs to. -/
def lane (l : Fin 128) (d : Fin 64) : Fin 128 := ⟨l.val / 64 * 64 + d.val, by omega⟩

/-- A tile read at an index: the head's embedding, when the tables hold the angles' cosines and, negated in the first half, sines. -/
theorem tile_apply (z c s : FVec Ideal S512x128 .f32) (r : Fin 512) (C S : Fin 32 → EReal)
    (hc : ∀ l : Fin 128, c (ix2 r l) = C ⟨l.val % 32, by omega⟩)
    (hs : ∀ l : Fin 128, s (ix2 r l) = if l.val % 64 < 32 then -S ⟨l.val % 32, by omega⟩ else S ⟨l.val % 32, by omega⟩) (l : Fin 128) :
    tile firsts z c s (ix2 r l) = Rotary.turn (fun d => z (ix2 r (lane l d))) C S ⟨l.val % 64, by omega⟩ := by
  have hl := l.isLt
  have hm : (broadcastTo S512x128 (shapeCast S1x128 firsts shapeCasts_S1x128_S1x128) broadcasts_S1x128_S512x128) (ix2 r l) = if l.val % 64 < 32 then 1#1 else 0#1 := by
    rw [shapeCast_self]
    exact (broadcastTo_apply _ _ _ (ix2 0 l) (by intro a; fin_cases a <;> rfl)).trans (firsts_apply l)
  have e0 : lane l ⟨l.val % 64, by omega⟩ = l := Fin.ext (by show l.val / 64 * 64 + l.val % 64 = l.val; omega)
  show z (ix2 r l) * c (ix2 r l) + Scalar.select ((broadcastTo S512x128 (shapeCast S1x128 firsts shapeCasts_S1x128_S1x128) broadcasts_S1x128_S512x128) (ix2 r l))
    (dynamicRotate 1 96#32 none z rotates_S512x128_d1 (ix2 r l)) (dynamicRotate 1 32#32 none z rotates_S512x128_d1 (ix2 r l)) * s (ix2 r l) = _
  rw [hm, hc, hs]
  unfold Rotary.turn
  by_cases h : l.val % 64 < 32
  · have e1 : (⟨l.val % 32, by omega⟩ : Fin 32) = ⟨l.val % 64, h⟩ := Fin.ext (by show l.val % 32 = l.val % 64; omega)
    rw [if_pos h, if_pos h, dif_pos h, e1, sub_eq_add_neg, ← mul_neg]
    show _ = z (ix2 r (lane l ⟨l.val % 64, by omega⟩)) * C ⟨l.val % 64, h⟩ + z (ix2 r (lane l ⟨l.val % 64 + 32, by omega⟩)) * -S ⟨l.val % 64, h⟩
    rw [e0]
    have hk : dynamicRotate 1 96#32 none z rotates_S512x128_d1 (ix2 r l) = z (ix2 r (lane l ⟨l.val % 64 + 32, by omega⟩)) := by
      refine dynamicRotate_apply _ _ _ _ _ _ ?_
      intro b
      match b with
      | ⟨0, _⟩ => rfl
      | ⟨1, _⟩ => show l.val / 64 * 64 + (l.val % 64 + 32) = (l.val + 128 - 96) % 128; omega
    exact congrArg₂ (fun a b : EReal => a + b) rfl (congrArg (fun q : EReal => q * _) hk)
  · have e1 : (⟨l.val % 32, by omega⟩ : Fin 32) = ⟨l.val % 64 - 32, by omega⟩ := Fin.ext (by show l.val % 32 = l.val % 64 - 32; omega)
    rw [if_neg h, if_neg h, dif_neg h, e1]
    show _ = z (ix2 r (lane l ⟨l.val % 64, by omega⟩)) * C ⟨l.val % 64 - 32, by omega⟩ + z (ix2 r (lane l ⟨l.val % 64 - 32, by omega⟩)) * S ⟨l.val % 64 - 32, by omega⟩
    rw [e0]
    have hk : dynamicRotate 1 32#32 none z rotates_S512x128_d1 (ix2 r l) = z (ix2 r (lane l ⟨l.val % 64 - 32, by omega⟩)) := by
      refine dynamicRotate_apply _ _ _ _ _ _ ?_
      intro b
      match b with
      | ⟨0, _⟩ => rfl
      | ⟨1, _⟩ => show l.val / 64 * 64 + (l.val % 64 - 32) = (l.val + 128 - 32) % 128; omega
    exact congrArg₂ (fun a b : EReal => a + b) rfl (congrArg (fun q : EReal => q * _) hk)

end Cert.Projected

end
-- ==== Proof.ProjBlocks.lean ====
/- The blocks that one grid point of the input projection stores: each is a product of the point's normed rows with some of the weights'
   columns, plain or turned by the rotary tables; here each is read at an index. -/
module

public import proofs.«01_k».proof.Proof.RopeTile
public import Idealize.ShloMosaic.Lib.Tactic

@[expose] public section

set_option maxRecDepth 16384

noncomputable section

namespace Cert.Projected

open Cert.InprojIdeal Cert.InprojIdeal.Gen Idealize.ShloMosaic Idealize.ShloMosaic.TcCoe Idealize.ShloMosaic.ValueIdx

/-- The tables hold row `r`'s cosines `C` and sines `S`, the sines negated in a head's first half. -/
def Tabled (c s : FVec Ideal S512x128 .f32) (r : Fin 512) (C S : Fin 32 → EReal) : Prop :=
  (∀ l : Fin 128, c (ix2 r l) = C ⟨l.val % 32, by omega⟩)
    ∧ ∀ l : Fin 128, s (ix2 r l) = if l.val % 64 < 32 then -S ⟨l.val % 32, by omega⟩ else S ⟨l.val % 32, by omega⟩

/-- A block of the rows' lanes from `o`. -/
theorem cut256_apply (z : FVec Ideal S512x256 .f32) (o : ℕ) (h : S512x256.Slices (Matrix.vecCons 0 ![o]) S512x128) (r : Fin 512) (l : Fin 128) (ho : o + l.val < 256) :
    extractStridedSlice S512x128 ![0, o] z h (ix2 r l) = z (ix2 r ⟨o + l.val, ho⟩) := by
  refine extractStridedSlice_apply _ _ _ _ (ix2 r ⟨o + l.val, ho⟩) ?_
  intro a
  match a with
  | ⟨0, _⟩ => show r.val = 0 + r.val; omega
  | ⟨1, _⟩ => rfl

theorem cut512_apply (z : FVec Ideal S512x512 .f32) (o : ℕ) (h : S512x512.Slices (Matrix.vecCons 0 ![o]) S512x128) (r : Fin 512) (l : Fin 128) (ho : o + l.val < 512) :
    extractStridedSlice S512x128 ![0, o] z h (ix2 r l) = z (ix2 r ⟨o + l.val, ho⟩) := by
  refine extractStridedSlice_apply _ _ _ _ (ix2 r ⟨o + l.val, ho⟩) ?_
  intro a
  match a with
  | ⟨0, _⟩ => show r.val = 0 + r.val; omega
  | ⟨1, _⟩ => rfl

/-- Two heads, turned and stored. -/
def single (z c s : FVec Ideal S512x128 .f32) : FVec Ideal S1x512x128 .bf16 :=
  shapeCast S1x512x128 (truncf .bf16 (tile firsts z c s) bitsLt_bf16_f32) shapeCasts_S512x128_S1x512x128

/-- Four heads, turned two at a time. -/
def beside (z : FVec Ideal S512x256 .f32) (c s : FVec Ideal S512x128 .f32) : FVec Ideal S512x256 .f32 :=
  concatenate S512x256 1
    [⟨S512x128, tile firsts (extractStridedSlice S512x128 ![0, 0] z slices_S512x256_o0_0_S512x128) c s⟩,
     ⟨S512x128, tile firsts (extractStridedSlice S512x128 ![0, 128] z slices_S512x256_o0_128_S512x128) c s⟩]
    concatenates_S512x128_S512x128_S512x256_d1

/-- The same, stored. -/
def pair (z : FVec Ideal S512x256 .f32) (c s : FVec Ideal S512x128 .f32) : FVec Ideal S1x1x512x256 .bf16 :=
  shapeCast S1x1x512x256 (truncf .bf16 (beside z c s) bitsLt_bf16_f32) shapeCasts_S512x256_S1x1x512x256

theorem single_apply (z c s : FVec Ideal S512x128 .f32) (r : Fin 512) (C S : Fin 32 → EReal) (h : Tabled c s r C S) (a : Fin 1) (l : Fin 128) :
    single z c s (ix3 a r l) = Rotary.turn (fun d => z (ix2 r (lane l d))) C S ⟨l.val % 64, by omega⟩ := by
  unfold single
  refine (shapeCast_apply _ _ _ (ix2 r l) ?_).trans (tile_apply z c s r C S h.1 h.2 l)
  have := a.isLt
  rw [Shape.rowMajor_val_two, Shape.rowMajor_val_three]
  show r.val * 128 + l.val = (a.val * 512 + r.val) * 128 + l.val
  omega

theorem beside_apply (z : FVec Ideal S512x256 .f32) (c s : FVec Ideal S512x128 .f32) (r : Fin 512) (C S : Fin 32 → EReal) (h : Tabled c s r C S) (l : Fin 256) :
    beside z c s (ix2 r l) = Rotary.turn (fun d => z (ix2 r ⟨l.val / 64 * 64 + d.val, by omega⟩)) C S ⟨l.val % 64, by omega⟩ := by
  unfold beside
  by_cases hl : l.val < 128
  · refine (concatenate_pair_apply_left (t := S512x256) (s₁ := S512x128) (s₂ := S512x128) 1 _ _ _ (ix2 r l) rfl (ix2 r ⟨l.val, hl⟩ : S512x128.Idx) (by intro a; fin_cases a <;> rfl)).trans ?_
    refine (tile_apply _ c s r C S h.1 h.2 ⟨l.val, hl⟩).trans ?_
    refine Rotary.turn_congr (fun d => (cut256_apply z 0 _ r _ (by show 0 + (l.val / 64 * 64 + d.val) < 256; omega)).trans ?_) (fun _ => rfl) (fun _ => rfl) _
    refine congrArg (fun q => z (ix2 r q)) (Fin.ext ?_)
    show 0 + (l.val / 64 * 64 + d.val) = l.val / 64 * 64 + d.val
    omega
  · have hl' : l.val - 128 < 128 := by omega
    refine (concatenate_pair_apply_right (t := S512x256) (s₁ := S512x128) (s₂ := S512x128) 1 _ _ _ (ix2 r l) rfl rfl (ix2 r ⟨l.val - 128, hl'⟩ : S512x128.Idx) (by
        intro a; fin_cases a
        · intro _; rfl
        · intro h; exact absurd rfl h)
      (show l.val - 128 + 128 = l.val by omega)).trans ?_
    refine (tile_apply _ c s r C S h.1 h.2 ⟨l.val - 128, hl'⟩).trans ?_
    have e : (⟨(l.val - 128) % 64, by omega⟩ : Fin 64) = ⟨l.val % 64, by omega⟩ := Fin.ext (by show (l.val - 128) % 64 = l.val % 64; omega)
    show Rotary.turn _ C S ⟨(l.val - 128) % 64, _⟩ = _
    rw [e]
    refine Rotary.turn_congr (fun d => (cut256_apply z 128 _ r _ (by show 128 + ((l.val - 128) / 64 * 64 + d.val) < 256; omega)).trans ?_) (fun _ => rfl) (fun _ => rfl) _
    refine congrArg (fun q => z (ix2 r q)) (Fin.ext ?_)
    show 128 + ((l.val - 128) / 64 * 64 + d.val) = l.val / 64 * 64 + d.val
    omega

theorem pair_apply (z : FVec Ideal S512x256 .f32) (c s : FVec Ideal S512x128 .f32) (r : Fin 512) (C S : Fin 32 → EReal) (h : Tabled c s r C S) (a b : Fin 1) (l : Fin 256) :
    pair z c s (ix4 a b r l) = Rotary.turn (fun d => z (ix2 r ⟨l.val / 64 * 64 + d.val, by omega⟩)) C S ⟨l.val % 64, by omega⟩ := by
  unfold pair
  have ha := a.isLt
  have hb := b.isLt
  refine (shapeCast_apply _ _ _ (ix2 r l) ?_).trans (beside_apply z c s r C S h l)
  rw [Shape.rowMajor_val_two, Shape.rowMajor_val_four]
  show r.val * 256 + l.val = ((a.val * 1 + b.val) * 512 + r.val) * 256 + l.val
  omega

/-- A column of the packed weights. -/
def wcol (w : S1024x3200.Idx → EReal) (j : ℕ) (k : Fin 1024) : EReal := if h : j < 3200 then w (ix2 k ⟨j, h⟩) else 0

theorem wcol_of (w : S1024x3200.Idx → EReal) (j : ℕ) (k : Fin 1024) (h : j < 3200) : wcol w j k = w (ix2 k ⟨j, h⟩) := dif_pos h

/-- Row `r` of the point's input, normed, against column `j` of the packed weights. -/
def value (x : Vec Ideal S1x512x1024 .f32) (g : Vec Ideal S1x1024 .f32) (w : Vec Ideal S1024x3200 .bf16) (r : Fin 512) (j : ℕ) : EReal :=
  Rotary.dot (Rows.rms (fun k => x (ix3 0 r k)) (fun k => g (ix2 0 k))) (wcol w j)

section
variable (x : Vec Ideal S1x512x1024 .f32) (g : Vec Ideal S1x1024 .f32) (w : Vec Ideal S1024x3200 .bf16)

theorem value128 (o : ℕ) (h) (r : Fin 512) (l : Fin 128) (ho : o + l.val < 3200) :
    prod128 (k0_pay2 x g) (View.ld w (Rect.unit (s := S1024x3200) ![0, o] S1024x128.size h)) (ix2 r l) = value x g w r (o + l.val) := by
  refine (prod128_apply _ _ r l).trans (Rotary.dot_congr (fun k => normed_apply x g r k) fun k => ?_)
  rw [wcol_of w _ k ho]
  refine congrArg w (funext fun a => Fin.ext ?_)
  match a with
  | ⟨0, _⟩ => show 0 + 1 * k.val = k.val; omega
  | ⟨1, _⟩ => show o + 1 * l.val = o + l.val; omega

theorem value256 (o : ℕ) (h) (r : Fin 512) (l : Fin 256) (ho : o + l.val < 3200) :
    prod256 (k0_pay2 x g) (View.ld w (Rect.unit (s := S1024x3200) ![0, o] S1024x256.size h)) (ix2 r l) = value x g w r (o + l.val) := by
  refine (prod256_apply _ _ r l).trans (Rotary.dot_congr (fun k => normed_apply x g r k) fun k => ?_)
  rw [wcol_of w _ k ho]
  refine congrArg w (funext fun a => Fin.ext ?_)
  match a with
  | ⟨0, _⟩ => show 0 + 1 * k.val = k.val; omega
  | ⟨1, _⟩ => show o + 1 * l.val = o + l.val; omega

theorem value512 (o : ℕ) (h) (r : Fin 512) (l : Fin 512) (ho : o + l.val < 3200) :
    prod512 (k0_pay2 x g) (View.ld w (Rect.unit (s := S1024x3200) ![0, o] S1024x512.size h)) (ix2 r l) = value x g w r (o + l.val) := by
  refine (prod512_apply _ _ r l).trans (Rotary.dot_congr (fun k => normed_apply x g r k) fun k => ?_)
  rw [wcol_of w _ k ho]
  refine congrArg w (funext fun a => Fin.ext ?_)
  match a with
  | ⟨0, _⟩ => show 0 + 1 * k.val = k.val; omega
  | ⟨1, _⟩ => show o + 1 * l.val = o + l.val; omega

variable (c s : FVec Ideal S512x128 .f32) (r : Fin 512) (C S : Fin 32 → EReal) (ht : Tabled c s r C S)
include ht

theorem single_value (o : ℕ) (h) (a : Fin 1) (l : Fin 128) (ho : o + 128 ≤ 3200) :
    single (prod128 (k0_pay2 x g) (View.ld w (Rect.unit (s := S1024x3200) ![0, o] S1024x128.size h))) c s (ix3 a r l)
      = Rotary.turn (fun d => value x g w r (o + (l.val / 64 * 64 + d.val))) C S ⟨l.val % 64, by omega⟩ :=
  (single_apply _ c s r C S ht a l).trans (Rotary.turn_congr (fun d => value128 x g w o h r (lane l d) (by have := (lane l d).isLt; omega)) (fun _ => rfl) (fun _ => rfl) _)

theorem pair_value (o : ℕ) (h) (a b : Fin 1) (l : Fin 256) (ho : o + 256 ≤ 3200) :
    pair (prod256 (k0_pay2 x g) (View.ld w (Rect.unit (s := S1024x3200) ![0, o] S1024x256.size h))) c s (ix4 a b r l)
      = Rotary.turn (fun d => value x g w r (o + (l.val / 64 * 64 + d.val))) C S ⟨l.val % 64, by omega⟩ :=
  (pair_apply _ c s r C S ht a b l).trans (Rotary.turn_congr (fun d => value256 x g w o h r ⟨l.val / 64 * 64 + d.val, by omega⟩ (by show o + (l.val / 64 * 64 + d.val) < 3200; omega)) (fun _ => rfl) (fun _ => rfl) _)

/-- The strip of 128 lanes from `q` of a block of eight heads. -/
theorem strip_value (o q : ℕ) (h) (hs : S512x512.Slices (Matrix.vecCons 0 ![q]) S512x128) (a : Fin 1) (l : Fin 128) (ho : o + 512 ≤ 3200) (hq : q + 128 ≤ 512) (L : Fin 512) (hL : L.val = q + l.val) (h64 : q % 64 = 0) :
    single (extractStridedSlice S512x128 ![0, q] (prod512 (k0_pay2 x g) (View.ld w (Rect.unit (s := S1024x3200) ![0, o] S1024x512.size h))) hs) c s (ix3 a r l)
      = Rotary.turn (fun d => value x g w r (o + (L.val / 64 * 64 + d.val))) C S ⟨L.val % 64, by omega⟩ := by
  refine (single_apply _ c s r C S ht a l).trans ?_
  have e : (⟨L.val % 64, by omega⟩ : Fin 64) = ⟨l.val % 64, by omega⟩ := Fin.ext (by show L.val % 64 = l.val % 64; omega)
  rw [e]
  refine Rotary.turn_congr (fun d => ?_) (fun _ => rfl) (fun _ => rfl) _
  have hb : q + (lane l d).val < 512 := by have := (lane l d).isLt; omega
  refine (cut512_apply _ q hs r (lane l d) hb).trans ((value512 x g w o h r _ (by show o + (q + (lane l d).val) < 3200; omega)).trans (congrArg (value x g w r) ?_))
  show o + (q + (l.val / 64 * 64 + d.val)) = o + (L.val / 64 * 64 + d.val)
  omega

end

/-- The plain products, stored. -/
theorem plain128_apply (u : FVec Ideal S512x1024 .bf16) (w : FVec Ideal S1024x128 .bf16) (a : Fin 1) (r : Fin 512) (l : Fin 128) : k0_pay188 u w (ix3 a r l) = prod128 u w (ix2 r l) := by
  unfold k0_pay188
  refine (shapeCast_apply _ _ _ (ix2 r l) ?_).trans rfl
  have := a.isLt
  rw [Shape.rowMajor_val_two, Shape.rowMajor_val_three]
  show r.val * 128 + l.val = (a.val * 512 + r.val) * 128 + l.val
  omega

theorem plain256_apply (u : FVec Ideal S512x1024 .bf16) (w : FVec Ideal S1024x256 .bf16) (a b : Fin 1) (r : Fin 512) (l : Fin 256) : k0_pay126 u w (ix4 a b r l) = prod256 u w (ix2 r l) := by
  unfold k0_pay126
  refine (shapeCast_apply _ _ _ (ix2 r l) ?_).trans rfl
  have := a.isLt
  have := b.isLt
  rw [Shape.rowMajor_val_two, Shape.rowMajor_val_four]
  show r.val * 256 + l.val = ((a.val * 1 + b.val) * 512 + r.val) * 256 + l.val
  omega

end Cert.Projected

end
-- ==== Proof.ProjOut.lean ====
/- What one grid point of the input projection leaves in the windows of the six results that are claimed, at an index: a head's
   embedding, or a plain column, of the point's row. -/
module

public import proofs.«01_k».proof.Proof.ProjLeft
public import proofs.«01_k».proof.Proof.ProjLeft2
public import proofs.«01_k».proof.Proof.ProjBlocks

@[expose] public section

set_option maxRecDepth 16384

noncomputable section

namespace Cert.Projected

open Cert.InprojIdeal Cert.InprojIdeal.Gen Idealize.ShloMosaic Idealize.ShloMosaic.TcCoe Idealize.ShloMosaic.Tactic
open Idealize.ShloMosaic.ValueIdx
open Idealize.SL.Sem

/-- A lane's place in its head, and in a half of it. -/
def inHead (l : ℕ) : Fin 64 := ⟨l % 64, Nat.mod_lt _ (by decide)⟩
def inHalf (l : ℕ) : Fin 32 := ⟨l % 32, Nat.mod_lt _ (by decide)⟩

/-- Row `r` of a point's two tables holds these cosines, and these sines, negated in the first half of a head. -/
def Holds (x y : Vec Ideal S1x512x128 .f32) (r : Fin 512) (C S : Fin 32 → EReal) : Prop :=
  (∀ l : Fin 128, x (ix3 0 r l) = C (inHalf l.val)) ∧ ∀ l : Fin 128, y (ix3 0 r l) = if l.val % 64 < 32 then -S (inHalf l.val) else S (inHalf l.val)

/-- A point's table, its leading axis dropped. -/
theorem tableC_apply (x : Vec Ideal S1x512x128 .f32) (r : Fin 512) (l : Fin 128) : k0_pay3 x (ix2 r l) = x (ix3 0 r l) := by
  unfold k0_pay3
  refine shapeCast_apply _ _ _ _ ?_
  rw [Shape.rowMajor_val_three, Shape.rowMajor_val_two]
  show (0 * 512 + r.val) * 128 + l.val = r.val * 128 + l.val
  omega

theorem tableS_apply (x : Vec Ideal S1x512x128 .f32) (r : Fin 512) (l : Fin 128) : k0_pay4 x (ix2 r l) = x (ix3 0 r l) := by
  unfold k0_pay4
  refine shapeCast_apply _ _ _ _ ?_
  rw [Shape.rowMajor_val_three, Shape.rowMajor_val_two]
  show (0 * 512 + r.val) * 128 + l.val = r.val * 128 + l.val
  omega

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x3200 .bf16) (harg4 : arg4.IsWhole)
  (arg5 : Memref sig .tc .vmem S968x1024 .bf16) (harg5 : arg5.IsWhole)
  (arg6 : Memref sig .tc .vmem S1x512x128 .f32) (harg6 : arg6.IsWhole)
  (arg7 : Memref sig .tc .vmem S1x512x128 .f32) (harg7 : arg7.IsWhole)
  (arg8 : Memref sig .tc .vmem S1x32x512 .f32) (harg8 : arg8.IsWhole)
  (arg9 : Memref sig .tc .vmem S1x32x512 .f32) (harg9 : arg9.IsWhole)
  (arg10 : Memref sig .tc .vmem S1x128 .f32) (harg10 : arg10.IsWhole)
  (arg11 : Memref sig .tc .vmem S1x512x64 .bf16) (harg11 : arg11.IsWhole)
  (arg12 : Memref sig .tc .vmem S1x512x64 .bf16) (harg12 : arg12.IsWhole)
  (arg13 : Memref sig .tc .vmem S1x1x512x256 .bf16) (harg13 : arg13.IsWhole)
  (arg14 : Memref sig .tc .vmem S1x4x128x256 .bf16) (harg14 : arg14.IsWhole)
  (arg15 : Memref sig .tc .vmem S1x16x32x256 .bf16) (harg15 : arg15.IsWhole)
  (arg16 : Memref sig .tc .vmem S1x1x512x256 .bf16) (harg16 : arg16.IsWhole)
  (arg17 : Memref sig .tc .vmem S1x4x128x256 .bf16) (harg17 : arg17.IsWhole)
  (arg18 : Memref sig .tc .vmem S1x16x32x256 .bf16) (harg18 : arg18.IsWhole)
  (arg19 : Memref sig .tc .vmem S1x1x512x256 .bf16) (harg19 : arg19.IsWhole)
  (arg20 : Memref sig .tc .vmem S1x4x128x256 .bf16) (harg20 : arg20.IsWhole)
  (arg21 : Memref sig .tc .vmem S1x16x32x256 .bf16) (harg21 : arg21.IsWhole)
  (arg22 : Memref sig .tc .vmem S1x512x512 .bf16) (harg22 : arg22.IsWhole)
  (arg23 : Memref sig .tc .vmem S1x512x128 .bf16) (harg23 : arg23.IsWhole)
  (arg24 : Memref sig .tc .vmem S1x512x128 .bf16) (harg24 : arg24.IsWhole)
  (arg25 : Memref sig .tc .vmem S1x2x64x1536 .bf16) (harg25 : arg25.IsWhole)
  (arg26 : Memref sig .tc .vmem S1x2x64x2048 .bf16) (harg26 : arg26.IsWhole)
  (arg27 : Memref sig .tc .vmem S1x2x64x256 .bf16) (harg27 : arg27.IsWhole)
  (arg28 : Memref sig .tc .vmem S1x2x1x2048 .f32) (harg28 : arg28.IsWhole)
  (arg29 : Memref sig .tc .vmem S2x512x128 .f32) (harg29 : arg29.IsWhole)
  (x0 : Vec Ideal S1x512x1024 .f32) (x1 : Vec Ideal S1x1024 .f32) (x2 : Vec Ideal S1024x3200 .bf16) (x3 : Vec Ideal S968x1024 .bf16) (x4 : Vec Ideal S1x512x128 .f32) (x5 : Vec Ideal S1x512x128 .f32) (x6 : Vec Ideal S1x32x512 .f32) (x7 : Vec Ideal S1x32x512 .f32) (x8 : Vec Ideal S1x128 .f32)

theorem left11_eq : left11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8
    = pair (prod256 (k0_pay2 x0 x1) (View.ld x2 (Rect.unit (s := S1024x3200) ![0, 128] S1024x256.size inb_S1024x3200_S1024x256_0_128))) (k0_pay3 x4) (k0_pay4 x5) := by
  unfold left11
  rw [View.read_writes_junk_eq_canon]
  unfold kernelRun0_A
  dsimp only
  sl_unfold_words
  rw [View.canon_unit_zero (by funext a; fin_cases a <;> rfl)]
  simp only [View.readAt_eq_ld, harg2.read_unread, harg3.read_unread, harg4.read_unread, harg6.read_unread, harg7.read_unread]
  rw [View.ld_unit_zero (S := S1x512x1024) (by funext a; fin_cases a <;> rfl), View.ld_unit_zero (S := S1x1024) (by funext a; fin_cases a <;> rfl)]
  rw [View.ld_unit_zero (S := S1x512x128) (by funext a; fin_cases a <;> rfl), View.ld_unit_zero (S := S1x512x128) (by funext a; fin_cases a <;> rfl)]
  rfl

theorem left14_eq : left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8
    = pair (prod256 (k0_pay2 x0 x1) (View.ld x2 (Rect.unit (s := S1024x3200) ![0, 896] S1024x256.size inb_S1024x3200_S1024x256_0_896))) (k0_pay3 x4) (k0_pay4 x5) := by
  unfold left14
  rw [View.read_writes_junk_eq_canon]
  unfold kernelRun0_A
  dsimp only
  sl_unfold_words
  rw [View.canon_unit_zero (by funext a; fin_cases a <;> rfl)]
  simp only [View.readAt_eq_ld, harg2.read_unread, harg3.read_unread, harg4.read_unread, harg6.read_unread, harg7.read_unread]
  rw [View.ld_unit_zero (S := S1x512x1024) (by funext a; fin_cases a <;> rfl), View.ld_unit_zero (S := S1x1024) (by funext a; fin_cases a <;> rfl)]
  rw [View.ld_unit_zero (S := S1x512x128) (by funext a; fin_cases a <;> rfl), View.ld_unit_zero (S := S1x512x128) (by funext a; fin_cases a <;> rfl)]
  rfl

theorem left17_eq : left17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8
    = k0_pay126 (k0_pay2 x0 x1) (View.ld x2 (Rect.unit (s := S1024x3200) ![0, 1664] S1024x256.size inb_S1024x3200_S1024x256_0_1664)) := by
  unfold left17
  rw [View.read_writes_junk_eq_canon]
  unfold kernelRun0_A
  dsimp only
  sl_unfold_words
  rw [View.canon_unit_zero (by funext a; fin_cases a <;> rfl)]
  simp only [View.readAt_eq_ld, harg2.read_unread, harg3.read_unread, harg4.read_unread, harg6.read_unread, harg7.read_unread]
  rw [View.ld_unit_zero (S := S1x512x1024) (by funext a; fin_cases a <;> rfl), View.ld_unit_zero (S := S1x1024) (by funext a; fin_cases a <;> rfl)]

theorem left21_eq : left21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8
    = single (prod128 (k0_pay2 x0 x1) (View.ld x2 (Rect.unit (s := S1024x3200) ![0, 2944] S1024x128.size inb_S1024x3200_S1024x128_0_2944))) (k0_pay3 x4) (k0_pay4 x5) := by
  unfold left21
  rw [View.read_writes_junk_eq_canon]
  unfold kernelRun0_A
  dsimp only
  sl_unfold_words
  rw [View.canon_unit_zero (by funext a; fin_cases a <;> rfl)]
  simp only [View.readAt_eq_ld, harg2.read_unread, harg3.read_unread, harg4.read_unread, harg6.read_unread, harg7.read_unread]
  rw [View.ld_unit_zero (S := S1x512x1024) (by funext a; fin_cases a <;> rfl), View.ld_unit_zero (S := S1x1024) (by funext a; fin_cases a <;> rfl)]
  rw [View.ld_unit_zero (S := S1x512x128) (by funext a; fin_cases a <;> rfl), View.ld_unit_zero (S := S1x512x128) (by funext a; fin_cases a <;> rfl)]
  rfl

theorem left22_eq : left22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8
    = k0_pay188 (k0_pay2 x0 x1) (View.ld x2 (Rect.unit (s := S1024x3200) ![0, 3072] S1024x128.size inb_S1024x3200_S1024x128_0_3072)) := by
  unfold left22
  rw [View.read_writes_junk_eq_canon]
  unfold kernelRun0_A
  dsimp only
  sl_unfold_words
  rw [View.canon_unit_zero (by funext a; fin_cases a <;> rfl)]
  simp only [View.readAt_eq_ld, harg2.read_unread, harg3.read_unread, harg4.read_unread, harg6.read_unread, harg7.read_unread]
  rw [View.ld_unit_zero (S := S1x512x1024) (by funext a; fin_cases a <;> rfl), View.ld_unit_zero (S := S1x1024) (by funext a; fin_cases a <;> rfl)]

theorem left17_apply (a b : Fin 1) (r : Fin 512) (l : Fin 256) : left17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 (ix4 a b r l) = value x0 x1 x2 r (1664 + l.val) := by
  rw [left17_eq]
  exact (plain256_apply _ _ a b r l).trans (value256 x0 x1 x2 1664 _ r l (by omega))

theorem left22_apply (a : Fin 1) (r : Fin 512) (l : Fin 128) : left22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 (ix3 a r l) = value x0 x1 x2 r (3072 + l.val) := by
  rw [left22_eq]
  exact (plain128_apply _ _ a r l).trans (value128 x0 x1 x2 3072 _ r l (by omega))

section

variable (r : Fin 512) (C S : Fin 32 → EReal) (ht : Holds x4 x5 r C S)

include ht in
theorem tabled : Tabled (k0_pay3 x4) (k0_pay4 x5) r C S :=
  ⟨fun l => (tableC_apply x4 r l).trans (ht.1 l), fun l => (tableS_apply x5 r l).trans (ht.2 l)⟩

include ht in
theorem left11_apply (a b : Fin 1) (l : Fin 256) : left11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 (ix4 a b r l)
    = Rotary.turn (fun d => value x0 x1 x2 r (128 + (l.val / 64 * 64 + d.val))) C S (inHead l.val) := by
  rw [left11_eq]
  exact pair_value x0 x1 x2 _ _ r C S (tabled x4 x5 r C S ht) 128 _ a b l (by omega)

include ht in
theorem left14_apply (a b : Fin 1) (l : Fin 256) : left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 (ix4 a b r l)
    = Rotary.turn (fun d => value x0 x1 x2 r (896 + (l.val / 64 * 64 + d.val))) C S (inHead l.val) := by
  rw [left14_eq]
  exact pair_value x0 x1 x2 _ _ r C S (tabled x4 x5 r C S ht) 896 _ a b l (by omega)

include ht in
theorem left21_apply (a : Fin 1) (l : Fin 128) : left21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 (ix3 a r l)
    = Rotary.turn (fun d => value x0 x1 x2 r (2944 + (l.val / 64 * 64 + d.val))) C S (inHead l.val) := by
  rw [left21_eq]
  exact single_value x0 x1 x2 _ _ r C S (tabled x4 x5 r C S ht) 2944 _ a l (by omega)

end

theorem left20_eq : left20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8
    = View.canon ([⟨Rect.unit (s := S1x512x512) ![0, 0, 384] S1x512x128.size inb_S1x512x512_S1x512x128_0_0_384, single (extractStridedSlice S512x128 ![0, 384] (prod512 (k0_pay2 x0 x1) (View.ld x2 (Rect.unit (s := S1024x3200) ![0, 2432] S1024x512.size inb_S1024x3200_S1024x512_0_2432))) slices_S512x512_o0_384_S512x128) (k0_pay3 x4) (k0_pay4 x5)⟩,
     ⟨Rect.unit (s := S1x512x512) ![0, 0, 256] S1x512x128.size inb_S1x512x512_S1x512x128_0_0_256, single (extractStridedSlice S512x128 ![0, 256] (prod512 (k0_pay2 x0 x1) (View.ld x2 (Rect.unit (s := S1024x3200) ![0, 2432] S1024x512.size inb_S1024x3200_S1024x512_0_2432))) slices_S512x512_o0_256_S512x128) (k0_pay3 x4) (k0_pay4 x5)⟩,
     ⟨Rect.unit (s := S1x512x512) ![0, 0, 128] S1x512x128.size inb_S1x512x512_S1x512x128_0_0_128, single (extractStridedSlice S512x128 ![0, 128] (prod512 (k0_pay2 x0 x1) (View.ld x2 (Rect.unit (s := S1024x3200) ![0, 2432] S1024x512.size inb_S1024x3200_S1024x512_0_2432))) slices_S512x512_o0_128_S512x128) (k0_pay3 x4) (k0_pay4 x5)⟩,
     ⟨Rect.unit (s := S1x512x512) ![0, 0, 0] S1x512x128.size inb_S1x512x512_S1x512x128_0_0_0, single (extractStridedSlice S512x128 ![0, 0] (prod512 (k0_pay2 x0 x1) (View.ld x2 (Rect.unit (s := S1024x3200) ![0, 2432] S1024x512.size inb_S1024x3200_S1024x512_0_2432))) slices_S512x512_o0_0_S512x128) (k0_pay3 x4) (k0_pay4 x5)⟩] : List (View.Piece (Elt Ideal) S1x512x512 .bf16)) := by
  unfold left20
  rw [View.read_writes_junk_eq_canon]
  unfold kernelRun0_A
  dsimp only
  sl_unfold_words
  simp only [View.readAt_eq_ld, harg2.read_unread, harg3.read_unread, harg4.read_unread, harg6.read_unread, harg7.read_unread]
  rw [View.ld_unit_zero (S := S1x512x1024) (by funext a; fin_cases a <;> rfl), View.ld_unit_zero (S := S1x1024) (by funext a; fin_cases a <;> rfl)]
  rw [View.ld_unit_zero (S := S1x512x128) (by funext a; fin_cases a <;> rfl), View.ld_unit_zero (S := S1x512x128) (by funext a; fin_cases a <;> rfl)]
  rfl

theorem strips_cover (u0 u1 u2 u3 : Vec Ideal S1x512x128 .bf16) (y : S1x512x512.Idx) :
    ∃ p ∈ ([⟨Rect.unit (s := S1x512x512) ![0, 0, 384] S1x512x128.size inb_S1x512x512_S1x512x128_0_0_384, u3⟩,
      ⟨Rect.unit (s := S1x512x512) ![0, 0, 256] S1x512x128.size inb_S1x512x512_S1x512x128_0_0_256, u2⟩,
      ⟨Rect.unit (s := S1x512x512) ![0, 0, 128] S1x512x128.size inb_S1x512x512_S1x512x128_0_0_128, u1⟩,
      ⟨Rect.unit (s := S1x512x512) ![0, 0, 0] S1x512x128.size inb_S1x512x512_S1x512x128_0_0_0, u0⟩] : List (View.Piece (Elt Ideal) S1x512x512 .bf16)), y ∈ p.1.set :=
  View.cover_of_tiledL (s := S1x512x512) _ S1x512x128.size (by sl_kernel_rfl) y

/-- A strip's window at its own index. -/
theorem strip_at (C S : Fin 512 → Fin 32 → EReal) (ht : ∀ r, Holds x4 x5 r (C r) (S r))
    (q : ℕ) (hsl : S512x512.Slices (Matrix.vecCons 0 ![q]) S512x128) (hq : q + 128 ≤ 512) (h64 : q % 64 = 0)
    (x : S1x512x128.Idx) (y : S1x512x512.Idx) (h1 : y 1 = x 1) (h2 : (y 2).val = q + (x 2).val) :
    single (extractStridedSlice S512x128 ![0, q] (prod512 (k0_pay2 x0 x1) (View.ld x2 (Rect.unit (s := S1024x3200) ![0, 2432] S1024x512.size inb_S1024x3200_S1024x512_0_2432))) hsl) (k0_pay3 x4) (k0_pay4 x5) x
      = Rotary.turn (fun d => value x0 x1 x2 (y 1) (2432 + ((y 2).val / 64 * 64 + d.val))) (C (y 1)) (S (y 1)) (inHead (y 2).val) := by
  rw [h1]
  have hx : x = ix3 (x 0) (x 1) (x 2) := by funext a; fin_cases a <;> rfl
  refine (congrArg _ hx).trans ?_
  exact strip_value x0 x1 x2 _ _ (x 1) (C (x 1)) (S (x 1)) (tabled x4 x5 (x 1) _ _ (ht _)) 2432 q _ hsl (x 0) (x 2) (by omega) hq (y 2) h2 h64

/-- The four strips of the window of the eight heads' queries, at an index. -/
theorem left20_apply (C S : Fin 512 → Fin 32 → EReal) (ht : ∀ r, Holds x4 x5 r (C r) (S r))
    (y : S1x512x512.Idx) : left20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 y
    = Rotary.turn (fun d => value x0 x1 x2 (y 1) (2432 + ((y 2).val / 64 * 64 + d.val))) (C (y 1)) (S (y 1)) (inHead (y 2).val) := by
  rw [left20_eq]
  refine View.canon_apply_of_pieces (Val := Elt Ideal) (S := S1x512x512) (e := .bf16)
    (fun y => Rotary.turn (fun d => value x0 x1 x2 (y 1) (2432 + ((y 2).val / 64 * 64 + d.val))) (C (y 1)) (S (y 1)) (inHead (y 2).val)) _ ?_ y
    (strips_cover _ _ _ _ y)
  intro p hp
  simp only [List.mem_cons, List.not_mem_nil, or_false] at hp
  rcases hp with rfl | rfl | rfl | rfl <;> intro x
  · exact strip_at x0 x1 x2 x4 x5 C S ht 384 _ (by omega) rfl x _ (Fin.ext (by show 0 + 1 * (x 1).val = (x 1).val; omega)) (by show 384 + 1 * (x 2).val = 384 + (x 2).val; omega)
  · exact strip_at x0 x1 x2 x4 x5 C S ht 256 _ (by omega) rfl x _ (Fin.ext (by show 0 + 1 * (x 1).val = (x 1).val; omega)) (by show 256 + 1 * (x 2).val = 256 + (x 2).val; omega)
  · exact strip_at x0 x1 x2 x4 x5 C S ht 128 _ (by omega) rfl x _ (Fin.ext (by show 0 + 1 * (x 1).val = (x 1).val; omega)) (by show 128 + 1 * (x 2).val = 128 + (x 2).val; omega)
  · exact strip_at x0 x1 x2 x4 x5 C S ht 0 _ (by omega) rfl x _ (Fin.ext (by show 0 + 1 * (x 1).val = (x 1).val; omega)) (by show 0 + 1 * (x 2).val = 0 + (x 2).val; omega)

end Cert.Projected

end
-- ==== Proof.Project.lean ====
/- The input projection's results for one token, from its state, its position and the weights: plain columns of the projection, and heads
   turned by the position's angles. -/
module

public import proofs.«01_k».proof.Proof.Rotary
public import Idealize.ShloMosaic.Lib.IdealHost

@[expose] public section

noncomputable section

namespace Cert.Rotary

open Idealize.ShloMosaic

/-- The scale of a query: an eighth. -/
def scale : EReal := Ideal.ofBits .f32 0x3E000000#32

theorem scale_eq : scale = (((1 : ℝ) / 8 : ℝ) : EReal) := by
  simp [scale, Ideal.ofBits, Ideal.ieee]
  rw [← EReal.coe_mul]
  norm_num

theorem scale_nonneg : 0 ≤ scale := by
  rw [scale_eq]
  exact EReal.coe_nonneg.2 (by norm_num)

theorem scale_ne_top : scale ≠ ⊤ := by
  rw [scale_eq]
  exact EReal.coe_ne_top _

/-- The angle of lane pair `i` at a position. -/
def angle (pos : BitVec 32) (i : Fin 32) : EReal :=
  FloatOps.mulf (F := Ideal) (φ := .f32) (FloatOps.sitofp .f32 pos)
    (FloatOps.hostPowf (Ideal.ofBits .f32 0x461C4000#32)
      (FloatOps.hostDivf (FloatOps.hostNegf (FloatOps.sitofp .f32 (BitVec.ofNat 32 i.val))) (Ideal.ofBits .f32 0x42000000#32)))

def cosOf (pos : BitVec 32) (i : Fin 32) : EReal := FloatOps.hostUnary (F := Ideal) (φ := .f32) .cos (angle pos i)
def sinOf (pos : BitVec 32) (i : Fin 32) : EReal := FloatOps.hostUnary (F := Ideal) (φ := .f32) .sin (angle pos i)

/-- Column `j` of the incoming weights. -/
def weight (w : Fin 1024 → Fin 7240 → EReal) (j : ℕ) (k : Fin 1024) : EReal := if h : j < 7240 then w k ⟨j, h⟩ else 0

theorem weight_of (w : Fin 1024 → Fin 7240 → EReal) (j : ℕ) (k : Fin 1024) (h : j < 7240) : weight w j k = w k ⟨j, h⟩ := dif_pos h

/-- Column `j` of a token's projection. -/
def col (h g : Fin 1024 → EReal) (w : Fin 1024 → Fin 7240 → EReal) (j : ℕ) : EReal := dot (Rows.rms h g) (weight w j)

/-- The head whose columns start at `o`, turned. -/
def head (h g : Fin 1024 → EReal) (w : Fin 1024 → Fin 7240 → EReal) (pos : BitVec 32) (o : ℕ) (d : Fin 64) : EReal :=
  turn (fun d => col h g w (o + d.val)) (cosOf pos) (sinOf pos) d

end Cert.Rotary

end
-- ==== Proof.ProjHost.lean ====
/- The arrays that the input projection's host code prepares, at an index: the packed weights' columns, the norm's gain, and the tables of
   cosines and signed sines. -/
module

public import proofs.«01_k».proof.Proof.ProjBlocks
public import proofs.«01_k».proof.Proof.Project
public import proofs.«01_k».proof.Proof.Gen.InprojIdeal.Frame.Runs
public import Idealize.ShloMosaic.Lib.ValueIdxRank6
public import Idealize.ShloMosaic.Lib.Claim

@[expose] public section

set_option maxRecDepth 16384

noncomputable section

namespace Cert.Projected

open Cert.InprojIdeal Cert.InprojIdeal.Gen Idealize.ShloMosaic Idealize.ShloMosaic.ValueIdx

/-! ## The packed weights -/

/-- The columns of the eight heads, group before pair. -/
def traded (x : FVec Ideal S1024x7240 .f32) : FVec Ideal S1024x512 .f32 :=
  shapeCast S1024x512 (transpose S1024x4x2x64 [0, 2, 1, 3] (shapeCast S1024x2x4x64
    (extractStridedSlice S1024x512 ![0, 3400] x slices_S1024x7240_S1024x512_0_3400) shapeCasts_S1024x512_S1024x2x4x64)
    transposes_S1024x2x4x64_S1024x4x2x64_0_2_1_3) shapeCasts_S1024x4x2x64_S1024x512

def packed (x : FVec Ideal S1024x7240 .f32) : FVec Ideal S1024x3200 .f32 :=
  concatenate S1024x3200 1 [⟨S1024x64, extractStridedSlice S1024x64 ![0, 384] x slices_S1024x7240_S1024x64_0_384⟩,
    ⟨S1024x64, extractStridedSlice S1024x64 ![0, 1024] x slices_S1024x7240_S1024x64_0_1024⟩,
    ⟨S1024x768, mulf (extractStridedSlice S1024x768 ![0, 1096] x slices_S1024x7240_S1024x768_0_1096) (broadcastInDim S1024x768 ![] bcast_S_S1024x768 (constant S_ .f32 0x3E000000#32))⟩,
    ⟨S1024x768, extractStridedSlice S1024x768 ![0, 1864] x slices_S1024x7240_S1024x768_0_1864⟩,
    ⟨S1024x768, extractStridedSlice S1024x768 ![0, 2632] x slices_S1024x7240_S1024x768_0_2632⟩,
    ⟨S1024x512, mulf (traded x) (broadcastInDim S1024x512 ![] bcast_S_S1024x512 (constant S_ .f32 0x3E000000#32))⟩,
    ⟨S1024x128, extractStridedSlice S1024x128 ![0, 3912] x slices_S1024x7240_S1024x128_0_3912⟩,
    ⟨S1024x128, extractStridedSlice S1024x128 ![0, 4040] x slices_S1024x7240_S1024x128_0_4040⟩]
    concatenates_S1024x64_S1024x64_S1024x768_S1024x768_S1024x768_S1024x512_S1024x128_S1024x128_S1024x3200_d1

/-- The columns of the weights as a function. -/
abbrev cols (x : FVec Ideal S1024x7240 .f32) : Fin 1024 → Fin 7240 → EReal := fun k j => x (ix2 k j)

theorem wide2 (x : FVec Ideal S1024x7240 .f32) (n : Fin 768) (k : Fin 1024) : wcol (packed x) (128 + n.val) k = Rotary.weight (cols x) (1096 + n.val) k * Rotary.scale := by
  have hn := n.isLt
  rw [wcol_of _ _ _ (by omega), Rotary.weight_of _ _ _ (by omega)]
  unfold packed
  refine (concatenate_apply_piece 1 _ _ (ix2 k (⟨128 + n.val, by omega⟩ : Fin 3200)) 2 (by show 2 < 8; omega) S1024x768 (mulf (extractStridedSlice S1024x768 ![0, 1096] x slices_S1024x7240_S1024x768_0_1096) (broadcastInDim S1024x768 ![] bcast_S_S1024x768 (constant S_ .f32 0x3E000000#32))) rfl rfl 128 rfl (ix2 k n) ?_ ?_).trans ?_
  · intro a ha
    fin_cases a
    · rfl
    · exact absurd rfl ha
  · rfl
  · refine congrArg (fun q : EReal => q * Rotary.scale) ?_
    exact extractStridedSlice_apply _ _ _ _ (ix2 k ⟨1096 + n.val, by omega⟩) (by
      intro a
      match a with
      | ⟨0, _⟩ => show k.val = 0 + k.val; omega
      | ⟨1, _⟩ => rfl)

theorem wide3 (x : FVec Ideal S1024x7240 .f32) (n : Fin 768) (k : Fin 1024) : wcol (packed x) (896 + n.val) k = Rotary.weight (cols x) (1864 + n.val) k := by
  have hn := n.isLt
  rw [wcol_of _ _ _ (by omega), Rotary.weight_of _ _ _ (by omega)]
  unfold packed
  refine (concatenate_apply_piece 1 _ _ (ix2 k (⟨896 + n.val, by omega⟩ : Fin 3200)) 3 (by show 3 < 8; omega) S1024x768 (extractStridedSlice S1024x768 ![0, 1864] x slices_S1024x7240_S1024x768_0_1864) rfl rfl 896 rfl (ix2 k n) ?_ ?_).trans ?_
  · intro a ha
    fin_cases a
    · rfl
    · exact absurd rfl ha
  · rfl
  · exact extractStridedSlice_apply _ _ _ _ (ix2 k ⟨1864 + n.val, by omega⟩) (by
      intro a
      match a with
      | ⟨0, _⟩ => show k.val = 0 + k.val; omega
      | ⟨1, _⟩ => rfl)

theorem wide4 (x : FVec Ideal S1024x7240 .f32) (n : Fin 768) (k : Fin 1024) : wcol (packed x) (1664 + n.val) k = Rotary.weight (cols x) (2632 + n.val) k := by
  have hn := n.isLt
  rw [wcol_of _ _ _ (by omega), Rotary.weight_of _ _ _ (by omega)]
  unfold packed
  refine (concatenate_apply_piece 1 _ _ (ix2 k (⟨1664 + n.val, by omega⟩ : Fin 3200)) 4 (by show 4 < 8; omega) S1024x768 (extractStridedSlice S1024x768 ![0, 2632] x slices_S1024x7240_S1024x768_0_2632) rfl rfl 1664 rfl (ix2 k n) ?_ ?_).trans ?_
  · intro a ha
    fin_cases a
    · rfl
    · exact absurd rfl ha
  · rfl
  · exact extractStridedSlice_apply _ _ _ _ (ix2 k ⟨2632 + n.val, by omega⟩) (by
      intro a
      match a with
      | ⟨0, _⟩ => show k.val = 0 + k.val; omega
      | ⟨1, _⟩ => rfl)

/-- The place among the eight heads' columns that the kernel's place `n` holds. -/
def trade (n : ℕ) : ℕ := (n / 64 % 2 * 4 + n / 64 / 2) * 64 + n % 64

theorem traded_apply (x : FVec Ideal S1024x7240 .f32) (n : Fin 512) (k : Fin 1024) : traded x (ix2 k n) = Rotary.weight (cols x) (3400 + trade n.val) k := by
  have hn := n.isLt
  have hj : 3400 + trade n.val < 7240 := by unfold trade; omega
  have e1 : n.val / 64 / 2 < 4 := by omega
  have e2 : n.val / 64 % 2 < 2 := by omega
  have e3 : n.val % 64 < 64 := by omega
  rw [Rotary.weight_of _ _ _ hj]
  unfold traded
  refine (shapeCast_apply _ _ _ (ix4 k ⟨n.val / 64 / 2, e1⟩ ⟨n.val / 64 % 2, e2⟩ ⟨n.val % 64, e3⟩) ?_).trans ?_
  · rw [Shape.rowMajor_val_four, Shape.rowMajor_val_two]
    change ((k.val * 4 + n.val / 64 / 2) * 2 + n.val / 64 % 2) * 64 + n.val % 64 = k.val * 512 + n.val
    omega
  rw [transpose_apply _ _ _ _ (ix4 k ⟨n.val / 64 % 2, e2⟩ ⟨n.val / 64 / 2, e1⟩ ⟨n.val % 64, e3⟩) (by intro a; fin_cases a <;> rfl)]
  have h5 : trade n.val < 512 := by unfold trade; omega
  refine (shapeCast_apply _ _ _ (ix2 k ⟨trade n.val, h5⟩) ?_).trans ?_
  · rw [Shape.rowMajor_val_four, Shape.rowMajor_val_two]
    change k.val * 512 + trade n.val = ((k.val * 2 + n.val / 64 % 2) * 4 + n.val / 64 / 2) * 64 + n.val % 64
    unfold trade
    omega
  exact extractStridedSlice_apply _ _ _ _ (ix2 k ⟨3400 + trade n.val, hj⟩) (by
      intro a
      match a with
      | ⟨0, _⟩ => show k.val = 0 + k.val; omega
      | ⟨1, _⟩ => rfl)

theorem wide5 (x : FVec Ideal S1024x7240 .f32) (n : Fin 512) (k : Fin 1024) : wcol (packed x) (2432 + n.val) k = Rotary.weight (cols x) (3400 + trade n.val) k * Rotary.scale := by
  have hn := n.isLt
  rw [wcol_of _ _ _ (by omega)]
  unfold packed
  refine (concatenate_apply_piece 1 _ _ (ix2 k (⟨2432 + n.val, by omega⟩ : Fin 3200)) 5 (by show 5 < 8; omega) S1024x512
    (mulf (traded x) (broadcastInDim S1024x512 ![] bcast_S_S1024x512 (constant S_ .f32 0x3E000000#32))) rfl rfl 2432 rfl (ix2 k n) ?_ ?_).trans ?_
  · intro a ha
    fin_cases a
    · rfl
    · exact absurd rfl ha
  · rfl
  · exact congrArg (fun q : EReal => q * Rotary.scale) (traded_apply x n k)

theorem wide6 (x : FVec Ideal S1024x7240 .f32) (n : Fin 128) (k : Fin 1024) : wcol (packed x) (2944 + n.val) k = Rotary.weight (cols x) (3912 + n.val) k := by
  have hn := n.isLt
  rw [wcol_of _ _ _ (by omega), Rotary.weight_of _ _ _ (by omega)]
  unfold packed
  refine (concatenate_apply_piece 1 _ _ (ix2 k (⟨2944 + n.val, by omega⟩ : Fin 3200)) 6 (by show 6 < 8; omega) S1024x128 (extractStridedSlice S1024x128 ![0, 3912] x slices_S1024x7240_S1024x128_0_3912) rfl rfl 2944 rfl (ix2 k n) ?_ ?_).trans ?_
  · intro a ha
    fin_cases a
    · rfl
    · exact absurd rfl ha
  · rfl
  · exact extractStridedSlice_apply _ _ _ _ (ix2 k ⟨3912 + n.val, by omega⟩) (by
      intro a
      match a with
      | ⟨0, _⟩ => show k.val = 0 + k.val; omega
      | ⟨1, _⟩ => rfl)

theorem wide7 (x : FVec Ideal S1024x7240 .f32) (n : Fin 128) (k : Fin 1024) : wcol (packed x) (3072 + n.val) k = Rotary.weight (cols x) (4040 + n.val) k := by
  have hn := n.isLt
  rw [wcol_of _ _ _ (by omega), Rotary.weight_of _ _ _ (by omega)]
  unfold packed
  refine (concatenate_apply_piece 1 _ _ (ix2 k (⟨3072 + n.val, by omega⟩ : Fin 3200)) 7 (by show 7 < 8; omega) S1024x128 (extractStridedSlice S1024x128 ![0, 4040] x slices_S1024x7240_S1024x128_0_4040) rfl rfl 3072 rfl (ix2 k n) ?_ ?_).trans ?_
  · intro a ha
    fin_cases a
    · rfl
    · exact absurd rfl ha
  · rfl
  · exact extractStridedSlice_apply _ _ _ _ (ix2 k ⟨4040 + n.val, by omega⟩) (by
      intro a
      match a with
      | ⟨0, _⟩ => show k.val = 0 + k.val; omega
      | ⟨1, _⟩ => rfl)

/-! ## The tables -/

/-- The angles of every position. -/
def angles (p : IVec S8x4096 32) : FVec Ideal S8x4096x32 .f32 :=
  mulf (broadcastInDim S8x4096x32 ![0, 1, 2] bcast_S8x4096x1_S8x4096x32_0_1_2 (broadcastInDim S8x4096x1 ![0, 1] bcast_S8x4096_S8x4096x1_0_1 (sitofp .f32 p)))
    (broadcastInDim S8x4096x32 ![0, 1, 2] bcast_S1x1x32_S8x4096x32_0_1_2 (broadcastInDim S1x1x32 ![2] bcast_S32_S1x1x32_2
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angles_apply (p : IVec S8x4096 32) (b : Fin 8) (t : Fin 4096) (i : Fin 32) : angles p (ix3 b t i) = Rotary.angle (p (ix2 b t)) i := by
  unfold angles Rotary.angle
  refine congrArg₂ (fun u v : EReal => FloatOps.mulf (F := Ideal) (φ := .f32) u v) ?_ ?_
  · refine (broadcastInDim_apply _ _ _ _ (ix3 b t 0) (by intro a; fin_cases a <;> rfl)).trans ?_
    exact broadcastInDim_apply _ _ _ _ (ix2 b t) (by intro a; fin_cases a <;> rfl)
  · refine (broadcastInDim_apply _ _ _ _ (ix3 0 0 i) (by intro a; fin_cases a <;> rfl)).trans ?_
    exact broadcastInDim_apply _ _ _ _ (ix1 i) (by intro a; fin_cases a; rfl)

/-- Two halves of 32 lanes, doubled to two heads. -/
def doubled (x y : FVec Ideal S8x4096x32 .f32) : FVec Ideal S8x4096x128 .f32 :=
  shapeCast S8x4096x128 (broadcastInDim S1x8x1x4096x2x64 ![0, 1, 2, 3, 4, 5] bcast_S1x8x1x4096x1x64_S1x8x1x4096x2x64_0_1_2_3_4_5
    (shapeCast S1x8x1x4096x1x64 (concatenate S8x4096x64 2 [⟨S8x4096x32, x⟩, ⟨S8x4096x32, y⟩] concatenates_S8x4096x32_S8x4096x32_S8x4096x64_d2)
      shapeCasts_S8x4096x64_S1x8x1x4096x1x64)) shapeCasts_S1x8x1x4096x2x64_S8x4096x128

theorem doubled_apply (x y : FVec Ideal S8x4096x32 .f32) (b : Fin 8) (t : Fin 4096) (l : Fin 128) :
    doubled x y (ix3 b t l) = if l.val % 64 < 32 then x (ix3 b t ⟨l.val % 32, by omega⟩) else y (ix3 b t ⟨l.val % 32, by omega⟩) := by
  have hl := l.isLt
  have h2 : l.val / 64 < 2 := by omega
  have h64 : l.val % 64 < 64 := by omega
  unfold doubled
  refine (shapeCast_apply _ _ _ (ix6 0 b 0 t ⟨l.val / 64, h2⟩ ⟨l.val % 64, h64⟩) ?_).trans ?_
  · rw [Shape.rowMajor_val_six, Shape.rowMajor_val_three]
    change ((((0 * 8 + b.val) * 1 + 0) * 4096 + t.val) * 2 + l.val / 64) * 64 + l.val % 64 = (b.val * 4096 + t.val) * 128 + l.val
    omega
  refine (broadcastInDim_apply _ _ _ _ (ix6 0 b 0 t 0 ⟨l.val % 64, h64⟩) (by intro a; fin_cases a <;> rfl)).trans ?_
  refine (shapeCast_apply _ _ _ (ix3 b t ⟨l.val % 64, h64⟩) ?_).trans ?_
  · rw [Shape.rowMajor_val_six, Shape.rowMajor_val_three]
    change (b.val * 4096 + t.val) * 64 + l.val % 64 = ((((0 * 8 + b.val) * 1 + 0) * 4096 + t.val) * 1 + 0) * 64 + l.val % 64
    omega
  by_cases h : l.val % 64 < 32
  · rw [if_pos h]
    refine (concatenate_pair_apply_left (t := S8x4096x64) (s₁ := S8x4096x32) (s₂ := S8x4096x32) 2 _ _ _ _ rfl (ix3 b t ⟨l.val % 64, h⟩ : S8x4096x32.Idx) (by intro a; fin_cases a <;> rfl)).trans ?_
    exact congrArg (fun q => x (ix3 b t q)) (Fin.ext (by show l.val % 64 = l.val % 32; omega))
  · rw [if_neg h]
    have hq : l.val % 64 - 32 < 32 := by omega
    refine (concatenate_pair_apply_right (t := S8x4096x64) (s₁ := S8x4096x32) (s₂ := S8x4096x32) 2 _ _ _ (ix3 b t ⟨l.val % 64, h64⟩) rfl rfl (ix3 b t ⟨l.val % 64 - 32, hq⟩ : S8x4096x32.Idx) (by
        intro a; fin_cases a
        · intro _; rfl
        · intro _; rfl
        · intro h; exact absurd rfl h)
      (show l.val % 64 - 32 + 32 = l.val % 64 by omega)).trans ?_
    exact congrArg (fun q => y (ix3 b t q)) (Fin.ext (by show l.val % 64 - 32 = l.val % 32; omega))

/-! ## The arrays as the call finds them -/

section
variable (m : (ℓ : Loc nD τ sig) → Buf (Elt Ideal) ℓ) (c : Dev nD)

/-- The arguments: the states, the positions, the norm's gain, the incoming weights. -/
abbrev a0 : S8x4096x1024.Idx → EReal := m (c.tc.loc main_arg0)
abbrev a1 : IVec S8x4096 32 := m (c.tc.loc main_arg1)
abbrev a2 : S1024.Idx → EReal := m (c.tc.loc main_arg2)
abbrev a3 : S1024x7240.Idx → EReal := m (c.tc.loc main_arg3)

theorem states_eq : (V m c main_arg0 : S8x4096x1024.Idx → EReal) = a0 m c := by
  rfl

theorem gain_at (k : Fin 1024) : (V m c main_v37 : S1x1024.Idx → EReal) (ix2 0 k) = a2 m c (ix1 k) := by
  entry_read
  exact broadcastInDim_apply _ _ _ _ (ix1 k) (by intro a; fin_cases a; rfl)

theorem packed_eq : (V m c main_v16 : S1024x3200.Idx → EReal) = packed (a3 m c) := by
  rfl

set_option maxHeartbeats 2000000 in
theorem cosines_eq : (V m c main_v55 : S8x4096x128.Idx → EReal) = doubled (Host.cos (angles (a1 m c))) (Host.cos (angles (a1 m c))) := by
  entry_read
  rfl

set_option maxHeartbeats 2000000 in
theorem sines_eq : (V m c main_v60 : S8x4096x128.Idx → EReal) = doubled (Host.negf (Host.sin (angles (a1 m c)))) (Host.sin (angles (a1 m c))) := by
  entry_read
  rfl

theorem cosines_at (b : Fin 8) (t : Fin 4096) (l : Fin 128) :
    (V m c main_v55 : S8x4096x128.Idx → EReal) (ix3 b t l) = Rotary.cosOf (a1 m c (ix2 b t)) ⟨l.val % 32, by omega⟩ := by
  rw [cosines_eq, doubled_apply, ite_self]
  exact congrArg (fun q : EReal => FloatOps.hostUnary (F := Ideal) (φ := .f32) .cos q) (angles_apply (a1 m c) b t _)

theorem sines_at (b : Fin 8) (t : Fin 4096) (l : Fin 128) :
    (V m c main_v60 : S8x4096x128.Idx → EReal) (ix3 b t l)
      = if l.val % 64 < 32 then -Rotary.sinOf (a1 m c (ix2 b t)) ⟨l.val % 32, by omega⟩ else Rotary.sinOf (a1 m c (ix2 b t)) ⟨l.val % 32, by omega⟩ := by
  rw [sines_eq, doubled_apply]
  have e : ∀ i : Fin 32, FloatOps.hostUnary (F := Ideal) (φ := .f32) .sin (angles (a1 m c) (ix3 b t i)) = Rotary.sinOf (a1 m c (ix2 b t)) i := fun i =>
    congrArg (fun q : EReal => FloatOps.hostUnary (F := Ideal) (φ := .f32) .sin q) (angles_apply (a1 m c) b t i)
  by_cases h : l.val % 64 < 32
  · rw [if_pos h, if_pos h]
    exact congrArg (fun q : EReal => -q) (e _)
  · rw [if_neg h, if_neg h]
    exact e _

end

end Cert.Projected

end
-- ==== Proof.ProjRun.lean ====
/- The input projection's run: six of its result arrays as functions of the arguments, entry by entry. -/
module

public import proofs.«01_k».proof.Proof.ProjOut
public import proofs.«01_k».proof.Proof.ProjHost
public import proofs.«01_k».proof.Proof.ProjData
public import Idealize.ShloMosaic.Lib.Claim

@[expose] public section

set_option maxRecDepth 16384

noncomputable section

namespace Cert.Projected

open Cert.InprojIdeal Cert.InprojIdeal.Gen Idealize.ShloMosaic Idealize.ShloMosaic.ValueIdx

variable (m : (ℓ : Loc nD τ sig) → Buf (Elt Ideal) ℓ)

theorem index0_val : ∀ t : Fin grid0.N, win0_0.index t = ![t.val / 8, t.val % 8, 0] := by decide +kernel

theorem index1_val : ∀ t : Fin grid0.N, win0_1.index t = ![0, 0] := by decide +kernel

theorem index2_val : ∀ t : Fin grid0.N, win0_2.index t = ![0, 0] := by decide +kernel

theorem index4_val : ∀ t : Fin grid0.N, win0_4.index t = ![t.val / 8, t.val % 8, 0] := by decide +kernel

theorem index5_val : ∀ t : Fin grid0.N, win0_5.index t = ![t.val / 8, t.val % 8, 0] := by decide +kernel

theorem index11_val : ∀ t : Fin grid0.N, win0_11.index t = ![t.val / 8, 0, t.val % 8, 0] := by decide +kernel

theorem index14_val : ∀ t : Fin grid0.N, win0_14.index t = ![t.val / 8, 0, t.val % 8, 0] := by decide +kernel

theorem index17_val : ∀ t : Fin grid0.N, win0_17.index t = ![t.val / 8, 0, t.val % 8, 0] := by decide +kernel

theorem index20_val : ∀ t : Fin grid0.N, win0_20.index t = ![t.val / 8, t.val % 8, 0] := by decide +kernel

theorem index21_val : ∀ t : Fin grid0.N, win0_21.index t = ![t.val / 8, t.val % 8, 0] := by decide +kernel

theorem index22_val : ∀ t : Fin grid0.N, win0_22.index t = ![t.val / 8, t.val % 8, 0] := by decide +kernel

/-- A point's batch, and the token of its row. -/
def bOf (t : Fin cfg0.N) : Fin 8 := ⟨t.val / 8, by have := t.isLt; have : cfg0.N = 64 := N_0; omega⟩
def tokOf (t : Fin cfg0.N) (p : Fin 512) : Fin 4096 := ⟨t.val % 8 * 512 + p.val, by omega⟩

variable (c : Dev nD)

/-- A token's row and position, and the gain. -/
abbrev row (b : Fin 8) (q : Fin 4096) : Fin 1024 → EReal := fun k => a0 m c (ix3 b q k)
abbrev gain : Fin 1024 → EReal := fun k => a2 m c (ix1 k)
abbrev place (b : Fin 8) (q : Fin 4096) : BitVec 32 := a1 m c (ix2 b q)

/-! ## The six arrays -/

def bq0 : S8x1x4096x256.Idx → EReal := fun i =>
  Rotary.head (row m c (i 0) (i 2)) (gain m c) (cols (a3 m c)) (place m c (i 0) (i 2)) (1096 + (i 3).val / 64 * 64) (inHead (i 3).val) * Rotary.scale
def bk0 : S8x1x4096x256.Idx → EReal := fun i =>
  Rotary.head (row m c (i 0) (i 2)) (gain m c) (cols (a3 m c)) (place m c (i 0) (i 2)) (1864 + (i 3).val / 64 * 64) (inHead (i 3).val)
def bv0 : S8x1x4096x256.Idx → EReal := fun i => Rotary.col (row m c (i 0) (i 2)) (gain m c) (cols (a3 m c)) (2632 + (i 3).val)
def cq : S8x4096x512.Idx → EReal := fun i =>
  Rotary.head (row m c (i 0) (i 1)) (gain m c) (cols (a3 m c)) (place m c (i 0) (i 1)) (3400 + ((i 2).val / 64 % 2 * 4 + (i 2).val / 64 / 2) * 64) (inHead (i 2).val) * Rotary.scale
def ck : S8x4096x128.Idx → EReal := fun i =>
  Rotary.head (row m c (i 0) (i 1)) (gain m c) (cols (a3 m c)) (place m c (i 0) (i 1)) (3912 + (i 2).val / 64 * 64) (inHead (i 2).val)
def cv : S8x4096x128.Idx → EReal := fun i => Rotary.col (row m c (i 0) (i 1)) (gain m c) (cols (a3 m c)) (4040 + (i 2).val)

section
variable (t : Fin cfg0.N)

/-! ## The windows' blocks -/

theorem iblk0_apply (p : Fin 512) (l : Fin 1024) : (iblk m c 0 t : Vec Ideal S1x512x1024 .f32) (ix3 0 p l) = V m c main_arg0 (ix3 (bOf t) (tokOf t p) l) := by
  have hi := index0_val t
  unfold iblk
  rw [View.read_apply]
  show V m c main_arg0 _ = V m c main_arg0 _
  congr 1
  funext a
  apply Fin.ext
  match a with
  | ⟨0, _⟩ => show win0_0.index t 0 * 1 + 1 * 0 = t.val / 8; rw [hi]; simp
  | ⟨1, _⟩ => show win0_0.index t 1 * 512 + 1 * p.val = t.val % 8 * 512 + p.val; rw [hi]; simp
  | ⟨2, _⟩ => show win0_0.index t 2 * 1024 + 1 * l.val = l.val; rw [hi]; simp

theorem iblk4_apply (p : Fin 512) (l : Fin 128) : (iblk m c 4 t : Vec Ideal S1x512x128 .f32) (ix3 0 p l) = V m c main_v55 (ix3 (bOf t) (tokOf t p) l) := by
  have hi := index4_val t
  unfold iblk
  rw [View.read_apply]
  show V m c main_v55 _ = V m c main_v55 _
  congr 1
  funext a
  apply Fin.ext
  match a with
  | ⟨0, _⟩ => show win0_4.index t 0 * 1 + 1 * 0 = t.val / 8; rw [hi]; simp
  | ⟨1, _⟩ => show win0_4.index t 1 * 512 + 1 * p.val = t.val % 8 * 512 + p.val; rw [hi]; simp
  | ⟨2, _⟩ => show win0_4.index t 2 * 128 + 1 * l.val = l.val; rw [hi]; simp

theorem iblk5_apply (p : Fin 512) (l : Fin 128) : (iblk m c 5 t : Vec Ideal S1x512x128 .f32) (ix3 0 p l) = V m c main_v60 (ix3 (bOf t) (tokOf t p) l) := by
  have hi := index5_val t
  unfold iblk
  rw [View.read_apply]
  show V m c main_v60 _ = V m c main_v60 _
  congr 1
  funext a
  apply Fin.ext
  match a with
  | ⟨0, _⟩ => show win0_5.index t 0 * 1 + 1 * 0 = t.val / 8; rw [hi]; simp
  | ⟨1, _⟩ => show win0_5.index t 1 * 512 + 1 * p.val = t.val % 8 * 512 + p.val; rw [hi]; simp
  | ⟨2, _⟩ => show win0_5.index t 2 * 128 + 1 * l.val = l.val; rw [hi]; simp

theorem iblk1_apply (l : Fin 1024) : (iblk m c 1 t : Vec Ideal S1x1024 .f32) (ix2 0 l) = V m c main_v37 (ix2 0 l) := by
  have hi := index1_val t
  unfold iblk
  rw [View.read_apply]
  show V m c main_v37 _ = V m c main_v37 _
  congr 1
  funext a
  apply Fin.ext
  match a with
  | ⟨0, _⟩ => show win0_1.index t 0 * 1 + 1 * 0 = 0; rw [hi]; simp
  | ⟨1, _⟩ => show win0_1.index t 1 * 1024 + 1 * l.val = l.val; rw [hi]; simp

theorem iblk2_apply (k : Fin 1024) (l : Fin 3200) : (iblk m c 2 t : Vec Ideal S1024x3200 .bf16) (ix2 k l) = V m c main_v16 (ix2 k l) := by
  have hi := index2_val t
  unfold iblk
  rw [View.read_apply]
  show V m c main_v16 _ = V m c main_v16 _
  congr 1
  funext a
  apply Fin.ext
  match a with
  | ⟨0, _⟩ => show win0_2.index t 0 * 1024 + 1 * k.val = k.val; rw [hi]; simp
  | ⟨1, _⟩ => show win0_2.index t 1 * 3200 + 1 * l.val = l.val; rw [hi]; simp

/-! ## A row's columns -/

theorem value_at (r : Fin 512) (j : ℕ) : value (iblk m c 0 t) (iblk m c 1 t) (iblk m c 2 t) r j
    = Rotary.dot (Rows.rms (row m c (bOf t) (tokOf t r)) (gain m c)) (wcol (packed (a3 m c)) j) := by
  unfold value
  rw [show (fun k => (iblk m c 0 t : Vec Ideal S1x512x1024 .f32) (ix3 0 r k)) = row m c (bOf t) (tokOf t r) from
      funext fun k => (iblk0_apply m c t r k).trans (congrFun (states_eq m c) _),
    show (fun k => (iblk m c 1 t : Vec Ideal S1x1024 .f32) (ix2 0 k)) = gain m c from funext fun k => (iblk1_apply m c t k).trans (gain_at m c k)]
  refine Rotary.dot_congr (fun _ => rfl) fun k => ?_
  unfold wcol
  split
  · exact (iblk2_apply m c t k _).trans (congrFun (packed_eq m c) _)
  · rfl

theorem value2_at (r : Fin 512) (n : Fin 768) : value (iblk m c 0 t) (iblk m c 1 t) (iblk m c 2 t) r (128 + n.val)
    = Rotary.col (row m c (bOf t) (tokOf t r)) (gain m c) (cols (a3 m c)) (1096 + n.val) * Rotary.scale :=
  (value_at m c t r _).trans ((Rotary.dot_congr (fun _ => rfl) (wide2 (a3 m c) n)).trans (Rotary.dot_scale Rotary.scale_nonneg Rotary.scale_ne_top _ _))

theorem value3_at (r : Fin 512) (n : Fin 768) : value (iblk m c 0 t) (iblk m c 1 t) (iblk m c 2 t) r (896 + n.val)
    = Rotary.col (row m c (bOf t) (tokOf t r)) (gain m c) (cols (a3 m c)) (1864 + n.val) :=
  (value_at m c t r _).trans (Rotary.dot_congr (fun _ => rfl) (wide3 (a3 m c) n))

theorem value4_at (r : Fin 512) (n : Fin 768) : value (iblk m c 0 t) (iblk m c 1 t) (iblk m c 2 t) r (1664 + n.val)
    = Rotary.col (row m c (bOf t) (tokOf t r)) (gain m c) (cols (a3 m c)) (2632 + n.val) :=
  (value_at m c t r _).trans (Rotary.dot_congr (fun _ => rfl) (wide4 (a3 m c) n))

theorem value5_at (r : Fin 512) (n : Fin 512) : value (iblk m c 0 t) (iblk m c 1 t) (iblk m c 2 t) r (2432 + n.val)
    = Rotary.col (row m c (bOf t) (tokOf t r)) (gain m c) (cols (a3 m c)) (3400 + trade n.val) * Rotary.scale :=
  (value_at m c t r _).trans ((Rotary.dot_congr (fun _ => rfl) (wide5 (a3 m c) n)).trans (Rotary.dot_scale Rotary.scale_nonneg Rotary.scale_ne_top _ _))

theorem value6_at (r : Fin 512) (n : Fin 128) : value (iblk m c 0 t) (iblk m c 1 t) (iblk m c 2 t) r (2944 + n.val)
    = Rotary.col (row m c (bOf t) (tokOf t r)) (gain m c) (cols (a3 m c)) (3912 + n.val) :=
  (value_at m c t r _).trans (Rotary.dot_congr (fun _ => rfl) (wide6 (a3 m c) n))

theorem value7_at (r : Fin 512) (n : Fin 128) : value (iblk m c 0 t) (iblk m c 1 t) (iblk m c 2 t) r (3072 + n.val)
    = Rotary.col (row m c (bOf t) (tokOf t r)) (gain m c) (cols (a3 m c)) (4040 + n.val) :=
  (value_at m c t r _).trans (Rotary.dot_congr (fun _ => rfl) (wide7 (a3 m c) n))

theorem tables (r : Fin 512) : Holds (iblk m c 4 t) (iblk m c 5 t) r (Rotary.cosOf (place m c (bOf t) (tokOf t r))) (Rotary.sinOf (place m c (bOf t) (tokOf t r))) :=
  ⟨fun l => (iblk4_apply m c t r l).trans (cosines_at m c _ _ l), fun l => (iblk5_apply m c t r l).trans (sines_at m c _ _ l)⟩

/-! ## What each point writes back -/

set_option maxHeartbeats 1000000 in
theorem after11_at : (dats m 0 c).after 11 t = left11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_11]
  unfold outsAt0
  dsimp only

theorem row11 (a b : Fin 1) (r : Fin 512) (l : Fin 256) : left11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix4 a b r l)
    = Rotary.head (row m c (bOf t) (tokOf t r)) (gain m c) (cols (a3 m c)) (place m c (bOf t) (tokOf t r)) (1096 + l.val / 64 * 64) (inHead l.val) * Rotary.scale := by
  have hl := l.isLt
  refine (left11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) r _ _ (tables m c t r) a b l).trans ?_
  refine (Rotary.turn_congr (fun d => value2_at m c t r ⟨l.val / 64 * 64 + d.val, by omega⟩) (fun _ => rfl) (fun _ => rfl) _).trans
    ((Rotary.turn_scale Rotary.scale_nonneg Rotary.scale_ne_top _ _ _ _).trans (congrArg (fun q : EReal => q * Rotary.scale) ?_))
  refine Rotary.turn_congr (fun d => congrArg (Rotary.col _ _ _) ?_) (fun _ => rfl) (fun _ => rfl) _
  show 1096 + (l.val / 64 * 64 + d.val) = 1096 + l.val / 64 * 64 + d.val
  omega

set_option maxHeartbeats 1000000 in
theorem flushed11_eq : (dats m 0 c).flushed 11 t = ((cfg0.win 11).blk t).view.read (Elt Ideal) (bq0 m c) := by
  have hi := index11_val t
  have he : ∀ y : S1x1x512x256.Idx, ((cfg0.win 11).blk t).view.emb y = (ix4 (bOf t) 0 (tokOf t (y 2)) (y 3) : S8x1x4096x256.Idx) := fun y => by
    have h0 : (y 0).val < 1 := (y 0).isLt
    have h1 : (y 1).val < 1 := (y 1).isLt
    funext a
    apply Fin.ext
    match a with
    | ⟨0, _⟩ => show win0_11.index t 0 * 1 + 1 * (y 0).val = t.val / 8; rw [hi]; simp; omega
    | ⟨1, _⟩ => show win0_11.index t 1 * 1 + 1 * (y 1).val = 0; rw [hi]; simp; omega
    | ⟨2, _⟩ => show win0_11.index t 2 * 512 + 1 * (y 2).val = t.val % 8 * 512 + (y 2).val; rw [hi]; simp
    | ⟨3, _⟩ => show win0_11.index t 3 * 256 + 1 * (y 3).val = (y 3).val; rw [hi]; simp
  show (cfg0.win 11).cut (grid0.coords t) ((dats m 0 c).after 11 t) = _
  rw [after11_at]
  funext y
  have hy : y = (ix4 (y 0) (y 1) (y 2) (y 3) : S1x1x512x256.Idx) := by funext a; fin_cases a <;> rfl
  rw [View.read_apply]
  exact (congrArg _ hy).trans ((row11 m c t (y 0) (y 1) (y 2) (y 3)).trans (congrArg (bq0 m c) (he y)).symm)

set_option maxHeartbeats 1000000 in
theorem after14_at : (dats m 0 c).after 14 t = left14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_14]
  unfold outsAt0
  dsimp only

theorem row14 (a b : Fin 1) (r : Fin 512) (l : Fin 256) : left14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix4 a b r l)
    = Rotary.head (row m c (bOf t) (tokOf t r)) (gain m c) (cols (a3 m c)) (place m c (bOf t) (tokOf t r)) (1864 + l.val / 64 * 64) (inHead l.val) := by
  have hl := l.isLt
  refine (left14_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) r _ _ (tables m c t r) a b l).trans ?_
  refine Rotary.turn_congr (fun d => (value3_at m c t r ⟨l.val / 64 * 64 + d.val, by omega⟩).trans (congrArg (Rotary.col _ _ _) ?_)) (fun _ => rfl) (fun _ => rfl) _
  show 1864 + (l.val / 64 * 64 + d.val) = 1864 + l.val / 64 * 64 + d.val
  omega

set_option maxHeartbeats 1000000 in
theorem flushed14_eq : (dats m 0 c).flushed 14 t = ((cfg0.win 14).blk t).view.read (Elt Ideal) (bk0 m c) := by
  have hi := index14_val t
  have he : ∀ y : S1x1x512x256.Idx, ((cfg0.win 14).blk t).view.emb y = (ix4 (bOf t) 0 (tokOf t (y 2)) (y 3) : S8x1x4096x256.Idx) := fun y => by
    have h0 : (y 0).val < 1 := (y 0).isLt
    have h1 : (y 1).val < 1 := (y 1).isLt
    funext a
    apply Fin.ext
    match a with
    | ⟨0, _⟩ => show win0_14.index t 0 * 1 + 1 * (y 0).val = t.val / 8; rw [hi]; simp; omega
    | ⟨1, _⟩ => show win0_14.index t 1 * 1 + 1 * (y 1).val = 0; rw [hi]; simp; omega
    | ⟨2, _⟩ => show win0_14.index t 2 * 512 + 1 * (y 2).val = t.val % 8 * 512 + (y 2).val; rw [hi]; simp
    | ⟨3, _⟩ => show win0_14.index t 3 * 256 + 1 * (y 3).val = (y 3).val; rw [hi]; simp
  show (cfg0.win 14).cut (grid0.coords t) ((dats m 0 c).after 14 t) = _
  rw [after14_at]
  funext y
  have hy : y = (ix4 (y 0) (y 1) (y 2) (y 3) : S1x1x512x256.Idx) := by funext a; fin_cases a <;> rfl
  rw [View.read_apply]
  exact (congrArg _ hy).trans ((row14 m c t (y 0) (y 1) (y 2) (y 3)).trans (congrArg (bk0 m c) (he y)).symm)

set_option maxHeartbeats 1000000 in
theorem after17_at : (dats m 0 c).after 17 t = left17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_17]
  unfold outsAt0
  dsimp only

theorem row17 (a b : Fin 1) (r : Fin 512) (l : Fin 256) : left17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix4 a b r l)
    = Rotary.col (row m c (bOf t) (tokOf t r)) (gain m c) (cols (a3 m c)) (2632 + l.val) := by
  have hl := l.isLt
  refine (left17_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) a b r l).trans ?_
  exact value4_at m c t r ⟨l.val, by omega⟩

set_option maxHeartbeats 1000000 in
theorem flushed17_eq : (dats m 0 c).flushed 17 t = ((cfg0.win 17).blk t).view.read (Elt Ideal) (bv0 m c) := by
  have hi := index17_val t
  have he : ∀ y : S1x1x512x256.Idx, ((cfg0.win 17).blk t).view.emb y = (ix4 (bOf t) 0 (tokOf t (y 2)) (y 3) : S8x1x4096x256.Idx) := fun y => by
    have h0 : (y 0).val < 1 := (y 0).isLt
    have h1 : (y 1).val < 1 := (y 1).isLt
    funext a
    apply Fin.ext
    match a with
    | ⟨0, _⟩ => show win0_17.index t 0 * 1 + 1 * (y 0).val = t.val / 8; rw [hi]; simp; omega
    | ⟨1, _⟩ => show win0_17.index t 1 * 1 + 1 * (y 1).val = 0; rw [hi]; simp; omega
    | ⟨2, _⟩ => show win0_17.index t 2 * 512 + 1 * (y 2).val = t.val % 8 * 512 + (y 2).val; rw [hi]; simp
    | ⟨3, _⟩ => show win0_17.index t 3 * 256 + 1 * (y 3).val = (y 3).val; rw [hi]; simp
  show (cfg0.win 17).cut (grid0.coords t) ((dats m 0 c).after 17 t) = _
  rw [after17_at]
  funext y
  have hy : y = (ix4 (y 0) (y 1) (y 2) (y 3) : S1x1x512x256.Idx) := by funext a; fin_cases a <;> rfl
  rw [View.read_apply]
  exact (congrArg _ hy).trans ((row17 m c t (y 0) (y 1) (y 2) (y 3)).trans (congrArg (bv0 m c) (he y)).symm)

set_option maxHeartbeats 1000000 in
theorem after20_at : (dats m 0 c).after 20 t = left20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_20]
  unfold outsAt0
  dsimp only

theorem row20 (a : Fin 1) (r : Fin 512) (l : Fin 512) : left20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix3 a r l)
    = Rotary.head (row m c (bOf t) (tokOf t r)) (gain m c) (cols (a3 m c)) (place m c (bOf t) (tokOf t r)) (3400 + (l.val / 64 % 2 * 4 + l.val / 64 / 2) * 64) (inHead l.val) * Rotary.scale := by
  have hl := l.isLt
  refine (left20_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (fun r => Rotary.cosOf (place m c (bOf t) (tokOf t r))) (fun r => Rotary.sinOf (place m c (bOf t) (tokOf t r))) (tables m c t) (ix3 a r l)).trans ?_
  refine (Rotary.turn_congr (fun d => value5_at m c t r ⟨l.val / 64 * 64 + d.val, by omega⟩) (fun _ => rfl) (fun _ => rfl) _).trans
    ((Rotary.turn_scale Rotary.scale_nonneg Rotary.scale_ne_top _ _ _ _).trans (congrArg (fun q : EReal => q * Rotary.scale) ?_))
  refine Rotary.turn_congr (fun d => congrArg (Rotary.col _ _ _) ?_) (fun _ => rfl) (fun _ => rfl) _
  have hd := d.isLt
  show 3400 + trade (l.val / 64 * 64 + d.val) = 3400 + (l.val / 64 % 2 * 4 + l.val / 64 / 2) * 64 + d.val
  unfold trade
  omega

set_option maxHeartbeats 1000000 in
theorem flushed20_eq : (dats m 0 c).flushed 20 t = ((cfg0.win 20).blk t).view.read (Elt Ideal) (cq m c) := by
  have hi := index20_val t
  have he : ∀ y : S1x512x512.Idx, ((cfg0.win 20).blk t).view.emb y = (ix3 (bOf t) (tokOf t (y 1)) (y 2) : S8x4096x512.Idx) := fun y => by
    have h0 : (y 0).val < 1 := (y 0).isLt
    funext a
    apply Fin.ext
    match a with
    | ⟨0, _⟩ => show win0_20.index t 0 * 1 + 1 * (y 0).val = t.val / 8; rw [hi]; simp; omega
    | ⟨1, _⟩ => show win0_20.index t 1 * 512 + 1 * (y 1).val = t.val % 8 * 512 + (y 1).val; rw [hi]; simp
    | ⟨2, _⟩ => show win0_20.index t 2 * 512 + 1 * (y 2).val = (y 2).val; rw [hi]; simp
  show (cfg0.win 20).cut (grid0.coords t) ((dats m 0 c).after 20 t) = _
  rw [after20_at]
  funext y
  have hy : y = (ix3 (y 0) (y 1) (y 2) : S1x512x512.Idx) := by funext a; fin_cases a <;> rfl
  rw [View.read_apply]
  exact (congrArg _ hy).trans ((row20 m c t (y 0) (y 1) (y 2)).trans (congrArg (cq m c) (he y)).symm)

set_option maxHeartbeats 1000000 in
theorem after21_at : (dats m 0 c).after 21 t = left21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_21]
  unfold outsAt0
  dsimp only

theorem row21 (a : Fin 1) (r : Fin 512) (l : Fin 128) : left21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix3 a r l)
    = Rotary.head (row m c (bOf t) (tokOf t r)) (gain m c) (cols (a3 m c)) (place m c (bOf t) (tokOf t r)) (3912 + l.val / 64 * 64) (inHead l.val) := by
  have hl := l.isLt
  refine (left21_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) r _ _ (tables m c t r) a l).trans ?_
  refine Rotary.turn_congr (fun d => (value6_at m c t r ⟨l.val / 64 * 64 + d.val, by omega⟩).trans (congrArg (Rotary.col _ _ _) ?_)) (fun _ => rfl) (fun _ => rfl) _
  show 3912 + (l.val / 64 * 64 + d.val) = 3912 + l.val / 64 * 64 + d.val
  omega

set_option maxHeartbeats 1000000 in
theorem flushed21_eq : (dats m 0 c).flushed 21 t = ((cfg0.win 21).blk t).view.read (Elt Ideal) (ck m c) := by
  have hi := index21_val t
  have he : ∀ y : S1x512x128.Idx, ((cfg0.win 21).blk t).view.emb y = (ix3 (bOf t) (tokOf t (y 1)) (y 2) : S8x4096x128.Idx) := fun y => by
    have h0 : (y 0).val < 1 := (y 0).isLt
    funext a
    apply Fin.ext
    match a with
    | ⟨0, _⟩ => show win0_21.index t 0 * 1 + 1 * (y 0).val = t.val / 8; rw [hi]; simp; omega
    | ⟨1, _⟩ => show win0_21.index t 1 * 512 + 1 * (y 1).val = t.val % 8 * 512 + (y 1).val; rw [hi]; simp
    | ⟨2, _⟩ => show win0_21.index t 2 * 128 + 1 * (y 2).val = (y 2).val; rw [hi]; simp
  show (cfg0.win 21).cut (grid0.coords t) ((dats m 0 c).after 21 t) = _
  rw [after21_at]
  funext y
  have hy : y = (ix3 (y 0) (y 1) (y 2) : S1x512x128.Idx) := by funext a; fin_cases a <;> rfl
  rw [View.read_apply]
  exact (congrArg _ hy).trans ((row21 m c t (y 0) (y 1) (y 2)).trans (congrArg (ck m c) (he y)).symm)

set_option maxHeartbeats 1000000 in
theorem after22_at : (dats m 0 c).after 22 t = left22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) := by
  rw [after0_22]
  unfold outsAt0
  dsimp only

theorem row22 (a : Fin 1) (r : Fin 512) (l : Fin 128) : left22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix3 a r l)
    = Rotary.col (row m c (bOf t) (tokOf t r)) (gain m c) (cols (a3 m c)) (4040 + l.val) := by
  have hl := l.isLt
  refine (left22_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) a r l).trans ?_
  exact value7_at m c t r l

set_option maxHeartbeats 1000000 in
theorem flushed22_eq : (dats m 0 c).flushed 22 t = ((cfg0.win 22).blk t).view.read (Elt Ideal) (cv m c) := by
  have hi := index22_val t
  have he : ∀ y : S1x512x128.Idx, ((cfg0.win 22).blk t).view.emb y = (ix3 (bOf t) (tokOf t (y 1)) (y 2) : S8x4096x128.Idx) := fun y => by
    have h0 : (y 0).val < 1 := (y 0).isLt
    funext a
    apply Fin.ext
    match a with
    | ⟨0, _⟩ => show win0_22.index t 0 * 1 + 1 * (y 0).val = t.val / 8; rw [hi]; simp; omega
    | ⟨1, _⟩ => show win0_22.index t 1 * 512 + 1 * (y 1).val = t.val % 8 * 512 + (y 1).val; rw [hi]; simp
    | ⟨2, _⟩ => show win0_22.index t 2 * 128 + 1 * (y 2).val = (y 2).val; rw [hi]; simp
  show (cfg0.win 22).cut (grid0.coords t) ((dats m 0 c).after 22 t) = _
  rw [after22_at]
  funext y
  have hy : y = (ix3 (y 0) (y 1) (y 2) : S1x512x128.Idx) := by funext a; fin_cases a <;> rfl
  rw [View.read_apply]
  exact (congrArg _ hy).trans ((row22 m c t (y 0) (y 1) (y 2)).trans (congrArg (cv m c) (he y)).symm)

end

/-! ## The arrays after the run -/

/-- The point whose block holds a batch and a token. -/
def pointAt (b : Fin 8) (q : Fin 4096) : Fin cfg0.N :=
  ⟨b.val * 8 + q.val / 512, by
    have : cfg0.N = 64 := N_0
    omega⟩

set_option maxHeartbeats 1000000 in
theorem mem11 (t : Fin cfg0.N) (i : S8x1x4096x256.Idx) (h : ∀ a, (win0_11.index t a * S1x1x512x256.size a ≤ (i a).val ∧ (i a).val < win0_11.index t a * S1x1x512x256.size a + S1x1x512x256.size a)) :
    i ∈ ((cfg0.win 11).blk t).view.set := by
  show i ∈ ((View.whole main_v63_2).slice (win0_11.rect t)).set
  rw [View.set_slice_whole, Rect.mem_set_unit]
  exact h

set_option maxHeartbeats 1000000 in
theorem final11 : (dats m 0 c).arrAt 11 cfg0.N = bq0 m c :=
  (dats m 0 c).arrAt_eq_of_cover 11 (bq0 m c) (fun t _ => flushed11_eq m c t) fun i =>
    ⟨pointAt (i 0) (i 2), flush0_11 _, mem11 _ i (by
      have h0 : (i 0).val < 8 := (i 0).isLt
      have h1 : (i 2).val < 4096 := (i 2).isLt
      have h2 : (i 3).val < 256 := (i 3).isLt
      have h3 : (i 1).val < 1 := (i 1).isLt
      have hp : (pointAt (i 0) (i 2)).val = (i 0).val * 8 + (i 2).val / 512 := rfl
      rw [index11_val]
      intro a
      match a with
      | ⟨0, _⟩ => show ((i 0).val * 8 + (i 2).val / 512) / 8 * 1 ≤ (i 0).val ∧ (i 0).val < ((i 0).val * 8 + (i 2).val / 512) / 8 * 1 + 1; omega
      | ⟨1, _⟩ => show 0 * 1 ≤ (i 1).val ∧ (i 1).val < 0 * 1 + 1; omega
      | ⟨2, _⟩ => show ((i 0).val * 8 + (i 2).val / 512) % 8 * 512 ≤ (i 2).val ∧ (i 2).val < ((i 0).val * 8 + (i 2).val / 512) % 8 * 512 + 512; omega
      | ⟨3, _⟩ => show 0 * 256 ≤ (i 3).val ∧ (i 3).val < 0 * 256 + 256; omega)⟩

set_option maxHeartbeats 1000000 in
theorem mem14 (t : Fin cfg0.N) (i : S8x1x4096x256.Idx) (h : ∀ a, (win0_14.index t a * S1x1x512x256.size a ≤ (i a).val ∧ (i a).val < win0_14.index t a * S1x1x512x256.size a + S1x1x512x256.size a)) :
    i ∈ ((cfg0.win 14).blk t).view.set := by
  show i ∈ ((View.whole main_v63_5).slice (win0_14.rect t)).set
  rw [View.set_slice_whole, Rect.mem_set_unit]
  exact h

set_option maxHeartbeats 1000000 in
theorem final14 : (dats m 0 c).arrAt 14 cfg0.N = bk0 m c :=
  (dats m 0 c).arrAt_eq_of_cover 14 (bk0 m c) (fun t _ => flushed14_eq m c t) fun i =>
    ⟨pointAt (i 0) (i 2), flush0_14 _, mem14 _ i (by
      have h0 : (i 0).val < 8 := (i 0).isLt
      have h1 : (i 2).val < 4096 := (i 2).isLt
      have h2 : (i 3).val < 256 := (i 3).isLt
      have h3 : (i 1).val < 1 := (i 1).isLt
      have hp : (pointAt (i 0) (i 2)).val = (i 0).val * 8 + (i 2).val / 512 := rfl
      rw [index14_val]
      intro a
      match a with
      | ⟨0, _⟩ => show ((i 0).val * 8 + (i 2).val / 512) / 8 * 1 ≤ (i 0).val ∧ (i 0).val < ((i 0).val * 8 + (i 2).val / 512) / 8 * 1 + 1; omega
      | ⟨1, _⟩ => show 0 * 1 ≤ (i 1).val ∧ (i 1).val < 0 * 1 + 1; omega
      | ⟨2, _⟩ => show ((i 0).val * 8 + (i 2).val / 512) % 8 * 512 ≤ (i 2).val ∧ (i 2).val < ((i 0).val * 8 + (i 2).val / 512) % 8 * 512 + 512; omega
      | ⟨3, _⟩ => show 0 * 256 ≤ (i 3).val ∧ (i 3).val < 0 * 256 + 256; omega)⟩

set_option maxHeartbeats 1000000 in
theorem mem17 (t : Fin cfg0.N) (i : S8x1x4096x256.Idx) (h : ∀ a, (win0_17.index t a * S1x1x512x256.size a ≤ (i a).val ∧ (i a).val < win0_17.index t a * S1x1x512x256.size a + S1x1x512x256.size a)) :
    i ∈ ((cfg0.win 17).blk t).view.set := by
  show i ∈ ((View.whole main_v63_8).slice (win0_17.rect t)).set
  rw [View.set_slice_whole, Rect.mem_set_unit]
  exact h

set_option maxHeartbeats 1000000 in
theorem final17 : (dats m 0 c).arrAt 17 cfg0.N = bv0 m c :=
  (dats m 0 c).arrAt_eq_of_cover 17 (bv0 m c) (fun t _ => flushed17_eq m c t) fun i =>
    ⟨pointAt (i 0) (i 2), flush0_17 _, mem17 _ i (by
      have h0 : (i 0).val < 8 := (i 0).isLt
      have h1 : (i 2).val < 4096 := (i 2).isLt
      have h2 : (i 3).val < 256 := (i 3).isLt
      have h3 : (i 1).val < 1 := (i 1).isLt
      have hp : (pointAt (i 0) (i 2)).val = (i 0).val * 8 + (i 2).val / 512 := rfl
      rw [index17_val]
      intro a
      match a with
      | ⟨0, _⟩ => show ((i 0).val * 8 + (i 2).val / 512) / 8 * 1 ≤ (i 0).val ∧ (i 0).val < ((i 0).val * 8 + (i 2).val / 512) / 8 * 1 + 1; omega
      | ⟨1, _⟩ => show 0 * 1 ≤ (i 1).val ∧ (i 1).val < 0 * 1 + 1; omega
      | ⟨2, _⟩ => show ((i 0).val * 8 + (i 2).val / 512) % 8 * 512 ≤ (i 2).val ∧ (i 2).val < ((i 0).val * 8 + (i 2).val / 512) % 8 * 512 + 512; omega
      | ⟨3, _⟩ => show 0 * 256 ≤ (i 3).val ∧ (i 3).val < 0 * 256 + 256; omega)⟩

set_option maxHeartbeats 1000000 in
theorem mem20 (t : Fin cfg0.N) (i : S8x4096x512.Idx) (h : ∀ a, (win0_20.index t a * S1x512x512.size a ≤ (i a).val ∧ (i a).val < win0_20.index t a * S1x512x512.size a + S1x512x512.size a)) :
    i ∈ ((cfg0.win 20).blk t).view.set := by
  show i ∈ ((View.whole main_v63_11).slice (win0_20.rect t)).set
  rw [View.set_slice_whole, Rect.mem_set_unit]
  exact h

set_option maxHeartbeats 1000000 in
theorem final20 : (dats m 0 c).arrAt 20 cfg0.N = cq m c :=
  (dats m 0 c).arrAt_eq_of_cover 20 (cq m c) (fun t _ => flushed20_eq m c t) fun i =>
    ⟨pointAt (i 0) (i 1), flush0_20 _, mem20 _ i (by
      have h0 : (i 0).val < 8 := (i 0).isLt
      have h1 : (i 1).val < 4096 := (i 1).isLt
      have h2 : (i 2).val < 512 := (i 2).isLt
      have hp : (pointAt (i 0) (i 1)).val = (i 0).val * 8 + (i 1).val / 512 := rfl
      rw [index20_val]
      intro a
      match a with
      | ⟨0, _⟩ => show ((i 0).val * 8 + (i 1).val / 512) / 8 * 1 ≤ (i 0).val ∧ (i 0).val < ((i 0).val * 8 + (i 1).val / 512) / 8 * 1 + 1; omega
      | ⟨1, _⟩ => show ((i 0).val * 8 + (i 1).val / 512) % 8 * 512 ≤ (i 1).val ∧ (i 1).val < ((i 0).val * 8 + (i 1).val / 512) % 8 * 512 + 512; omega
      | ⟨2, _⟩ => show 0 * 512 ≤ (i 2).val ∧ (i 2).val < 0 * 512 + 512; omega)⟩

set_option maxHeartbeats 1000000 in
theorem mem21 (t : Fin cfg0.N) (i : S8x4096x128.Idx) (h : ∀ a, (win0_21.index t a * S1x512x128.size a ≤ (i a).val ∧ (i a).val < win0_21.index t a * S1x512x128.size a + S1x512x128.size a)) :
    i ∈ ((cfg0.win 21).blk t).view.set := by
  show i ∈ ((View.whole main_v63_12).slice (win0_21.rect t)).set
  rw [View.set_slice_whole, Rect.mem_set_unit]
  exact h

set_option maxHeartbeats 1000000 in
theorem final21 : (dats m 0 c).arrAt 21 cfg0.N = ck m c :=
  (dats m 0 c).arrAt_eq_of_cover 21 (ck m c) (fun t _ => flushed21_eq m c t) fun i =>
    ⟨pointAt (i 0) (i 1), flush0_21 _, mem21 _ i (by
      have h0 : (i 0).val < 8 := (i 0).isLt
      have h1 : (i 1).val < 4096 := (i 1).isLt
      have h2 : (i 2).val < 128 := (i 2).isLt
      have hp : (pointAt (i 0) (i 1)).val = (i 0).val * 8 + (i 1).val / 512 := rfl
      rw [index21_val]
      intro a
      match a with
      | ⟨0, _⟩ => show ((i 0).val * 8 + (i 1).val / 512) / 8 * 1 ≤ (i 0).val ∧ (i 0).val < ((i 0).val * 8 + (i 1).val / 512) / 8 * 1 + 1; omega
      | ⟨1, _⟩ => show ((i 0).val * 8 + (i 1).val / 512) % 8 * 512 ≤ (i 1).val ∧ (i 1).val < ((i 0).val * 8 + (i 1).val / 512) % 8 * 512 + 512; omega
      | ⟨2, _⟩ => show 0 * 128 ≤ (i 2).val ∧ (i 2).val < 0 * 128 + 128; omega)⟩

set_option maxHeartbeats 1000000 in
theorem mem22 (t : Fin cfg0.N) (i : S8x4096x128.Idx) (h : ∀ a, (win0_22.index t a * S1x512x128.size a ≤ (i a).val ∧ (i a).val < win0_22.index t a * S1x512x128.size a + S1x512x128.size a)) :
    i ∈ ((cfg0.win 22).blk t).view.set := by
  show i ∈ ((View.whole main_v63_13).slice (win0_22.rect t)).set
  rw [View.set_slice_whole, Rect.mem_set_unit]
  exact h

set_option maxHeartbeats 1000000 in
theorem final22 : (dats m 0 c).arrAt 22 cfg0.N = cv m c :=
  (dats m 0 c).arrAt_eq_of_cover 22 (cv m c) (fun t _ => flushed22_eq m c t) fun i =>
    ⟨pointAt (i 0) (i 1), flush0_22 _, mem22 _ i (by
      have h0 : (i 0).val < 8 := (i 0).isLt
      have h1 : (i 1).val < 4096 := (i 1).isLt
      have h2 : (i 2).val < 128 := (i 2).isLt
      have hp : (pointAt (i 0) (i 1)).val = (i 0).val * 8 + (i 1).val / 512 := rfl
      rw [index22_val]
      intro a
      match a with
      | ⟨0, _⟩ => show ((i 0).val * 8 + (i 1).val / 512) / 8 * 1 ≤ (i 0).val ∧ (i 0).val < ((i 0).val * 8 + (i 1).val / 512) / 8 * 1 + 1; omega
      | ⟨1, _⟩ => show ((i 0).val * 8 + (i 1).val / 512) % 8 * 512 ≤ (i 1).val ∧ (i 1).val < ((i 0).val * 8 + (i 1).val / 512) % 8 * 512 + 512; omega
      | ⟨2, _⟩ => show 0 * 128 ≤ (i 2).val ∧ (i 2).val < 0 * 128 + 128; omega)⟩

end Cert.Projected

end
-- ==== Proof.ProjRef.lean ====
/- The input projection's reference at an index: the columns of a token's normed row, and a head's embedding. -/
module

public import proofs.«01_k».proof.Proof.Project
public import proofs.«01_k».proof.Proof.Gen.InprojRefIdeal.Read
public import Idealize.ShloMosaic.Lib.IdealHost
public import Idealize.ShloMosaic.Lib.KernelVsHost

@[expose] public section

set_option maxRecDepth 16384

noncomputable section

namespace Cert.ProjectedRef

open Cert.InprojRefIdeal Cert.InprojRefIdeal.Gen Cert.InprojRefIdeal.Read Idealize.ShloMosaic Idealize.ShloMosaic.ValueIdx

variable (x0 : S8x4096x1024.Idx → EReal) (x1 : S8x4096.Idx → BitVec 32) (x2 : S1024.Idx → EReal) (x3 : S1024x7240.Idx → EReal)
  (b : Fin 8) (t : Fin 4096)

/-- A token's row, the gain, and the weights. -/
abbrev row : Fin 1024 → EReal := fun k => x0 (ix3 b t k)
abbrev gain : Fin 1024 → EReal := fun k => x2 (ix1 k)
abbrev weights : Fin 1024 → Fin 7240 → EReal := fun k j => x3 (ix2 k j)

theorem v12_apply (l : Fin 1024) : val_main_v12 (F := Ideal) x0 x2 (ix3 b t l) = Rows.rms (row x0 b t) (gain x2) l := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  have hs : (val_main_cst (F := Ideal)) (Shape.Idx.first h_S_) + ∑ k : Fin 1024, (val_main_v0 (F := Ideal) x0) (idx_main_v1 (idx_main_v2 (idx_main_v8 (ix3 b t l))) k)
      = ∑ k : Fin 1024, x0 (ix3 b t k) * x0 (ix3 b t k) := by
    rw [val_main_cst_apply]
    refine (congrArg (· + _) Ideal.ofBits_zero_f32).trans ((zero_add _).trans ?_)
    refine Finset.sum_congr rfl fun k _ => ?_
    rw [val_main_v0_apply, show idx_main_v1 (idx_main_v2 (idx_main_v8 (ix3 b t l))) k = ix3 b t k by funext a; fin_cases a <;> rfl]
    rfl
  rw [hs, show idx_main_v10 (idx_main_v11 (ix3 b t l)) = ix1 l by funext a; fin_cases a; rfl]
  rfl

theorem v13_apply (n : Fin 7240) : val_main_v13 (F := Ideal) x0 x2 x3 (ix3 b t n) = Rotary.col (row x0 b t) (gain x2) (weights x3) n.val := by
  rw [val_main_v13_apply]
  unfold Rotary.col Rotary.dot
  refine Finset.sum_congr rfl fun k _ => ?_
  rw [show lidx_main_v13 (ix3 b t n) k = ix3 b t k by funext a; fin_cases a <;> rfl,
    show ridx_main_v13 (ix3 b t n) k = ix2 k n by funext a; fin_cases a <;> rfl, v12_apply, Rotary.weight_of _ _ _ n.isLt]

theorem v25_apply (i : Fin 32) : val_main_v25 (F := Ideal) x1 (ix3 b t i) = Rotary.angle (x1 (ix2 b t)) i := by
  rw [val_main_v25_apply, val_main_v23_apply, val_main_v21_apply, val_main_v20_apply, val_main_v24_apply, val_main_v22_apply, val_main_v19_apply,
    val_main_v18_apply, val_main_v17_apply, val_main_v15_apply, val_main_v16_apply, val_main_cst_3_apply, val_main_cst_2_apply,
    show idx_main_v21 (idx_main_v23 (ix3 b t i)) = ix2 b t by funext a; fin_cases a <;> rfl,
    show idx_main_v22 (idx_main_v24 (ix3 b t i)) = ix1 i by funext a; fin_cases a; rfl]
  rfl

theorem v27_apply (u : Fin 1) (i : Fin 32) : val_main_v27 (F := Ideal) x1 (ix4 b t u i) = Rotary.cosOf (x1 (ix2 b t)) i := by
  rw [val_main_v27_apply, show idx_main_v27 (ix4 b t u i) = ix3 b t i by funext a; fin_cases a <;> rfl, val_main_v26_apply, v25_apply]
  rfl

theorem v29_apply (u : Fin 1) (i : Fin 32) : val_main_v29 (F := Ideal) x1 (ix4 b t u i) = Rotary.sinOf (x1 (ix2 b t)) i := by
  rw [val_main_v29_apply, show idx_main_v29 (ix4 b t u i) = ix3 b t i by funext a; fin_cases a <;> rfl, val_main_v28_apply, v25_apply]
  rfl

/-! ## The heads -/

theorem v31_apply (hd : Fin 2) (d : Fin 64) : val_main_v31 (F := Ideal) x0 x2 x3 (ix4 b t hd d) = Rotary.col (row x0 b t) (gain x2) (weights x3) (4040 + hd.val * 64 + d.val) := by
  have hb := b.isLt
  have ht := t.isLt
  have hh := hd.isLt
  have hd' := d.isLt
  have e : idx_main_v30 (idx_main_v31 (ix4 b t hd d)) = ix3 b t (⟨4040 + hd.val * 64 + d.val, by omega⟩ : Fin 7240) := by
    funext a
    apply Fin.ext
    match a with
    | ⟨0, _⟩ => show (((b.val * 4096 + t.val) * 2 + hd.val) * 64 + d.val) / 524288 = b.val; omega
    | ⟨1, _⟩ => show (((b.val * 4096 + t.val) * 2 + hd.val) * 64 + d.val) / 128 % 4096 = t.val; omega
    | ⟨2, _⟩ => show 4040 + (((b.val * 4096 + t.val) * 2 + hd.val) * 64 + d.val) % 128 = 4040 + hd.val * 64 + d.val; omega
  rw [val_main_v31_apply, val_main_v30_apply, e]
  exact v13_apply x0 x2 x3 b t _

theorem v35_apply (hd : Fin 2) (d : Fin 64) : val_main_v35 (F := Ideal) x0 x2 x3 (ix4 b t hd d) = Rotary.col (row x0 b t) (gain x2) (weights x3) (3912 + hd.val * 64 + d.val) := by
  have hb := b.isLt
  have ht := t.isLt
  have hh := hd.isLt
  have hd' := d.isLt
  have e : idx_main_v34 (idx_main_v35 (ix4 b t hd d)) = ix3 b t (⟨3912 + hd.val * 64 + d.val, by omega⟩ : Fin 7240) := by
    funext a
    apply Fin.ext
    match a with
    | ⟨0, _⟩ => show (((b.val * 4096 + t.val) * 2 + hd.val) * 64 + d.val) / 524288 = b.val; omega
    | ⟨1, _⟩ => show (((b.val * 4096 + t.val) * 2 + hd.val) * 64 + d.val) / 128 % 4096 = t.val; omega
    | ⟨2, _⟩ => show 3912 + (((b.val * 4096 + t.val) * 2 + hd.val) * 64 + d.val) % 128 = 3912 + hd.val * 64 + d.val; omega
  rw [val_main_v35_apply, val_main_v34_apply, e]
  exact v13_apply x0 x2 x3 b t _

theorem v48_apply (hd : Fin 2) (d : Fin 64) : val_main_v48 (F := Ideal) x0 x1 x2 x3 (ix4 b t hd d) = Rotary.head (row x0 b t) (gain x2) (weights x3) (x1 (ix2 b t)) (3912 + hd.val * 64) d := by
  have l1 : ∀ i : Fin 32, val_main_v36 (F := Ideal) x0 x2 x3 (ix4 b t hd i) = Rotary.col (row x0 b t) (gain x2) (weights x3) (3912 + hd.val * 64 + i.val) := fun i => by
    rw [val_main_v36_apply, show idx_main_v36 (ix4 b t hd i) = ix4 b t hd (⟨i.val, by omega⟩ : Fin 64) by funext a; fin_cases a <;> rfl, v35_apply]
  have l2 : ∀ i : Fin 32, val_main_v37 (F := Ideal) x0 x2 x3 (ix4 b t hd i) = Rotary.col (row x0 b t) (gain x2) (weights x3) (3912 + hd.val * 64 + (i.val + 32)) := fun i => by
    rw [val_main_v37_apply, show idx_main_v37 (ix4 b t hd i) = ix4 b t hd (⟨i.val + 32, by omega⟩ : Fin 64) by
      funext a
      apply Fin.ext
      match a with
      | ⟨0, _⟩ => rfl
      | ⟨1, _⟩ => rfl
      | ⟨2, _⟩ => rfl
      | ⟨3, _⟩ => show 32 + i.val = i.val + 32; omega, v35_apply]
  have d64 := d.isLt
  unfold val_main_v48 Rotary.head Rotary.turn
  split
  · rename_i h
    refine (concatenate_pair_apply_left (t := S8x4096x2x64) (s₁ := S8x4096x2x32) (s₂ := S8x4096x2x32) 3 _ _ _ (ix4 b t hd d) rfl (ix4 b t hd ⟨d.val, h⟩ : S8x4096x2x32.Idx) (by intro a; fin_cases a <;> rfl)).trans ?_
    rw [val_main_v42_apply, val_main_v39_apply, val_main_v41_apply, l1, l2, val_main_v38_apply, val_main_v40_apply,
      show idx_main_v38 (ix4 b t hd (⟨d.val, h⟩ : Fin 32)) = ix4 b t 0 (⟨d.val, h⟩ : Fin 32) by funext a; fin_cases a <;> rfl,
      show idx_main_v40 (ix4 b t hd (⟨d.val, h⟩ : Fin 32)) = ix4 b t 0 (⟨d.val, h⟩ : Fin 32) by funext a; fin_cases a <;> rfl, v27_apply, v29_apply]
    rfl
  · rename_i h
    have h' : d.val - 32 < 32 := by omega
    refine (concatenate_pair_apply_right (t := S8x4096x2x64) (s₁ := S8x4096x2x32) (s₂ := S8x4096x2x32) 3 _ _ _ (ix4 b t hd d) rfl rfl (ix4 b t hd ⟨d.val - 32, h'⟩ : S8x4096x2x32.Idx) (by
        intro a; fin_cases a
        · intro _; rfl
        · intro _; rfl
        · intro _; rfl
        · intro h; exact absurd rfl h)
      (show d.val - 32 + 32 = d.val by omega)).trans ?_
    rw [val_main_v47_apply, val_main_v44_apply, val_main_v46_apply, l1, l2, val_main_v43_apply, val_main_v45_apply,
      show idx_main_v43 (ix4 b t hd (⟨d.val - 32, h'⟩ : Fin 32)) = ix4 b t 0 (⟨d.val - 32, h'⟩ : Fin 32) by funext a; fin_cases a <;> rfl,
      show idx_main_v45 (ix4 b t hd (⟨d.val - 32, h'⟩ : Fin 32)) = ix4 b t 0 (⟨d.val - 32, h'⟩ : Fin 32) by funext a; fin_cases a <;> rfl, v27_apply, v29_apply]
    have e : 3912 + hd.val * 64 + (d.val - 32 + 32) = 3912 + hd.val * 64 + d.val := by omega
    show Rotary.col (row x0 b t) (gain x2) (weights x3) (3912 + hd.val * 64 + (d.val - 32 + 32)) * _ + Rotary.col (row x0 b t) (gain x2) (weights x3) (3912 + hd.val * 64 + (d.val - 32)) * _ = _
    rw [e]

theorem v52_apply (hd : Fin 8) (d : Fin 64) : val_main_v52 (F := Ideal) x0 x2 x3 (ix4 b t hd d) = Rotary.col (row x0 b t) (gain x2) (weights x3) (3400 + hd.val * 64 + d.val) := by
  have hb := b.isLt
  have ht := t.isLt
  have hh := hd.isLt
  have hd' := d.isLt
  have e : idx_main_v51 (idx_main_v52 (ix4 b t hd d)) = ix3 b t (⟨3400 + hd.val * 64 + d.val, by omega⟩ : Fin 7240) := by
    funext a
    apply Fin.ext
    match a with
    | ⟨0, _⟩ => show (((b.val * 4096 + t.val) * 8 + hd.val) * 64 + d.val) / 2097152 = b.val; omega
    | ⟨1, _⟩ => show (((b.val * 4096 + t.val) * 8 + hd.val) * 64 + d.val) / 512 % 4096 = t.val; omega
    | ⟨2, _⟩ => show 3400 + (((b.val * 4096 + t.val) * 8 + hd.val) * 64 + d.val) % 512 = 3400 + hd.val * 64 + d.val; omega
  rw [val_main_v52_apply, val_main_v51_apply, e]
  exact v13_apply x0 x2 x3 b t _

theorem v65_apply (hd : Fin 8) (d : Fin 64) : val_main_v65 (F := Ideal) x0 x1 x2 x3 (ix4 b t hd d) = Rotary.head (row x0 b t) (gain x2) (weights x3) (x1 (ix2 b t)) (3400 + hd.val * 64) d := by
  have l1 : ∀ i : Fin 32, val_main_v53 (F := Ideal) x0 x2 x3 (ix4 b t hd i) = Rotary.col (row x0 b t) (gain x2) (weights x3) (3400 + hd.val * 64 + i.val) := fun i => by
    rw [val_main_v53_apply, show idx_main_v53 (ix4 b t hd i) = ix4 b t hd (⟨i.val, by omega⟩ : Fin 64) by funext a; fin_cases a <;> rfl, v52_apply]
  have l2 : ∀ i : Fin 32, val_main_v54 (F := Ideal) x0 x2 x3 (ix4 b t hd i) = Rotary.col (row x0 b t) (gain x2) (weights x3) (3400 + hd.val * 64 + (i.val + 32)) := fun i => by
    rw [val_main_v54_apply, show idx_main_v54 (ix4 b t hd i) = ix4 b t hd (⟨i.val + 32, by omega⟩ : Fin 64) by
      funext a
      apply Fin.ext
      match a with
      | ⟨0, _⟩ => rfl
      | ⟨1, _⟩ => rfl
      | ⟨2, _⟩ => rfl
      | ⟨3, _⟩ => show 32 + i.val = i.val + 32; omega, v52_apply]
  have d64 := d.isLt
  unfold val_main_v65 Rotary.head Rotary.turn
  split
  · rename_i h
    refine (concatenate_pair_apply_left (t := S8x4096x8x64) (s₁ := S8x4096x8x32) (s₂ := S8x4096x8x32) 3 _ _ _ (ix4 b t hd d) rfl (ix4 b t hd ⟨d.val, h⟩ : S8x4096x8x32.Idx) (by intro a; fin_cases a <;> rfl)).trans ?_
    rw [val_main_v59_apply, val_main_v56_apply, val_main_v58_apply, l1, l2, val_main_v55_apply, val_main_v57_apply,
      show idx_main_v55 (ix4 b t hd (⟨d.val, h⟩ : Fin 32)) = ix4 b t 0 (⟨d.val, h⟩ : Fin 32) by funext a; fin_cases a <;> rfl,
      show idx_main_v57 (ix4 b t hd (⟨d.val, h⟩ : Fin 32)) = ix4 b t 0 (⟨d.val, h⟩ : Fin 32) by funext a; fin_cases a <;> rfl, v27_apply, v29_apply]
    rfl
  · rename_i h
    have h' : d.val - 32 < 32 := by omega
    refine (concatenate_pair_apply_right (t := S8x4096x8x64) (s₁ := S8x4096x8x32) (s₂ := S8x4096x8x32) 3 _ _ _ (ix4 b t hd d) rfl rfl (ix4 b t hd ⟨d.val - 32, h'⟩ : S8x4096x8x32.Idx) (by
        intro a; fin_cases a
        · intro _; rfl
        · intro _; rfl
        · intro _; rfl
        · intro h; exact absurd rfl h)
      (show d.val - 32 + 32 = d.val by omega)).trans ?_
    rw [val_main_v64_apply, val_main_v61_apply, val_main_v63_apply, l1, l2, val_main_v60_apply, val_main_v62_apply,
      show idx_main_v60 (ix4 b t hd (⟨d.val - 32, h'⟩ : Fin 32)) = ix4 b t 0 (⟨d.val - 32, h'⟩ : Fin 32) by funext a; fin_cases a <;> rfl,
      show idx_main_v62 (ix4 b t hd (⟨d.val - 32, h'⟩ : Fin 32)) = ix4 b t 0 (⟨d.val - 32, h'⟩ : Fin 32) by funext a; fin_cases a <;> rfl, v27_apply, v29_apply]
    have e : 3400 + hd.val * 64 + (d.val - 32 + 32) = 3400 + hd.val * 64 + d.val := by omega
    show Rotary.col (row x0 b t) (gain x2) (weights x3) (3400 + hd.val * 64 + (d.val - 32 + 32)) * _ + Rotary.col (row x0 b t) (gain x2) (weights x3) (3400 + hd.val * 64 + (d.val - 32)) * _ = _
    rw [e]

theorem v73_apply (hd : Fin 12) (d : Fin 64) : val_main_v73 (F := Ideal) x0 x2 x3 (ix4 b t hd d) = Rotary.col (row x0 b t) (gain x2) (weights x3) (2632 + hd.val * 64 + d.val) := by
  have hb := b.isLt
  have ht := t.isLt
  have hh := hd.isLt
  have hd' := d.isLt
  have e : idx_main_v72 (idx_main_v73 (ix4 b t hd d)) = ix3 b t (⟨2632 + hd.val * 64 + d.val, by omega⟩ : Fin 7240) := by
    funext a
    apply Fin.ext
    match a with
    | ⟨0, _⟩ => show (((b.val * 4096 + t.val) * 12 + hd.val) * 64 + d.val) / 3145728 = b.val; omega
    | ⟨1, _⟩ => show (((b.val * 4096 + t.val) * 12 + hd.val) * 64 + d.val) / 768 % 4096 = t.val; omega
    | ⟨2, _⟩ => show 2632 + (((b.val * 4096 + t.val) * 12 + hd.val) * 64 + d.val) % 768 = 2632 + hd.val * 64 + d.val; omega
  rw [val_main_v73_apply, val_main_v72_apply, e]
  exact v13_apply x0 x2 x3 b t _

theorem v79_apply (hd : Fin 12) (d : Fin 64) : val_main_v79 (F := Ideal) x0 x2 x3 (ix4 b t hd d) = Rotary.col (row x0 b t) (gain x2) (weights x3) (1864 + hd.val * 64 + d.val) := by
  have hb := b.isLt
  have ht := t.isLt
  have hh := hd.isLt
  have hd' := d.isLt
  have e : idx_main_v78 (idx_main_v79 (ix4 b t hd d)) = ix3 b t (⟨1864 + hd.val * 64 + d.val, by omega⟩ : Fin 7240) := by
    funext a
    apply Fin.ext
    match a with
    | ⟨0, _⟩ => show (((b.val * 4096 + t.val) * 12 + hd.val) * 64 + d.val) / 3145728 = b.val; omega
    | ⟨1, _⟩ => show (((b.val * 4096 + t.val) * 12 + hd.val) * 64 + d.val) / 768 % 4096 = t.val; omega
    | ⟨2, _⟩ => show 1864 + (((b.val * 4096 + t.val) * 12 + hd.val) * 64 + d.val) % 768 = 1864 + hd.val * 64 + d.val; omega
  rw [val_main_v79_apply, val_main_v78_apply, e]
  exact v13_apply x0 x2 x3 b t _

theorem v92_apply (hd : Fin 12) (d : Fin 64) : val_main_v92 (F := Ideal) x0 x1 x2 x3 (ix4 b t hd d) = Rotary.head (row x0 b t) (gain x2) (weights x3) (x1 (ix2 b t)) (1864 + hd.val * 64) d := by
  have l1 : ∀ i : Fin 32, val_main_v80 (F := Ideal) x0 x2 x3 (ix4 b t hd i) = Rotary.col (row x0 b t) (gain x2) (weights x3) (1864 + hd.val * 64 + i.val) := fun i => by
    rw [val_main_v80_apply, show idx_main_v80 (ix4 b t hd i) = ix4 b t hd (⟨i.val, by omega⟩ : Fin 64) by funext a; fin_cases a <;> rfl, v79_apply]
  have l2 : ∀ i : Fin 32, val_main_v81 (F := Ideal) x0 x2 x3 (ix4 b t hd i) = Rotary.col (row x0 b t) (gain x2) (weights x3) (1864 + hd.val * 64 + (i.val + 32)) := fun i => by
    rw [val_main_v81_apply, show idx_main_v81 (ix4 b t hd i) = ix4 b t hd (⟨i.val + 32, by omega⟩ : Fin 64) by
      funext a
      apply Fin.ext
      match a with
      | ⟨0, _⟩ => rfl
      | ⟨1, _⟩ => rfl
      | ⟨2, _⟩ => rfl
      | ⟨3, _⟩ => show 32 + i.val = i.val + 32; omega, v79_apply]
  have d64 := d.isLt
  unfold val_main_v92 Rotary.head Rotary.turn
  split
  · rename_i h
    refine (concatenate_pair_apply_left (t := S8x4096x12x64) (s₁ := S8x4096x12x32) (s₂ := S8x4096x12x32) 3 _ _ _ (ix4 b t hd d) rfl (ix4 b t hd ⟨d.val, h⟩ : S8x4096x12x32.Idx) (by intro a; fin_cases a <;> rfl)).trans ?_
    rw [val_main_v86_apply, val_main_v83_apply, val_main_v85_apply, l1, l2, val_main_v82_apply, val_main_v84_apply,
      show idx_main_v82 (ix4 b t hd (⟨d.val, h⟩ : Fin 32)) = ix4 b t 0 (⟨d.val, h⟩ : Fin 32) by funext a; fin_cases a <;> rfl,
      show idx_main_v84 (ix4 b t hd (⟨d.val, h⟩ : Fin 32)) = ix4 b t 0 (⟨d.val, h⟩ : Fin 32) by funext a; fin_cases a <;> rfl, v27_apply, v29_apply]
    rfl
  · rename_i h
    have h' : d.val - 32 < 32 := by omega
    refine (concatenate_pair_apply_right (t := S8x4096x12x64) (s₁ := S8x4096x12x32) (s₂ := S8x4096x12x32) 3 _ _ _ (ix4 b t hd d) rfl rfl (ix4 b t hd ⟨d.val - 32, h'⟩ : S8x4096x12x32.Idx) (by
        intro a; fin_cases a
        · intro _; rfl
        · intro _; rfl
        · intro _; rfl
        · intro h; exact absurd rfl h)
      (show d.val - 32 + 32 = d.val by omega)).trans ?_
    rw [val_main_v91_apply, val_main_v88_apply, val_main_v90_apply, l1, l2, val_main_v87_apply, val_main_v89_apply,
      show idx_main_v87 (ix4 b t hd (⟨d.val - 32, h'⟩ : Fin 32)) = ix4 b t 0 (⟨d.val - 32, h'⟩ : Fin 32) by funext a; fin_cases a <;> rfl,
      show idx_main_v89 (ix4 b t hd (⟨d.val - 32, h'⟩ : Fin 32)) = ix4 b t 0 (⟨d.val - 32, h'⟩ : Fin 32) by funext a; fin_cases a <;> rfl, v27_apply, v29_apply]
    have e : 1864 + hd.val * 64 + (d.val - 32 + 32) = 1864 + hd.val * 64 + d.val := by omega
    show Rotary.col (row x0 b t) (gain x2) (weights x3) (1864 + hd.val * 64 + (d.val - 32 + 32)) * _ + Rotary.col (row x0 b t) (gain x2) (weights x3) (1864 + hd.val * 64 + (d.val - 32)) * _ = _
    rw [e]

theorem v98_apply (hd : Fin 12) (d : Fin 64) : val_main_v98 (F := Ideal) x0 x2 x3 (ix4 b t hd d) = Rotary.col (row x0 b t) (gain x2) (weights x3) (1096 + hd.val * 64 + d.val) := by
  have hb := b.isLt
  have ht := t.isLt
  have hh := hd.isLt
  have hd' := d.isLt
  have e : idx_main_v97 (idx_main_v98 (ix4 b t hd d)) = ix3 b t (⟨1096 + hd.val * 64 + d.val, by omega⟩ : Fin 7240) := by
    funext a
    apply Fin.ext
    match a with
    | ⟨0, _⟩ => show (((b.val * 4096 + t.val) * 12 + hd.val) * 64 + d.val) / 3145728 = b.val; omega
    | ⟨1, _⟩ => show (((b.val * 4096 + t.val) * 12 + hd.val) * 64 + d.val) / 768 % 4096 = t.val; omega
    | ⟨2, _⟩ => show 1096 + (((b.val * 4096 + t.val) * 12 + hd.val) * 64 + d.val) % 768 = 1096 + hd.val * 64 + d.val; omega
  rw [val_main_v98_apply, val_main_v97_apply, e]
  exact v13_apply x0 x2 x3 b t _

theorem v111_apply (hd : Fin 12) (d : Fin 64) : val_main_v111 (F := Ideal) x0 x1 x2 x3 (ix4 b t hd d) = Rotary.head (row x0 b t) (gain x2) (weights x3) (x1 (ix2 b t)) (1096 + hd.val * 64) d := by
  have l1 : ∀ i : Fin 32, val_main_v99 (F := Ideal) x0 x2 x3 (ix4 b t hd i) = Rotary.col (row x0 b t) (gain x2) (weights x3) (1096 + hd.val * 64 + i.val) := fun i => by
    rw [val_main_v99_apply, show idx_main_v99 (ix4 b t hd i) = ix4 b t hd (⟨i.val, by omega⟩ : Fin 64) by funext a; fin_cases a <;> rfl, v98_apply]
  have l2 : ∀ i : Fin 32, val_main_v100 (F := Ideal) x0 x2 x3 (ix4 b t hd i) = Rotary.col (row x0 b t) (gain x2) (weights x3) (1096 + hd.val * 64 + (i.val + 32)) := fun i => by
    rw [val_main_v100_apply, show idx_main_v100 (ix4 b t hd i) = ix4 b t hd (⟨i.val + 32, by omega⟩ : Fin 64) by
      funext a
      apply Fin.ext
      match a with
      | ⟨0, _⟩ => rfl
      | ⟨1, _⟩ => rfl
      | ⟨2, _⟩ => rfl
      | ⟨3, _⟩ => show 32 + i.val = i.val + 32; omega, v98_apply]
  have d64 := d.isLt
  unfold val_main_v111 Rotary.head Rotary.turn
  split
  · rename_i h
    refine (concatenate_pair_apply_left (t := S8x4096x12x64) (s₁ := S8x4096x12x32) (s₂ := S8x4096x12x32) 3 _ _ _ (ix4 b t hd d) rfl (ix4 b t hd ⟨d.val, h⟩ : S8x4096x12x32.Idx) (by intro a; fin_cases a <;> rfl)).trans ?_
    rw [val_main_v105_apply, val_main_v102_apply, val_main_v104_apply, l1, l2, val_main_v101_apply, val_main_v103_apply,
      show idx_main_v101 (ix4 b t hd (⟨d.val, h⟩ : Fin 32)) = ix4 b t 0 (⟨d.val, h⟩ : Fin 32) by funext a; fin_cases a <;> rfl,
      show idx_main_v103 (ix4 b t hd (⟨d.val, h⟩ : Fin 32)) = ix4 b t 0 (⟨d.val, h⟩ : Fin 32) by funext a; fin_cases a <;> rfl, v27_apply, v29_apply]
    rfl
  · rename_i h
    have h' : d.val - 32 < 32 := by omega
    refine (concatenate_pair_apply_right (t := S8x4096x12x64) (s₁ := S8x4096x12x32) (s₂ := S8x4096x12x32) 3 _ _ _ (ix4 b t hd d) rfl rfl (ix4 b t hd ⟨d.val - 32, h'⟩ : S8x4096x12x32.Idx) (by
        intro a; fin_cases a
        · intro _; rfl
        · intro _; rfl
        · intro _; rfl
        · intro h; exact absurd rfl h)
      (show d.val - 32 + 32 = d.val by omega)).trans ?_
    rw [val_main_v110_apply, val_main_v107_apply, val_main_v109_apply, l1, l2, val_main_v106_apply, val_main_v108_apply,
      show idx_main_v106 (ix4 b t hd (⟨d.val - 32, h'⟩ : Fin 32)) = ix4 b t 0 (⟨d.val - 32, h'⟩ : Fin 32) by funext a; fin_cases a <;> rfl,
      show idx_main_v108 (ix4 b t hd (⟨d.val - 32, h'⟩ : Fin 32)) = ix4 b t 0 (⟨d.val - 32, h'⟩ : Fin 32) by funext a; fin_cases a <;> rfl, v27_apply, v29_apply]
    have e : 1096 + hd.val * 64 + (d.val - 32 + 32) = 1096 + hd.val * 64 + d.val := by omega
    show Rotary.col (row x0 b t) (gain x2) (weights x3) (1096 + hd.val * 64 + (d.val - 32 + 32)) * _ + Rotary.col (row x0 b t) (gain x2) (weights x3) (1096 + hd.val * 64 + (d.val - 32)) * _ = _
    rw [e]

/-! ## The six results -/

theorem ck_apply (l : Fin 128) : val_main_v50 (F := Ideal) x0 x1 x2 x3 (ix3 b t l) = Rotary.head (row x0 b t) (gain x2) (weights x3) (x1 (ix2 b t)) (3912 + l.val / 64 * 64) ⟨l.val % 64, by omega⟩ := by
  have hb := b.isLt
  have ht := t.isLt
  have hl := l.isLt
  have e : idx_main_v49 (ix3 b t l) = ix4 b t (⟨l.val / 64, by omega⟩ : Fin 2) (⟨l.val % 64, by omega⟩ : Fin 64) := by
    funext a
    apply Fin.ext
    match a with
    | ⟨0, _⟩ => show ((b.val * 4096 + t.val) * 128 + l.val) / 524288 = b.val; omega
    | ⟨1, _⟩ => show ((b.val * 4096 + t.val) * 128 + l.val) / 128 % 4096 = t.val; omega
    | ⟨2, _⟩ => show ((b.val * 4096 + t.val) * 128 + l.val) / 64 % 2 = l.val / 64; omega
    | ⟨3, _⟩ => show ((b.val * 4096 + t.val) * 128 + l.val) % 64 = l.val % 64; omega
  rw [val_main_v50_apply, val_main_v49_apply, e]
  refine (v48_apply x0 x1 x2 x3 b t _ _).trans ?_
  rfl

theorem cv_apply (l : Fin 128) : val_main_v33 (F := Ideal) x0 x2 x3 (ix3 b t l) = Rotary.col (row x0 b t) (gain x2) (weights x3) (4040 + l.val) := by
  have hb := b.isLt
  have ht := t.isLt
  have hl := l.isLt
  have e : idx_main_v32 (ix3 b t l) = ix4 b t (⟨l.val / 64, by omega⟩ : Fin 2) (⟨l.val % 64, by omega⟩ : Fin 64) := by
    funext a
    apply Fin.ext
    match a with
    | ⟨0, _⟩ => show ((b.val * 4096 + t.val) * 128 + l.val) / 524288 = b.val; omega
    | ⟨1, _⟩ => show ((b.val * 4096 + t.val) * 128 + l.val) / 128 % 4096 = t.val; omega
    | ⟨2, _⟩ => show ((b.val * 4096 + t.val) * 128 + l.val) / 64 % 2 = l.val / 64; omega
    | ⟨3, _⟩ => show ((b.val * 4096 + t.val) * 128 + l.val) % 64 = l.val % 64; omega
  rw [val_main_v33_apply, val_main_v32_apply, e]
  refine (v31_apply x0 x2 x3 b t _ _).trans ?_
  refine congrArg (Rotary.col (row x0 b t) (gain x2) (weights x3)) ?_
  show 4040 + l.val / 64 * 64 + l.val % 64 = 4040 + l.val
  omega

theorem bv0_apply (u : Fin 1) (l : Fin 256) : val_main_v77 (F := Ideal) x0 x2 x3 (ix4 b u t l) = Rotary.col (row x0 b t) (gain x2) (weights x3) (2632 + l.val) := by
  have hb := b.isLt
  have ht := t.isLt
  have hl := l.isLt
  have hu := u.isLt
  have e : idx_main_v74 (idx_main_v75 (idx_main_v76 (ix4 b u t l))) = ix4 b t (⟨l.val / 64, by omega⟩ : Fin 12) (⟨l.val % 64, by omega⟩ : Fin 64) := by
    funext a
    apply Fin.ext
    match a with
    | ⟨0, _⟩ => show (((b.val * 4096 + t.val) * 1 + u.val) * 256 + l.val) / 1048576 = b.val; omega
    | ⟨1, _⟩ => show (((b.val * 4096 + t.val) * 1 + u.val) * 256 + l.val) / 256 % 4096 = t.val; omega
    | ⟨2, _⟩ => show (((b.val * 4096 + t.val) * 1 + u.val) * 256 + l.val) / 64 % 4 = l.val / 64; omega
    | ⟨3, _⟩ => show (((b.val * 4096 + t.val) * 1 + u.val) * 256 + l.val) % 64 = l.val % 64; omega
  rw [val_main_v77_apply, val_main_v76_apply, val_main_v75_apply, val_main_v74_apply, e]
  refine (v73_apply x0 x2 x3 b t _ _).trans (congrArg (Rotary.col (row x0 b t) (gain x2) (weights x3)) ?_)
  show 2632 + l.val / 64 * 64 + l.val % 64 = 2632 + l.val
  omega

theorem bk0_apply (u : Fin 1) (l : Fin 256) : val_main_v96 (F := Ideal) x0 x1 x2 x3 (ix4 b u t l) = Rotary.head (row x0 b t) (gain x2) (weights x3) (x1 (ix2 b t)) (1864 + l.val / 64 * 64) ⟨l.val % 64, by omega⟩ := by
  have hb := b.isLt
  have ht := t.isLt
  have hl := l.isLt
  have hu := u.isLt
  have e : idx_main_v93 (idx_main_v94 (idx_main_v95 (ix4 b u t l))) = ix4 b t (⟨l.val / 64, by omega⟩ : Fin 12) (⟨l.val % 64, by omega⟩ : Fin 64) := by
    funext a
    apply Fin.ext
    match a with
    | ⟨0, _⟩ => show (((b.val * 4096 + t.val) * 1 + u.val) * 256 + l.val) / 1048576 = b.val; omega
    | ⟨1, _⟩ => show (((b.val * 4096 + t.val) * 1 + u.val) * 256 + l.val) / 256 % 4096 = t.val; omega
    | ⟨2, _⟩ => show (((b.val * 4096 + t.val) * 1 + u.val) * 256 + l.val) / 64 % 4 = l.val / 64; omega
    | ⟨3, _⟩ => show (((b.val * 4096 + t.val) * 1 + u.val) * 256 + l.val) % 64 = l.val % 64; omega
  rw [val_main_v96_apply, val_main_v95_apply, val_main_v94_apply, val_main_v93_apply, e]
  exact v92_apply x0 x1 x2 x3 b t _ _

theorem bq0_apply (u : Fin 1) (l : Fin 256) : val_main_v117 (F := Ideal) x0 x1 x2 x3 (ix4 b u t l) = Rotary.head (row x0 b t) (gain x2) (weights x3) (x1 (ix2 b t)) (1096 + l.val / 64 * 64) ⟨l.val % 64, by omega⟩ * Rotary.scale := by
  have hb := b.isLt
  have ht := t.isLt
  have hl := l.isLt
  have hu := u.isLt
  have e : idx_main_v114 (idx_main_v115 (idx_main_v116 (ix4 b u t l))) = ix4 b t (⟨l.val / 64, by omega⟩ : Fin 12) (⟨l.val % 64, by omega⟩ : Fin 64) := by
    funext a
    apply Fin.ext
    match a with
    | ⟨0, _⟩ => show (((b.val * 4096 + t.val) * 1 + u.val) * 256 + l.val) / 1048576 = b.val; omega
    | ⟨1, _⟩ => show (((b.val * 4096 + t.val) * 1 + u.val) * 256 + l.val) / 256 % 4096 = t.val; omega
    | ⟨2, _⟩ => show (((b.val * 4096 + t.val) * 1 + u.val) * 256 + l.val) / 64 % 4 = l.val / 64; omega
    | ⟨3, _⟩ => show (((b.val * 4096 + t.val) * 1 + u.val) * 256 + l.val) % 64 = l.val % 64; omega
  rw [val_main_v117_apply, val_main_v116_apply, val_main_v115_apply, val_main_v114_apply, e, val_main_v113_apply, val_main_v112_apply, val_main_cst_5_apply]
  exact congrArg (fun q : EReal => q * Rotary.scale) (v111_apply x0 x1 x2 x3 b t _ _)

theorem cq_apply (l : Fin 512) : val_main_v71 (F := Ideal) x0 x1 x2 x3 (ix3 b t l) = Rotary.head (row x0 b t) (gain x2) (weights x3) (x1 (ix2 b t)) (3400 + (l.val / 64 % 2 * 4 + l.val / 64 / 2) * 64) ⟨l.val % 64, by omega⟩ * Rotary.scale := by
  have hb := b.isLt
  have ht := t.isLt
  have hl := l.isLt
  have e1 : idx_main_v69 (idx_main_v70 (ix3 b t l)) = ix5 b t (⟨l.val / 64 % 2, by omega⟩ : Fin 2) (⟨l.val / 64 / 2, by omega⟩ : Fin 4) (⟨l.val % 64, by omega⟩ : Fin 64) := by
    funext a
    apply Fin.ext
    match a with
    | ⟨0, _⟩ => show ((b.val * 4096 + t.val) * 512 + l.val) / 2097152 = b.val; omega
    | ⟨1, _⟩ => show ((b.val * 4096 + t.val) * 512 + l.val) / 512 % 4096 = t.val; omega
    | ⟨2, _⟩ => show ((b.val * 4096 + t.val) * 512 + l.val) / 64 % 2 = l.val / 64 % 2; omega
    | ⟨3, _⟩ => show ((b.val * 4096 + t.val) * 512 + l.val) / 128 % 4 = l.val / 64 / 2; omega
    | ⟨4, _⟩ => show ((b.val * 4096 + t.val) * 512 + l.val) % 64 = l.val % 64; omega
  have e2 : ∀ (p : Fin 2) (g : Fin 4) (d : Fin 64), idx_main_v68 (ix5 b t p g d) = ix4 b t (⟨p.val * 4 + g.val, by omega⟩ : Fin 8) d := fun p g d => by
    have hp := p.isLt
    have hg := g.isLt
    have hd := d.isLt
    funext a
    apply Fin.ext
    match a with
    | ⟨0, _⟩ => show ((((b.val * 4096 + t.val) * 2 + p.val) * 4 + g.val) * 64 + d.val) / 2097152 = b.val; omega
    | ⟨1, _⟩ => show ((((b.val * 4096 + t.val) * 2 + p.val) * 4 + g.val) * 64 + d.val) / 512 % 4096 = t.val; omega
    | ⟨2, _⟩ => show ((((b.val * 4096 + t.val) * 2 + p.val) * 4 + g.val) * 64 + d.val) / 64 % 8 = p.val * 4 + g.val; omega
    | ⟨3, _⟩ => show ((((b.val * 4096 + t.val) * 2 + p.val) * 4 + g.val) * 64 + d.val) % 64 = d.val; omega
  rw [val_main_v71_apply, val_main_v70_apply, val_main_v69_apply, e1, val_main_v68_apply, e2, val_main_v67_apply, val_main_v66_apply, val_main_cst_4_apply]
  exact congrArg (fun q : EReal => q * Rotary.scale) (v65_apply x0 x1 x2 x3 b t _ _)

end Cert.ProjectedRef

end
-- ==== Proof.ProjEq.lean ====
/- The input projection: its six arrays are the reference's. -/
module

public import proofs.«01_k».proof.Proof.ProjRun
public import proofs.«01_k».proof.Proof.ProjRef

@[expose] public section

noncomputable section

namespace Cert.ProjectedEq

open Cert.InprojRefIdeal.Read Idealize.ShloMosaic Idealize.ShloMosaic.ValueIdx Cert.Projected

variable (m : (ℓ : Loc Cert.InprojIdeal.nD Cert.InprojIdeal.τ Cert.InprojIdeal.sig) → Buf (Elt Ideal) ℓ) (c : Dev Cert.InprojIdeal.nD)

theorem bq0_eq : val_main_v117 (F := Ideal) (a0 m c) (a1 m c) (a2 m c) (a3 m c) = bq0 m c := by
  funext i
  rw [eq_ix4 i]
  exact ProjectedRef.bq0_apply (a0 m c) (a1 m c) (a2 m c) (a3 m c) (i 0) (i 2) (i 1) (i 3)

theorem bk0_eq : val_main_v96 (F := Ideal) (a0 m c) (a1 m c) (a2 m c) (a3 m c) = bk0 m c := by
  funext i
  rw [eq_ix4 i]
  exact ProjectedRef.bk0_apply (a0 m c) (a1 m c) (a2 m c) (a3 m c) (i 0) (i 2) (i 1) (i 3)

theorem bv0_eq : val_main_v77 (F := Ideal) (a0 m c) (a2 m c) (a3 m c) = bv0 m c := by
  funext i
  rw [eq_ix4 i]
  exact ProjectedRef.bv0_apply (a0 m c) (a2 m c) (a3 m c) (i 0) (i 2) (i 1) (i 3)

theorem cq_eq : val_main_v71 (F := Ideal) (a0 m c) (a1 m c) (a2 m c) (a3 m c) = cq m c := by
  funext i
  rw [eq_ix3 i]
  exact ProjectedRef.cq_apply (a0 m c) (a1 m c) (a2 m c) (a3 m c) (i 0) (i 1) (i 2)

theorem ck_eq : val_main_v50 (F := Ideal) (a0 m c) (a1 m c) (a2 m c) (a3 m c) = ck m c := by
  funext i
  rw [eq_ix3 i]
  exact ProjectedRef.ck_apply (a0 m c) (a1 m c) (a2 m c) (a3 m c) (i 0) (i 1) (i 2)

theorem cv_eq : val_main_v33 (F := Ideal) (a0 m c) (a2 m c) (a3 m c) = cv m c := by
  funext i
  rw [eq_ix3 i]
  exact ProjectedRef.cv_apply (a0 m c) (a2 m c) (a3 m c) (i 0) (i 1) (i 2)

end Cert.ProjectedEq

end
-- ==== Proof.lean ====
module

public import proofs.«01_k».proof.Defs
public import proofs.«01_k».proof.Proof.Gen.Dil.Frame
public import proofs.«01_k».proof.Proof.Gen.DilIdeal.Frame
public import proofs.«01_k».proof.Proof.DilEq
public import proofs.«01_k».proof.Proof.Gen.Ffn.Frame
public import proofs.«01_k».proof.Proof.Gen.FfnIdeal.Frame
public import proofs.«01_k».proof.Proof.FfnRef
public import proofs.«01_k».proof.Proof.Gen.Mixout.Frame
public import proofs.«01_k».proof.Proof.Gen.MixoutIdeal.Frame
public import proofs.«01_k».proof.Proof.MixRef
public import proofs.«01_k».proof.Proof.WordsFrame
public import proofs.«01_k».proof.Proof.ProjFrame
public import proofs.«01_k».proof.Proof.ProjEq
public import Idealize.ShloMosaic.Adequacy
public import Idealize.ShloMosaic.Init

@[expose] public section

noncomputable section

namespace Cert.Proof

open Idealize.ShloMosaic Idealize.ShloMosaic.ValueIdx Idealize.SL.Sem Cert.DilatedEq

/-- A number whose magnitude is below `⊤` is neither infinity. -/
theorem finite_of_lt (x : EReal) (h : Ideal.cmp .olt (max x (-x)) ⊤ = 1#1) : Fin' x := by
  constructor
  · rintro rfl
    simp [Ideal.cmp] at h
  · rintro rfl
    simp [Ideal.cmp] at h

/-- The preconditions' facts. -/
theorem preFacts : Cert.Pre_finite_qk.Facts := ⟨by decide⟩

theorem preLseFacts : Cert.Pre_finite_lse.Facts := ⟨by decide⟩

/-- A comparison of magnitudes with `⊤` holding everywhere says every entry is finite. -/
theorem finite_array {s : Shape} (x y : FVec Ideal s .f32)
    (hy : ∀ i, y i = Ideal.ofBits .f32 0x7F800000#32) (h : cmpf .olt (Host.absf x) y = fun _ => 1#1) (i) : Fin' (x i) := by
  refine finite_of_lt (x i) ?_
  have := congrFun h i
  rw [← Softmax.ofBits_top, ← hy i]
  exact this

section Dilated

/-- The reference leaves its arguments as they were, and it has no semaphore. -/
theorem dilatedRefFrame : @Cert.quiescent_DilRefIdeal Cert.DilRefIdeal.Gen.facts := fun m g _ =>
  (θ_run _ _ _).mono (fun r h => ⟨fun c => (h c).2.2, sem_eq_zero_of_no_sems (by decide) r.2⟩) (Cert.DilRefIdeal.Value.run m g)

/-- The dilated group: the two runs end with equal results. -/
theorem dilated : @Cert.algebraic_DilIdeal_DilRefIdeal_pre_finite_qk Cert.DilIdeal.Gen.facts Cert.DilRefIdeal.Gen.facts preFacts := by
  intro m g m' g' hpre hm
  refine ⟨fun c => (Cert.DilIdeal.Gen.dats m 0 c).arrAt 5 Cert.DilIdeal.cfg0.N, fun c => (Cert.DilIdeal.Gen.dats m 0 c).arrAt 6 Cert.DilIdeal.cfg0.N,
    Cert.DilIdeal.Value.run_blocks m g, (θ_run _ _ _).mono (fun r h c => ?_) (Cert.DilRefIdeal.Value.run m' g')⟩
  obtain ⟨h0, h1, ha0, ha1, ha2⟩ := h c
  have hq : ∀ i, Fin' (Cert.Dilated.qArg m c i) := finite_array _ _ (fun _ => rfl) (hpre c).1
  have hk : ∀ i, Fin' (Cert.Dilated.kArg m c i) := finite_array _ _ (fun _ => rfl) (hpre c).2
  refine ⟨h0.trans ?_, h1.trans ?_, ha0, ha1, ha2⟩
  · rw [Cert.DilRefIdeal.Read.val_main_v46_eq, (hm c).1, (hm c).2.1, (hm c).2.2]
    exact (out_eq m c hq hk).symm
  · rw [Cert.DilRefIdeal.Read.val_main_v50_eq, (hm c).1, (hm c).2.1]
    exact (lse_eq m c hq hk).symm

end Dilated

section Ffn

/-- The reference leaves its arguments as they were, and it has no semaphore. -/
theorem ffnRefFrame : @Cert.quiescent_FfnRefIdeal Cert.FfnRefIdeal.Gen.facts := fun m g _ =>
  (θ_run _ _ _).mono (fun r h => ⟨fun c => (h c).2, sem_eq_zero_of_no_sems (by decide) r.2⟩) (Cert.FfnRefIdeal.Value.run m g)

/-- The feed-forward part: the two runs end with equal results. -/
theorem ffn : @Cert.algebraic_FfnIdeal_FfnRefIdeal Cert.FfnIdeal.Gen.facts Cert.FfnRefIdeal.Gen.facts := by
  intro m g m' g' _ hm
  refine ⟨fun c => (Cert.FfnIdeal.Gen.dats m 0 c).arrAt 5 Cert.FfnIdeal.cfg0.N, Cert.FfnIdeal.Value.run_blocks m g,
    (θ_run _ _ _).mono (fun r h c => ⟨(h c).1.trans ?_, (h c).2⟩) (Cert.FfnRefIdeal.Value.run m' g')⟩
  obtain ⟨e0, e1, e2, e3, e4⟩ := hm c
  rw [Cert.FfnRefIdeal.Read.val_main_v31_eq, e0, e1, e2, e3, e4]
  exact (Cert.FeedForwardRef.eq m c).symm

end Ffn

section Mixout

/-- The reference leaves its arguments as they were, and it has no semaphore. -/
theorem mixoutRefFrame : @Cert.quiescent_MixoutRefIdeal Cert.MixoutRefIdeal.Gen.facts := fun m g _ =>
  (θ_run _ _ _).mono (fun r h => ⟨fun c => (h c).2, sem_eq_zero_of_no_sems (by decide) r.2⟩) (Cert.MixoutRefIdeal.Value.run m g)

/-- The gated output projection: the two runs end with equal results. -/
theorem mixout : @Cert.algebraic_MixoutIdeal_MixoutRefIdeal_pre_finite_lse Cert.MixoutIdeal.Gen.facts Cert.MixoutRefIdeal.Gen.facts preLseFacts := by
  intro m g m' g' hpre hm
  refine ⟨fun c => (Cert.MixoutIdeal.Gen.dats m 0 c).arrAt 15 Cert.MixoutIdeal.cfg0.N, Cert.MixoutIdeal.Value.run_blocks m g,
    (θ_run _ _ _).mono (fun r h c => ⟨(h c).1.trans ?_, (h c).2⟩) (Cert.MixoutRefIdeal.Value.run m' g')⟩
  obtain ⟨e0, e1, e2, e3, e4, e5, e6, e7, e8, e9, e10, e11, e12, e13, e14⟩ := hm c
  have h7 : ∀ i, Fin' (Cert.Mixer.a7 m c i) := finite_array _ _ (fun _ => rfl) (hpre c).1
  have h8 : ∀ i, Fin' (Cert.Mixer.a8 m c i) := finite_array _ _ (fun _ => rfl) (hpre c).2.1
  have h9 : ∀ i, Fin' (Cert.Mixer.a9 m c i) := finite_array _ _ (fun _ => rfl) (hpre c).2.2
  rw [Cert.MixoutRefIdeal.Read.val_main_v60_eq, e0, e1, e2, e3, e4, e5, e6, e7, e8, e9, e10, e11, e12, e13, e14]
  exact (Cert.MixerRef.eq m c h7 h8 h9).symm

end Mixout

section Inproj

/-- The reference leaves its arguments as they were, and it has no semaphore. -/
theorem inprojRefFrame : @Cert.quiescent_InprojRefIdeal Cert.InprojRefIdeal.Gen.facts := fun m g _ =>
  (θ_run _ _ _).mono (fun r h => ⟨fun c => (h c).2.2.2.2.2.2, sem_eq_zero_of_no_sems (by decide) r.2⟩) (Cert.InprojRefIdeal.Value.run m g)

set_option maxHeartbeats 4000000 in
/-- The input projection's kernel ends with its six arrays, and its arguments unchanged. -/
theorem inprojRun (m : (ℓ : Loc Cert.InprojIdeal.nD Cert.InprojIdeal.τ Cert.InprojIdeal.sig) → Buf (Elt Ideal) ℓ) (g : Dev Cert.InprojIdeal.nD → PrngReg) :
    θ_run (Cert.InprojIdeal.defs (F := Ideal)) (onTc (τ := Cert.InprojIdeal.τ) (Cert.InprojIdeal.main (F := Ideal))) ⟨m, fun _ => 0, g⟩ (fun r => ∀ c : Dev Cert.InprojIdeal.nD,
      r.2.mem ((c.tc : Thread Cert.InprojIdeal.nD Cert.InprojIdeal.τ).loc Cert.InprojIdeal.main_v63_2) = Cert.Projected.bq0 m c
      ∧ r.2.mem ((c.tc : Thread Cert.InprojIdeal.nD Cert.InprojIdeal.τ).loc Cert.InprojIdeal.main_v63_5) = Cert.Projected.bk0 m c
      ∧ r.2.mem ((c.tc : Thread Cert.InprojIdeal.nD Cert.InprojIdeal.τ).loc Cert.InprojIdeal.main_v63_8) = Cert.Projected.bv0 m c
      ∧ r.2.mem ((c.tc : Thread Cert.InprojIdeal.nD Cert.InprojIdeal.τ).loc Cert.InprojIdeal.main_v63_11) = Cert.Projected.cq m c
      ∧ r.2.mem ((c.tc : Thread Cert.InprojIdeal.nD Cert.InprojIdeal.τ).loc Cert.InprojIdeal.main_v63_12) = Cert.Projected.ck m c
      ∧ r.2.mem ((c.tc : Thread Cert.InprojIdeal.nD Cert.InprojIdeal.τ).loc Cert.InprojIdeal.main_v63_13) = Cert.Projected.cv m c
      ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)) :=
  (θ_run _ _ _).mono (fun r h c => ⟨
      ((h.1 c).1 11).trans (Cert.Projected.final11 m c),
      ((h.1 c).1 14).trans (Cert.Projected.final14 m c),
      ((h.1 c).1 17).trans (Cert.Projected.final17 m c),
      ((h.1 c).1 20).trans (Cert.Projected.final20 m c),
      ((h.1 c).1 21).trans (Cert.Projected.final21 m c),
      ((h.1 c).1 22).trans (Cert.Projected.final22 m c), h.2 c⟩)
    (θ_run_and (Cert.Projected.run_main m g) (Cert.Projected.unchanged m g))

/-- The input projection: the two runs end with equal results. -/
theorem inproj : @Cert.algebraic_InprojIdeal_InprojRefIdeal Cert.InprojIdeal.Gen.facts Cert.InprojRefIdeal.Gen.facts := by
  intro m g m' g' _ hm
  refine ⟨Cert.Projected.bq0 m, Cert.Projected.bk0 m, Cert.Projected.bv0 m, Cert.Projected.cq m, Cert.Projected.ck m, Cert.Projected.cv m, inprojRun m g, (θ_run _ _ _).mono (fun r h c => ?_) (Cert.InprojRefIdeal.Value.run m' g')⟩
  obtain ⟨e0, e1, e2, e3, -, -⟩ := hm c
  obtain ⟨h0, h1, h2, h3, h4, h5, ha⟩ := h c
  refine ⟨h0.trans ?_, h1.trans ?_, h2.trans ?_, h3.trans ?_, h4.trans ?_, h5.trans ?_, ha⟩
  · rw [Cert.InprojRefIdeal.Read.val_main_v117_eq, e0, e1, e2, e3]
    exact Cert.ProjectedEq.bq0_eq m c
  · rw [Cert.InprojRefIdeal.Read.val_main_v96_eq, e0, e1, e2, e3]
    exact Cert.ProjectedEq.bk0_eq m c
  · rw [Cert.InprojRefIdeal.Read.val_main_v77_eq, e0, e2, e3]
    exact Cert.ProjectedEq.bv0_eq m c
  · rw [Cert.InprojRefIdeal.Read.val_main_v71_eq, e0, e1, e2, e3]
    exact Cert.ProjectedEq.cq_eq m c
  · rw [Cert.InprojRefIdeal.Read.val_main_v50_eq, e0, e1, e2, e3]
    exact Cert.ProjectedEq.ck_eq m c
  · rw [Cert.InprojRefIdeal.Read.val_main_v33_eq, e0, e2, e3]
    exact Cert.ProjectedEq.cv_eq m c

end Inproj

theorem claim : Cert.Claim := ⟨Cert.Dil.Gen.facts, Cert.DilIdeal.Gen.facts, Cert.DilRefIdeal.Gen.facts,
  Cert.Ffn.Gen.facts, Cert.FfnIdeal.Gen.facts, Cert.FfnRefIdeal.Gen.facts,
  Cert.Mixout.Gen.facts, Cert.MixoutIdeal.Gen.facts, Cert.MixoutRefIdeal.Gen.facts,
  Cert.Inproj.Gen.facts, Cert.InprojIdeal.Gen.facts, Cert.InprojRefIdeal.Gen.facts, preFacts, preLseFacts,
  fun m ρ _ => Cert.Dil.Gen.frame m ρ, fun m ρ _ => Cert.DilIdeal.Gen.frame m ρ, fun m ρ _ => Cert.DilIdeal.Gen.frame m ρ,
  dilatedRefFrame, fun m ρ _ => dilatedRefFrame m ρ trivial,
  fun m ρ _ => Cert.Ffn.Gen.frame m ρ, fun m ρ _ => Cert.FfnIdeal.Gen.frame m ρ, ffnRefFrame,
  fun m ρ _ => Cert.Mixout.Gen.frame m ρ, fun m ρ _ => Cert.MixoutIdeal.Gen.frame m ρ, fun m ρ _ => Cert.MixoutIdeal.Gen.frame m ρ,
  mixoutRefFrame, fun m ρ _ => mixoutRefFrame m ρ trivial,
  fun m ρ _ => Cert.ProjectedWords.frame m ρ, fun m ρ _ => Cert.Projected.frame m ρ, inprojRefFrame,
  trivial, dilated, trivial, ffn, trivial, mixout, trivial, inproj⟩

end Cert.Proof

end
